-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v7)) (v3 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_v4) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)) (v5 : (c : Dev Cert.Kernel3Ideal.nD) → Buf (Elt Ideal) ((c.tc : Thread Cert.Kernel3Ideal.nD Cert.Kernel3Ideal.τ).loc Cert.Kernel3Ideal.main_v5)) (v6 : (c : Dev Cert.Kernel3Ideal.nD) → Buf (Elt Ideal) ((c.tc : Thread Cert.Kernel3Ideal.nD Cert.Kernel3Ideal.τ).loc Cert.Kernel3Ideal.main_v6)) (v7 : (c : Dev Cert.Kernel3Ideal.nD) → Buf (Elt Ideal) ((c.tc : Thread Cert.Kernel3Ideal.nD Cert.Kernel3Ideal.τ).loc Cert.Kernel3Ideal.main_v7)) (v8 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_v5) = v5 c
          ∧ r.2.mem ((c.tc : Thread Cert.Kernel3Ideal.nD Cert.Kernel3Ideal.τ).loc Cert.Kernel3Ideal.main_v6) = v6 c
          ∧ r.2.mem ((c.tc : Thread Cert.Kernel3Ideal.nD Cert.Kernel3Ideal.τ).loc Cert.Kernel3Ideal.main_v7) = v7 c
          ∧ r.2.mem ((c.tc : Thread Cert.Kernel3Ideal.nD Cert.Kernel3Ideal.τ).loc Cert.Kernel3Ideal.main_v8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v12) = v3 c
          ∧ r.2.mem ((c.tc : Thread Cert.Reference3Ideal.nD Cert.Reference3Ideal.τ).loc Cert.Reference3Ideal.main_v21) = v4 c
          ∧ r.2.mem ((c.tc : Thread Cert.Reference3Ideal.nD Cert.Reference3Ideal.τ).loc Cert.Reference3Ideal.main_v16) = v5 c
          ∧ r.2.mem ((c.tc : Thread Cert.Reference3Ideal.nD Cert.Reference3Ideal.τ).loc Cert.Reference3Ideal.main_v22) = v6 c
          ∧ r.2.mem ((c.tc : Thread Cert.Reference3Ideal.nD Cert.Reference3Ideal.τ).loc Cert.Reference3Ideal.main_v20) = v7 c
          ∧ r.2.mem ((c.tc : Thread Cert.Reference3Ideal.nD Cert.Reference3Ideal.τ).loc Cert.Reference3Ideal.main_v23) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2_0)) (v3 : (c : Dev Cert.Kernel4Ideal.nD) → Buf (Elt Ideal) ((c.tc : Thread Cert.Kernel4Ideal.nD Cert.Kernel4Ideal.τ).loc Cert.Kernel4Ideal.main_v2_1)) (v4 : (c : Dev Cert.Kernel4Ideal.nD) → Buf (Elt Ideal) ((c.tc : Thread Cert.Kernel4Ideal.nD Cert.Kernel4Ideal.τ).loc Cert.Kernel4Ideal.main_v3_0)) (v5 : (c : Dev Cert.Kernel4Ideal.nD) → Buf (Elt Ideal) ((c.tc : Thread Cert.Kernel4Ideal.nD Cert.Kernel4Ideal.τ).loc Cert.Kernel4Ideal.main_v3_1)) (v6 : (c : Dev Cert.Kernel4Ideal.nD) → Buf (Elt Ideal) ((c.tc : Thread Cert.Kernel4Ideal.nD Cert.Kernel4Ideal.τ).loc Cert.Kernel4Ideal.main_v3_2)) (v7 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2_0) = v2 c
          ∧ r.2.mem ((c.tc : Thread Cert.Kernel4Ideal.nD Cert.Kernel4Ideal.τ).loc Cert.Kernel4Ideal.main_v2_1) = v3 c
          ∧ r.2.mem ((c.tc : Thread Cert.Kernel4Ideal.nD Cert.Kernel4Ideal.τ).loc Cert.Kernel4Ideal.main_v3_0) = v4 c
          ∧ r.2.mem ((c.tc : Thread Cert.Kernel4Ideal.nD Cert.Kernel4Ideal.τ).loc Cert.Kernel4Ideal.main_v3_1) = v5 c
          ∧ r.2.mem ((c.tc : Thread Cert.Kernel4Ideal.nD Cert.Kernel4Ideal.τ).loc Cert.Kernel4Ideal.main_v3_2) = v6 c
          ∧ r.2.mem ((c.tc : Thread Cert.Kernel4Ideal.nD Cert.Kernel4Ideal.τ).loc Cert.Kernel4Ideal.main_v3_3) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_v59) = v4 c
          ∧ r.2.mem ((c.tc : Thread Cert.Reference4Ideal.nD Cert.Reference4Ideal.τ).loc Cert.Reference4Ideal.main_v40) = v5 c
          ∧ r.2.mem ((c.tc : Thread Cert.Reference4Ideal.nD Cert.Reference4Ideal.τ).loc Cert.Reference4Ideal.main_v35) = v6 c
          ∧ r.2.mem ((c.tc : Thread Cert.Reference4Ideal.nD Cert.Reference4Ideal.τ).loc Cert.Reference4Ideal.main_v32) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v1_0)) (v4 : (c : Dev Cert.Kernel5Ideal.nD) → Buf (Elt Ideal) ((c.tc : Thread Cert.Kernel5Ideal.nD Cert.Kernel5Ideal.τ).loc Cert.Kernel5Ideal.main_v1_1)) (v5 : (c : Dev Cert.Kernel5Ideal.nD) → Buf (Elt Ideal) ((c.tc : Thread Cert.Kernel5Ideal.nD Cert.Kernel5Ideal.τ).loc Cert.Kernel5Ideal.main_v1_2)) (v6 : (c : Dev Cert.Kernel5Ideal.nD) → Buf (Elt Ideal) ((c.tc : Thread Cert.Kernel5Ideal.nD Cert.Kernel5Ideal.τ).loc Cert.Kernel5Ideal.main_v2_0)) (v7 : (c : Dev Cert.Kernel5Ideal.nD) → Buf (Elt Ideal) ((c.tc : Thread Cert.Kernel5Ideal.nD Cert.Kernel5Ideal.τ).loc Cert.Kernel5Ideal.main_v2_1)) (v8 : (c : Dev Cert.Kernel5Ideal.nD) → Buf (Elt Ideal) ((c.tc : Thread Cert.Kernel5Ideal.nD Cert.Kernel5Ideal.τ).loc Cert.Kernel5Ideal.main_v2_2)) (v9 : (c : Dev Cert.Kernel5Ideal.nD) → Buf (Elt Ideal) ((c.tc : Thread Cert.Kernel5Ideal.nD Cert.Kernel5Ideal.τ).loc Cert.Kernel5Ideal.main_v3_0)) (v10 : (c : Dev Cert.Kernel5Ideal.nD) → Buf (Elt Ideal) ((c.tc : Thread Cert.Kernel5Ideal.nD Cert.Kernel5Ideal.τ).loc Cert.Kernel5Ideal.main_v3_1)) (v11 : (c : Dev Cert.Kernel5Ideal.nD) → Buf (Elt Ideal) ((c.tc : Thread Cert.Kernel5Ideal.nD Cert.Kernel5Ideal.τ).loc Cert.Kernel5Ideal.main_v3_2)) (v12 : (c : Dev Cert.Kernel5Ideal.nD) → Buf (Elt Ideal) ((c.tc : Thread Cert.Kernel5Ideal.nD Cert.Kernel5Ideal.τ).loc Cert.Kernel5Ideal.main_v4_0)) (v13 : (c : Dev Cert.Kernel5Ideal.nD) → Buf (Elt Ideal) ((c.tc : Thread Cert.Kernel5Ideal.nD Cert.Kernel5Ideal.τ).loc Cert.Kernel5Ideal.main_v4_1)) (v14 : (c : Dev Cert.Kernel5Ideal.nD) → Buf (Elt Ideal) ((c.tc : Thread Cert.Kernel5Ideal.nD Cert.Kernel5Ideal.τ).loc Cert.Kernel5Ideal.main_v4_2)) (v15 : (c : Dev Cert.Kernel5Ideal.nD) → Buf (Elt Ideal) ((c.tc : Thread Cert.Kernel5Ideal.nD Cert.Kernel5Ideal.τ).loc Cert.Kernel5Ideal.main_v5_0)) (v16 : (c : Dev Cert.Kernel5Ideal.nD) → Buf (Elt Ideal) ((c.tc : Thread Cert.Kernel5Ideal.nD Cert.Kernel5Ideal.τ).loc Cert.Kernel5Ideal.main_v5_1)) (v17 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v1_0) = v3 c
          ∧ r.2.mem ((c.tc : Thread Cert.Kernel5Ideal.nD Cert.Kernel5Ideal.τ).loc Cert.Kernel5Ideal.main_v1_1) = v4 c
          ∧ r.2.mem ((c.tc : Thread Cert.Kernel5Ideal.nD Cert.Kernel5Ideal.τ).loc Cert.Kernel5Ideal.main_v1_2) = v5 c
          ∧ r.2.mem ((c.tc : Thread Cert.Kernel5Ideal.nD Cert.Kernel5Ideal.τ).loc Cert.Kernel5Ideal.main_v2_0) = v6 c
          ∧ r.2.mem ((c.tc : Thread Cert.Kernel5Ideal.nD Cert.Kernel5Ideal.τ).loc Cert.Kernel5Ideal.main_v2_1) = v7 c
          ∧ r.2.mem ((c.tc : Thread Cert.Kernel5Ideal.nD Cert.Kernel5Ideal.τ).loc Cert.Kernel5Ideal.main_v2_2) = v8 c
          ∧ r.2.mem ((c.tc : Thread Cert.Kernel5Ideal.nD Cert.Kernel5Ideal.τ).loc Cert.Kernel5Ideal.main_v3_0) = v9 c
          ∧ r.2.mem ((c.tc : Thread Cert.Kernel5Ideal.nD Cert.Kernel5Ideal.τ).loc Cert.Kernel5Ideal.main_v3_1) = v10 c
          ∧ r.2.mem ((c.tc : Thread Cert.Kernel5Ideal.nD Cert.Kernel5Ideal.τ).loc Cert.Kernel5Ideal.main_v3_2) = v11 c
          ∧ r.2.mem ((c.tc : Thread Cert.Kernel5Ideal.nD Cert.Kernel5Ideal.τ).loc Cert.Kernel5Ideal.main_v4_0) = v12 c
          ∧ r.2.mem ((c.tc : Thread Cert.Kernel5Ideal.nD Cert.Kernel5Ideal.τ).loc Cert.Kernel5Ideal.main_v4_1) = v13 c
          ∧ r.2.mem ((c.tc : Thread Cert.Kernel5Ideal.nD Cert.Kernel5Ideal.τ).loc Cert.Kernel5Ideal.main_v4_2) = v14 c
          ∧ r.2.mem ((c.tc : Thread Cert.Kernel5Ideal.nD Cert.Kernel5Ideal.τ).loc Cert.Kernel5Ideal.main_v5_0) = v15 c
          ∧ r.2.mem ((c.tc : Thread Cert.Kernel5Ideal.nD Cert.Kernel5Ideal.τ).loc Cert.Kernel5Ideal.main_v5_1) = v16 c
          ∧ r.2.mem ((c.tc : Thread Cert.Kernel5Ideal.nD Cert.Kernel5Ideal.τ).loc Cert.Kernel5Ideal.main_v5_2) = v17 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_v95) = v9 c
          ∧ r.2.mem ((c.tc : Thread Cert.Reference5Ideal.nD Cert.Reference5Ideal.τ).loc Cert.Reference5Ideal.main_v76) = v10 c
          ∧ r.2.mem ((c.tc : Thread Cert.Reference5Ideal.nD Cert.Reference5Ideal.τ).loc Cert.Reference5Ideal.main_v82) = v11 c
          ∧ r.2.mem ((c.tc : Thread Cert.Reference5Ideal.nD Cert.Reference5Ideal.τ).loc Cert.Reference5Ideal.main_v119) = v12 c
          ∧ r.2.mem ((c.tc : Thread Cert.Reference5Ideal.nD Cert.Reference5Ideal.τ).loc Cert.Reference5Ideal.main_v100) = v13 c
          ∧ r.2.mem ((c.tc : Thread Cert.Reference5Ideal.nD Cert.Reference5Ideal.τ).loc Cert.Reference5Ideal.main_v106) = v14 c
          ∧ r.2.mem ((c.tc : Thread Cert.Reference5Ideal.nD Cert.Reference5Ideal.τ).loc Cert.Reference5Ideal.main_v143) = v15 c
          ∧ r.2.mem ((c.tc : Thread Cert.Reference5Ideal.nD Cert.Reference5Ideal.τ).loc Cert.Reference5Ideal.main_v124) = v16 c
          ∧ r.2.mem ((c.tc : Thread Cert.Reference5Ideal.nD Cert.Reference5Ideal.τ).loc Cert.Reference5Ideal.main_v130) = v17 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v1_0)) (v4 : (c : Dev Cert.Kernel6Ideal.nD) → Buf (Elt Ideal) ((c.tc : Thread Cert.Kernel6Ideal.nD Cert.Kernel6Ideal.τ).loc Cert.Kernel6Ideal.main_v1_1)) (v5 : (c : Dev Cert.Kernel6Ideal.nD) → Buf (Elt Ideal) ((c.tc : Thread Cert.Kernel6Ideal.nD Cert.Kernel6Ideal.τ).loc Cert.Kernel6Ideal.main_v1_2)) (v6 : (c : Dev Cert.Kernel6Ideal.nD) → Buf (Elt Ideal) ((c.tc : Thread Cert.Kernel6Ideal.nD Cert.Kernel6Ideal.τ).loc Cert.Kernel6Ideal.main_v2_0)) (v7 : (c : Dev Cert.Kernel6Ideal.nD) → Buf (Elt Ideal) ((c.tc : Thread Cert.Kernel6Ideal.nD Cert.Kernel6Ideal.τ).loc Cert.Kernel6Ideal.main_v2_1)) (v8 : (c : Dev Cert.Kernel6Ideal.nD) → Buf (Elt Ideal) ((c.tc : Thread Cert.Kernel6Ideal.nD Cert.Kernel6Ideal.τ).loc Cert.Kernel6Ideal.main_v2_2)) (v9 : (c : Dev Cert.Kernel6Ideal.nD) → Buf (Elt Ideal) ((c.tc : Thread Cert.Kernel6Ideal.nD Cert.Kernel6Ideal.τ).loc Cert.Kernel6Ideal.main_v3_0)) (v10 : (c : Dev Cert.Kernel6Ideal.nD) → Buf (Elt Ideal) ((c.tc : Thread Cert.Kernel6Ideal.nD Cert.Kernel6Ideal.τ).loc Cert.Kernel6Ideal.main_v3_1)) (v11 : (c : Dev Cert.Kernel6Ideal.nD) → Buf (Elt Ideal) ((c.tc : Thread Cert.Kernel6Ideal.nD Cert.Kernel6Ideal.τ).loc Cert.Kernel6Ideal.main_v3_2)) (v12 : (c : Dev Cert.Kernel6Ideal.nD) → Buf (Elt Ideal) ((c.tc : Thread Cert.Kernel6Ideal.nD Cert.Kernel6Ideal.τ).loc Cert.Kernel6Ideal.main_v4_0)) (v13 : (c : Dev Cert.Kernel6Ideal.nD) → Buf (Elt Ideal) ((c.tc : Thread Cert.Kernel6Ideal.nD Cert.Kernel6Ideal.τ).loc Cert.Kernel6Ideal.main_v4_1)) (v14 : (c : Dev Cert.Kernel6Ideal.nD) → Buf (Elt Ideal) ((c.tc : Thread Cert.Kernel6Ideal.nD Cert.Kernel6Ideal.τ).loc Cert.Kernel6Ideal.main_v4_2)) (v15 : (c : Dev Cert.Kernel6Ideal.nD) → Buf (Elt Ideal) ((c.tc : Thread Cert.Kernel6Ideal.nD Cert.Kernel6Ideal.τ).loc Cert.Kernel6Ideal.main_v5_0)) (v16 : (c : Dev Cert.Kernel6Ideal.nD) → Buf (Elt Ideal) ((c.tc : Thread Cert.Kernel6Ideal.nD Cert.Kernel6Ideal.τ).loc Cert.Kernel6Ideal.main_v5_1)) (v17 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v1_0) = v3 c
          ∧ r.2.mem ((c.tc : Thread Cert.Kernel6Ideal.nD Cert.Kernel6Ideal.τ).loc Cert.Kernel6Ideal.main_v1_1) = v4 c
          ∧ r.2.mem ((c.tc : Thread Cert.Kernel6Ideal.nD Cert.Kernel6Ideal.τ).loc Cert.Kernel6Ideal.main_v1_2) = v5 c
          ∧ r.2.mem ((c.tc : Thread Cert.Kernel6Ideal.nD Cert.Kernel6Ideal.τ).loc Cert.Kernel6Ideal.main_v2_0) = v6 c
          ∧ r.2.mem ((c.tc : Thread Cert.Kernel6Ideal.nD Cert.Kernel6Ideal.τ).loc Cert.Kernel6Ideal.main_v2_1) = v7 c
          ∧ r.2.mem ((c.tc : Thread Cert.Kernel6Ideal.nD Cert.Kernel6Ideal.τ).loc Cert.Kernel6Ideal.main_v2_2) = v8 c
          ∧ r.2.mem ((c.tc : Thread Cert.Kernel6Ideal.nD Cert.Kernel6Ideal.τ).loc Cert.Kernel6Ideal.main_v3_0) = v9 c
          ∧ r.2.mem ((c.tc : Thread Cert.Kernel6Ideal.nD Cert.Kernel6Ideal.τ).loc Cert.Kernel6Ideal.main_v3_1) = v10 c
          ∧ r.2.mem ((c.tc : Thread Cert.Kernel6Ideal.nD Cert.Kernel6Ideal.τ).loc Cert.Kernel6Ideal.main_v3_2) = v11 c
          ∧ r.2.mem ((c.tc : Thread Cert.Kernel6Ideal.nD Cert.Kernel6Ideal.τ).loc Cert.Kernel6Ideal.main_v4_0) = v12 c
          ∧ r.2.mem ((c.tc : Thread Cert.Kernel6Ideal.nD Cert.Kernel6Ideal.τ).loc Cert.Kernel6Ideal.main_v4_1) = v13 c
          ∧ r.2.mem ((c.tc : Thread Cert.Kernel6Ideal.nD Cert.Kernel6Ideal.τ).loc Cert.Kernel6Ideal.main_v4_2) = v14 c
          ∧ r.2.mem ((c.tc : Thread Cert.Kernel6Ideal.nD Cert.Kernel6Ideal.τ).loc Cert.Kernel6Ideal.main_v5_0) = v15 c
          ∧ r.2.mem ((c.tc : Thread Cert.Kernel6Ideal.nD Cert.Kernel6Ideal.τ).loc Cert.Kernel6Ideal.main_v5_1) = v16 c
          ∧ r.2.mem ((c.tc : Thread Cert.Kernel6Ideal.nD Cert.Kernel6Ideal.τ).loc Cert.Kernel6Ideal.main_v5_2) = v17 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_v119) = v12 c
          ∧ r.2.mem ((c.tc : Thread Cert.Reference6Ideal.nD Cert.Reference6Ideal.τ).loc Cert.Reference6Ideal.main_v100) = v13 c
          ∧ r.2.mem ((c.tc : Thread Cert.Reference6Ideal.nD Cert.Reference6Ideal.τ).loc Cert.Reference6Ideal.main_v106) = v14 c
          ∧ r.2.mem ((c.tc : Thread Cert.Reference6Ideal.nD Cert.Reference6Ideal.τ).loc Cert.Reference6Ideal.main_v143) = v15 c
          ∧ r.2.mem ((c.tc : Thread Cert.Reference6Ideal.nD Cert.Reference6Ideal.τ).loc Cert.Reference6Ideal.main_v124) = v16 c
          ∧ r.2.mem ((c.tc : Thread Cert.Reference6Ideal.nD Cert.Reference6Ideal.τ).loc Cert.Reference6Ideal.main_v130) = v17 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2048x1024 : Shape := ⟨2, ![2048, 1024]⟩
abbrev S8x32x64 : Shape := ⟨3, ![8, 32, 64]⟩
abbrev S8x32x128x128 : Shape := ⟨4, ![8, 32, 128, 128]⟩
abbrev S_ : Shape := ⟨0, ![]⟩

class Facts : Prop where
  bcast_S_S2048x1024 : S_.BroadcastsInDim S2048x1024 (![] : Fin 0 → Fin S2048x1024.rank)
  bcast_S_S8x32x64 : S_.BroadcastsInDim S8x32x64 (![] : Fin 0 → Fin S8x32x64.rank)

variable [Facts]

def fn {F : FTy → Type} [FloatOps F] (main_arg0 : FVec F S2048x1024 .f32) (main_arg1 : FVec F S2048x1024 .f32) (main_arg2 : FVec F S2048x1024 .f32) (main_arg3 : FVec F S8x32x64 .f32) (main_arg4 : FVec F S8x32x64 .f32) (main_arg5 : FVec F S8x32x128x128 .f32) (main_arg6 : FVec F S2048x1024 .f32) : IVec S2048x1024 1 × IVec S2048x1024 1 × IVec S8x32x64 1 × IVec S8x32x64 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S8x32x64 .f32 := Host.absf main_arg3
  let main_cst_1 : FVec F S_ .f32 := constant S_ .f32 0x7F800000#32
  let main_v7 : FVec F S8x32x64 .f32 := broadcastInDim S8x32x64 ![] bcast_S_S8x32x64 main_cst_1
  let main_v8 : IVec S8x32x64 1 := cmpf .olt main_v6 main_v7
  let main_v9 : FVec F S8x32x64 .f32 := Host.absf main_arg4
  let main_cst_2 : FVec F S_ .f32 := constant S_ .f32 0x7F800000#32
  let main_v10 : FVec F S8x32x64 .f32 := broadcastInDim S8x32x64 ![] bcast_S_S8x32x64 main_cst_2
  let main_v11 : IVec S8x32x64 1 := cmpf .olt main_v9 main_v10
  let main_v12 : FVec F S2048x1024 .f32 := Host.absf main_arg6
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite2.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .bf16) (main_arg1 : FVec F S1024x5632 .bf16) (main_arg2 : FVec F S2816x1024 .bf16) (main_arg3 : FVec F S2048x1024 .bf16) : IVec S2048x1024 1 × IVec S1024x5632 1 × IVec S2816x1024 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  (main_v3, main_v7, main_v11, main_v15)
-- ==== Kernel.lean ====
abbrev S2048x1024 : Shape := ⟨2, ![2048, 1024]⟩
abbrev S8x32x64 : Shape := ⟨3, ![8, 32, 64]⟩
abbrev S8x32x128x128 : Shape := ⟨4, ![8, 32, 128, 128]⟩
abbrev S8x32x64x1 : Shape := ⟨4, ![8, 32, 64, 1]⟩
abbrev S8x32x1x64 : Shape := ⟨4, ![8, 32, 1, 64]⟩
abbrev S2048x128 : Shape := ⟨2, ![2048, 128]⟩
abbrev S1x32x64x1 : Shape := ⟨4, ![1, 32, 64, 1]⟩
abbrev S1x32x1x64 : Shape := ⟨4, ![1, 32, 1, 64]⟩
abbrev S1x32x128x128 : Shape := ⟨4, ![1, 32, 128, 128]⟩
abbrev S32x64x128 : Shape := ⟨3, ![32, 64, 128]⟩
abbrev S32x64x64 : Shape := ⟨3, ![32, 64, 64]⟩
abbrev S32x1x1 : Shape := ⟨3, ![32, 1, 1]⟩
abbrev S512x128 : Shape := ⟨2, ![512, 128]⟩
abbrev S8x64x128 : Shape := ⟨3, ![8, 64, 128]⟩
abbrev S1x8x64x1 : Shape := ⟨4, ![1, 8, 64, 1]⟩
abbrev S8x64x1 : Shape := ⟨3, ![8, 64, 1]⟩
abbrev S1x8x1x64 : Shape := ⟨4, ![1, 8, 1, 64]⟩
abbrev S8x1x64 : Shape := ⟨3, ![8, 1, 64]⟩
abbrev S64x64 : Shape := ⟨2, ![64, 64]⟩
abbrev S1x64x64 : Shape := ⟨3, ![1, 64, 64]⟩
abbrev S8x64x64 : Shape := ⟨3, ![8, 64, 64]⟩
abbrev S8x1x1 : Shape := ⟨3, ![8, 1, 1]⟩
abbrev S128x128 : Shape := ⟨2, ![128, 128]⟩
abbrev S1x1x128x128 : Shape := ⟨4, ![1, 1, 128, 128]⟩
abbrev S64x128 : Shape := ⟨2, ![64, 128]⟩
abbrev S1x64x128 : Shape := ⟨3, ![1, 64, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1 : Shape := ⟨3, ![1, 1, 1]⟩
abbrev S8x64 : Shape := ⟨2, ![8, 64]⟩
abbrev S8x1 : Shape := ⟨2, ![8, 1]⟩
abbrev S1x64x1 : Shape := ⟨3, ![1, 64, 1]⟩

abbrev nBuf : Space → Nat
  | .hbm => 16
  | .vmem => 40
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x32x64, .f32⟩
  | .hbm, ⟨4, _⟩ => ⟨S8x32x64, .f32⟩
  | .hbm, ⟨5, _⟩ => ⟨S8x32x128x128, .f32⟩
  | .hbm, ⟨6, _⟩ => ⟨S2048x1024, .f32⟩
  | .hbm, ⟨7, _⟩ => ⟨S8x32x64x1, .f32⟩
  | .hbm, ⟨8, _⟩ => ⟨S8x32x1x64, .f32⟩
  | .hbm, ⟨9, _⟩ => ⟨S8x32x64x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S8x32x64x1, .f32⟩
  | .hbm, ⟨14, _⟩ => ⟨S8x32x1x64, .f32⟩
  | .hbm, ⟨15, _⟩ => ⟨S8x32x64x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x32x64x1, .f32⟩
  | .local _ .vmem, ⟨7, _⟩ => ⟨S1x32x64x1, .f32⟩
  | .local _ .vmem, ⟨8, _⟩ => ⟨S1x32x1x64, .f32⟩
  | .local _ .vmem, ⟨9, _⟩ => ⟨S1x32x1x64, .f32⟩
  | .local _ .vmem, ⟨10, _⟩ => ⟨S1x32x64x1, .f32⟩
  | .local _ .vmem, ⟨11, _⟩ => ⟨S1x32x64x1, .f32⟩
  | .local _ .vmem, ⟨12, _⟩ => ⟨S1x32x128x128, .f32⟩
  | .local _ .vmem, ⟨13, _⟩ => ⟨S1x32x128x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x32x64x1, .f32⟩
  | .local _ .vmem, ⟨23, _⟩ => ⟨S1x32x64x1, .f32⟩
  | .local _ .vmem, ⟨24, _⟩ => ⟨S1x32x1x64, .f32⟩
  | .local _ .vmem, ⟨25, _⟩ => ⟨S1x32x1x64, .f32⟩
  | .local _ .vmem, ⟨26, _⟩ => ⟨S1x32x64x1, .f32⟩
  | .local _ .vmem, ⟨27, _⟩ => ⟨S1x32x64x1, .f32⟩
  | .local _ .vmem, ⟨28, _⟩ => ⟨S32x64x128, .f32⟩
  | .local _ .vmem, ⟨29, _⟩ => ⟨S32x64x128, .f32⟩
  | .local _ .vmem, ⟨30, _⟩ => ⟨S32x64x64, .f32⟩
  | .local _ .vmem, ⟨31, _⟩ => ⟨S32x64x128, .f32⟩
  | .local _ .vmem, ⟨32, _⟩ => ⟨S32x64x128, .f32⟩
  | .local _ .vmem, ⟨33, _⟩ => ⟨S32x1x1, .f32⟩
  | .local _ .vmem, ⟨34, _⟩ => ⟨S32x64x128, .f32⟩
  | .local _ .vmem, ⟨35, _⟩ => ⟨S32x64x128, .f32⟩
  | .local _ .vmem, ⟨36, _⟩ => ⟨S32x64x64, .f32⟩
  | .local _ .vmem, ⟨37, _⟩ => ⟨S32x64x128, .f32⟩
  | .local _ .vmem, ⟨38, _⟩ => ⟨S32x64x128, .f32⟩
  | .local _ .vmem, ⟨39, _⟩ => ⟨S32x1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg27 : BitVec 32 := Scf.iv c0_i32 c1_i32 k0_t1
  let c512_i32 : BitVec 32 := 512#32
  let v5 : BitVec 32 := Scalar.muli arg27 c512_i32
  v5
def k0_off1 (k0_t1 : Fin k0_t1_loop.trips) : Fin 2 → Nat :=
  let c0_i32 : BitVec 32 := 0#32
  let c1_i32 : BitVec 32 := 1#32
  let arg27 : BitVec 32 := Scf.iv c0_i32 c1_i32 k0_t1
  let c512_i32 : BitVec 32 := 512#32
  let v5 : BitVec 32 := Scalar.muli arg27 c512_i32
  let v6 : BitVec 32 := v5
  let v8 : Index := Scalar.indexCast v6
  let c0 : Index := 0#32
  ![v8.toNat, 0]
def k0_off2 (k0_t1 : Fin k0_t1_loop.trips) : Fin 4 → Nat :=
  let c0_11 : Index := 0#32
  let c0_i32 : BitVec 32 := 0#32
  let c1_i32 : BitVec 32 := 1#32
  let arg27 : BitVec 32 := Scf.iv c0_i32 c1_i32 k0_t1
  let c8_i32 : BitVec 32 := 8#32
  let v7 : BitVec 32 := Scalar.muli arg27 c8_i32
  let v19 : Index := Scalar.indexCast v7
  let c0_12 : Index := 0#32
  let c0_13 : Index := 0#32
  ![0, v19.toNat, 0, 0]
def k0_off3 (k0_t1 : Fin k0_t1_loop.trips) : Fin 4 → Nat :=
  let c0_14 : Index := 0#32
  let c0_i32 : BitVec 32 := 0#32
  let c1_i32 : BitVec 32 := 1#32
  let arg27 : BitVec 32 := Scf.iv c0_i32 c1_i32 k0_t1
  let c8_i32 : BitVec 32 := 8#32
  let v7 : BitVec 32 := Scalar.muli arg27 c8_i32
  let v22 : Index := Scalar.indexCast v7
  let c0_15 : Index := 0#32
  let c0_16 : Index := 0#32
  ![0, v22.toNat, 0, 0]
def k0_off4 (k0_t1 : Fin k0_t1_loop.trips) : Fin 3 → Nat :=
  let c0_i32 : BitVec 32 := 0#32
  let c1_i32 : BitVec 32 := 1#32
  let arg27 : BitVec 32 := Scf.iv c0_i32 c1_i32 k0_t1
  let c8_i32 : BitVec 32 := 8#32
  let v7 : BitVec 32 := Scalar.muli arg27 c8_i32
  let v256 : Index := Scalar.indexCast v7
  let c0_65 : Index := 0#32
  let c0_66 : Index := 0#32
  ![v256.toNat, 0, 0]
def k0_off5 (k0_t1 : Fin k0_t1_loop.trips) : Fin 3 → Nat :=
  let c0_i32 : BitVec 32 := 0#32
  let c1_i32 : BitVec 32 := 1#32
  let arg27 : BitVec 32 := Scf.iv c0_i32 c1_i32 k0_t1
  let c8_i32 : BitVec 32 := 8#32
  let v7 : BitVec 32 := Scalar.muli arg27 c8_i32
  let v268 : Index := Scalar.indexCast v7
  let c0_70 : Index := 0#32
  let c0_71 : Index := 0#32
  ![v268.toNat, 0, 0]
def k0_off6 (k0_t1 : Fin k0_t1_loop.trips) : Fin 3 → Nat :=
  let c0_i32 : BitVec 32 := 0#32
  let c1_i32 : BitVec 32 := 1#32
  let arg27 : BitVec 32 := Scf.iv c0_i32 c1_i32 k0_t1
  let c8_i32 : BitVec 32 := 8#32
  let v7 : BitVec 32 := Scalar.muli arg27 c8_i32
  let v280 : Index := Scalar.indexCast v7
  let c0_76 : Index := 0#32
  let c0_77 : Index := 0#32
  ![v280.toNat, 0, 0]
@[reducible] def k0_t2_loop : Scf.Loop 32 :=
  let c0_i32_1 : BitVec 32 := 0#32
  let c32_i32 : BitVec 32 := 32#32
  let v2 : BitVec 32 := Scalar.addi c0_i32_1 c32_i32
  let c1_i32_2 : BitVec 32 := 1#32
  ⟨c0_i32_1, v2, c1_i32_2⟩
def k0_off7 (k0_t2 : Fin k0_t2_loop.trips) : Fin 4 → Nat :=
  let c0 : Index := 0#32
  let c31_i32 : BitVec 32 := 31#32
  let c0_i32_1 : BitVec 32 := 0#32
  let c1_i32_2 : BitVec 32 := 1#32
  let arg27 : BitVec 32 := Scf.iv c0_i32_1 c1_i32_2 k0_t2
  let v5 : BitVec 32 := Scalar.subi c31_i32 arg27
  let v6 : Index := Scalar.indexCast v5
  let c0_8 : Index := 0#32
  let c0_9 : Index := 0#32
  ![0, v6.toNat, 0, 0]
def k0_mult2 (k0_t2 : Fin k0_t2_loop.trips) : BitVec 32 :=
  let c31_i32 : BitVec 32 := 31#32
  let c0_i32_1 : BitVec 32 := 0#32
  let c1_i32_2 : BitVec 32 := 1#32
  let arg27 : BitVec 32 := Scf.iv c0_i32_1 c1_i32_2 k0_t2
  let v5 : BitVec 32 := Scalar.subi c31_i32 arg27
  let c64_i32 : BitVec 32 := 64#32
  let v9 : BitVec 32 := Scalar.muli v5 c64_i32
  v9
def k0_off8 (k0_t2 : Fin k0_t2_loop.trips) : Fin 2 → Nat :=
  let c31_i32 : BitVec 32 := 31#32
  let c0_i32_1 : BitVec 32 := 0#32
  let c1_i32_2 : BitVec 32 := 1#32
  let arg27 : BitVec 32 := Scf.iv c0_i32_1 c1_i32_2 k0_t2
  let v5 : BitVec 32 := Scalar.subi c31_i32 arg27
  let c64_i32 : BitVec 32 := 64#32
  let v9 : BitVec 32 := Scalar.muli v5 c64_i32
  let v10 : BitVec 32 := v9
  let v11 : Index := Scalar.indexCast v10
  let c0_10 : Index := 0#32
  ![v11.toNat, 0]
def k0_off9 (k0_t2 : Fin k0_t2_loop.trips) : Fin 3 → Nat :=
  let c31_i32 : BitVec 32 := 31#32
  let c0_i32_1 : BitVec 32 := 0#32
  let c1_i32_2 : BitVec 32 := 1#32
  let arg27 : BitVec 32 := Scf.iv c0_i32_1 c1_i32_2 k0_t2
  let v5 : BitVec 32 := Scalar.subi c31_i32 arg27
  let v13 : Index := Scalar.indexCast v5
  let c0_11 : Index := 0#32
  let c0_12 : Index := 0#32
  ![v13.toNat, 0, 0]
def k0_off10 (k0_t2 : Fin k0_t2_loop.trips) : Fin 3 → Nat :=
  let c31_i32 : BitVec 32 := 31#32
  let c0_i32_1 : BitVec 32 := 0#32
  let c1_i32_2 : BitVec 32 := 1#32
  let arg27 : BitVec 32 := Scf.iv c0_i32_1 c1_i32_2 k0_t2
  let v5 : BitVec 32 := Scalar.subi c31_i32 arg27
  let v26 : Index := Scalar.indexCast v5
  let c0_18 : Index := 0#32
  let c0_19 : Index := 0#32
  ![v26.toNat, 0, 0]
def k0_off11 (k0_t2 : Fin k0_t2_loop.trips) : Fin 3 → Nat :=
  let c31_i32 : BitVec 32 := 31#32
  let c0_i32_1 : BitVec 32 := 0#32
  let c1_i32_2 : BitVec 32 := 1#32
  let arg27 : BitVec 32 := Scf.iv c0_i32_1 c1_i32_2 k0_t2
  let v5 : BitVec 32 := Scalar.subi c31_i32 arg27
  let v75 : Index := Scalar.indexCast v5
  let c0_39 : Index := 0#32
  let c0_40 : Index := 0#32
  ![v75.toNat, 0, 0]
@[reducible] def k0_t3_loop : Scf.Loop 32 :=
  let c0_i32_4 : BitVec 32 := 0#32
  let c4_i32_5 : BitVec 32 := 4#32
  let v4 : BitVec 32 := Scalar.addi c0_i32_4 c4_i32_5
  let c1_i32_6 : BitVec 32 := 1#32
  ⟨c0_i32_4, v4, c1_i32_6⟩
def k0_mult3 (k0_t3 : Fin k0_t3_loop.trips) : BitVec 32 :=
  let c0_i32_4 : BitVec 32 := 0#32
  let c1_i32_6 : BitVec 32 := 1#32
  let arg27 : BitVec 32 := Scf.iv c0_i32_4 c1_i32_6 k0_t3
  let c512_i32 : BitVec 32 := 512#32
  let v5 : BitVec 32 := Scalar.muli arg27 c512_i32
  v5
def k0_off12 (k0_t3 : Fin k0_t3_loop.trips) : Fin 2 → Nat :=
  let c0_i32_4 : BitVec 32 := 0#32
  let c1_i32_6 : BitVec 32 := 1#32
  let arg27 : BitVec 32 := Scf.iv c0_i32_4 c1_i32_6 k0_t3
  let c512_i32 : BitVec 32 := 512#32
  let v5 : BitVec 32 := Scalar.muli arg27 c512_i32
  let v6 : BitVec 32 := v5
  let v8 : Index := Scalar.indexCast v6
  let c0 : Index := 0#32
  ![v8.toNat, 0]
def k0_off13 (k0_t3 : Fin k0_t3_loop.trips) : Fin 4 → Nat :=
  let c0_11 : Index := 0#32
  let c0_i32_4 : BitVec 32 := 0#32
  let c1_i32_6 : BitVec 32 := 1#32
  let arg27 : BitVec 32 := Scf.iv c0_i32_4 c1_i32_6 k0_t3
  let c8_i32 : BitVec 32 := 8#32
  let v7 : BitVec 32 := Scalar.muli arg27 c8_i32
  let v19 : Index := Scalar.indexCast v7
  let c0_12 : Index := 0#32
  let c0_13 : Index := 0#32
  ![0, v19.toNat, 0, 0]
def k0_off14 (k0_t3 : Fin k0_t3_loop.trips) : Fin 4 → Nat :=
  let c0_14 : Index := 0#32
  let c0_i32_4 : BitVec 32 := 0#32
  let c1_i32_6 : BitVec 32 := 1#32
  let arg27 : BitVec 32 := Scf.iv c0_i32_4 c1_i32_6 k0_t3
  let c8_i32 : BitVec 32 := 8#32
  let v7 : BitVec 32 := Scalar.muli arg27 c8_i32
  let v22 : Index := Scalar.indexCast v7
  let c0_15 : Index := 0#32
  let c0_16 : Index := 0#32
  ![0, v22.toNat, 0, 0]
def k0_off15 (k0_t3 : Fin k0_t3_loop.trips) : Fin 3 → Nat :=
  let c0_i32_4 : BitVec 32 := 0#32
  let c1_i32_6 : BitVec 32 := 1#32
  let arg27 : BitVec 32 := Scf.iv c0_i32_4 c1_i32_6 k0_t3
  let c8_i32 : BitVec 32 := 8#32
  let v7 : BitVec 32 := Scalar.muli arg27 c8_i32
  let v217 : Index := Scalar.indexCast v7
  let c0_58 : Index := 0#32
  let c0_59 : Index := 0#32
  ![v217.toNat, 0, 0]
def k0_off16 (k0_t3 : Fin k0_t3_loop.trips) : Fin 3 → Nat :=
  let c0_i32_4 : BitVec 32 := 0#32
  let c1_i32_6 : BitVec 32 := 1#32
  let arg27 : BitVec 32 := Scf.iv c0_i32_4 c1_i32_6 k0_t3
  let c8_i32 : BitVec 32 := 8#32
  let v7 : BitVec 32 := Scalar.muli arg27 c8_i32
  let v221 : Index := Scalar.indexCast v7
  let c0_62 : Index := 0#32
  let c0_63 : Index := 0#32
  ![v221.toNat, 0, 0]
def k0_off17 (k0_t3 : Fin k0_t3_loop.trips) : Fin 3 → Nat :=
  let c0_i32_4 : BitVec 32 := 0#32
  let c1_i32_6 : BitVec 32 := 1#32
  let arg27 : BitVec 32 := Scf.iv c0_i32_4 c1_i32_6 k0_t3
  let c8_i32 : BitVec 32 := 8#32
  let v7 : BitVec 32 := Scalar.muli arg27 c8_i32
  let v227 : Index := Scalar.indexCast v7
  let c0_68 : Index := 0#32
  let c0_69 : Index := 0#32
  ![v227.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x64x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x1024 : Shape := ⟨2, ![2048, 1024]⟩
abbrev S8x32x64 : Shape := ⟨3, ![8, 32, 64]⟩
abbrev S8x32x128x128 : Shape := ⟨4, ![8, 32, 128, 128]⟩
abbrev S2048x8x128 : Shape := ⟨3, ![2048, 8, 128]⟩
abbrev S8x2048x128 : Shape := ⟨3, ![8, 2048, 128]⟩
abbrev S8x32x64x128 : Shape := ⟨4, ![8, 32, 64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x32x64x1 : Shape := ⟨4, ![8, 32, 64, 1]⟩
abbrev S8x32x1x64 : Shape := ⟨4, ![8, 32, 1, 64]⟩
abbrev S8x32x64x64 : Shape := ⟨4, ![8, 32, 64, 64]⟩
abbrev S8x32x1 : Shape := ⟨3, ![8, 32, 1]⟩
abbrev S8x32x1x1 : Shape := ⟨4, ![8, 32, 1, 1]⟩
abbrev S32x8x64x1 : Shape := ⟨4, ![32, 8, 64, 1]⟩
abbrev S32x8x64x64 : Shape := ⟨4, ![32, 8, 64, 64]⟩
abbrev S32x8x64x128 : Shape := ⟨4, ![32, 8, 64, 128]⟩
abbrev S32x8x1x1 : Shape := ⟨4, ![32, 8, 1, 1]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x1x1 : Shape := ⟨4, ![1, 8, 1, 1]⟩
abbrev S8x1x1 : Shape := ⟨3, ![8, 1, 1]⟩
abbrev S1x8x64x64 : Shape := ⟨4, ![1, 8, 64, 64]⟩
abbrev S8x64x64 : Shape := ⟨3, ![8, 64, 64]⟩
abbrev S1x8x64x1 : Shape := ⟨4, ![1, 8, 64, 1]⟩
abbrev S8x64x1 : Shape := ⟨3, ![8, 64, 1]⟩
abbrev S8x128x64 : Shape := ⟨3, ![8, 128, 64]⟩

abbrev nBuf : Space → Nat
  | .hbm => 308
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S8x32x64, .f32⟩
  | 4 => ⟨S8x32x64, .f32⟩
  | 5 => ⟨S8x32x128x128, .f32⟩
  | 6 => ⟨S2048x1024, .f32⟩
  | 7 => ⟨S2048x8x128, .f32⟩
  | 8 => ⟨S8x2048x128, .f32⟩
  | 9 => ⟨S8x32x64x128, .f32⟩
  | 10 => ⟨S_, .f32⟩
  | 11 => ⟨S8x32x64x128, .f32⟩
  | 12 => ⟨S8x32x64x128, .f32⟩
  | 13 => ⟨S2048x8x128, .f32⟩
  | 14 => ⟨S8x2048x128, .f32⟩
  | 15 => ⟨S8x32x64x128, .f32⟩
  | 16 => ⟨S64, .i32⟩
  | 17 => ⟨S64x1, .i32⟩
  | 18 => ⟨S1x64, .i32⟩
  | 19 => ⟨S64x64, .i32⟩
  | 20 => ⟨S64x64, .i32⟩
  | 21 => ⟨S64x64, .i1⟩
  | 22 => ⟨S64x1, .i32⟩
  | 23 => ⟨S1x64, .i32⟩
  | 24 => ⟨S64x64, .i32⟩
  | 25 => ⟨S64x64, .i32⟩
  | 26 => ⟨S64x64, .i1⟩
  | 27 => ⟨S8x32x64x1, .f32⟩
  | 28 => ⟨S8x32x1x64, .f32⟩
  | 29 => ⟨S8x32x64x64, .f32⟩
  | 30 => ⟨S8x32x64x64, .f32⟩
  | 31 => ⟨S8x32x64x64, .f32⟩
  | 32 => ⟨S_, .f32⟩
  | 33 => ⟨S_, .f32⟩
  | 34 => ⟨S8x32x64x64, .i1⟩
  | 35 => ⟨S8x32x64x64, .f32⟩
  | 36 => ⟨S8x32x64x64, .f32⟩
  | 37 => ⟨S8x32x64x64, .f32⟩
  | 38 => ⟨S8x32x64x1, .f32⟩
  | 39 => ⟨S8x32x64x128, .f32⟩
  | 40 => ⟨S8x32x64x128, .f32⟩
  | 41 => ⟨S8x32x64x64, .f32⟩
  | 42 => ⟨S8x32x64x64, .f32⟩
  | 43 => ⟨S_, .f32⟩
  | 44 => ⟨S_, .f32⟩
  | 45 => ⟨S8x32x64x64, .i1⟩
  | 46 => ⟨S8x32x64x64, .f32⟩
  | 47 => ⟨S8x32x64x64, .f32⟩
  | 48 => ⟨S64x64, .i32⟩
  | 49 => ⟨S64x64, .i32⟩
  | 50 => ⟨S_, .i32⟩
  | 51 => ⟨S64x64, .i32⟩
  | 52 => ⟨S64x64, .i32⟩
  | 53 => ⟨S64x64, .i1⟩
  | 54 => ⟨S64x64, .f32⟩
  | 55 => ⟨S8x32x64x64, .f32⟩
  | 56 => ⟨S8x32x64x64, .f32⟩
  | 57 => ⟨S8x32x64x64, .f32⟩
  | 58 => ⟨S8x32x64x64, .f32⟩
  | 59 => ⟨S8x32x64x64, .f32⟩
  | 60 => ⟨S8x32x64x64, .f32⟩
  | 61 => ⟨S8x32x64x64, .f32⟩
  | 62 => ⟨S8x32x64x64, .f32⟩
  | 63 => ⟨S8x32x64x64, .f32⟩
  | 64 => ⟨S8x32x64x64, .f32⟩
  | 65 => ⟨S8x32x64x64, .f32⟩
  | 66 => ⟨S8x32x64x64, .f32⟩
  | 67 => ⟨S8x32x64x64, .f32⟩
  | 68 => ⟨S8x32x64x64, .f32⟩
  | 69 => ⟨S8x32x64x64, .f32⟩
  | 70 => ⟨S8x32x64x64, .f32⟩
  | 71 => ⟨S8x32x64x64, .f32⟩
  | 72 => ⟨S8x32x64x64, .f32⟩
  | 73 => ⟨S8x32x64x64, .f32⟩
  | 74 => ⟨S8x32x64x64, .f32⟩
  | 75 => ⟨S8x32x64x64, .f32⟩
  | 76 => ⟨S8x32x64x64, .f32⟩
  | 77 => ⟨S8x32x64x64, .f32⟩
  | 78 => ⟨S8x32x64x64, .f32⟩
  | 79 => ⟨S8x32x64x64, .f32⟩
  | 80 => ⟨S8x32x64x64, .f32⟩
  | 81 => ⟨S8x32x64x64, .f32⟩
  | 82 => ⟨S8x32x64x64, .f32⟩
  | 83 => ⟨S8x32x64x64, .f32⟩
  | 84 => ⟨S8x32x64x64, .f32⟩
  | 85 => ⟨S8x32x64x64, .f32⟩
  | 86 => ⟨S8x32x64x64, .f32⟩
  | 87 => ⟨S8x32x64x64, .f32⟩
  | 88 => ⟨S8x32x64x64, .f32⟩
  | 89 => ⟨S8x32x64x64, .f32⟩
  | 90 => ⟨S8x32x64x64, .f32⟩
  | 91 => ⟨S8x32x64x64, .f32⟩
  | 92 => ⟨S8x32x64x64, .f32⟩
  | 93 => ⟨S8x32x64x64, .f32⟩
  | 94 => ⟨S8x32x64x64, .f32⟩
  | 95 => ⟨S8x32x64x64, .f32⟩
  | 96 => ⟨S8x32x64x64, .f32⟩
  | 97 => ⟨S8x32x64x64, .f32⟩
  | 98 => ⟨S8x32x64x64, .f32⟩
  | 99 => ⟨S8x32x64x64, .f32⟩
  | 100 => ⟨S8x32x64x64, .f32⟩
  | 101 => ⟨S8x32x64x64, .f32⟩
  | 102 => ⟨S8x32x64x64, .f32⟩
  | 103 => ⟨S8x32x64x64, .f32⟩
  | 104 => ⟨S8x32x64x64, .f32⟩
  | 105 => ⟨S8x32x64x64, .f32⟩
  | 106 => ⟨S8x32x64x64, .f32⟩
  | 107 => ⟨S8x32x64x64, .f32⟩
  | 108 => ⟨S8x32x64x64, .f32⟩
  | 109 => ⟨S8x32x64x64, .f32⟩
  | 110 => ⟨S8x32x64x64, .f32⟩
  | 111 => ⟨S8x32x64x64, .f32⟩
  | 112 => ⟨S8x32x64x64, .f32⟩
  | 113 => ⟨S8x32x64x64, .f32⟩
  | 114 => ⟨S8x32x64x64, .f32⟩
  | 115 => ⟨S8x32x64x64, .f32⟩
  | 116 => ⟨S8x32x64x64, .f32⟩
  | 117 => ⟨S8x32x64x64, .f32⟩
  | 118 => ⟨S8x32x64x64, .f32⟩
  | 119 => ⟨S8x32x64x64, .f32⟩
  | 120 => ⟨S8x32x64x64, .f32⟩
  | 121 => ⟨S8x32x64x64, .f32⟩
  | 122 => ⟨S8x32x64x64, .f32⟩
  | 123 => ⟨S8x32x64x64, .f32⟩
  | 124 => ⟨S8x32x64x64, .f32⟩
  | 125 => ⟨S8x32x64x64, .f32⟩
  | 126 => ⟨S8x32x64x64, .f32⟩
  | 127 => ⟨S8x32x64x64, .f32⟩
  | _ => ⟨S2048x1024, .f32⟩

abbrev hbmTy0_1 (i : Nat) : BufTy := match i % 128 with
  | 0 => ⟨S8x32x64x64, .f32⟩
  | 1 => ⟨S8x32x64x64, .f32⟩
  | 2 => ⟨S8x32x64x64, .f32⟩
  | 3 => ⟨S8x32x64x64, .f32⟩
  | 4 => ⟨S8x32x64x64, .f32⟩
  | 5 => ⟨S8x32x64x64, .f32⟩
  | 6 => ⟨S8x32x64x64, .f32⟩
  | 7 => ⟨S8x32x64x64, .f32⟩
  | 8 => ⟨S8x32x64x64, .f32⟩
  | 9 => ⟨S8x32x64x64, .f32⟩
  | 10 => ⟨S8x32x64x64, .f32⟩
  | 11 => ⟨S8x32x64x64, .f32⟩
  | 12 => ⟨S8x32x64x64, .f32⟩
  | 13 => ⟨S8x32x64x64, .f32⟩
  | 14 => ⟨S8x32x64x64, .f32⟩
  | 15 => ⟨S8x32x64x64, .f32⟩
  | 16 => ⟨S8x32x64x64, .f32⟩
  | 17 => ⟨S8x32x64x64, .f32⟩
  | 18 => ⟨S8x32x64x64, .f32⟩
  | 19 => ⟨S8x32x64x64, .f32⟩
  | 20 => ⟨S8x32x64x64, .f32⟩
  | 21 => ⟨S8x32x64x64, .f32⟩
  | 22 => ⟨S8x32x64x64, .f32⟩
  | 23 => ⟨S8x32x64x64, .f32⟩
  | 24 => ⟨S8x32x64x64, .f32⟩
  | 25 => ⟨S8x32x64x64, .f32⟩
  | 26 => ⟨S8x32x64x64, .f32⟩
  | 27 => ⟨S8x32x64x64, .f32⟩
  | 28 => ⟨S8x32x64x64, .f32⟩
  | 29 => ⟨S8x32x64x64, .f32⟩
  | 30 => ⟨S8x32x64x64, .f32⟩
  | 31 => ⟨S8x32x64x64, .f32⟩
  | 32 => ⟨S8x32x64x64, .f32⟩
  | 33 => ⟨S8x32x64x64, .f32⟩
  | 34 => ⟨S8x32x64x64, .f32⟩
  | 35 => ⟨S8x32x64x64, .f32⟩
  | 36 => ⟨S8x32x64x64, .f32⟩
  | 37 => ⟨S8x32x64x64, .f32⟩
  | 38 => ⟨S8x32x64x64, .f32⟩
  | 39 => ⟨S8x32x64x64, .f32⟩
  | 40 => ⟨S8x32x64x64, .f32⟩
  | 41 => ⟨S8x32x64x64, .f32⟩
  | 42 => ⟨S8x32x64x64, .f32⟩
  | 43 => ⟨S8x32x64x64, .f32⟩
  | 44 => ⟨S8x32x64x64, .f32⟩
  | 45 => ⟨S8x32x64x64, .f32⟩
  | 46 => ⟨S8x32x64x64, .f32⟩
  | 47 => ⟨S8x32x64x64, .f32⟩
  | 48 => ⟨S8x32x64x64, .f32⟩
  | 49 => ⟨S8x32x64x64, .f32⟩
  | 50 => ⟨S8x32x64x64, .f32⟩
  | 51 => ⟨S8x32x64x64, .f32⟩
  | 52 => ⟨S8x32x64x64, .f32⟩
  | 53 => ⟨S8x32x64x64, .f32⟩
  | 54 => ⟨S8x32x64, .f32⟩
  | 55 => ⟨S8x32x64x1, .f32⟩
  | 56 => ⟨S8x32x64x128, .f32⟩
  | 57 => ⟨S8x32x64x128, .f32⟩
  | 58 => ⟨S8x32x64x128, .f32⟩
  | 59 => ⟨S8x32x64x64, .f32⟩
  | 60 => ⟨S8x32x64x64, .f32⟩
  | 61 => ⟨S8x32x64, .f32⟩
  | 62 => ⟨S8x32x64x1, .f32⟩
  | 63 => ⟨S8x32x64x128, .f32⟩
  | 64 => ⟨S8x32x64x128, .f32⟩
  | 65 => ⟨S8x32x1, .f32⟩
  | 66 => ⟨S8x32x64, .f32⟩
  | 67 => ⟨S8x32x64, .f32⟩
  | 68 => ⟨S8x32x64, .f32⟩
  | 69 => ⟨S8x32x64x1, .f32⟩
  | 70 => ⟨S8x32x64x128, .f32⟩
  | 71 => ⟨S8x32x64x128, .f32⟩
  | 72 => ⟨S8x32x1, .f32⟩
  | 73 => ⟨S8x32x1, .f32⟩
  | 74 => ⟨S8x32x1x1, .f32⟩
  | 75 => ⟨S8x32x64x1, .f32⟩
  | 76 => ⟨S32x8x64x1, .f32⟩
  | 77 => ⟨S32x8x64x64, .f32⟩
  | 78 => ⟨S32x8x64x128, .f32⟩
  | 79 => ⟨S32x8x64x128, .f32⟩
  | 80 => ⟨S32x8x64x128, .f32⟩
  | 81 => ⟨S32x8x64x64, .f32⟩
  | 82 => ⟨S32x8x1x1, .f32⟩
  | 83 => ⟨S_, .f32⟩
  | 84 => ⟨S8x128x128, .f32⟩
  | 85 => ⟨S2048x8x128, .f32⟩
  | 86 => ⟨S8x2048x128, .f32⟩
  | 87 => ⟨S8x32x64x128, .f32⟩
  | 88 => ⟨S32x8x64x128, .f32⟩
  | 89 => ⟨S_, .f32⟩
  | 90 => ⟨S8x128x128, .f32⟩
  | 91 => ⟨S_, .f32⟩
  | 92 => ⟨S32x8x64x128, .f32⟩
  | 93 => ⟨S_, .i32⟩
  | 94 => ⟨S32x8x64x128, .f32⟩
  | 95 => ⟨S32x8x1x1, .f32⟩
  | 96 => ⟨S32x8x64x128, .f32⟩
  | 97 => ⟨S32x8x64x64, .f32⟩
  | 98 => ⟨S32x8x64x1, .f32⟩
  | 99 => ⟨S32x8x64x128, .f32⟩
  | 100 => ⟨S32x8x64x128, .f32⟩
  | 101 => ⟨S32x8x64x64, .f32⟩
  | 102 => ⟨S_, .i32⟩
  | 103 => ⟨S8x128x128, .f32⟩
  | 104 => ⟨S32x8x64x128, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S1x8x64x128, .f32⟩
  | 115 => ⟨S8x64x128, .f32⟩
  | 116 => ⟨S_, .i32⟩
  | 117 => ⟨S_, .i32⟩
  | 118 => ⟨S_, .i32⟩
  | 119 => ⟨S1x8x1x1, .f32⟩
  | 120 => ⟨S8x1x1, .f32⟩
  | 121 => ⟨S_, .i32⟩
  | 122 => ⟨S_, .i32⟩
  | 123 => ⟨S_, .i32⟩
  | 124 => ⟨S1x8x64x128, .f32⟩
  | 125 => ⟨S8x64x128, .f32⟩
  | 126 => ⟨S_, .i32⟩
  | 127 => ⟨S_, .i32⟩
  | _ => ⟨S2048x1024, .f32⟩

abbrev hbmTy0_2 (i : Nat) : BufTy := match i % 128 with
  | 0 => ⟨S_, .i32⟩
  | 1 => ⟨S1x8x64x64, .f32⟩
  | 2 => ⟨S8x64x64, .f32⟩
  | 3 => ⟨S_, .i32⟩
  | 4 => ⟨S_, .i32⟩
  | 5 => ⟨S_, .i32⟩
  | 6 => ⟨S1x8x64x1, .f32⟩
  | 7 => ⟨S8x64x1, .f32⟩
  | 8 => ⟨S_, .i32⟩
  | 9 => ⟨S_, .i32⟩
  | 10 => ⟨S_, .i32⟩
  | 11 => ⟨S1x8x64x128, .f32⟩
  | 12 => ⟨S8x64x128, .f32⟩
  | 13 => ⟨S_, .i32⟩
  | 14 => ⟨S_, .i32⟩
  | 15 => ⟨S_, .i32⟩
  | 16 => ⟨S1x8x64x128, .f32⟩
  | 17 => ⟨S8x64x128, .f32⟩
  | 18 => ⟨S_, .i32⟩
  | 19 => ⟨S_, .i32⟩
  | 20 => ⟨S_, .i32⟩
  | 21 => ⟨S1x8x64x64, .f32⟩
  | 22 => ⟨S8x64x64, .f32⟩
  | 23 => ⟨S8x128x64, .f32⟩
  | 24 => ⟨S8x64x128, .f32⟩
  | 25 => ⟨S8x128x128, .f32⟩
  | 26 => ⟨S8x128x128, .f32⟩
  | 27 => ⟨S8x128x64, .f32⟩
  | 28 => ⟨S8x64x128, .f32⟩
  | 29 => ⟨S8x64x128, .f32⟩
  | 30 => ⟨S8x128x128, .f32⟩
  | 31 => ⟨S8x128x128, .f32⟩
  | 32 => ⟨S8x128x128, .f32⟩
  | 33 => ⟨S8x64x128, .f32⟩
  | 34 => ⟨S8x128x128, .f32⟩
  | 35 => ⟨S8x128x128, .f32⟩
  | 36 => ⟨S8x128x128, .f32⟩
  | 37 => ⟨S8x128x64, .f32⟩
  | 38 => ⟨S8x64x128, .f32⟩
  | 39 => ⟨S8x64x128, .f32⟩
  | 40 => ⟨S8x64x128, .f32⟩
  | 41 => ⟨S1x8x64x128, .f32⟩
  | 42 => ⟨S_, .i32⟩
  | 43 => ⟨S_, .i32⟩
  | 44 => ⟨S_, .i32⟩
  | 45 => ⟨S32x8x64x128, .f32⟩
  | 46 => ⟨S_, .i32⟩
  | 47 => ⟨S_, .i32⟩
  | 48 => ⟨S8x32x64x128, .f32⟩
  | 49 => ⟨S8x2048x128, .f32⟩
  | 50 => ⟨S2048x8x128, .f32⟩
  | 51 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_cst_2 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_cst_3 : Ref sig .tc := ⟨.hbm, 217, rfl⟩
abbrev main_v199 : Ref sig .tc := ⟨.hbm, 218, rfl⟩
abbrev main_cst_4 : Ref sig .tc := ⟨.hbm, 219, rfl⟩
abbrev main_v200 : Ref sig .tc := ⟨.hbm, 220, rfl⟩
abbrev main_c_5 : Ref sig .tc := ⟨.hbm, 221, rfl⟩
abbrev main_v201_0 : Ref sig .tc := ⟨.hbm, 222, rfl⟩
abbrev main_v201_1 : Ref sig .tc := ⟨.hbm, 223, rfl⟩
abbrev main_v201_2 : Ref sig .tc := ⟨.hbm, 224, rfl⟩
abbrev main_v201_3 : Ref sig .tc := ⟨.hbm, 225, rfl⟩
abbrev main_v201_4 : Ref sig .tc := ⟨.hbm, 226, rfl⟩
abbrev main_v201_5 : Ref sig .tc := ⟨.hbm, 227, rfl⟩
abbrev main_v201_6 : Ref sig .tc := ⟨.hbm, 228, rfl⟩
abbrev main_v201_7 : Ref sig .tc := ⟨.hbm, 229, rfl⟩
abbrev main_v201_8 : Ref sig .tc := ⟨.hbm, 230, rfl⟩
abbrev main_v201_9 : Ref sig .tc := ⟨.hbm, 231, rfl⟩
abbrev main_v201_10 : Ref sig .tc := ⟨.hbm, 232, rfl⟩
abbrev main_while0c_c_16 : Ref sig .tc := ⟨.hbm, 233, rfl⟩
abbrev main_while0c_v206 : Ref sig .tc := ⟨.hbm, 234, rfl⟩
abbrev main_while0b_c_16 : Ref sig .tc := ⟨.hbm, 235, rfl⟩
abbrev main_while0b_v206 : Ref sig .tc := ⟨.hbm, 236, rfl⟩
abbrev main_while0b_c_17 : Ref sig .tc := ⟨.hbm, 237, rfl⟩
abbrev main_while0b_v207 : Ref sig .tc := ⟨.hbm, 238, rfl⟩
abbrev main_while0b_call2_c : Ref sig .tc := ⟨.hbm, 239, rfl⟩
abbrev main_while0b_call2_c_0 : Ref sig .tc := ⟨.hbm, 240, rfl⟩
abbrev main_while0b_call2_c_1 : Ref sig .tc := ⟨.hbm, 241, rfl⟩
abbrev main_while0b_call2_v0 : Ref sig .tc := ⟨.hbm, 242, rfl⟩
abbrev main_while0b_v208 : Ref sig .tc := ⟨.hbm, 243, rfl⟩
abbrev main_while0b_call3_c : Ref sig .tc := ⟨.hbm, 244, rfl⟩
abbrev main_while0b_call3_c_0 : Ref sig .tc := ⟨.hbm, 245, rfl⟩
abbrev main_while0b_call3_c_1 : Ref sig .tc := ⟨.hbm, 246, rfl⟩
abbrev main_while0b_call3_v0 : Ref sig .tc := ⟨.hbm, 247, rfl⟩
abbrev main_while0b_v209 : Ref sig .tc := ⟨.hbm, 248, rfl⟩
abbrev main_while0b_call4_c : Ref sig .tc := ⟨.hbm, 249, rfl⟩
abbrev main_while0b_call4_c_0 : Ref sig .tc := ⟨.hbm, 250, rfl⟩
abbrev main_while0b_call4_c_1 : Ref sig .tc := ⟨.hbm, 251, rfl⟩
abbrev main_while0b_call4_v0 : Ref sig .tc := ⟨.hbm, 252, rfl⟩
abbrev main_while0b_v210 : Ref sig .tc := ⟨.hbm, 253, rfl⟩
abbrev main_while0b_call5_c : Ref sig .tc := ⟨.hbm, 254, rfl⟩
abbrev main_while0b_call5_c_0 : Ref sig .tc := ⟨.hbm, 255, rfl⟩
abbrev main_while0b_call5_c_1 : Ref sig .tc := ⟨.hbm, 256, rfl⟩
abbrev main_while0b_call5_v0 : Ref sig .tc := ⟨.hbm, 257, rfl⟩
abbrev main_while0b_v211 : Ref sig .tc := ⟨.hbm, 258, rfl⟩
abbrev main_while0b_call6_c : Ref sig .tc := ⟨.hbm, 259, rfl⟩
abbrev main_while0b_call6_c_0 : Ref sig .tc := ⟨.hbm, 260, rfl⟩
abbrev main_while0b_call6_c_1 : Ref sig .tc := ⟨.hbm, 261, rfl⟩
abbrev main_while0b_call6_v0 : Ref sig .tc := ⟨.hbm, 262, rfl⟩
abbrev main_while0b_v212 : Ref sig .tc := ⟨.hbm, 263, rfl⟩
abbrev main_while0b_call7_c : Ref sig .tc := ⟨.hbm, 264, rfl⟩
abbrev main_while0b_call7_c_0 : Ref sig .tc := ⟨.hbm, 265, rfl⟩
abbrev main_while0b_call7_c_1 : Ref sig .tc := ⟨.hbm, 266, rfl⟩
abbrev main_while0b_call7_v0 : Ref sig .tc := ⟨.hbm, 267, rfl⟩
abbrev main_while0b_v213 : Ref sig .tc := ⟨.hbm, 268, rfl⟩
abbrev main_while0b_call8_c : Ref sig .tc := ⟨.hbm, 269, rfl⟩
abbrev main_while0b_call8_c_0 : Ref sig .tc := ⟨.hbm, 270, rfl⟩
abbrev main_while0b_call8_c_1 : Ref sig .tc := ⟨.hbm, 271, rfl⟩
abbrev main_while0b_call8_v0 : Ref sig .tc := ⟨.hbm, 272, rfl⟩
abbrev main_while0b_v214 : Ref sig .tc := ⟨.hbm, 273, rfl⟩
abbrev main_while0b_call9_c : Ref sig .tc := ⟨.hbm, 274, rfl⟩
abbrev main_while0b_call9_c_0 : Ref sig .tc := ⟨.hbm, 275, rfl⟩
abbrev main_while0b_call9_c_1 : Ref sig .tc := ⟨.hbm, 276, rfl⟩
abbrev main_while0b_call9_v0 : Ref sig .tc := ⟨.hbm, 277, rfl⟩
abbrev main_while0b_v215 : Ref sig .tc := ⟨.hbm, 278, rfl⟩
abbrev main_while0b_v216 : Ref sig .tc := ⟨.hbm, 279, rfl⟩
abbrev main_while0b_v217 : Ref sig .tc := ⟨.hbm, 280, rfl⟩
abbrev main_while0b_v218 : Ref sig .tc := ⟨.hbm, 281, rfl⟩
abbrev main_while0b_v219 : Ref sig .tc := ⟨.hbm, 282, rfl⟩
abbrev main_while0b_v220 : Ref sig .tc := ⟨.hbm, 283, rfl⟩
abbrev main_while0b_v221 : Ref sig .tc := ⟨.hbm, 284, rfl⟩
abbrev main_while0b_v222 : Ref sig .tc := ⟨.hbm, 285, rfl⟩
abbrev main_while0b_v223 : Ref sig .tc := ⟨.hbm, 286, rfl⟩
abbrev main_while0b_v224 : Ref sig .tc := ⟨.hbm, 287, rfl⟩
abbrev main_while0b_v225 : Ref sig .tc := ⟨.hbm, 288, rfl⟩
abbrev main_while0b_v226 : Ref sig .tc := ⟨.hbm, 289, rfl⟩
abbrev main_while0b_v227 : Ref sig .tc := ⟨.hbm, 290, rfl⟩
abbrev main_while0b_v228 : Ref sig .tc := ⟨.hbm, 291, rfl⟩
abbrev main_while0b_v229 : Ref sig .tc := ⟨.hbm, 292, rfl⟩
abbrev main_while0b_v230 : Ref sig .tc := ⟨.hbm, 293, rfl⟩
abbrev main_while0b_v231 : Ref sig .tc := ⟨.hbm, 294, rfl⟩
abbrev main_while0b_v232 : Ref sig .tc := ⟨.hbm, 295, rfl⟩
abbrev main_while0b_v233 : Ref sig .tc := ⟨.hbm, 296, rfl⟩
abbrev main_while0b_call10_v0 : Ref sig .tc := ⟨.hbm, 297, rfl⟩
abbrev main_while0b_call10_c : Ref sig .tc := ⟨.hbm, 298, rfl⟩
abbrev main_while0b_call10_c_0 : Ref sig .tc := ⟨.hbm, 299, rfl⟩
abbrev main_while0b_call10_c_1 : Ref sig .tc := ⟨.hbm, 300, rfl⟩
abbrev main_while0b_v234 : Ref sig .tc := ⟨.hbm, 301, rfl⟩
abbrev main_while0b_c_18 : Ref sig .tc := ⟨.hbm, 302, rfl⟩
abbrev main_while0b_v235 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S1024x1024 : Shape := ⟨2, ![1024, 1024]⟩
abbrev S1024x2816 : Shape := ⟨2, ![1024, 2816]⟩
abbrev S2048x2816 : Shape := ⟨2, ![2048, 2816]⟩
abbrev S256x5632 : Shape := ⟨2, ![256, 5632]⟩
abbrev S256x2816 : Shape := ⟨2, ![256, 2816]⟩
abbrev S2048x512 : Shape := ⟨2, ![2048, 512]⟩
abbrev S2816x512 : Shape := ⟨2, ![2816, 512]⟩
abbrev S512x5632 : Shape := ⟨2, ![512, 5632]⟩
abbrev S512x1024 : Shape := ⟨2, ![512, 1024]⟩
abbrev S512x2816 : Shape := ⟨2, ![512, 2816]⟩

abbrev nBuf : Space → Nat
  | .hbm => 12
  | .vmem => 42
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2816x1024, .bf16⟩
  | .hbm, ⟨3, _⟩ => ⟨S2048x1024, .bf16⟩
  | .hbm, ⟨4, _⟩ => ⟨S2048x5632, .f32⟩
  | .hbm, ⟨5, _⟩ => ⟨S2048x2816, .bf16⟩
  | .hbm, ⟨6, _⟩ => ⟨S2048x1024, .f32⟩
  | .hbm, ⟨7, _⟩ => ⟨S2048x2816, .f32⟩
  | .hbm, ⟨8, _⟩ => ⟨S2816x1024, .bf16⟩
  | .hbm, ⟨9, _⟩ => ⟨S2048x5632, .bf16⟩
  | .hbm, ⟨10, _⟩ => ⟨S2048x1024, .f32⟩
  | .hbm, ⟨11, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | .local _ .vmem, ⟨6, _⟩ => ⟨S256x5632, .f32⟩
  | .local _ .vmem, ⟨7, _⟩ => ⟨S256x5632, .f32⟩
  | .local _ .vmem, ⟨8, _⟩ => ⟨S256x2816, .bf16⟩
  | .local _ .vmem, ⟨9, _⟩ => ⟨S256x2816, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S2816x1024, .bf16⟩
  | .local _ .vmem, ⟨18, _⟩ => ⟨S1024x2816, .f32⟩
  | .local _ .vmem, ⟨19, _⟩ => ⟨S1024x2816, .f32⟩
  | .local _ .vmem, ⟨20, _⟩ => ⟨S2048x2816, .bf16⟩
  | .local _ .vmem, ⟨21, _⟩ => ⟨S2048x512, .bf16⟩
  | .local _ .vmem, ⟨22, _⟩ => ⟨S2048x512, .bf16⟩
  | .local _ .vmem, ⟨23, _⟩ => ⟨S2816x512, .bf16⟩
  | .local _ .vmem, ⟨24, _⟩ => ⟨S2816x512, .bf16⟩
  | .local _ .vmem, ⟨25, _⟩ => ⟨S256x5632, .f32⟩
  | .local _ .vmem, ⟨26, _⟩ => ⟨S256x5632, .f32⟩
  | .local _ .vmem, ⟨27, _⟩ => ⟨S256x2816, .f32⟩
  | .local _ .vmem, ⟨28, _⟩ => ⟨S256x2816, .f32⟩
  | .local _ .vmem, ⟨29, _⟩ => ⟨S256x5632, .bf16⟩
  | .local _ .vmem, ⟨30, _⟩ => ⟨S256x5632, .bf16⟩
  | .local _ .vmem, ⟨31, _⟩ => ⟨S512x5632, .bf16⟩
  | .local _ .vmem, ⟨32, _⟩ => ⟨S512x5632, .bf16⟩
  | .local _ .vmem, ⟨33, _⟩ => ⟨S1024x5632, .bf16⟩
  | .local _ .vmem, ⟨34, _⟩ => ⟨S512x1024, .f32⟩
  | .local _ .vmem, ⟨35, _⟩ => ⟨S512x1024, .f32⟩
  | .local _ .vmem, ⟨36, _⟩ => ⟨S2048x512, .bf16⟩
  | .local _ .vmem, ⟨37, _⟩ => ⟨S2048x512, .bf16⟩
  | .local _ .vmem, ⟨38, _⟩ => ⟨S2048x2816, .bf16⟩
  | .local _ .vmem, ⟨39, _⟩ => ⟨S2048x2816, .bf16⟩
  | .local _ .vmem, ⟨40, _⟩ => ⟨S512x2816, .bf16⟩
  | .local _ .vmem, ⟨41, _⟩ => ⟨S512x2816, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem1_1 : DmaSem sig := 39
abbrev cc7_sem2_0 : DmaSem sig := 40
abbrev cc7_sem2_1 : DmaSem sig := 41

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x5632 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x2816 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x2816 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2816x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x5632 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x2816 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x5632 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![4, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S1024x5632 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x2816 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference2Ideal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2816x1024, .bf16⟩
  | .hbm, ⟨3, _⟩ => ⟨S2048x1024, .bf16⟩
  | .hbm, ⟨4, _⟩ => ⟨S2048x1024, .f32⟩
  | .hbm, ⟨5, _⟩ => ⟨S1024x5632, .f32⟩
  | .hbm, ⟨6, _⟩ => ⟨S2816x1024, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S2048x1024, .f32⟩
  | .hbm, ⟨26, _⟩ => ⟨S1024x2816, .f32⟩
  | .hbm, ⟨27, _⟩ => ⟨S2816x1024, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x5632, .f32⟩
  | .hbm, ⟨36, _⟩ => ⟨S5632x1024, .f32⟩
  | .hbm, ⟨37, _⟩ => ⟨S1024x5632, .f32⟩
  | .hbm, ⟨38, _⟩ => ⟨S2048x1024, .f32⟩
  | .hbm, ⟨39, _⟩ => ⟨S1024x5632, .bf16⟩
  | .hbm, ⟨40, _⟩ => ⟨S2816x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2048x1024 : Shape := ⟨2, ![2048, 1024]⟩
abbrev S1024x4352 : Shape := ⟨2, ![1024, 4352]⟩
abbrev S2048x4352 : Shape := ⟨2, ![2048, 4352]⟩
abbrev S1024x3072 : Shape := ⟨2, ![1024, 3072]⟩
abbrev S2048x3072 : Shape := ⟨2, ![2048, 3072]⟩
abbrev S1024x1024 : Shape := ⟨2, ![1024, 1024]⟩
abbrev S512x1024 : Shape := ⟨2, ![512, 1024]⟩
abbrev S512x4352 : Shape := ⟨2, ![512, 4352]⟩
abbrev S2048x128 : Shape := ⟨2, ![2048, 128]⟩
abbrev S128x4352 : Shape := ⟨2, ![128, 4352]⟩
abbrev S2048x512 : Shape := ⟨2, ![2048, 512]⟩
abbrev S512x3072 : Shape := ⟨2, ![512, 3072]⟩

abbrev nBuf : Space → Nat
  | .hbm => 18
  | .vmem => 39
  | .smem => 0
  | _ => 0

abbrev bufTy : (tb : Table) → Fin (tcTables nBuf tb) → BufTy
  | .hbm, ⟨0, _⟩ => ⟨S2048x1024, .bf16⟩
  | .hbm, ⟨1, _⟩ => ⟨S1024x4352, .bf16⟩
  | .hbm, ⟨2, _⟩ => ⟨S2048x4352, .bf16⟩
  | .hbm, ⟨3, _⟩ => ⟨S2048x1024, .bf16⟩
  | .hbm, ⟨4, _⟩ => ⟨S1024x3072, .bf16⟩
  | .hbm, ⟨5, _⟩ => ⟨S2048x3072, .bf16⟩
  | .hbm, ⟨6, _⟩ => ⟨S2048x1024, .bf16⟩
  | .hbm, ⟨7, _⟩ => ⟨S1024x1024, .bf16⟩
  | .hbm, ⟨8, _⟩ => ⟨S2048x1024, .bf16⟩
  | .hbm, ⟨9, _⟩ => ⟨S2048x4352, .f32⟩
  | .hbm, ⟨10, _⟩ => ⟨S2048x3072, .f32⟩
  | .hbm, ⟨11, _⟩ => ⟨S2048x1024, .f32⟩
  | .hbm, ⟨12, _⟩ => ⟨S2048x1024, .f32⟩
  | .hbm, ⟨13, _⟩ => ⟨S1024x1024, .bf16⟩
  | .hbm, ⟨14, _⟩ => ⟨S2048x1024, .f32⟩
  | .hbm, ⟨15, _⟩ => ⟨S1024x4352, .bf16⟩
  | .hbm, ⟨16, _⟩ => ⟨S2048x1024, .f32⟩
  | .hbm, ⟨17, _⟩ => ⟨S1024x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x4352, .bf16⟩
  | .local _ .vmem, ⟨3, _⟩ => ⟨S512x4352, .f32⟩
  | .local _ .vmem, ⟨4, _⟩ => ⟨S512x4352, .f32⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .bf16⟩
  | .local _ .vmem, ⟨11, _⟩ => ⟨S1024x1024, .bf16⟩
  | .local _ .vmem, ⟨12, _⟩ => ⟨S2048x1024, .f32⟩
  | .local _ .vmem, ⟨13, _⟩ => ⟨S2048x1024, .bf16⟩
  | .local _ .vmem, ⟨14, _⟩ => ⟨S1024x1024, .bf16⟩
  | .local _ .vmem, ⟨15, _⟩ => ⟨S2048x1024, .f32⟩
  | .local _ .vmem, ⟨16, _⟩ => ⟨S2048x1024, .bf16⟩
  | .local _ .vmem, ⟨17, _⟩ => ⟨S2048x1024, .bf16⟩
  | .local _ .vmem, ⟨18, _⟩ => ⟨S1024x1024, .bf16⟩
  | .local _ .vmem, ⟨19, _⟩ => ⟨S512x4352, .bf16⟩
  | .local _ .vmem, ⟨20, _⟩ => ⟨S512x4352, .bf16⟩
  | .local _ .vmem, ⟨21, _⟩ => ⟨S1024x4352, .bf16⟩
  | .local _ .vmem, ⟨22, _⟩ => ⟨S512x1024, .f32⟩
  | .local _ .vmem, ⟨23, _⟩ => ⟨S512x1024, .f32⟩
  | .local _ .vmem, ⟨24, _⟩ => ⟨S2048x128, .bf16⟩
  | .local _ .vmem, ⟨25, _⟩ => ⟨S2048x128, .bf16⟩
  | .local _ .vmem, ⟨26, _⟩ => ⟨S2048x4352, .bf16⟩
  | .local _ .vmem, ⟨27, _⟩ => ⟨S128x4352, .bf16⟩
  | .local _ .vmem, ⟨28, _⟩ => ⟨S128x4352, .bf16⟩
  | .local _ .vmem, ⟨29, _⟩ => ⟨S1024x3072, .bf16⟩
  | .local _ .vmem, ⟨30, _⟩ => ⟨S1024x3072, .bf16⟩
  | .local _ .vmem, ⟨31, _⟩ => ⟨S1024x3072, .bf16⟩
  | .local _ .vmem, ⟨32, _⟩ => ⟨S1024x1024, .f32⟩
  | .local _ .vmem, ⟨33, _⟩ => ⟨S1024x1024, .f32⟩
  | .local _ .vmem, ⟨34, _⟩ => ⟨S2048x512, .bf16⟩
  | .local _ .vmem, ⟨35, _⟩ => ⟨S2048x512, .bf16⟩
  | .local _ .vmem, ⟨36, _⟩ => ⟨S2048x3072, .bf16⟩
  | .local _ .vmem, ⟨37, _⟩ => ⟨S512x3072, .bf16⟩
  | .local _ .vmem, ⟨38, _⟩ => ⟨S512x3072, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg2_0 : Ref sig .tc := ⟨.vmem, 18, rfl⟩
abbrev cc5_stg0_0 : Ref sig .tc := ⟨.vmem, 19, rfl⟩
abbrev cc5_stg0_1 : Ref sig .tc := ⟨.vmem, 20, rfl⟩
abbrev cc5_stg1_0 : Ref sig .tc := ⟨.vmem, 21, rfl⟩
abbrev cc5_stg2_0 : Ref sig .tc := ⟨.vmem, 22, rfl⟩
abbrev cc5_stg2_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg2_0 : Ref sig .tc := ⟨.vmem, 27, rfl⟩
abbrev cc6_stg2_1 : Ref sig .tc := ⟨.vmem, 28, rfl⟩
abbrev cc7_stg0_0 : Ref sig .tc := ⟨.vmem, 29, rfl⟩
abbrev cc7_stg0_1 : Ref sig .tc := ⟨.vmem, 30, rfl⟩
abbrev cc7_stg1_0 : Ref sig .tc := ⟨.vmem, 31, rfl⟩
abbrev cc7_stg2_0 : Ref sig .tc := ⟨.vmem, 32, rfl⟩
abbrev cc7_stg2_1 : Ref sig .tc := ⟨.vmem, 33, rfl⟩
abbrev cc8_stg0_0 : Ref sig .tc := ⟨.vmem, 34, rfl⟩
abbrev cc8_stg0_1 : Ref sig .tc := ⟨.vmem, 35, rfl⟩
abbrev cc8_stg1_0 : Ref sig .tc := ⟨.vmem, 36, rfl⟩
abbrev cc8_stg2_0 : Ref sig .tc := ⟨.vmem, 37, rfl⟩
abbrev cc8_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15
abbrev cc4_sem0_0 : DmaSem sig := 16
abbrev cc4_sem1_0 : DmaSem sig := 17
abbrev cc4_sem2_0 : DmaSem sig := 18
abbrev cc5_sem0_0 : DmaSem sig := 19
abbrev cc5_sem0_1 : DmaSem sig := 20
abbrev cc5_sem1_0 : DmaSem sig := 21
abbrev cc5_sem2_0 : DmaSem sig := 22
abbrev cc5_sem2_1 : DmaSem sig := 23
abbrev cc6_sem0_0 : DmaSem sig := 24
abbrev cc6_sem0_1 : DmaSem sig := 25
abbrev cc6_sem1_0 : DmaSem sig := 26
abbrev cc6_sem2_0 : DmaSem sig := 27
abbrev cc6_sem2_1 : DmaSem sig := 28
abbrev cc7_sem0_0 : DmaSem sig := 29
abbrev cc7_sem0_1 : DmaSem sig := 30
abbrev cc7_sem1_0 : DmaSem sig := 31
abbrev cc7_sem2_0 : DmaSem sig := 32
abbrev cc7_sem2_1 : DmaSem sig := 33
abbrev cc8_sem0_0 : DmaSem sig := 34
abbrev cc8_sem0_1 : DmaSem sig := 35
abbrev cc8_sem1_0 : DmaSem sig := 36
abbrev cc8_sem2_0 : DmaSem sig := 37
abbrev cc8_sem2_1 : DmaSem sig := 38

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4352 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1024x4352 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S2048x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x4352 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S128x4352 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1024x3072 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S2048x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S2048x3072 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 2 → Memref sig .tc .vmem S512x3072 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== Reference3Ideal.lean ====
abbrev S2048x1024 : Shape := ⟨2, ![2048, 1024]⟩
abbrev S1024x4352 : Shape := ⟨2, ![1024, 4352]⟩
abbrev S2048x4352 : Shape := ⟨2, ![2048, 4352]⟩
abbrev S1024x3072 : Shape := ⟨2, ![1024, 3072]⟩
abbrev S2048x3072 : Shape := ⟨2, ![2048, 3072]⟩
abbrev S1024x1024 : Shape := ⟨2, ![1024, 1024]⟩
abbrev S4352x1024 : Shape := ⟨2, ![4352, 1024]⟩
abbrev S3072x1024 : Shape := ⟨2, ![3072, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4352, .bf16⟩
  | .hbm, ⟨2, _⟩ => ⟨S2048x4352, .bf16⟩
  | .hbm, ⟨3, _⟩ => ⟨S2048x1024, .bf16⟩
  | .hbm, ⟨4, _⟩ => ⟨S1024x3072, .bf16⟩
  | .hbm, ⟨5, _⟩ => ⟨S2048x3072, .bf16⟩
  | .hbm, ⟨6, _⟩ => ⟨S2048x1024, .bf16⟩
  | .hbm, ⟨7, _⟩ => ⟨S1024x1024, .bf16⟩
  | .hbm, ⟨8, _⟩ => ⟨S2048x1024, .bf16⟩
  | .hbm, ⟨9, _⟩ => ⟨S2048x1024, .f32⟩
  | .hbm, ⟨10, _⟩ => ⟨S1024x4352, .f32⟩
  | .hbm, ⟨11, _⟩ => ⟨S2048x4352, .f32⟩
  | .hbm, ⟨12, _⟩ => ⟨S2048x1024, .f32⟩
  | .hbm, ⟨13, _⟩ => ⟨S1024x3072, .f32⟩
  | .hbm, ⟨14, _⟩ => ⟨S2048x3072, .f32⟩
  | .hbm, ⟨15, _⟩ => ⟨S2048x1024, .f32⟩
  | .hbm, ⟨16, _⟩ => ⟨S1024x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S1024x1024, .f32⟩
  | .hbm, ⟨21, _⟩ => ⟨S2048x1024, .f32⟩
  | .hbm, ⟨22, _⟩ => ⟨S2048x4352, .f32⟩
  | .hbm, ⟨23, _⟩ => ⟨S4352x1024, .f32⟩
  | .hbm, ⟨24, _⟩ => ⟨S1024x4352, .f32⟩
  | .hbm, ⟨25, _⟩ => ⟨S2048x1024, .f32⟩
  | .hbm, ⟨26, _⟩ => ⟨S2048x3072, .f32⟩
  | .hbm, ⟨27, _⟩ => ⟨S3072x1024, .f32⟩
  | .hbm, ⟨28, _⟩ => ⟨S1024x3072, .f32⟩
  | .hbm, ⟨29, _⟩ => ⟨S2048x1024, .f32⟩
  | .hbm, ⟨30, _⟩ => ⟨S1024x1024, .bf16⟩
  | .hbm, ⟨31, _⟩ => ⟨S1024x4352, .bf16⟩
  | .hbm, ⟨32, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S2048x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc2_sem4_0 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem7_0 : DmaSem sig := 33
abbrev cc3_sem8_0 : DmaSem sig := 34

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]
-- ==== Reference4Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .bf16⟩
  | .hbm, ⟨78, _⟩ => ⟨S2048x1024, .bf16⟩
  | .hbm, ⟨79, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel5.lean ====
abbrev S4096x1536 : Shape := ⟨2, ![4096, 1536]⟩
abbrev S2048x1028 : Shape := ⟨2, ![2048, 1028]⟩
abbrev S512x1024 : Shape := ⟨2, ![512, 1024]⟩
abbrev S2048x768 : Shape := ⟨2, ![2048, 768]⟩
abbrev S4096x1408 : Shape := ⟨2, ![4096, 1408]⟩
abbrev S2816x1024 : Shape := ⟨2, ![2816, 1024]⟩
abbrev S256x1536 : Shape := ⟨2, ![256, 1536]⟩
abbrev S256x1028 : Shape := ⟨2, ![256, 1028]⟩
abbrev S256x1024 : Shape := ⟨2, ![256, 1024]⟩
abbrev S256x768 : Shape := ⟨2, ![256, 768]⟩
abbrev S256x1408 : Shape := ⟨2, ![256, 1408]⟩

abbrev nBuf : Space → Nat
  | .hbm => 42
  | .vmem => 84
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S4096x1408, .f32⟩
  | .hbm, ⟨20, _⟩ => ⟨S2816x1024, .f32⟩
  | .hbm, ⟨21, _⟩ => ⟨S2816x1024, .f32⟩
  | .hbm, ⟨22, _⟩ => ⟨S2816x1024, .f32⟩
  | .hbm, ⟨23, _⟩ => ⟨S2816x1024, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S2048x1028, .f32⟩
  | .hbm, ⟨28, _⟩ => ⟨S2048x1028, .f32⟩
  | .hbm, ⟨29, _⟩ => ⟨S2048x1028, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S4096x1408, .f32⟩
  | .hbm, ⟨37, _⟩ => ⟨S4096x1408, .f32⟩
  | .hbm, ⟨38, _⟩ => ⟨S4096x1408, .f32⟩
  | .hbm, ⟨39, _⟩ => ⟨S2816x1024, .f32⟩
  | .hbm, ⟨40, _⟩ => ⟨S2816x1024, .f32⟩
  | .hbm, ⟨41, _⟩ => ⟨S2816x1024, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1028, .f32⟩
  | .local _ .vmem, ⟨15, _⟩ => ⟨S256x1028, .f32⟩
  | .local _ .vmem, ⟨16, _⟩ => ⟨S256x1028, .f32⟩
  | .local _ .vmem, ⟨17, _⟩ => ⟨S256x1028, .f32⟩
  | .local _ .vmem, ⟨18, _⟩ => ⟨S256x1028, .f32⟩
  | .local _ .vmem, ⟨19, _⟩ => ⟨S256x1028, .f32⟩
  | .local _ .vmem, ⟨20, _⟩ => ⟨S256x1028, .f32⟩
  | .local _ .vmem, ⟨21, _⟩ => ⟨S256x1028, .f32⟩
  | .local _ .vmem, ⟨22, _⟩ => ⟨S256x1028, .f32⟩
  | .local _ .vmem, ⟨23, _⟩ => ⟨S256x1028, .f32⟩
  | .local _ .vmem, ⟨24, _⟩ => ⟨S256x1028, .f32⟩
  | .local _ .vmem, ⟨25, _⟩ => ⟨S256x1028, .f32⟩
  | .local _ .vmem, ⟨26, _⟩ => ⟨S256x1028, .f32⟩
  | .local _ .vmem, ⟨27, _⟩ => ⟨S256x1028, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x768, .f32⟩
  | .local _ .vmem, ⟨43, _⟩ => ⟨S256x768, .f32⟩
  | .local _ .vmem, ⟨44, _⟩ => ⟨S256x768, .f32⟩
  | .local _ .vmem, ⟨45, _⟩ => ⟨S256x768, .f32⟩
  | .local _ .vmem, ⟨46, _⟩ => ⟨S256x768, .f32⟩
  | .local _ .vmem, ⟨47, _⟩ => ⟨S256x768, .f32⟩
  | .local _ .vmem, ⟨48, _⟩ => ⟨S256x768, .f32⟩
  | .local _ .vmem, ⟨49, _⟩ => ⟨S256x768, .f32⟩
  | .local _ .vmem, ⟨50, _⟩ => ⟨S256x768, .f32⟩
  | .local _ .vmem, ⟨51, _⟩ => ⟨S256x768, .f32⟩
  | .local _ .vmem, ⟨52, _⟩ => ⟨S256x768, .f32⟩
  | .local _ .vmem, ⟨53, _⟩ => ⟨S256x768, .f32⟩
  | .local _ .vmem, ⟨54, _⟩ => ⟨S256x768, .f32⟩
  | .local _ .vmem, ⟨55, _⟩ => ⟨S256x768, .f32⟩
  | .local _ .vmem, ⟨56, _⟩ => ⟨S256x1408, .f32⟩
  | .local _ .vmem, ⟨57, _⟩ => ⟨S256x1408, .f32⟩
  | .local _ .vmem, ⟨58, _⟩ => ⟨S256x1408, .f32⟩
  | .local _ .vmem, ⟨59, _⟩ => ⟨S256x1408, .f32⟩
  | .local _ .vmem, ⟨60, _⟩ => ⟨S256x1408, .f32⟩
  | .local _ .vmem, ⟨61, _⟩ => ⟨S256x1408, .f32⟩
  | .local _ .vmem, ⟨62, _⟩ => ⟨S256x1408, .f32⟩
  | .local _ .vmem, ⟨63, _⟩ => ⟨S256x1408, .f32⟩
  | .local _ .vmem, ⟨64, _⟩ => ⟨S256x1408, .f32⟩
  | .local _ .vmem, ⟨65, _⟩ => ⟨S256x1408, .f32⟩
  | .local _ .vmem, ⟨66, _⟩ => ⟨S256x1408, .f32⟩
  | .local _ .vmem, ⟨67, _⟩ => ⟨S256x1408, .f32⟩
  | .local _ .vmem, ⟨68, _⟩ => ⟨S256x1408, .f32⟩
  | .local _ .vmem, ⟨69, _⟩ => ⟨S256x1408, .f32⟩
  | .local _ .vmem, ⟨70, _⟩ => ⟨S256x1024, .f32⟩
  | .local _ .vmem, ⟨71, _⟩ => ⟨S256x1024, .f32⟩
  | .local _ .vmem, ⟨72, _⟩ => ⟨S256x1024, .f32⟩
  | .local _ .vmem, ⟨73, _⟩ => ⟨S256x1024, .f32⟩
  | .local _ .vmem, ⟨74, _⟩ => ⟨S256x1024, .f32⟩
  | .local _ .vmem, ⟨75, _⟩ => ⟨S256x1024, .f32⟩
  | .local _ .vmem, ⟨76, _⟩ => ⟨S256x1024, .f32⟩
  | .local _ .vmem, ⟨77, _⟩ => ⟨S256x1024, .f32⟩
  | .local _ .vmem, ⟨78, _⟩ => ⟨S256x1024, .f32⟩
  | .local _ .vmem, ⟨79, _⟩ => ⟨S256x1024, .f32⟩
  | .local _ .vmem, ⟨80, _⟩ => ⟨S256x1024, .f32⟩
  | .local _ .vmem, ⟨81, _⟩ => ⟨S256x1024, .f32⟩
  | .local _ .vmem, ⟨82, _⟩ => ⟨S256x1024, .f32⟩
  | .local _ .vmem, ⟨83, _⟩ => ⟨S256x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v1_0 : Ref sig .tc := ⟨.hbm, 27, rfl⟩
abbrev main_v1_1 : Ref sig .tc := ⟨.hbm, 28, rfl⟩
abbrev main_v1_2 : Ref sig .tc := ⟨.hbm, 29, rfl⟩
abbrev main_v2_0 : Ref sig .tc := ⟨.hbm, 30, rfl⟩
abbrev main_v2_1 : Ref sig .tc := ⟨.hbm, 31, rfl⟩
abbrev main_v2_2 : Ref sig .tc := ⟨.hbm, 32, rfl⟩
abbrev main_v3_0 : Ref sig .tc := ⟨.hbm, 33, rfl⟩
abbrev main_v3_1 : Ref sig .tc := ⟨.hbm, 34, rfl⟩
abbrev main_v3_2 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v5_0 : Ref sig .tc := ⟨.hbm, 39, rfl⟩
abbrev main_v5_1 : Ref sig .tc := ⟨.hbm, 40, rfl⟩
abbrev main_v5_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg3_1 : Ref sig .tc := ⟨.vmem, 77, rfl⟩
abbrev cc5_stg4_0 : Ref sig .tc := ⟨.vmem, 78, rfl⟩
abbrev cc5_stg4_1 : Ref sig .tc := ⟨.vmem, 79, rfl⟩
abbrev cc5_stg5_0 : Ref sig .tc := ⟨.vmem, 80, rfl⟩
abbrev cc5_stg5_1 : Ref sig .tc := ⟨.vmem, 81, rfl⟩
abbrev cc5_stg6_0 : Ref sig .tc := ⟨.vmem, 82, rfl⟩
abbrev cc5_stg6_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem3_1 : DmaSem sig := 77
abbrev cc5_sem4_0 : DmaSem sig := 78
abbrev cc5_sem4_1 : DmaSem sig := 79
abbrev cc5_sem5_0 : DmaSem sig := 80
abbrev cc5_sem5_1 : DmaSem sig := 81
abbrev cc5_sem6_0 : DmaSem sig := 82
abbrev cc5_sem6_1 : DmaSem sig := 83

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1028 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1028 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1028 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1028 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1028 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1028 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1028 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x768 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1408 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1408 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1408 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1408 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1408 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1408 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![11], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]
-- ==== Reference5Ideal.lean ====
abbrev S4096x1536 : Shape := ⟨2, ![4096, 1536]⟩
abbrev S2048x1028 : Shape := ⟨2, ![2048, 1028]⟩
abbrev S512x1024 : Shape := ⟨2, ![512, 1024]⟩
abbrev S2048x768 : Shape := ⟨2, ![2048, 768]⟩
abbrev S4096x1408 : Shape := ⟨2, ![4096, 1408]⟩
abbrev S2816x1024 : Shape := ⟨2, ![2816, 1024]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S4096x1536, .f32⟩
  | 1 => ⟨S4096x1536, .f32⟩
  | 2 => ⟨S4096x1536, .f32⟩
  | 3 => ⟨S4096x1536, .f32⟩
  | 4 => ⟨S2048x1028, .f32⟩
  | 5 => ⟨S2048x1028, .f32⟩
  | 6 => ⟨S2048x1028, .f32⟩
  | 7 => ⟨S2048x1028, .f32⟩
  | 8 => ⟨S512x1024, .f32⟩
  | 9 => ⟨S512x1024, .f32⟩
  | 10 => ⟨S512x1024, .f32⟩
  | 11 => ⟨S512x1024, .f32⟩
  | 12 => ⟨S2048x768, .f32⟩
  | 13 => ⟨S2048x768, .f32⟩
  | 14 => ⟨S2048x768, .f32⟩
  | 15 => ⟨S2048x768, .f32⟩
  | 16 => ⟨S4096x1408, .f32⟩
  | 17 => ⟨S4096x1408, .f32⟩
  | 18 => ⟨S4096x1408, .f32⟩
  | 19 => ⟨S4096x1408, .f32⟩
  | 20 => ⟨S2816x1024, .f32⟩
  | 21 => ⟨S2816x1024, .f32⟩
  | 22 => ⟨S2816x1024, .f32⟩
  | 23 => ⟨S2816x1024, .f32⟩
  | 24 => ⟨S_, .f32⟩
  | 25 => ⟨S4096x1536, .f32⟩
  | 26 => ⟨S4096x1536, .f32⟩
  | 27 => ⟨S_, .f32⟩
  | 28 => ⟨S4096x1536, .f32⟩
  | 29 => ⟨S4096x1536, .f32⟩
  | 30 => ⟨S4096x1536, .f32⟩
  | 31 => ⟨S_, .f32⟩
  | 32 => ⟨S4096x1536, .f32⟩
  | 33 => ⟨S4096x1536, .f32⟩
  | 34 => ⟨S4096x1536, .f32⟩
  | 35 => ⟨S_, .f32⟩
  | 36 => ⟨S4096x1536, .f32⟩
  | 37 => ⟨S4096x1536, .f32⟩
  | 38 => ⟨S4096x1536, .f32⟩
  | 39 => ⟨S_, .f32⟩
  | 40 => ⟨S4096x1536, .f32⟩
  | 41 => ⟨S4096x1536, .f32⟩
  | 42 => ⟨S_, .f32⟩
  | 43 => ⟨S4096x1536, .f32⟩
  | 44 => ⟨S4096x1536, .f32⟩
  | 45 => ⟨S4096x1536, .f32⟩
  | 46 => ⟨S_, .f32⟩
  | 47 => ⟨S4096x1536, .f32⟩
  | 48 => ⟨S4096x1536, .f32⟩
  | 49 => ⟨S4096x1536, .f32⟩
  | 50 => ⟨S_, .f32⟩
  | 51 => ⟨S4096x1536, .f32⟩
  | 52 => ⟨S4096x1536, .f32⟩
  | 53 => ⟨S4096x1536, .f32⟩
  | 54 => ⟨S_, .f32⟩
  | 55 => ⟨S4096x1536, .f32⟩
  | 56 => ⟨S4096x1536, .f32⟩
  | 57 => ⟨S_, .f32⟩
  | 58 => ⟨S2048x1028, .f32⟩
  | 59 => ⟨S2048x1028, .f32⟩
  | 60 => ⟨S_, .f32⟩
  | 61 => ⟨S2048x1028, .f32⟩
  | 62 => ⟨S2048x1028, .f32⟩
  | 63 => ⟨S2048x1028, .f32⟩
  | 64 => ⟨S_, .f32⟩
  | 65 => ⟨S2048x1028, .f32⟩
  | 66 => ⟨S2048x1028, .f32⟩
  | 67 => ⟨S2048x1028, .f32⟩
  | 68 => ⟨S_, .f32⟩
  | 69 => ⟨S2048x1028, .f32⟩
  | 70 => ⟨S2048x1028, .f32⟩
  | 71 => ⟨S2048x1028, .f32⟩
  | 72 => ⟨S_, .f32⟩
  | 73 => ⟨S2048x1028, .f32⟩
  | 74 => ⟨S2048x1028, .f32⟩
  | 75 => ⟨S_, .f32⟩
  | 76 => ⟨S2048x1028, .f32⟩
  | 77 => ⟨S2048x1028, .f32⟩
  | 78 => ⟨S2048x1028, .f32⟩
  | 79 => ⟨S_, .f32⟩
  | 80 => ⟨S2048x1028, .f32⟩
  | 81 => ⟨S2048x1028, .f32⟩
  | 82 => ⟨S2048x1028, .f32⟩
  | 83 => ⟨S_, .f32⟩
  | 84 => ⟨S2048x1028, .f32⟩
  | 85 => ⟨S2048x1028, .f32⟩
  | 86 => ⟨S2048x1028, .f32⟩
  | 87 => ⟨S_, .f32⟩
  | 88 => ⟨S2048x1028, .f32⟩
  | 89 => ⟨S2048x1028, .f32⟩
  | 90 => ⟨S_, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S512x1024, .f32⟩
  | 97 => ⟨S_, .f32⟩
  | 98 => ⟨S512x1024, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S_, .f32⟩
  | 109 => ⟨S512x1024, .f32⟩
  | 110 => ⟨S512x1024, .f32⟩
  | 111 => ⟨S512x1024, .f32⟩
  | 112 => ⟨S_, .f32⟩
  | 113 => ⟨S512x1024, .f32⟩
  | 114 => ⟨S512x1024, .f32⟩
  | 115 => ⟨S512x1024, .f32⟩
  | 116 => ⟨S_, .f32⟩
  | 117 => ⟨S512x1024, .f32⟩
  | 118 => ⟨S512x1024, .f32⟩
  | 119 => ⟨S512x1024, .f32⟩
  | 120 => ⟨S_, .f32⟩
  | 121 => ⟨S512x1024, .f32⟩
  | 122 => ⟨S512x1024, .f32⟩
  | 123 => ⟨S_, .f32⟩
  | 124 => ⟨S2048x768, .f32⟩
  | 125 => ⟨S2048x768, .f32⟩
  | 126 => ⟨S_, .f32⟩
  | 127 => ⟨S2048x768, .f32⟩
  | _ => ⟨S4096x1536, .f32⟩

abbrev hbmTy0_1 (i : Nat) : BufTy := match i % 128 with
  | 0 => ⟨S2048x768, .f32⟩
  | 1 => ⟨S2048x768, .f32⟩
  | 2 => ⟨S_, .f32⟩
  | 3 => ⟨S2048x768, .f32⟩
  | 4 => ⟨S2048x768, .f32⟩
  | 5 => ⟨S2048x768, .f32⟩
  | 6 => ⟨S_, .f32⟩
  | 7 => ⟨S2048x768, .f32⟩
  | 8 => ⟨S2048x768, .f32⟩
  | 9 => ⟨S2048x768, .f32⟩
  | 10 => ⟨S_, .f32⟩
  | 11 => ⟨S2048x768, .f32⟩
  | 12 => ⟨S2048x768, .f32⟩
  | 13 => ⟨S_, .f32⟩
  | 14 => ⟨S2048x768, .f32⟩
  | 15 => ⟨S2048x768, .f32⟩
  | 16 => ⟨S2048x768, .f32⟩
  | 17 => ⟨S_, .f32⟩
  | 18 => ⟨S2048x768, .f32⟩
  | 19 => ⟨S2048x768, .f32⟩
  | 20 => ⟨S2048x768, .f32⟩
  | 21 => ⟨S_, .f32⟩
  | 22 => ⟨S2048x768, .f32⟩
  | 23 => ⟨S2048x768, .f32⟩
  | 24 => ⟨S2048x768, .f32⟩
  | 25 => ⟨S_, .f32⟩
  | 26 => ⟨S2048x768, .f32⟩
  | 27 => ⟨S2048x768, .f32⟩
  | 28 => ⟨S_, .f32⟩
  | 29 => ⟨S4096x1408, .f32⟩
  | 30 => ⟨S4096x1408, .f32⟩
  | 31 => ⟨S_, .f32⟩
  | 32 => ⟨S4096x1408, .f32⟩
  | 33 => ⟨S4096x1408, .f32⟩
  | 34 => ⟨S4096x1408, .f32⟩
  | 35 => ⟨S_, .f32⟩
  | 36 => ⟨S4096x1408, .f32⟩
  | 37 => ⟨S4096x1408, .f32⟩
  | 38 => ⟨S4096x1408, .f32⟩
  | 39 => ⟨S_, .f32⟩
  | 40 => ⟨S4096x1408, .f32⟩
  | 41 => ⟨S4096x1408, .f32⟩
  | 42 => ⟨S4096x1408, .f32⟩
  | 43 => ⟨S_, .f32⟩
  | 44 => ⟨S4096x1408, .f32⟩
  | 45 => ⟨S4096x1408, .f32⟩
  | 46 => ⟨S_, .f32⟩
  | 47 => ⟨S4096x1408, .f32⟩
  | 48 => ⟨S4096x1408, .f32⟩
  | 49 => ⟨S4096x1408, .f32⟩
  | 50 => ⟨S_, .f32⟩
  | 51 => ⟨S4096x1408, .f32⟩
  | 52 => ⟨S4096x1408, .f32⟩
  | 53 => ⟨S4096x1408, .f32⟩
  | 54 => ⟨S_, .f32⟩
  | 55 => ⟨S4096x1408, .f32⟩
  | 56 => ⟨S4096x1408, .f32⟩
  | 57 => ⟨S4096x1408, .f32⟩
  | 58 => ⟨S_, .f32⟩
  | 59 => ⟨S4096x1408, .f32⟩
  | 60 => ⟨S4096x1408, .f32⟩
  | 61 => ⟨S_, .f32⟩
  | 62 => ⟨S2816x1024, .f32⟩
  | 63 => ⟨S2816x1024, .f32⟩
  | 64 => ⟨S_, .f32⟩
  | 65 => ⟨S2816x1024, .f32⟩
  | 66 => ⟨S2816x1024, .f32⟩
  | 67 => ⟨S2816x1024, .f32⟩
  | 68 => ⟨S_, .f32⟩
  | 69 => ⟨S2816x1024, .f32⟩
  | 70 => ⟨S2816x1024, .f32⟩
  | 71 => ⟨S2816x1024, .f32⟩
  | 72 => ⟨S_, .f32⟩
  | 73 => ⟨S2816x1024, .f32⟩
  | 74 => ⟨S2816x1024, .f32⟩
  | 75 => ⟨S2816x1024, .f32⟩
  | 76 => ⟨S_, .f32⟩
  | 77 => ⟨S2816x1024, .f32⟩
  | 78 => ⟨S2816x1024, .f32⟩
  | 79 => ⟨S_, .f32⟩
  | 80 => ⟨S2816x1024, .f32⟩
  | 81 => ⟨S2816x1024, .f32⟩
  | 82 => ⟨S2816x1024, .f32⟩
  | 83 => ⟨S_, .f32⟩
  | 84 => ⟨S2816x1024, .f32⟩
  | 85 => ⟨S2816x1024, .f32⟩
  | 86 => ⟨S2816x1024, .f32⟩
  | 87 => ⟨S_, .f32⟩
  | 88 => ⟨S2816x1024, .f32⟩
  | 89 => ⟨S2816x1024, .f32⟩
  | 90 => ⟨S2816x1024, .f32⟩
  | 91 => ⟨S_, .f32⟩
  | 92 => ⟨S2816x1024, .f32⟩
  | 93 => ⟨S2816x1024, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel6.lean ====
abbrev S4x6144 : Shape := ⟨2, ![4, 6144]⟩
abbrev S4x1024 : Shape := ⟨2, ![4, 1024]⟩
abbrev S8x768 : Shape := ⟨2, ![8, 768]⟩
abbrev S2x8 : Shape := ⟨2, ![2, 8]⟩
abbrev S2x128 : Shape := ⟨2, ![2, 128]⟩
abbrev S2x64 : Shape := ⟨2, ![2, 64]⟩

abbrev nBuf : Space → Nat
  | .hbm => 42
  | .vmem => 42
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S8x768, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S2x8, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S2x128, .f32⟩
  | .hbm, ⟨20, _⟩ => ⟨S2x64, .f32⟩
  | .hbm, ⟨21, _⟩ => ⟨S2x64, .f32⟩
  | .hbm, ⟨22, _⟩ => ⟨S2x64, .f32⟩
  | .hbm, ⟨23, _⟩ => ⟨S2x64, .f32⟩
  | .hbm, ⟨24, _⟩ => ⟨S4x6144, .f32⟩
  | .hbm, ⟨25, _⟩ => ⟨S4x6144, .f32⟩
  | .hbm, ⟨26, _⟩ => ⟨S4x6144, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S8x768, .f32⟩
  | .hbm, ⟨31, _⟩ => ⟨S8x768, .f32⟩
  | .hbm, ⟨32, _⟩ => ⟨S8x768, .f32⟩
  | .hbm, ⟨33, _⟩ => ⟨S2x8, .f32⟩
  | .hbm, ⟨34, _⟩ => ⟨S2x8, .f32⟩
  | .hbm, ⟨35, _⟩ => ⟨S2x8, .f32⟩
  | .hbm, ⟨36, _⟩ => ⟨S2x128, .f32⟩
  | .hbm, ⟨37, _⟩ => ⟨S2x128, .f32⟩
  | .hbm, ⟨38, _⟩ => ⟨S2x128, .f32⟩
  | .hbm, ⟨39, _⟩ => ⟨S2x64, .f32⟩
  | .hbm, ⟨40, _⟩ => ⟨S2x64, .f32⟩
  | .hbm, ⟨41, _⟩ => ⟨S2x64, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | .local _ .vmem, ⟨14, _⟩ => ⟨S8x768, .f32⟩
  | .local _ .vmem, ⟨15, _⟩ => ⟨S8x768, .f32⟩
  | .local _ .vmem, ⟨16, _⟩ => ⟨S8x768, .f32⟩
  | .local _ .vmem, ⟨17, _⟩ => ⟨S8x768, .f32⟩
  | .local _ .vmem, ⟨18, _⟩ => ⟨S8x768, .f32⟩
  | .local _ .vmem, ⟨19, _⟩ => ⟨S8x768, .f32⟩
  | .local _ .vmem, ⟨20, _⟩ => ⟨S8x768, .f32⟩
  | .local _ .vmem, ⟨21, _⟩ => ⟨S2x8, .f32⟩
  | .local _ .vmem, ⟨22, _⟩ => ⟨S2x8, .f32⟩
  | .local _ .vmem, ⟨23, _⟩ => ⟨S2x8, .f32⟩
  | .local _ .vmem, ⟨24, _⟩ => ⟨S2x8, .f32⟩
  | .local _ .vmem, ⟨25, _⟩ => ⟨S2x8, .f32⟩
  | .local _ .vmem, ⟨26, _⟩ => ⟨S2x8, .f32⟩
  | .local _ .vmem, ⟨27, _⟩ => ⟨S2x8, .f32⟩
  | .local _ .vmem, ⟨28, _⟩ => ⟨S2x128, .f32⟩
  | .local _ .vmem, ⟨29, _⟩ => ⟨S2x128, .f32⟩
  | .local _ .vmem, ⟨30, _⟩ => ⟨S2x128, .f32⟩
  | .local _ .vmem, ⟨31, _⟩ => ⟨S2x128, .f32⟩
  | .local _ .vmem, ⟨32, _⟩ => ⟨S2x128, .f32⟩
  | .local _ .vmem, ⟨33, _⟩ => ⟨S2x128, .f32⟩
  | .local _ .vmem, ⟨34, _⟩ => ⟨S2x128, .f32⟩
  | .local _ .vmem, ⟨35, _⟩ => ⟨S2x64, .f32⟩
  | .local _ .vmem, ⟨36, _⟩ => ⟨S2x64, .f32⟩
  | .local _ .vmem, ⟨37, _⟩ => ⟨S2x64, .f32⟩
  | .local _ .vmem, ⟨38, _⟩ => ⟨S2x64, .f32⟩
  | .local _ .vmem, ⟨39, _⟩ => ⟨S2x64, .f32⟩
  | .local _ .vmem, ⟨40, _⟩ => ⟨S2x64, .f32⟩
  | .local _ .vmem, ⟨41, _⟩ => ⟨S2x64, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v1_0 : Ref sig .tc := ⟨.hbm, 27, rfl⟩
abbrev main_v1_1 : Ref sig .tc := ⟨.hbm, 28, rfl⟩
abbrev main_v1_2 : Ref sig .tc := ⟨.hbm, 29, rfl⟩
abbrev main_v2_0 : Ref sig .tc := ⟨.hbm, 30, rfl⟩
abbrev main_v2_1 : Ref sig .tc := ⟨.hbm, 31, rfl⟩
abbrev main_v2_2 : Ref sig .tc := ⟨.hbm, 32, rfl⟩
abbrev main_v3_0 : Ref sig .tc := ⟨.hbm, 33, rfl⟩
abbrev main_v3_1 : Ref sig .tc := ⟨.hbm, 34, rfl⟩
abbrev main_v3_2 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v5_0 : Ref sig .tc := ⟨.hbm, 39, rfl⟩
abbrev main_v5_1 : Ref sig .tc := ⟨.hbm, 40, rfl⟩
abbrev main_v5_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S4x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S4x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S4x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S4x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S8x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S8x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S8x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S8x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S8x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S8x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S2x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S2x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S2x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S2x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S2x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S2x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S2x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S2x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S2x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S2x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S2x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S2x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S2x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S2x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]
-- ==== Reference6Ideal.lean ====
abbrev S4x6144 : Shape := ⟨2, ![4, 6144]⟩
abbrev S4x1024 : Shape := ⟨2, ![4, 1024]⟩
abbrev S8x768 : Shape := ⟨2, ![8, 768]⟩
abbrev S2x8 : Shape := ⟨2, ![2, 8]⟩
abbrev S2x128 : Shape := ⟨2, ![2, 128]⟩
abbrev S2x64 : Shape := ⟨2, ![2, 64]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S4x6144, .f32⟩
  | 1 => ⟨S4x6144, .f32⟩
  | 2 => ⟨S4x6144, .f32⟩
  | 3 => ⟨S4x6144, .f32⟩
  | 4 => ⟨S4x1024, .f32⟩
  | 5 => ⟨S4x1024, .f32⟩
  | 6 => ⟨S4x1024, .f32⟩
  | 7 => ⟨S4x1024, .f32⟩
  | 8 => ⟨S8x768, .f32⟩
  | 9 => ⟨S8x768, .f32⟩
  | 10 => ⟨S8x768, .f32⟩
  | 11 => ⟨S8x768, .f32⟩
  | 12 => ⟨S2x8, .f32⟩
  | 13 => ⟨S2x8, .f32⟩
  | 14 => ⟨S2x8, .f32⟩
  | 15 => ⟨S2x8, .f32⟩
  | 16 => ⟨S2x128, .f32⟩
  | 17 => ⟨S2x128, .f32⟩
  | 18 => ⟨S2x128, .f32⟩
  | 19 => ⟨S2x128, .f32⟩
  | 20 => ⟨S2x64, .f32⟩
  | 21 => ⟨S2x64, .f32⟩
  | 22 => ⟨S2x64, .f32⟩
  | 23 => ⟨S2x64, .f32⟩
  | 24 => ⟨S_, .f32⟩
  | 25 => ⟨S4x6144, .f32⟩
  | 26 => ⟨S4x6144, .f32⟩
  | 27 => ⟨S_, .f32⟩
  | 28 => ⟨S4x6144, .f32⟩
  | 29 => ⟨S4x6144, .f32⟩
  | 30 => ⟨S4x6144, .f32⟩
  | 31 => ⟨S_, .f32⟩
  | 32 => ⟨S4x6144, .f32⟩
  | 33 => ⟨S4x6144, .f32⟩
  | 34 => ⟨S4x6144, .f32⟩
  | 35 => ⟨S_, .f32⟩
  | 36 => ⟨S4x6144, .f32⟩
  | 37 => ⟨S4x6144, .f32⟩
  | 38 => ⟨S4x6144, .f32⟩
  | 39 => ⟨S_, .f32⟩
  | 40 => ⟨S4x6144, .f32⟩
  | 41 => ⟨S4x6144, .f32⟩
  | 42 => ⟨S_, .f32⟩
  | 43 => ⟨S4x6144, .f32⟩
  | 44 => ⟨S4x6144, .f32⟩
  | 45 => ⟨S4x6144, .f32⟩
  | 46 => ⟨S_, .f32⟩
  | 47 => ⟨S4x6144, .f32⟩
  | 48 => ⟨S4x6144, .f32⟩
  | 49 => ⟨S4x6144, .f32⟩
  | 50 => ⟨S_, .f32⟩
  | 51 => ⟨S4x6144, .f32⟩
  | 52 => ⟨S4x6144, .f32⟩
  | 53 => ⟨S4x6144, .f32⟩
  | 54 => ⟨S_, .f32⟩
  | 55 => ⟨S4x6144, .f32⟩
  | 56 => ⟨S4x6144, .f32⟩
  | 57 => ⟨S_, .f32⟩
  | 58 => ⟨S4x1024, .f32⟩
  | 59 => ⟨S4x1024, .f32⟩
  | 60 => ⟨S_, .f32⟩
  | 61 => ⟨S4x1024, .f32⟩
  | 62 => ⟨S4x1024, .f32⟩
  | 63 => ⟨S4x1024, .f32⟩
  | 64 => ⟨S_, .f32⟩
  | 65 => ⟨S4x1024, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S_, .f32⟩
  | 91 => ⟨S8x768, .f32⟩
  | 92 => ⟨S8x768, .f32⟩
  | 93 => ⟨S_, .f32⟩
  | 94 => ⟨S8x768, .f32⟩
  | 95 => ⟨S8x768, .f32⟩
  | 96 => ⟨S8x768, .f32⟩
  | 97 => ⟨S_, .f32⟩
  | 98 => ⟨S8x768, .f32⟩
  | 99 => ⟨S8x768, .f32⟩
  | 100 => ⟨S8x768, .f32⟩
  | 101 => ⟨S_, .f32⟩
  | 102 => ⟨S8x768, .f32⟩
  | 103 => ⟨S8x768, .f32⟩
  | 104 => ⟨S8x768, .f32⟩
  | 105 => ⟨S_, .f32⟩
  | 106 => ⟨S8x768, .f32⟩
  | 107 => ⟨S8x768, .f32⟩
  | 108 => ⟨S_, .f32⟩
  | 109 => ⟨S8x768, .f32⟩
  | 110 => ⟨S8x768, .f32⟩
  | 111 => ⟨S8x768, .f32⟩
  | 112 => ⟨S_, .f32⟩
  | 113 => ⟨S8x768, .f32⟩
  | 114 => ⟨S8x768, .f32⟩
  | 115 => ⟨S8x768, .f32⟩
  | 116 => ⟨S_, .f32⟩
  | 117 => ⟨S8x768, .f32⟩
  | 118 => ⟨S8x768, .f32⟩
  | 119 => ⟨S8x768, .f32⟩
  | 120 => ⟨S_, .f32⟩
  | 121 => ⟨S8x768, .f32⟩
  | 122 => ⟨S8x768, .f32⟩
  | 123 => ⟨S_, .f32⟩
  | 124 => ⟨S2x8, .f32⟩
  | 125 => ⟨S2x8, .f32⟩
  | 126 => ⟨S_, .f32⟩
  | 127 => ⟨S2x8, .f32⟩
  | _ => ⟨S4x6144, .f32⟩

abbrev hbmTy0_1 (i : Nat) : BufTy := match i % 128 with
  | 0 => ⟨S2x8, .f32⟩
  | 1 => ⟨S2x8, .f32⟩
  | 2 => ⟨S_, .f32⟩
  | 3 => ⟨S2x8, .f32⟩
  | 4 => ⟨S2x8, .f32⟩
  | 5 => ⟨S2x8, .f32⟩
  | 6 => ⟨S_, .f32⟩
  | 7 => ⟨S2x8, .f32⟩
  | 8 => ⟨S2x8, .f32⟩
  | 9 => ⟨S2x8, .f32⟩
  | 10 => ⟨S_, .f32⟩
  | 11 => ⟨S2x8, .f32⟩
  | 12 => ⟨S2x8, .f32⟩
  | 13 => ⟨S_, .f32⟩
  | 14 => ⟨S2x8, .f32⟩
  | 15 => ⟨S2x8, .f32⟩
  | 16 => ⟨S2x8, .f32⟩
  | 17 => ⟨S_, .f32⟩
  | 18 => ⟨S2x8, .f32⟩
  | 19 => ⟨S2x8, .f32⟩
  | 20 => ⟨S2x8, .f32⟩
  | 21 => ⟨S_, .f32⟩
  | 22 => ⟨S2x8, .f32⟩
  | 23 => ⟨S2x8, .f32⟩
  | 24 => ⟨S2x8, .f32⟩
  | 25 => ⟨S_, .f32⟩
  | 26 => ⟨S2x8, .f32⟩
  | 27 => ⟨S2x8, .f32⟩
  | 28 => ⟨S_, .f32⟩
  | 29 => ⟨S2x128, .f32⟩
  | 30 => ⟨S2x128, .f32⟩
  | 31 => ⟨S_, .f32⟩
  | 32 => ⟨S2x128, .f32⟩
  | 33 => ⟨S2x128, .f32⟩
  | 34 => ⟨S2x128, .f32⟩
  | 35 => ⟨S_, .f32⟩
  | 36 => ⟨S2x128, .f32⟩
  | 37 => ⟨S2x128, .f32⟩
  | 38 => ⟨S2x128, .f32⟩
  | 39 => ⟨S_, .f32⟩
  | 40 => ⟨S2x128, .f32⟩
  | 41 => ⟨S2x128, .f32⟩
  | 42 => ⟨S2x128, .f32⟩
  | 43 => ⟨S_, .f32⟩
  | 44 => ⟨S2x128, .f32⟩
  | 45 => ⟨S2x128, .f32⟩
  | 46 => ⟨S_, .f32⟩
  | 47 => ⟨S2x128, .f32⟩
  | 48 => ⟨S2x128, .f32⟩
  | 49 => ⟨S2x128, .f32⟩
  | 50 => ⟨S_, .f32⟩
  | 51 => ⟨S2x128, .f32⟩
  | 52 => ⟨S2x128, .f32⟩
  | 53 => ⟨S2x128, .f32⟩
  | 54 => ⟨S_, .f32⟩
  | 55 => ⟨S2x128, .f32⟩
  | 56 => ⟨S2x128, .f32⟩
  | 57 => ⟨S2x128, .f32⟩
  | 58 => ⟨S_, .f32⟩
  | 59 => ⟨S2x128, .f32⟩
  | 60 => ⟨S2x128, .f32⟩
  | 61 => ⟨S_, .f32⟩
  | 62 => ⟨S2x64, .f32⟩
  | 63 => ⟨S2x64, .f32⟩
  | 64 => ⟨S_, .f32⟩
  | 65 => ⟨S2x64, .f32⟩
  | 66 => ⟨S2x64, .f32⟩
  | 67 => ⟨S2x64, .f32⟩
  | 68 => ⟨S_, .f32⟩
  | 69 => ⟨S2x64, .f32⟩
  | 70 => ⟨S2x64, .f32⟩
  | 71 => ⟨S2x64, .f32⟩
  | 72 => ⟨S_, .f32⟩
  | 73 => ⟨S2x64, .f32⟩
  | 74 => ⟨S2x64, .f32⟩
  | 75 => ⟨S2x64, .f32⟩
  | 76 => ⟨S_, .f32⟩
  | 77 => ⟨S2x64, .f32⟩
  | 78 => ⟨S2x64, .f32⟩
  | 79 => ⟨S_, .f32⟩
  | 80 => ⟨S2x64, .f32⟩
  | 81 => ⟨S2x64, .f32⟩
  | 82 => ⟨S2x64, .f32⟩
  | 83 => ⟨S_, .f32⟩
  | 84 => ⟨S2x64, .f32⟩
  | 85 => ⟨S2x64, .f32⟩
  | 86 => ⟨S2x64, .f32⟩
  | 87 => ⟨S_, .f32⟩
  | 88 => ⟨S2x64, .f32⟩
  | 89 => ⟨S2x64, .f32⟩
  | 90 => ⟨S2x64, .f32⟩
  | 91 => ⟨S_, .f32⟩
  | 92 => ⟨S2x64, .f32⟩
  | 93 => ⟨S2x64, .f32⟩
  | _ => ⟨S4x6144, .f32⟩

abbrev hbmTy (i : Nat) : BufTy := match i / 128 with
  | 0 => hbmTy0_0 i
  | 1 => hbmTy0_1 i
  | _ => ⟨S4x6144, .f32⟩

abbrev bufTy : (tb : Table) → Fin (tcTables nBuf tb) → BufTy
  | .hbm, ⟨i, _⟩ => hbmTy i
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Proof.Stages.lean ====
module

public import proofs.«01_k».proof.Proof.Gen.KernelIdeal.Frame.Runs
public import Idealize.ShloMosaic.Lib.Claim

@[expose] public section

set_option maxRecDepth 16384

noncomputable section

/-! The body of the delta-rule gradient, one loop at a time: what each of the three loops leaves in
the buffers it writes, as the list of the blocks its trips store, and the triple of each loop. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
variable (arg1 : Memref sig .tc .vmem S2048x128 .f32) (harg1 : arg1.IsWhole)
variable (arg2 : Memref sig .tc .vmem S2048x128 .f32) (harg2 : arg2.IsWhole)
variable (arg3 : Memref sig .tc .vmem S2048x128 .f32) (harg3 : arg3.IsWhole)
variable (arg4 : Memref sig .tc .vmem S1x32x64x1 .f32) (harg4 : arg4.IsWhole)
variable (arg5 : Memref sig .tc .vmem S1x32x1x64 .f32) (harg5 : arg5.IsWhole)
variable (arg6 : Memref sig .tc .vmem S1x32x64x1 .f32) (harg6 : arg6.IsWhole)
variable (arg7 : Memref sig .tc .vmem S1x32x128x128 .f32) (harg7 : arg7.IsWhole)
variable (arg8 : Memref sig .tc .vmem S2048x128 .f32) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S1x32x64x1 .f32) (harg12 : arg12.IsWhole)
variable (arg13 : Memref sig .tc .vmem S1x32x1x64 .f32) (harg13 : arg13.IsWhole)
variable (arg14 : Memref sig .tc .vmem S1x32x64x1 .f32) (harg14 : arg14.IsWhole)
variable (arg15 : Memref sig .tc .vmem S32x64x128 .f32) (harg15 : arg15.IsWhole)
variable (arg16 : Memref sig .tc .vmem S32x64x128 .f32) (harg16 : arg16.IsWhole)
variable (arg17 : Memref sig .tc .vmem S32x64x64 .f32) (harg17 : arg17.IsWhole)
variable (arg18 : Memref sig .tc .vmem S32x64x128 .f32) (harg18 : arg18.IsWhole)
variable (arg19 : Memref sig .tc .vmem S32x64x128 .f32) (harg19 : arg19.IsWhole)
variable (arg20 : Memref sig .tc .vmem S32x1x1 .f32) (harg20 : arg20.IsWhole)
variable (arg21 : Memref sig .tc .vmem S32x64x128 .f32) (harg21 : arg21.IsWhole)
variable (arg22 : Memref sig .tc .vmem S32x64x128 .f32) (harg22 : arg22.IsWhole)
variable (arg23 : Memref sig .tc .vmem S32x64x64 .f32) (harg23 : arg23.IsWhole)
variable (arg24 : Memref sig .tc .vmem S32x64x128 .f32) (harg24 : arg24.IsWhole)
variable (arg25 : Memref sig .tc .vmem S32x64x128 .f32) (harg25 : arg25.IsWhole)
variable (arg26 : Memref sig .tc .vmem S32x1x1 .f32) (harg26 : arg26.IsWhole)
variable (x0 : Vec F S2048x128 .f32) (x1 : Vec F S2048x128 .f32) (x2 : Vec F S2048x128 .f32) (x3 : Vec F S1x32x64x1 .f32) (x4 : Vec F S1x32x1x64 .f32) (x5 : Vec F S1x32x64x1 .f32) (x6 : Vec F S1x32x128x128 .f32) (x7 : Vec F S2048x128 .f32)

/-- The state after `k` trips of the first loop: the blocks stored so far
in each buffer it writes. -/
def lists1 (k : ℕ) : List (View.Piece (Elt F) S32x64x128 .f32) × List (View.Piece (Elt F) S32x64x128 .f32) × List (View.Piece (Elt F) S32x64x64 .f32) × List (View.Piece (Elt F) S32x64x128 .f32) × List (View.Piece (Elt F) S32x64x128 .f32) × List (View.Piece (Elt F) S32x1x1 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x0) (harg2.unread x1) (harg3.unread x2) (harg4.unread x3) (harg5.unread x4) (harg6.unread x5) k

/-- The blocks the first loop stores in `arg15` cover it. -/
theorem cover15 (y : S32x64x128.Idx) : ∃ pc ∈ (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).1, y ∈ pc.1.set :=
  View.cover_of_tiledL (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).1 S8x64x128.size (by sl_kernel_rfl) y

/-- What `arg15` holds after the first loop. -/
def held15 : Vec F S32x64x128 .f32 := View.canon (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).1

/-- The blocks the first loop stores in `arg16` cover it. -/
theorem cover16 (y : S32x64x128.Idx) : ∃ pc ∈ (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.1, y ∈ pc.1.set :=
  View.cover_of_tiledL (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.1 S8x64x128.size (by sl_kernel_rfl) y

/-- What `arg16` holds after the first loop. -/
def held16 : Vec F S32x64x128 .f32 := View.canon (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.1

/-- The blocks the first loop stores in `arg17` cover it. -/
theorem cover17 (y : S32x64x64.Idx) : ∃ pc ∈ (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.1, y ∈ pc.1.set :=
  View.cover_of_tiledL (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.1 S8x64x64.size (by sl_kernel_rfl) y

/-- What `arg17` holds after the first loop. -/
def held17 : Vec F S32x64x64 .f32 := View.canon (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.1

/-- The blocks the first loop stores in `arg18` cover it. -/
theorem cover18 (y : S32x64x128.Idx) : ∃ pc ∈ (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.1, y ∈ pc.1.set :=
  View.cover_of_tiledL (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.1 S8x64x128.size (by sl_kernel_rfl) y

/-- What `arg18` holds after the first loop. -/
def held18 : Vec F S32x64x128 .f32 := View.canon (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.1

/-- The blocks the first loop stores in `arg19` cover it. -/
theorem cover19 (y : S32x64x128.Idx) : ∃ pc ∈ (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.2.1, y ∈ pc.1.set :=
  View.cover_of_tiledL (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.2.1 S8x64x128.size (by sl_kernel_rfl) y

/-- What `arg19` holds after the first loop. -/
def held19 : Vec F S32x64x128 .f32 := View.canon (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.2.1

/-- The blocks the first loop stores in `arg20` cover it. -/
theorem cover20 (y : S32x1x1.Idx) : ∃ pc ∈ (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.2.2, y ∈ pc.1.set :=
  View.cover_of_tiledL (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.2.2 S8x1x1.size (by sl_kernel_rfl) y

/-- What `arg20` holds after the first loop. -/
def held20 : Vec F S32x1x1 .f32 := View.canon (lists1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 k0_t1_loop.trips).2.2.2.2.2

set_option maxHeartbeats 2000000 in
/-- The first loop's triple. -/
theorem loop1 (E : Set ℕ) (K : PUnit → sProp 𝕄) :
    iprop((arg1.view.loc (c : Thread nD τ) ↦[arg1.view.set]{fullShare} (harg1.unread x0)) ∗ (arg2.view.loc (c : Thread nD τ) ↦[arg2.view.set]{fullShare} (harg2.unread x1)) ∗ (arg3.view.loc (c : Thread nD τ) ↦[arg3.view.set]{fullShare} (harg3.unread x2)) ∗ (arg4.view.loc (c : Thread nD τ) ↦[arg4.view.set]{fullShare} (harg4.unread x3)) ∗ (arg5.view.loc (c : Thread nD τ) ↦[arg5.view.set]{fullShare} (harg5.unread x4)) ∗ (arg6.view.loc (c : Thread nD τ) ↦[arg6.view.set]{fullShare} (harg6.unread x5)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (iprop((arg1.view.loc (c : Thread nD τ) ↦[arg1.view.set]{fullShare} (harg1.unread x0)) ∗ (arg2.view.loc (c : Thread nD τ) ↦[arg2.view.set]{fullShare} (harg2.unread x1)) ∗ (arg3.view.loc (c : Thread nD τ) ↦[arg3.view.set]{fullShare} (harg3.unread x2)) ∗ (arg4.view.loc (c : Thread nD τ) ↦[arg4.view.set]{fullShare} (harg4.unread x3)) ∗ (arg5.view.loc (c : Thread nD τ) ↦[arg5.view.set]{fullShare} (harg5.unread x4)) ∗ (arg6.view.loc (c : Thread nD τ) ↦[arg6.view.set]{fullShare} (harg6.unread x5)) ∗ (arg15.view.loc (c : Thread nD τ) ↦[arg15.view.set]{fullShare} (harg15.unread (held15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg16.view.loc (c : Thread nD τ) ↦[arg16.view.set]{fullShare} (harg16.unread (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg17.view.loc (c : Thread nD τ) ↦[arg17.view.set]{fullShare} (harg17.unread (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg18.view.loc (c : Thread nD τ) ↦[arg18.view.set]{fullShare} (harg18.unread (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg19.view.loc (c : Thread nD τ) ↦[arg19.view.set]{fullShare} (harg19.unread (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg20.view.loc (c : Thread nD τ) ↦[arg20.view.set]{fullShare} (harg20.unread (held20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))) -∗ K ⟨⟩))
      ⊢ wp frame (wpE (defs₀ (F := F)) Variants.none (c : Thread nD τ) none) E (Scf.Loop.for k0_t1_loop k0_t1_ok PUnit.unit (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)) K := by
  iintro ⟨R1, R2, R3, R4, R5, R6, ⟨%g15, W15⟩, ⟨%g16, W16⟩, ⟨%g17, W17⟩, ⟨%g18, W18⟩, ⟨%g19, W19⟩, ⟨%g20, W20⟩, HK⟩
  iapply (Scf.wp_for frame (wpE (defs₀ (F := F)) Variants.none (c : Thread nD τ) none) E k0_t1_loop.lb k0_t1_loop.ub k0_t1_loop.st k0_t1_ok PUnit.unit (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
    (inv_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x0) (harg2.unread x1) (harg3.unread x2) (harg4.unread x3) (harg5.unread x4) (harg6.unread x5) g15 g16 g17 g18 g19 g20)
    (loopInv_k0_t1 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x0) (harg2.unread x1) (harg3.unread x2) (harg4.unread x3) (harg5.unread x4) (harg6.unread x5) g15 g16 g17 g18 g19 g20).step)
  isplitl [R1 R2 R3 R4 R5 R6 W15 W16 W17 W18 W19 W20]
  · isplitl [R1]; · iexact R1
    isplitl [R2]; · iexact R2
    isplitl [R3]; · iexact R3
    isplitl [R4]; · iexact R4
    isplitl [R5]; · iexact R5
    isplitl [R6]; · iexact R6
    isplitl [W15]
    · iexists g15; isplitl [W15]; · iexact W15
      ipureintro; rfl
    isplitl [W16]
    · iexists g16; isplitl [W16]; · iexact W16
      ipureintro; rfl
    isplitl [W17]
    · iexists g17; isplitl [W17]; · iexact W17
      ipureintro; rfl
    isplitl [W18]
    · iexists g18; isplitl [W18]; · iexact W18
      ipureintro; rfl
    isplitl [W19]
    · iexists g19; isplitl [W19]; · iexact W19
      ipureintro; rfl
    iexists g20; isplitl [W20]; · iexact W20
    ipureintro; rfl
  · iintro %acc ⟨R1, R2, R3, R4, R5, R6, ⟨%f15, W15, %h15⟩, ⟨%f16, W16, %h16⟩, ⟨%f17, W17, %h17⟩, ⟨%f18, W18, %h18⟩, ⟨%f19, W19, %h19⟩, ⟨%f20, W20, %h20⟩⟩
    obtain rfl := harg15.eq_unread ((congrArg _ h15).trans (View.read_writes_eq_canon arg15.view g15 _ (cover15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))
    obtain rfl := harg16.eq_unread ((congrArg _ h16).trans (View.read_writes_eq_canon arg16.view g16 _ (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))
    obtain rfl := harg17.eq_unread ((congrArg _ h17).trans (View.read_writes_eq_canon arg17.view g17 _ (cover17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))
    obtain rfl := harg18.eq_unread ((congrArg _ h18).trans (View.read_writes_eq_canon arg18.view g18 _ (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))
    obtain rfl := harg19.eq_unread ((congrArg _ h19).trans (View.read_writes_eq_canon arg19.view g19 _ (cover19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))
    obtain rfl := harg20.eq_unread ((congrArg _ h20).trans (View.read_writes_eq_canon arg20.view g20 _ (cover20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)))
    iapply HK
    isplitl [R1]; · iexact R1
    isplitl [R2]; · iexact R2
    isplitl [R3]; · iexact R3
    isplitl [R4]; · iexact R4
    isplitl [R5]; · iexact R5
    isplitl [R6]; · iexact R6
    isplitl [W15]; · iexact W15
    isplitl [W16]; · iexact W16
    isplitl [W17]; · iexact W17
    isplitl [W18]; · iexact W18
    isplitl [W19]; · iexact W19
    iexact W20

/-- The state after `k` trips of the second loop: the carried cotangent of the state and the blocks stored so far
in each buffer it writes. -/
def lists2 (k : ℕ) : (FVec F S128x128 .f32) × List (View.Piece (Elt F) S32x64x128 .f32) × List (View.Piece (Elt F) S32x64x128 .f32) × List (View.Piece (Elt F) S32x64x64 .f32) × List (View.Piece (Elt F) S32x64x128 .f32) × List (View.Piece (Elt F) S32x64x128 .f32) × List (View.Piece (Elt F) S32x1x1 .f32) :=
  st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread x7) (harg15.unread (held15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg16.unread (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg17.unread (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg18.unread (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg19.unread (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg20.unread (held20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (k0_pay2 (F := F)) k

/-- The blocks the second loop stores in `arg21` cover it. -/
theorem cover21 (y : S32x64x128.Idx) : ∃ pc ∈ (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.1, y ∈ pc.1.set :=
  View.cover_of_tiledL (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.1 S1x64x128.size (by sl_kernel_rfl) y

/-- What `arg21` holds after the second loop. -/
def held21 : Vec F S32x64x128 .f32 := View.canon (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.1

/-- The blocks the second loop stores in `arg22` cover it. -/
theorem cover22 (y : S32x64x128.Idx) : ∃ pc ∈ (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.1, y ∈ pc.1.set :=
  View.cover_of_tiledL (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.1 S1x64x128.size (by sl_kernel_rfl) y

/-- What `arg22` holds after the second loop. -/
def held22 : Vec F S32x64x128 .f32 := View.canon (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.1

/-- The blocks the second loop stores in `arg23` cover it. -/
theorem cover23 (y : S32x64x64.Idx) : ∃ pc ∈ (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.1, y ∈ pc.1.set :=
  View.cover_of_tiledL (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.1 S1x64x64.size (by sl_kernel_rfl) y

/-- What `arg23` holds after the second loop. -/
def held23 : Vec F S32x64x64 .f32 := View.canon (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.1

/-- The blocks the second loop stores in `arg24` cover it. -/
theorem cover24 (y : S32x64x128.Idx) : ∃ pc ∈ (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.1, y ∈ pc.1.set :=
  View.cover_of_tiledL (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.1 S1x64x128.size (by sl_kernel_rfl) y

/-- What `arg24` holds after the second loop. -/
def held24 : Vec F S32x64x128 .f32 := View.canon (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.1

/-- The blocks the second loop stores in `arg25` cover it. -/
theorem cover25 (y : S32x64x128.Idx) : ∃ pc ∈ (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.2.1, y ∈ pc.1.set :=
  View.cover_of_tiledL (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.2.1 S1x64x128.size (by sl_kernel_rfl) y

/-- What `arg25` holds after the second loop. -/
def held25 : Vec F S32x64x128 .f32 := View.canon (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.2.1

/-- The blocks the second loop stores in `arg26` cover it. -/
theorem cover26 (y : S32x1x1.Idx) : ∃ pc ∈ (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.2.2, y ∈ pc.1.set :=
  View.cover_of_tiledL (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.2.2 S1x1x1.size (by sl_kernel_rfl) y

/-- What `arg26` holds after the second loop. -/
def held26 : Vec F S32x1x1 .f32 := View.canon (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).2.2.2.2.2.2

set_option maxHeartbeats 2000000 in
/-- The second loop's triple. -/
theorem loop2 (E : Set ℕ) (K : FVec F S128x128 .f32 → sProp 𝕄) :
    iprop((arg7.view.loc (c : Thread nD τ) ↦[arg7.view.set]{fullShare} (harg7.unread x6)) ∗ (arg8.view.loc (c : Thread nD τ) ↦[arg8.view.set]{fullShare} (harg8.unread x7)) ∗ (arg15.view.loc (c : Thread nD τ) ↦[arg15.view.set]{fullShare} (harg15.unread (held15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg16.view.loc (c : Thread nD τ) ↦[arg16.view.set]{fullShare} (harg16.unread (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg17.view.loc (c : Thread nD τ) ↦[arg17.view.set]{fullShare} (harg17.unread (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg18.view.loc (c : Thread nD τ) ↦[arg18.view.set]{fullShare} (harg18.unread (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg19.view.loc (c : Thread nD τ) ↦[arg19.view.set]{fullShare} (harg19.unread (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg20.view.loc (c : Thread nD τ) ↦[arg20.view.set]{fullShare} (harg20.unread (held20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (iprop((arg7.view.loc (c : Thread nD τ) ↦[arg7.view.set]{fullShare} (harg7.unread x6)) ∗ (arg8.view.loc (c : Thread nD τ) ↦[arg8.view.set]{fullShare} (harg8.unread x7)) ∗ (arg15.view.loc (c : Thread nD τ) ↦[arg15.view.set]{fullShare} (harg15.unread (held15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg16.view.loc (c : Thread nD τ) ↦[arg16.view.set]{fullShare} (harg16.unread (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg17.view.loc (c : Thread nD τ) ↦[arg17.view.set]{fullShare} (harg17.unread (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg18.view.loc (c : Thread nD τ) ↦[arg18.view.set]{fullShare} (harg18.unread (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg19.view.loc (c : Thread nD τ) ↦[arg19.view.set]{fullShare} (harg19.unread (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg20.view.loc (c : Thread nD τ) ↦[arg20.view.set]{fullShare} (harg20.unread (held20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5))) ∗ (arg21.view.loc (c : Thread nD τ) ↦[arg21.view.set]{fullShare} (harg21.unread (held21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg22.view.loc (c : Thread nD τ) ↦[arg22.view.set]{fullShare} (harg22.unread (held22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg23.view.loc (c : Thread nD τ) ↦[arg23.view.set]{fullShare} (harg23.unread (held23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg24.view.loc (c : Thread nD τ) ↦[arg24.view.set]{fullShare} (harg24.unread (held24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg25.view.loc (c : Thread nD τ) ↦[arg25.view.set]{fullShare} (harg25.unread (held25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg26.view.loc (c : Thread nD τ) ↦[arg26.view.set]{fullShare} (harg26.unread (held26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))) -∗ K (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).1))
      ⊢ wp frame (wpE (defs₀ (F := F)) Variants.none (c : Thread nD τ) none) E (Scf.Loop.for k0_t2_loop k0_t2_ok (k0_pay2 (F := F)) (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)) K := by
  iintro ⟨R7, R8, R15, R16, R17, R18, R19, R20, ⟨%g21, W21⟩, ⟨%g22, W22⟩, ⟨%g23, W23⟩, ⟨%g24, W24⟩, ⟨%g25, W25⟩, ⟨%g26, W26⟩, HK⟩
  iapply (Scf.wp_for frame (wpE (defs₀ (F := F)) Variants.none (c : Thread nD τ) none) E k0_t2_loop.lb k0_t2_loop.ub k0_t2_loop.st k0_t2_ok (k0_pay2 (F := F)) (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
    (inv_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread x7) (harg15.unread (held15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg16.unread (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg17.unread (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg18.unread (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg19.unread (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg20.unread (held20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) g21 g22 g23 g24 g25 g26 (k0_pay2 (F := F)))
    (loopInv_k0_t2 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread x7) (harg15.unread (held15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg16.unread (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg17.unread (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg18.unread (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg19.unread (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) (harg20.unread (held20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5)) g21 g22 g23 g24 g25 g26 (k0_pay2 (F := F))).step)
  isplitl [R7 R8 R15 R16 R17 R18 R19 R20 W21 W22 W23 W24 W25 W26]
  · isplitl [R7]; · iexact R7
    isplitl [R8]; · iexact R8
    isplitl [R15]; · iexact R15
    isplitl [R16]; · iexact R16
    isplitl [R17]; · iexact R17
    isplitl [R18]; · iexact R18
    isplitl [R19]; · iexact R19
    isplitl [R20]; · iexact R20
    isplitl [W21]
    · iexists g21; isplitl [W21]; · iexact W21
      ipureintro; rfl
    isplitl [W22]
    · iexists g22; isplitl [W22]; · iexact W22
      ipureintro; rfl
    isplitl [W23]
    · iexists g23; isplitl [W23]; · iexact W23
      ipureintro; rfl
    isplitl [W24]
    · iexists g24; isplitl [W24]; · iexact W24
      ipureintro; rfl
    isplitl [W25]
    · iexists g25; isplitl [W25]; · iexact W25
      ipureintro; rfl
    isplitl [W26]
    · iexists g26; isplitl [W26]; · iexact W26
      ipureintro; rfl
    ipureintro; rfl
  · iintro %acc ⟨R7, R8, R15, R16, R17, R18, R19, R20, ⟨%f21, W21, %h21⟩, ⟨%f22, W22, %h22⟩, ⟨%f23, W23, %h23⟩, ⟨%f24, W24, %h24⟩, ⟨%f25, W25, %h25⟩, ⟨%f26, W26, %h26⟩, %hacc⟩
    obtain rfl := harg21.eq_unread ((congrArg _ h21).trans (View.read_writes_eq_canon arg21.view g21 _ (cover21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg22.eq_unread ((congrArg _ h22).trans (View.read_writes_eq_canon arg22.view g22 _ (cover22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg23.eq_unread ((congrArg _ h23).trans (View.read_writes_eq_canon arg23.view g23 _ (cover23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg24.eq_unread ((congrArg _ h24).trans (View.read_writes_eq_canon arg24.view g24 _ (cover24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg25.eq_unread ((congrArg _ h25).trans (View.read_writes_eq_canon arg25.view g25 _ (cover25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg26.eq_unread ((congrArg _ h26).trans (View.read_writes_eq_canon arg26.view g26 _ (cover26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl : acc = (lists2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t2_loop.trips).1 := hacc
    iapply HK
    isplitl [R7]; · iexact R7
    isplitl [R8]; · iexact R8
    isplitl [R15]; · iexact R15
    isplitl [R16]; · iexact R16
    isplitl [R17]; · iexact R17
    isplitl [R18]; · iexact R18
    isplitl [R19]; · iexact R19
    isplitl [R20]; · iexact R20
    isplitl [W21]; · iexact W21
    isplitl [W22]; · iexact W22
    isplitl [W23]; · iexact W23
    isplitl [W24]; · iexact W24
    isplitl [W25]; · iexact W25
    iexact W26

/-- The state after `k` trips of the third loop: the blocks stored so far
in each buffer it writes. -/
def lists3 (k : ℕ) : List (View.Piece (Elt F) S2048x128 .f32) × List (View.Piece (Elt F) S2048x128 .f32) × List (View.Piece (Elt F) S2048x128 .f32) × List (View.Piece (Elt F) S1x32x64x1 .f32) × List (View.Piece (Elt F) S1x32x1x64 .f32) × List (View.Piece (Elt F) S1x32x64x1 .f32) :=
  pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x0) (harg2.unread x1) (harg3.unread x2) (harg4.unread x3) (harg5.unread x4) (harg6.unread x5) (harg21.unread (held21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg22.unread (held22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg23.unread (held23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg24.unread (held24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg25.unread (held25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg26.unread (held26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) k

/-- The blocks the third loop stores in `arg9` cover it. -/
theorem cover9 (y : S2048x128.Idx) : ∃ pc ∈ (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).1, y ∈ pc.1.set :=
  View.cover_of_tiledL (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).1 S512x128.size (by sl_kernel_rfl) y

/-- What `arg9` holds after the third loop. -/
def held9 : Vec F S2048x128 .f32 := View.canon (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).1

/-- The blocks the third loop stores in `arg10` cover it. -/
theorem cover10 (y : S2048x128.Idx) : ∃ pc ∈ (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.1, y ∈ pc.1.set :=
  View.cover_of_tiledL (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.1 S512x128.size (by sl_kernel_rfl) y

/-- What `arg10` holds after the third loop. -/
def held10 : Vec F S2048x128 .f32 := View.canon (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.1

/-- The blocks the third loop stores in `arg11` cover it. -/
theorem cover11 (y : S2048x128.Idx) : ∃ pc ∈ (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.1, y ∈ pc.1.set :=
  View.cover_of_tiledL (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.1 S512x128.size (by sl_kernel_rfl) y

/-- What `arg11` holds after the third loop. -/
def held11 : Vec F S2048x128 .f32 := View.canon (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.1

/-- The blocks the third loop stores in `arg12` cover it. -/
theorem cover12 (y : S1x32x64x1.Idx) : ∃ pc ∈ (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.1, y ∈ pc.1.set :=
  View.cover_of_tiledL (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.1 S1x8x64x1.size (by sl_kernel_rfl) y

/-- What `arg12` holds after the third loop. -/
def held12 : Vec F S1x32x64x1 .f32 := View.canon (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.1

/-- The blocks the third loop stores in `arg13` cover it. -/
theorem cover13 (y : S1x32x1x64.Idx) : ∃ pc ∈ (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.2.1, y ∈ pc.1.set :=
  View.cover_of_tiledL (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.2.1 S1x8x1x64.size (by sl_kernel_rfl) y

/-- What `arg13` holds after the third loop. -/
def held13 : Vec F S1x32x1x64 .f32 := View.canon (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.2.1

/-- The blocks the third loop stores in `arg14` cover it. -/
theorem cover14 (y : S1x32x64x1.Idx) : ∃ pc ∈ (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.2.2, y ∈ pc.1.set :=
  View.cover_of_tiledL (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.2.2 S1x8x64x1.size (by sl_kernel_rfl) y

/-- What `arg14` holds after the third loop. -/
def held14 : Vec F S1x32x64x1 .f32 := View.canon (lists3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 k0_t3_loop.trips).2.2.2.2.2

set_option maxHeartbeats 2000000 in
/-- The third loop's triple. -/
theorem loop3 (E : Set ℕ) (K : PUnit → sProp 𝕄) :
    iprop((arg1.view.loc (c : Thread nD τ) ↦[arg1.view.set]{fullShare} (harg1.unread x0)) ∗ (arg2.view.loc (c : Thread nD τ) ↦[arg2.view.set]{fullShare} (harg2.unread x1)) ∗ (arg3.view.loc (c : Thread nD τ) ↦[arg3.view.set]{fullShare} (harg3.unread x2)) ∗ (arg4.view.loc (c : Thread nD τ) ↦[arg4.view.set]{fullShare} (harg4.unread x3)) ∗ (arg5.view.loc (c : Thread nD τ) ↦[arg5.view.set]{fullShare} (harg5.unread x4)) ∗ (arg6.view.loc (c : Thread nD τ) ↦[arg6.view.set]{fullShare} (harg6.unread x5)) ∗ (arg21.view.loc (c : Thread nD τ) ↦[arg21.view.set]{fullShare} (harg21.unread (held21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg22.view.loc (c : Thread nD τ) ↦[arg22.view.set]{fullShare} (harg22.unread (held22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg23.view.loc (c : Thread nD τ) ↦[arg23.view.set]{fullShare} (harg23.unread (held23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg24.view.loc (c : Thread nD τ) ↦[arg24.view.set]{fullShare} (harg24.unread (held24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg25.view.loc (c : Thread nD τ) ↦[arg25.view.set]{fullShare} (harg25.unread (held25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg26.view.loc (c : Thread nD τ) ↦[arg26.view.set]{fullShare} (harg26.unread (held26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (iprop((arg1.view.loc (c : Thread nD τ) ↦[arg1.view.set]{fullShare} (harg1.unread x0)) ∗ (arg2.view.loc (c : Thread nD τ) ↦[arg2.view.set]{fullShare} (harg2.unread x1)) ∗ (arg3.view.loc (c : Thread nD τ) ↦[arg3.view.set]{fullShare} (harg3.unread x2)) ∗ (arg4.view.loc (c : Thread nD τ) ↦[arg4.view.set]{fullShare} (harg4.unread x3)) ∗ (arg5.view.loc (c : Thread nD τ) ↦[arg5.view.set]{fullShare} (harg5.unread x4)) ∗ (arg6.view.loc (c : Thread nD τ) ↦[arg6.view.set]{fullShare} (harg6.unread x5)) ∗ (arg21.view.loc (c : Thread nD τ) ↦[arg21.view.set]{fullShare} (harg21.unread (held21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg22.view.loc (c : Thread nD τ) ↦[arg22.view.set]{fullShare} (harg22.unread (held22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg23.view.loc (c : Thread nD τ) ↦[arg23.view.set]{fullShare} (harg23.unread (held23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg24.view.loc (c : Thread nD τ) ↦[arg24.view.set]{fullShare} (harg24.unread (held24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg25.view.loc (c : Thread nD τ) ↦[arg25.view.set]{fullShare} (harg25.unread (held25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg26.view.loc (c : Thread nD τ) ↦[arg26.view.set]{fullShare} (harg26.unread (held26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg9.view.loc (c : Thread nD τ) ↦[arg9.view.set]{fullShare} (harg9.unread (held9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg10.view.loc (c : Thread nD τ) ↦[arg10.view.set]{fullShare} (harg10.unread (held10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg11.view.loc (c : Thread nD τ) ↦[arg11.view.set]{fullShare} (harg11.unread (held11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg12.view.loc (c : Thread nD τ) ↦[arg12.view.set]{fullShare} (harg12.unread (held12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg13.view.loc (c : Thread nD τ) ↦[arg13.view.set]{fullShare} (harg13.unread (held13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7))) ∗ (arg14.view.loc (c : Thread nD τ) ↦[arg14.view.set]{fullShare} (harg14.unread (held14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))) -∗ K ⟨⟩))
      ⊢ wp frame (wpE (defs₀ (F := F)) Variants.none (c : Thread nD τ) none) E (Scf.Loop.for k0_t3_loop k0_t3_ok PUnit.unit (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)) K := by
  iintro ⟨R1, R2, R3, R4, R5, R6, R21, R22, R23, R24, R25, R26, ⟨%g9, W9⟩, ⟨%g10, W10⟩, ⟨%g11, W11⟩, ⟨%g12, W12⟩, ⟨%g13, W13⟩, ⟨%g14, W14⟩, HK⟩
  iapply (Scf.wp_for frame (wpE (defs₀ (F := F)) Variants.none (c : Thread nD τ) none) E k0_t3_loop.lb k0_t3_loop.ub k0_t3_loop.st k0_t3_ok PUnit.unit (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
    (inv_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x0) (harg2.unread x1) (harg3.unread x2) (harg4.unread x3) (harg5.unread x4) (harg6.unread x5) (harg21.unread (held21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg22.unread (held22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg23.unread (held23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg24.unread (held24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg25.unread (held25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg26.unread (held26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) g9 g10 g11 g12 g13 g14)
    (loopInv_k0_t3 (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread x0) (harg2.unread x1) (harg3.unread x2) (harg4.unread x3) (harg5.unread x4) (harg6.unread x5) (harg21.unread (held21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg22.unread (held22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg23.unread (held23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg24.unread (held24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg25.unread (held25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) (harg26.unread (held26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)) g9 g10 g11 g12 g13 g14).step)
  isplitl [R1 R2 R3 R4 R5 R6 R21 R22 R23 R24 R25 R26 W9 W10 W11 W12 W13 W14]
  · isplitl [R1]; · iexact R1
    isplitl [R2]; · iexact R2
    isplitl [R3]; · iexact R3
    isplitl [R4]; · iexact R4
    isplitl [R5]; · iexact R5
    isplitl [R6]; · iexact R6
    isplitl [R21]; · iexact R21
    isplitl [R22]; · iexact R22
    isplitl [R23]; · iexact R23
    isplitl [R24]; · iexact R24
    isplitl [R25]; · iexact R25
    isplitl [R26]; · iexact R26
    isplitl [W9]
    · iexists g9; isplitl [W9]; · iexact W9
      ipureintro; rfl
    isplitl [W10]
    · iexists g10; isplitl [W10]; · iexact W10
      ipureintro; rfl
    isplitl [W11]
    · iexists g11; isplitl [W11]; · iexact W11
      ipureintro; rfl
    isplitl [W12]
    · iexists g12; isplitl [W12]; · iexact W12
      ipureintro; rfl
    isplitl [W13]
    · iexists g13; isplitl [W13]; · iexact W13
      ipureintro; rfl
    iexists g14; isplitl [W14]; · iexact W14
    ipureintro; rfl
  · iintro %acc ⟨R1, R2, R3, R4, R5, R6, R21, R22, R23, R24, R25, R26, ⟨%f9, W9, %h9⟩, ⟨%f10, W10, %h10⟩, ⟨%f11, W11, %h11⟩, ⟨%f12, W12, %h12⟩, ⟨%f13, W13, %h13⟩, ⟨%f14, W14, %h14⟩⟩
    obtain rfl := harg9.eq_unread ((congrArg _ h9).trans (View.read_writes_eq_canon arg9.view g9 _ (cover9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg10.eq_unread ((congrArg _ h10).trans (View.read_writes_eq_canon arg10.view g10 _ (cover10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg11.eq_unread ((congrArg _ h11).trans (View.read_writes_eq_canon arg11.view g11 _ (cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg12.eq_unread ((congrArg _ h12).trans (View.read_writes_eq_canon arg12.view g12 _ (cover12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg13.eq_unread ((congrArg _ h13).trans (View.read_writes_eq_canon arg13.view g13 _ (cover13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    obtain rfl := harg14.eq_unread ((congrArg _ h14).trans (View.read_writes_eq_canon arg14.view g14 _ (cover14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7)))
    iapply HK
    isplitl [R1]; · iexact R1
    isplitl [R2]; · iexact R2
    isplitl [R3]; · iexact R3
    isplitl [R4]; · iexact R4
    isplitl [R5]; · iexact R5
    isplitl [R6]; · iexact R6
    isplitl [R21]; · iexact R21
    isplitl [R22]; · iexact R22
    isplitl [R23]; · iexact R23
    isplitl [R24]; · iexact R24
    isplitl [R25]; · iexact R25
    isplitl [R26]; · iexact R26
    isplitl [W9]; · iexact W9
    isplitl [W10]; · iexact W10
    isplitl [W11]; · iexact W11
    isplitl [W12]; · iexact W12
    isplitl [W13]; · iexact W13
    iexact W14

end Cert.KernelIdeal.Body

end
-- ==== Proof.Triple.lean ====
module

public import proofs.«01_k».proof.Proof.Stages
public import Idealize.ShloMosaic.Lib.Claim

@[expose] public section

set_option maxRecDepth 16384

noncomputable section

/-! The whole body of the delta-rule gradient: its three loops one after the other. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
variable (arg1 : Memref sig .tc .vmem S2048x128 .f32) (harg1 : arg1.IsWhole)
variable (arg2 : Memref sig .tc .vmem S2048x128 .f32) (harg2 : arg2.IsWhole)
variable (arg3 : Memref sig .tc .vmem S2048x128 .f32) (harg3 : arg3.IsWhole)
variable (arg4 : Memref sig .tc .vmem S1x32x64x1 .f32) (harg4 : arg4.IsWhole)
variable (arg5 : Memref sig .tc .vmem S1x32x1x64 .f32) (harg5 : arg5.IsWhole)
variable (arg6 : Memref sig .tc .vmem S1x32x64x1 .f32) (harg6 : arg6.IsWhole)
variable (arg7 : Memref sig .tc .vmem S1x32x128x128 .f32) (harg7 : arg7.IsWhole)
variable (arg8 : Memref sig .tc .vmem S2048x128 .f32) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S1x32x64x1 .f32) (harg12 : arg12.IsWhole)
variable (arg13 : Memref sig .tc .vmem S1x32x1x64 .f32) (harg13 : arg13.IsWhole)
variable (arg14 : Memref sig .tc .vmem S1x32x64x1 .f32) (harg14 : arg14.IsWhole)
variable (arg15 : Memref sig .tc .vmem S32x64x128 .f32) (harg15 : arg15.IsWhole)
variable (arg16 : Memref sig .tc .vmem S32x64x128 .f32) (harg16 : arg16.IsWhole)
variable (arg17 : Memref sig .tc .vmem S32x64x64 .f32) (harg17 : arg17.IsWhole)
variable (arg18 : Memref sig .tc .vmem S32x64x128 .f32) (harg18 : arg18.IsWhole)
variable (arg19 : Memref sig .tc .vmem S32x64x128 .f32) (harg19 : arg19.IsWhole)
variable (arg20 : Memref sig .tc .vmem S32x1x1 .f32) (harg20 : arg20.IsWhole)
variable (arg21 : Memref sig .tc .vmem S32x64x128 .f32) (harg21 : arg21.IsWhole)
variable (arg22 : Memref sig .tc .vmem S32x64x128 .f32) (harg22 : arg22.IsWhole)
variable (arg23 : Memref sig .tc .vmem S32x64x64 .f32) (harg23 : arg23.IsWhole)
variable (arg24 : Memref sig .tc .vmem S32x64x128 .f32) (harg24 : arg24.IsWhole)
variable (arg25 : Memref sig .tc .vmem S32x64x128 .f32) (harg25 : arg25.IsWhole)
variable (arg26 : Memref sig .tc .vmem S32x1x1 .f32) (harg26 : arg26.IsWhole)
variable (x0 : Vec F S2048x128 .f32) (x1 : Vec F S2048x128 .f32) (x2 : Vec F S2048x128 .f32) (x3 : Vec F S1x32x64x1 .f32) (x4 : Vec F S1x32x1x64 .f32) (x5 : Vec F S1x32x64x1 .f32) (x6 : Vec F S1x32x128x128 .f32) (x7 : Vec F S2048x128 .f32)

set_option maxHeartbeats 2000000 in
/-- The body's triple: from the inputs, and the outputs and the scratch at anything, to the inputs as they
were, each output at what the third loop leaves in it, and the scratch at some contents. -/
theorem body_triple (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (held9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7) ∗ owns (c : Thread nD τ) arg10 fullShare (held10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7) ∗ owns (c : Thread nD τ) arg11 fullShare (held11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7) ∗ owns (c : Thread nD τ) arg12 fullShare (held12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7) ∗ owns (c : Thread nD τ) arg13 fullShare (held13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7) ∗ owns (c : Thread nD τ) arg14 fullShare (held14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none (c : Thread nD τ) none) E (cc0_dchunk i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_dchunk_eq_skeleton]; unfold cc0_dchunk_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  rw [wp_bind]
  iapply (loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 E _)
  isplitl [H1]; · iexact H1
  isplitl [H2]; · iexact H2
  isplitl [H3]; · iexact H3
  isplitl [H4]; · iexact H4
  isplitl [H5]; · iexact H5
  isplitl [H6]; · iexact H6
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H1, H2, H3, H4, H5, H6, H15, H16, H17, H18, H19, H20⟩
  rw [wp_bind]
  iapply (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 E _)
  isplitl [H7]; · iexact H7
  isplitl [H8]; · iexact H8
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H7, H8, H15, H16, H17, H18, H19, H20, H21, H22, H23, H24, H25, H26⟩
  rw [wp_bind]
  iapply (loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 E _)
  isplitl [H1]; · iexact H1
  isplitl [H2]; · iexact H2
  isplitl [H3]; · iexact H3
  isplitl [H4]; · iexact H4
  isplitl [H5]; · iexact H5
  isplitl [H6]; · iexact H6
  isplitl [H21]; · iexact H21
  isplitl [H22]; · iexact H22
  isplitl [H23]; · iexact H23
  isplitl [H24]; · iexact H24
  isplitl [H25]; · iexact H25
  isplitl [H26]; · iexact H26
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H1, H2, H3, H4, H5, H6, H21, H22, H23, H24, H25, H26, H9, H10, H11, H12, H13, H14⟩
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

end Cert.KernelIdeal.Body

end
-- ==== Proof.FrameRun.lean ====
module

public import proofs.«01_k».proof.Proof.Triple
public import Idealize.ShloMosaic.Lib.Claim

@[expose] public section

-- membership in a rectangle of production extents (`View.cover_of_tiled`): the elaborator's structural look
-- recurses once per coordinate of the long axes
set_option maxRecDepth 16384

noncomputable section

/-! The frame of the delta-rule gradient: the proof data of its pipeline, the body's obligation at every grid
point, the run of the whole program, and that it leaves its arguments as they were. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t` (as a tuple, in window order): the run's contents at
    the point's memrefs and input blocks. -/
def outsAt0 (c : Dev nD) (t : Fin cfg0.N) : Vec F S2048x128 .f32 × Vec F S2048x128 .f32 × Vec F S2048x128 .f32 × Vec F S1x32x64x1 .f32 × Vec F S1x32x1x64 .f32 × Vec F S1x32x64x1 .f32 :=
  (held9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t), held10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t), held11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t), held12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t), held13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t), held14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t).1
    | ⟨9, _⟩ => (outsAt0 m c t).2.1
    | ⟨10, _⟩ => (outsAt0 m c t).2.2.1
    | ⟨11, _⟩ => (outsAt0 m c t).2.2.2.1
    | ⟨12, _⟩ => (outsAt0 m c t).2.2.2.2.1
    | ⟨13, _⟩ => (outsAt0 m c t).2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t).1 := by dsimp only [dats]
theorem after0_9 (c : Dev nD) (t : Fin cfg0.N) : (dats m 0 c).after 9 t = (outsAt0 m c t).2.1 := by dsimp only [dats]
theorem after0_10 (c : Dev nD) (t : Fin cfg0.N) : (dats m 0 c).after 10 t = (outsAt0 m c t).2.2.1 := by dsimp only [dats]
theorem after0_11 (c : Dev nD) (t : Fin cfg0.N) : (dats m 0 c).after 11 t = (outsAt0 m c t).2.2.2.1 := by dsimp only [dats]
theorem after0_12 (c : Dev nD) (t : Fin cfg0.N) : (dats m 0 c).after 12 t = (outsAt0 m c t).2.2.2.2.1 := by dsimp only [dats]
theorem after0_13 (c : Dev nD) (t : Fin cfg0.N) : (dats m 0 c).after 13 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_triple c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      iexact HS11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: every execution terminates and leaves the arguments as they were, at any float algebra. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Body

end
-- ==== Proof.Lift.lean ====
module

public import proofs.«01_k».proof.Proof.Gen.KernelIdeal.Skeleton
public import Idealize.ShloMosaic.Lib.Pointwise
public import Idealize.ShloMosaic.Lib.WordCmp
public import Mathlib.Data.Matrix.Mul

@[expose] public section

set_option maxRecDepth 16384

noncomputable section

/-! Arrays of real numbers inside the extended reals: what the kernel's operations do to an array
all of whose entries are real. -/

namespace Cert.DN

open Idealize.ShloMosaic Cert.KernelIdeal Cert.KernelIdeal.Gen

/-- A matrix of reals as an array of extended reals. -/
def up2 {b c : ℕ} (φ : FTy) (A : Matrix (Fin b) (Fin c) ℝ) : FVec Ideal ⟨2, ![b, c]⟩ φ :=
  fun j => ((A (j 0) (j 1) : ℝ) : EReal)

/-- A stack of matrices of reals as an array of extended reals. -/
def up3 {a b c : ℕ} (φ : FTy) (A : Fin a → Matrix (Fin b) (Fin c) ℝ) : FVec Ideal ⟨3, ![a, b, c]⟩ φ :=
  fun j => ((A (j 0) (j 1) (j 2) : ℝ) : EReal)

/-- An entry of a real matrix. -/
theorem up2_apply {b c : ℕ} (φ : FTy) (A : Matrix (Fin b) (Fin c) ℝ) (i : Fin b) (j : Fin c) :
    up2 φ A (ix2 i j) = ((A i j : ℝ) : EReal) := rfl

/-- An entry of a stack of real matrices. -/
theorem up3_apply {a b c : ℕ} (φ : FTy) (A : Fin a → Matrix (Fin b) (Fin c) ℝ) (n : Fin a) (i : Fin b) (j : Fin c) :
    up3 φ A (ix3 n i j) = ((A n i j : ℝ) : EReal) := rfl

/-- Rounding to the narrow format keeps a real array. -/
theorem up3_truncf {a b c : ℕ} (A : Fin a → Matrix (Fin b) (Fin c) ℝ) (h : FTy.bits .bf16 < FTy.bits .f32) :
    truncf .bf16 (up3 .f32 A) h = up3 .bf16 A := rfl

/-- So does widening. -/
theorem up3_extf {a b c : ℕ} (A : Fin a → Matrix (Fin b) (Fin c) ℝ) (h : FTy.bits .bf16 < FTy.bits .f32) :
    extf .f32 (up3 .bf16 A) h = up3 .f32 A := rfl

/-- Rounding to the narrow format keeps a real matrix. -/
theorem up2_truncf {b c : ℕ} (A : Matrix (Fin b) (Fin c) ℝ) (h : FTy.bits .bf16 < FTy.bits .f32) :
    truncf .bf16 (up2 .f32 A) h = up2 .bf16 A := rfl

/-- The difference of two real arrays. -/
theorem up3_subf {a b c : ℕ} (A B : Fin a → Matrix (Fin b) (Fin c) ℝ) :
    subf (up3 .f32 A) (up3 .f32 B) = up3 .f32 (A - B) := by
  funext j
  exact (EReal.coe_sub _ _).symm

/-- The sum of two real arrays. -/
theorem up3_addf {a b c : ℕ} (A B : Fin a → Matrix (Fin b) (Fin c) ℝ) :
    addf (up3 .f32 A) (up3 .f32 B) = up3 .f32 (A + B) := by
  funext j
  exact (EReal.coe_add _ _).symm

/-- The entrywise product of two real arrays. -/
theorem up3_mulf {a b c : ℕ} (A B : Fin a → Matrix (Fin b) (Fin c) ℝ) :
    mulf (up3 .f32 A) (up3 .f32 B) = up3 .f32 (fun n => .of fun i j => A n i j * B n i j) := by
  funext j
  exact (EReal.coe_mul _ _).symm

/-- The exponential of a real array. -/
theorem up3_exp {a b c : ℕ} (A : Fin a → Matrix (Fin b) (Fin c) ℝ) :
    exp (up3 .f32 A) = up3 .f32 (fun n => .of fun i j => Real.exp (A n i j)) := rfl

/-- The difference of two real matrices. -/
theorem up2_subf {b c : ℕ} (A B : Matrix (Fin b) (Fin c) ℝ) :
    subf (up2 .f32 A) (up2 .f32 B) = up2 .f32 (A - B) := by
  funext j
  exact (EReal.coe_sub _ _).symm

/-- The sum of two real matrices. -/
theorem up2_addf {b c : ℕ} (A B : Matrix (Fin b) (Fin c) ℝ) :
    addf (up2 .f32 A) (up2 .f32 B) = up2 .f32 (A + B) := by
  funext j
  exact (EReal.coe_add _ _).symm

/-- A finite sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A stack of products of square matrices. -/
theorem up3_matmul_sq (A B : Fin 8 → Matrix (Fin 64) (Fin 64) ℝ) :
    matmul dot_S8x64x64_S8x64x64_S8x64x64_2_1_1_2_0_0 none (up3 .bf16 A) (up3 .bf16 B)
      (constant S8x64x64 .f32 0x00000000#32) = up3 .f32 (A * B) := by
  funext j
  idx_vars j
  pointwise [up3]
  simp only [Pi.mul_apply, Matrix.mul_apply, coe_sum, EReal.coe_mul]
  try simp

/-- A stack of products of a square matrix with a wide one. -/
theorem up3_matmul_wide (A : Fin 8 → Matrix (Fin 64) (Fin 64) ℝ) (B : Fin 8 → Matrix (Fin 64) (Fin 128) ℝ) :
    matmul dot_S8x64x64_S8x64x128_S8x64x128_2_1_1_2_0_0 none (up3 .bf16 A) (up3 .bf16 B)
      (constant S8x64x128 .f32 0x00000000#32) = up3 .f32 (fun n => A n * B n) := by
  funext j
  idx_vars j
  pointwise [up3]
  simp only [Matrix.mul_apply, coe_sum, EReal.coe_mul]
  try simp

/-- A stack of products of a transposed square matrix with a wide one. -/
theorem up3_matmul_tr (A : Fin 8 → Matrix (Fin 64) (Fin 64) ℝ) (B : Fin 8 → Matrix (Fin 64) (Fin 128) ℝ) :
    matmul dot_S8x64x64_S8x64x128_S8x64x128_1_1_2_2_0_0 none (up3 .bf16 A) (up3 .bf16 B)
      (constant S8x64x128 .f32 0x00000000#32) = up3 .f32 (fun n => (A n).transpose * B n) := by
  funext j
  idx_vars j
  pointwise [up3]
  simp only [Matrix.mul_apply, coe_sum, EReal.coe_mul, Matrix.transpose_apply]
  try simp

/-- A stack of products of a wide matrix with a transposed wide one. -/
theorem up3_matmul_nt (A B : Fin 8 → Matrix (Fin 64) (Fin 128) ℝ) :
    matmul dot_S8x64x128_S8x64x128_S8x64x64_2_2_1_1_0_0 none (up3 .bf16 A) (up3 .bf16 B)
      (constant S8x64x64 .f32 0x00000000#32) = up3 .f32 (fun n => A n * (B n).transpose) := by
  funext j
  idx_vars j
  pointwise [up3]
  simp only [Matrix.mul_apply, coe_sum, EReal.coe_mul, Matrix.transpose_apply]
  try simp

/-- The product of a square matrix with a wide one. -/
theorem up2_matmul_wide (A : Matrix (Fin 64) (Fin 64) ℝ) (B : Matrix (Fin 64) (Fin 128) ℝ) :
    matmul dot_S64x64_S64x128_S64x128_1_0_0_1_n_n none (up2 .bf16 A) (up2 .bf16 B)
      (constant S64x128 .f32 0x00000000#32) = up2 .f32 (A * B) := by
  funext j
  idx_vars j
  pointwise [up2]
  simp only [Matrix.mul_apply, coe_sum, EReal.coe_mul]
  try simp

/-- The product of a wide matrix with the state. -/
theorem up2_matmul_state (A : Matrix (Fin 64) (Fin 128) ℝ) (B : Matrix (Fin 128) (Fin 128) ℝ) :
    matmul dot_S64x128_S128x128_S64x128_1_0_0_1_n_n none (up2 .bf16 A) (up2 .bf16 B)
      (constant S64x128 .f32 0x00000000#32) = up2 .f32 (A * B) := by
  funext j
  idx_vars j
  pointwise [up2]
  simp only [Matrix.mul_apply, coe_sum, EReal.coe_mul]
  try simp

/-- The product of a transposed wide matrix with a wide one. -/
theorem up2_matmul_outer (A B : Matrix (Fin 64) (Fin 128) ℝ) :
    matmul dot_S64x128_S64x128_S128x128_0_0_1_1_n_n none (up2 .bf16 A) (up2 .bf16 B)
      (constant S128x128 .f32 0x00000000#32) = up2 .f32 (A.transpose * B) := by
  funext j
  idx_vars j
  pointwise [up2]
  simp only [Matrix.mul_apply, coe_sum, EReal.coe_mul, Matrix.transpose_apply]
  try simp

end Cert.DN
-- ==== Proof.Inverse.lean ====
module

public import Mathlib.Data.Matrix.Mul
public import Mathlib.Data.Real.Basic
public import Mathlib.LinearAlgebra.Matrix.NonsingularInverse
public import Mathlib.Tactic.NoncommRing
public import Mathlib.Tactic.Linarith

@[expose] public section

/-! The inverse of a unit lower triangular matrix, over the reals: the doubling products the
kernel forms are that inverse, and it is the only matrix that inverts it. -/

namespace Cert.DN

open Matrix

/-- The `m`-th power of a strictly lower triangular matrix vanishes above its `m`-th subdiagonal. -/
theorem strict_pow {n : ℕ} (B : Matrix (Fin n) (Fin n) ℝ) (h : ∀ i j, i ≤ j → B i j = 0) (m : ℕ) :
    ∀ i j : Fin n, i.val < j.val + m → (B ^ m) i j = 0 := by
  induction m with
  | zero =>
    intro i j hij
    rw [pow_zero, Matrix.one_apply_ne]
    intro he
    subst he
    omega
  | succ m ih =>
    intro i j hij
    rw [pow_succ, Matrix.mul_apply]
    refine Finset.sum_eq_zero fun l _ => ?_
    by_cases hl : l ≤ j
    · rw [h l j hl, mul_zero]
    · have : j.val < l.val := not_le.mp hl
      rw [ih i l (by omega), zero_mul]

/-- A strictly lower triangular matrix of extent 64 has vanishing 64-th power. -/
theorem strict_pow_64 (B : Matrix (Fin 64) (Fin 64) ℝ) (h : ∀ i j, i ≤ j → B i j = 0) : B ^ 64 = 0 := by
  ext i j
  exact strict_pow B h 64 i j (by have := i.isLt; omega)

/-- The doubling products: the current power `B ^ 2 ^ j`, and the sum of the powers below `2 ^ (j+1)`. -/
def dbl {n : ℕ} (B : Matrix (Fin n) (Fin n) ℝ) : ℕ → Matrix (Fin n) (Fin n) ℝ × Matrix (Fin n) (Fin n) ℝ
  | 0 => (B, 1 + B)
  | j + 1 => ((dbl B j).1 * (dbl B j).1, (dbl B j).2 + (dbl B j).2 * ((dbl B j).1 * (dbl B j).1))

/-- The first component after `j` doublings is the power `2 ^ j`. -/
theorem dbl_fst {n : ℕ} (B : Matrix (Fin n) (Fin n) ℝ) (j : ℕ) : (dbl B j).1 = B ^ 2 ^ j := by
  induction j with
  | zero => simp [dbl]
  | succ j ih =>
    show (dbl B j).1 * (dbl B j).1 = _
    rw [ih, ← pow_add, pow_succ 2 j, mul_two]

/-- The second component after `j` doublings inverts `1 - B` up to the power `2 ^ (j+1)`. -/
theorem dbl_snd {n : ℕ} (B : Matrix (Fin n) (Fin n) ℝ) (j : ℕ) : (1 - B) * (dbl B j).2 = 1 - B ^ 2 ^ (j + 1) := by
  induction j with
  | zero =>
    show (1 - B) * (1 + B) = _
    rw [zero_add, pow_one, pow_two]
    noncomm_ring
  | succ j ih =>
    show (1 - B) * ((dbl B j).2 + (dbl B j).2 * ((dbl B j).1 * (dbl B j).1)) = _
    rw [mul_add, ← mul_assoc, ih, dbl_fst, ← pow_add, ← two_mul, ← pow_succ']
    have : B ^ 2 ^ (j + 1 + 1) = B ^ 2 ^ (j + 1) * B ^ 2 ^ (j + 1) := by
      rw [← pow_add, ← two_mul, ← pow_succ']
    rw [this]
    noncomm_ring

/-- Five doublings invert `1 + A` for a strictly lower triangular `A` of extent 64. -/
theorem tri_mul_inv (A : Matrix (Fin 64) (Fin 64) ℝ) (h : ∀ i j, i ≤ j → A i j = 0) :
    (1 + A) * (dbl (-A) 5).2 = 1 := by
  have h1 := dbl_snd (-A) 5
  rw [sub_neg_eq_add] at h1
  rw [h1]
  have : (-A) ^ 2 ^ (5 + 1) = 0 := strict_pow_64 (-A) fun i j hij => by
    rw [Matrix.neg_apply, h i j hij, neg_zero]
  rw [this, sub_zero]

/-- The inverse that five doublings give: the only right inverse of `1 + A`. -/
def inv (A : Matrix (Fin 64) (Fin 64) ℝ) : Matrix (Fin 64) (Fin 64) ℝ := (dbl (-A) 5).2

/-- A matrix `T` with `(1 + A) T = 1` is what the doublings give. -/
theorem eq_inv (A T : Matrix (Fin 64) (Fin 64) ℝ) (h : ∀ i j, i ≤ j → A i j = 0)
    (hT : (1 + A) * T = 1) : T = inv A := by
  have hl : inv A * (1 + A) = 1 := mul_eq_one_comm.mp (tri_mul_inv A h)
  calc T = 1 * T := (Matrix.one_mul T).symm
    _ = inv A * (1 + A) * T := by rw [hl]
    _ = inv A := by rw [Matrix.mul_assoc, hT, Matrix.mul_one]

end Cert.DN
-- ==== Proof.Tri.lean ====
module

public import proofs.«01_k».proof.Proof.Lift
public import proofs.«01_k».proof.Proof.Inverse

@[expose] public section

set_option maxRecDepth 16384

noncomputable section

/-! The triangular inverse of a group of eight chunks, as the kernel forms it: five doublings, each
product of two rounded factors and their two corrections being the exact product. -/

namespace Cert.DN

open Idealize.ShloMosaic Cert.KernelIdeal Cert.KernelIdeal.Gen

/-- A stack of eight real square matrices. -/
local notation "𝕊" => Fin 8 → Matrix (Fin 64) (Fin 64) ℝ

variable (P M : 𝕊)

/-- The square of a power. -/
theorem sq_first (v15 : FVec Ideal S8x64x128 .f32) (v33 : IVec S1x64x64 1) (v45 : FVec Ideal S8x64x64 .f32)
    (v46 : FVec Ideal S8x64x128 .f32) (h : k0_pay20 (F := Ideal) v15 v33 v45 v46 = up3 .f32 P) :
    k0_pay21 (F := Ideal) v15 v33 v45 v46 = up3 .f32 (P * P) := by
  simp only [k0_pay21, h, up3_truncf, up3_extf, up3_subf, up3_addf, sub_self, up3_matmul_sq, mul_zero, zero_mul, add_zero]

/-- The identity as the kernel writes it: ones where the two coordinates agree. -/
theorem eye_up : broadcastTo S8x64x64 (select (shapeCast S1x64x64 (cmpi .eq (iota .tc S64x64 32 [0] iota_S64x64_d0_w32)
      (iota .tc S64x64 32 [1] iota_S64x64_d1_w32)) shapeCasts_S64x64_S1x64x64)
      (broadcast S1x64x64 (FloatOps.ofBits (F := Ideal) .f32 0x3F800000#32)) (broadcast S1x64x64 (FloatOps.ofBits (F := Ideal) .f32 0x00000000#32)))
      broadcasts_S1x64x64_S8x64x64 = up3 .f32 (1 : 𝕊) := by
  funext j
  idx_vars j
  pointwise [up3_apply]
  rw [WordCmp.cmpi_eq_ofNat (by omega) (by omega), WordCmp.select_ofBool]
  simp only [Pi.one_apply, Matrix.one_apply, decide_eq_true_eq, Fin.ext_iff]
  split_ifs <;> simp

/-- The sum of the first four powers. -/
theorem sum_first (v15 : FVec Ideal S8x64x128 .f32) (v33 : IVec S1x64x64 1) (v45 : FVec Ideal S8x64x64 .f32)
    (v46 : FVec Ideal S8x64x128 .f32) (h : k0_pay20 (F := Ideal) v15 v33 v45 v46 = up3 .f32 P) :
    k0_pay22 (F := Ideal) v15 (iota .tc S64x64 32 [0] iota_S64x64_d0_w32)
      (iota .tc S64x64 32 [1] iota_S64x64_d1_w32) v33 v45 v46 = up3 .f32 (1 + P + (1 + P) * (P * P)) := by
  have e : ∀ (E : FVec Ideal S8x64x64 .f32), E = up3 .f32 (1 : 𝕊) →
      addf (addf E (up3 .f32 P)) (addf (matmul dot_S8x64x64_S8x64x64_S8x64x64_2_1_1_2_0_0 none (truncf .bf16 (addf E (up3 .f32 P)) bitsLt_bf16_f32)
        (up3 .bf16 (P * P)) (constant S8x64x64 .f32 0x00000000#32)) (addf (matmul dot_S8x64x64_S8x64x64_S8x64x64_2_1_1_2_0_0 none
          (truncf .bf16 (addf E (up3 .f32 P)) bitsLt_bf16_f32) (up3 .bf16 0) (constant S8x64x64 .f32 0x00000000#32))
        (matmul dot_S8x64x64_S8x64x64_S8x64x64_2_1_1_2_0_0 none (truncf .bf16 (subf (addf E (up3 .f32 P))
          (extf .f32 (truncf .bf16 (addf E (up3 .f32 P)) bitsLt_bf16_f32) bitsLt_bf16_f32)) bitsLt_bf16_f32)
          (up3 .bf16 (P * P)) (constant S8x64x64 .f32 0x00000000#32)))) = up3 .f32 (1 + P + (1 + P) * (P * P)) := by
    rintro _ rfl
    simp only [up3_truncf, up3_extf, up3_subf, up3_addf, sub_self, up3_matmul_sq, mul_zero, zero_mul, add_zero]
  simp only [k0_pay22, h, sq_first P v15 v33 v45 v46 h, up3_truncf, up3_extf, up3_subf, up3_addf, sub_self, up3_matmul_sq, mul_zero, zero_mul, add_zero]
  exact e _ eye_up

/-- The square of a power, from its two rounded copies. -/
theorem sq_pay25 : k0_pay25 (F := Ideal) (up3 .f32 P) (up3 .bf16 P) (up3 .bf16 P) = up3 .f32 (P * P) := by
  simp only [k0_pay25, up3_truncf, up3_extf, up3_subf, up3_addf, sub_self, up3_matmul_sq, mul_zero, zero_mul, add_zero]

/-- The next sum of powers. -/
theorem sum_pay26 : k0_pay26 (F := Ideal) (up3 .f32 P) (up3 .f32 M) (up3 .bf16 P) (up3 .bf16 P) =
    up3 .f32 (M + M * (P * P)) := by
  simp only [k0_pay26, sq_pay25, up3_truncf, up3_extf, up3_subf, up3_addf, sub_self, up3_matmul_sq, mul_zero, zero_mul, add_zero]

/-- The fourth power. -/
theorem sq_pay27 : k0_pay27 (F := Ideal) (up3 .f32 P) (up3 .bf16 P) (up3 .bf16 P) =
    up3 .f32 (P * P * (P * P)) := by
  simp only [k0_pay27, sq_pay25, up3_truncf, up3_extf, up3_subf, up3_addf, sub_self, up3_matmul_sq, mul_zero, zero_mul, add_zero]

/-- The square of a power. -/
theorem sq_pay33 : k0_pay33 (F := Ideal) (up3 .f32 P) = up3 .f32 (P * P) := by
  simp only [k0_pay33, up3_truncf, up3_extf, up3_subf, up3_addf, sub_self, up3_matmul_sq, mul_zero, zero_mul, add_zero]

/-- The fourth power. -/
theorem sq_pay35 : k0_pay35 (F := Ideal) (up3 .f32 P) = up3 .f32 (P * P * (P * P)) := by
  simp only [k0_pay35, sq_pay33, up3_truncf, up3_extf, up3_subf, up3_addf, sub_self, up3_matmul_sq, mul_zero, zero_mul, add_zero]

/-- Two further sums of powers. -/
theorem sum_pay34 : k0_pay34 (F := Ideal) (up3 .f32 M) (up3 .f32 P) (up3 .bf16 P) (up3 .bf16 (0 : 𝕊)) (up3 .f32 (M * P))
    (up3 .f32 (0 : 𝕊)) (constant S8x64x64 .f32 0x00000000#32) =
    up3 .f32 (M + M * P + (M + M * P) * (P * P)) := by
  simp only [k0_pay34, sq_pay33, up3_truncf, up3_extf, up3_subf, up3_addf, sub_self, up3_matmul_sq, mul_zero, zero_mul, add_zero]

/-- The last sum of powers. -/
theorem sum_pay40 : k0_pay40 (F := Ideal) (up3 .f32 M) (up3 .bf16 M) (up3 .bf16 P) (up3 .bf16 (0 : 𝕊)) (up3 .f32 (0 : 𝕊)) =
    up3 .f32 (M + M * P) := by
  simp only [k0_pay40, up3_truncf, up3_extf, up3_subf, up3_addf, sub_self, up3_matmul_sq, mul_zero, zero_mul, add_zero]

end Cert.DN
-- ==== Proof.Local.lean ====
module

public import proofs.«01_k».proof.Proof.Tri

@[expose] public section

set_option maxRecDepth 16384

noncomputable section

/-! The arrays that belong to one chunk alone, over the reals, and the kernel's computation of them
for a group of eight chunks. -/

namespace Cert.DN

open Idealize.ShloMosaic Cert.KernelIdeal Cert.KernelIdeal.Gen

/-- The queries' scale factor, the single-precision neighbour of `128 ^ (-1/2)`. -/
def scale : ℝ := (Ideal.ofBits .f32 0x3DB504F3#32 : EReal).toReal

/-- The literal of the scale factor is that real number. -/
theorem scale_lit : (Ideal.ofBits .f32 0x3DB504F3#32 : EReal) = ((scale : ℝ) : EReal) := by
  have h : ∃ r : ℝ, (Ideal.ofBits .f32 0x3DB504F3#32 : EReal) = (r : EReal) := by
    unfold Ideal.ofBits Ideal.ieee
    dsimp only
    rw [if_neg (by decide), if_neg (by decide)]
    exact ⟨_, rfl⟩
  obtain ⟨r, hr⟩ := h
  rw [scale, hr, EReal.toReal_coe]

/-- The decay from position `j` down to position `i` of one chunk. -/
def decay (g : Fin 64 → ℝ) (i j : Fin 64) : ℝ := if j ≤ i then Real.exp (g i - g j) else 0

/-- The strictly lower triangular matrix of one chunk's keys. -/
def lowA (K : Matrix (Fin 64) (Fin 128) ℝ) (g β : Fin 64 → ℝ) : Matrix (Fin 64) (Fin 64) ℝ :=
  .of fun i j => if j < i then (∑ d, K i d * β i * K j d) * decay g i j else 0

/-- It vanishes on and above the diagonal. -/
theorem lowA_strict (K : Matrix (Fin 64) (Fin 128) ℝ) (g β : Fin 64 → ℝ) (i j : Fin 64) (h : i ≤ j) :
    lowA K g β i j = 0 := if_neg (not_lt.mpr h)

/-- The keys that the state meets, with the inverse applied. -/
def keyW (K : Matrix (Fin 64) (Fin 128) ℝ) (g β : Fin 64 → ℝ) : Matrix (Fin 64) (Fin 128) ℝ :=
  inv (lowA K g β) * .of fun i d => K i d * β i * Real.exp (g i)

/-- The transposed attention of one chunk. -/
def attT (Q K : Matrix (Fin 64) (Fin 128) ℝ) (g : Fin 64 → ℝ) : Matrix (Fin 64) (Fin 64) ℝ :=
  .of fun i j => (∑ d, K i d * (Q j d * scale)) * decay g j i

/-- The decayed queries. -/
def decQ (Q : Matrix (Fin 64) (Fin 128) ℝ) (g : Fin 64 → ℝ) : Matrix (Fin 64) (Fin 128) ℝ :=
  .of fun i d => Q i d * scale * Real.exp (g i)

/-- The keys decayed to the chunk's end. -/
def tailK (K : Matrix (Fin 64) (Fin 128) ℝ) (g : Fin 64 → ℝ) : Matrix (Fin 64) (Fin 128) ℝ :=
  .of fun i d => K i d * Real.exp (g 63 - g i)

/-- A stack of columns. -/
def cols (g : Fin 8 → Fin 64 → ℝ) : Fin 8 → Matrix (Fin 64) (Fin 1) ℝ := fun n => .of fun i _ => g n i

/-- A stack of rows. -/
def rows (g : Fin 8 → Fin 64 → ℝ) : Fin 8 → Matrix (Fin 1) (Fin 64) ℝ := fun n => .of fun _ i => g n i

variable (Q K : Fin 8 → Matrix (Fin 64) (Fin 128) ℝ) (g β : Fin 8 → Fin 64 → ℝ)

/-- The decays of a group. -/
theorem decay_up (v20 : Vec Ideal S1x8x64x1 .f32) (v23 : Vec Ideal S1x8x1x64 .f32)
    (h20 : k0_pay12 (F := Ideal) v20 = up3 .f32 (cols g)) (h23 : k0_pay13 (F := Ideal) v23 = up3 .f32 (rows g)) :
    k0_pay16 (F := Ideal) v20 v23 = up3 .f32 (fun n => .of fun i j => decay (g n) i j) := by
  unfold k0_pay16
  rw [h20, h23]
  funext j
  idx_vars j
  pointwise [up3_apply]
  simp only [WordCmp.cmpi_sge_ofNat (w := 32) (a := j1.val) (b := j2.val) (by omega) (by omega), WordCmp.select_ofBool, decide_eq_true_eq,
    cols, rows, Matrix.of_apply, decay, Fin.le_def]
  split_ifs with hij
  · rw [← EReal.coe_sub]
    rfl
  · simp

/-- The write strengths spread along the keys' axis. -/
theorem strength_up (v26 : Vec Ideal S1x8x64x1 .f32) (h26 : k0_pay14 (F := Ideal) v26 = up3 .f32 (cols β)) :
    k0_pay17 (F := Ideal) v26 = up3 .f32 (fun n => .of fun i _ => β n i) := by
  unfold k0_pay17
  rw [h26]
  funext j
  idx_vars j
  pointwise [up3_apply]
  rfl

/-- The negated triangular matrices of a group. -/
theorem lowA_up : k0_pay20 (F := Ideal) (up3 .f32 K) k0_pay15 (up3 .f32 (fun n => .of fun i j => decay (g n) i j))
    (up3 .f32 (fun n => .of fun i _ => β n i)) = up3 .f32 (fun n => - lowA (K n) (g n) (β n)) := by
  unfold k0_pay20 k0_pay18 k0_pay15
  simp only [up3_mulf, up3_truncf, up3_matmul_nt]
  funext j
  idx_vars j
  pointwise [up3_apply]
  simp only [WordCmp.cmpi_sgt_ofNat (w := 32) (a := j1.val) (b := j2.val) (by omega) (by omega), WordCmp.select_ofBool, decide_eq_true_eq,
    lowA, Matrix.of_apply, Matrix.neg_apply, Fin.lt_def, Matrix.mul_apply, Matrix.transpose_apply]
  split_ifs with hij
  · rw [zero_sub, ← EReal.coe_neg]
  · simp

/-- The inverses of a group, as the kernel's doublings give them. -/
theorem inv_up (N : Fin 8 → Matrix (Fin 64) (Fin 64) ℝ) :
    (let P := (fun n => - N n) * fun n => - N n
     let M := 1 + (fun n => - N n) + (1 + fun n => - N n) * P
     let M' := M + M * (P * P)
     let P' := P * P * (P * P)
     M' + M' * P' + (M' + M' * P') * (P' * P') + (M' + M' * P' + (M' + M' * P') * (P' * P')) * (P' * P' * (P' * P')))
      = fun n => inv (N n) := by
  funext n
  rfl

/-- The kernel's scaled queries. -/
theorem scaleQ_up (v9 : Vec Ideal S512x128 .f32) (h : shapeCast S8x64x128 v9 shapeCasts_S512x128_S8x64x128 = up3 .f32 Q) :
    k0_pay9 (F := Ideal) v9 = up3 .f32 (fun n => .of fun i d => Q n i d * scale) := by
  unfold k0_pay9
  rw [h]
  funext j
  idx_vars j
  pointwise [up3_apply]
  rw [scale_lit, ← EReal.coe_mul, Matrix.of_apply]

end Cert.DN
-- ==== Proof.Pays.lean ====
module

public import proofs.«01_k».proof.Proof.Local

@[expose] public section

set_option maxRecDepth 16384

noncomputable section

/-! What the kernel stores for a group of eight chunks, and the second loop's step on one chunk, over
the reals. -/

namespace Cert.DN

open Idealize.ShloMosaic Cert.KernelIdeal Cert.KernelIdeal.Gen

variable (Q K : Fin 8 → Matrix (Fin 64) (Fin 128) ℝ) (g β : Fin 8 → Fin 64 → ℝ)

/-- The stored keys that the state meets. -/
theorem keyW_up (M P : Fin 8 → Matrix (Fin 64) (Fin 64) ℝ) (h : M + M * P = fun n => inv (lowA (K n) (g n) (β n))) :
    k0_pay52 (F := Ideal) (k0_pay44 (up3 .f32 (cols g)) (k0_pay18 (up3 .f32 K) (up3 .f32 (fun n => .of fun i _ => β n i)))
      (up3 .f32 M) (up3 .bf16 M) (up3 .bf16 P) (up3 .bf16 0) (up3 .f32 0)) = up3 .f32 (fun n => keyW (K n) (g n) (β n)) := by
  have hb : mulf (up3 .f32 (fun n => .of fun i d => K n i d * β n i)) (broadcastTo S8x64x128 (exp (up3 .f32 (cols g))) broadcasts_S8x64x1_S8x64x128)
      = up3 .f32 (fun n => .of fun i d => K n i d * β n i * Real.exp (g n i)) := by
    funext j
    idx_vars j
    pointwise [up3_apply]
    rw [cols, Ideal.exp_coe, ← EReal.coe_mul]
    rfl
  have hs : ∀ v : FVec Ideal S8x64x128 .f32, k0_pay52 (F := Ideal) v = v := fun v => by
    funext j
    idx_vars j
    pointwise [k0_pay52]
  rw [hs]
  simp only [k0_pay44, k0_pay41, k0_pay18, sum_pay40, up3_mulf, Matrix.of_apply, hb, h, up3_truncf, up3_extf, up3_subf, sub_self, up3_matmul_wide, up3_addf]
  refine congrArg (up3 .f32) ?_
  funext n
  simp only [Pi.add_apply, Pi.zero_apply, Matrix.mul_zero, Matrix.zero_mul, add_zero]
  rfl

/-- The stored transposed attention. -/
theorem attT_up : k0_pay53 (F := Ideal) (up3 .f32 (fun n => .of fun i d => Q n i d * scale)) (up3 .f32 K) k0_pay48
    (k0_pay49 (up3 .f32 (rows g))) (k0_pay50 (up3 .f32 (cols g))) = up3 .f32 (fun n => attT (Q n) (K n) (g n)) := by
  unfold k0_pay53 k0_pay48 k0_pay49 k0_pay50
  simp only [up3_truncf, up3_matmul_nt]
  funext j
  idx_vars j
  pointwise [up3_apply]
  simp only [WordCmp.cmpi_sge_ofNat (w := 32) (a := j2.val) (b := j1.val) (by omega) (by omega), WordCmp.select_ofBool, decide_eq_true_eq,
    attT, decay, cols, rows, Matrix.of_apply, Fin.le_def, Matrix.mul_apply, Matrix.transpose_apply]
  split_ifs with hij
  · rw [← EReal.coe_sub, Ideal.exp_coe, ← EReal.coe_mul]
  · simp

/-- The stored decayed queries. -/
theorem decQ_up : k0_pay54 (F := Ideal) (k0_pay45 (up3 .f32 (fun n => .of fun i d => Q n i d * scale)) (up3 .f32 (cols g))) =
    up3 .f32 (fun n => decQ (Q n) (g n)) := by
  funext j
  idx_vars j
  pointwise [k0_pay54, k0_pay45, k0_pay41, up3_apply]
  rw [cols, Ideal.exp_coe, ← EReal.coe_mul]
  rfl

/-- The stored decayed keys. -/
theorem tailK_up : k0_pay55 (F := Ideal) (k0_pay46 (up3 .f32 K) (up3 .f32 (cols g))) =
    up3 .f32 (fun n => tailK (K n) (g n)) := by
  funext j
  idx_vars j
  pointwise [k0_pay55, k0_pay46, k0_pay42, up3_apply]
  rw [cols, ← EReal.coe_sub, Ideal.exp_coe, ← EReal.coe_mul]
  rfl

/-- The stored decays of whole chunks. -/
theorem gain_up : k0_pay1 (F := Ideal) (k0_pay47 (up3 .f32 (cols g))) =
    up3 .f32 (fun n => .of fun _ _ => Real.exp (g n 63)) := by
  funext j
  idx_vars j
  pointwise [k0_pay1, k0_pay47, k0_pay42, up3_apply]
  rw [cols, Ideal.exp_coe]
  rfl

/-- A stack of one matrix, read as the matrix. -/
theorem one_64x128 (A : Matrix (Fin 64) (Fin 128) ℝ) :
    shapeCast S64x128 (up3 .f32 (fun _ : Fin 1 => A)) shapeCasts_S1x64x128_S64x128 = up2 .f32 A := by
  funext j
  idx_vars j
  pointwise [up3_apply, up2_apply]

/-- A stack of one square matrix, read as the matrix. -/
theorem one_64x64 (A : Matrix (Fin 64) (Fin 64) ℝ) :
    shapeCast S64x64 (up3 .f32 (fun _ : Fin 1 => A)) shapeCasts_S1x64x64_S64x64 = up2 .f32 A := by
  funext j
  idx_vars j
  pointwise [up3_apply, up2_apply]

/-- The second loop's cotangent of one chunk's new values. -/
def dNew (S : Matrix (Fin 128) (Fin 128) ℝ) (D KT : Matrix (Fin 64) (Fin 128) ℝ) (At : Matrix (Fin 64) (Fin 64) ℝ) :
    Matrix (Fin 64) (Fin 128) ℝ := At * D + KT * S

/-- The second loop's step of the state's cotangent. -/
def dState (S : Matrix (Fin 128) (Fin 128) ℝ) (D QD W N : Matrix (Fin 64) (Fin 128) ℝ) (e : ℝ) :
    Matrix (Fin 128) (Fin 128) ℝ := (.of fun a b => S a b * e) + QD.transpose * D - W.transpose * N

/-- The kernel's cotangent of the new values. -/
theorem dNew_up (S : Matrix (Fin 128) (Fin 128) ℝ) (D KT : Matrix (Fin 64) (Fin 128) ℝ) (At : Matrix (Fin 64) (Fin 64) ℝ) :
    k0_pay59 (F := Ideal) (up2 .f32 S) (up2 .f32 D) (up3 .f32 (fun _ : Fin 1 => KT)) (up3 .f32 (fun _ : Fin 1 => At)) =
      up2 .f32 (dNew S D KT At) := by
  simp only [k0_pay59, one_64x128, one_64x64, up2_truncf, up2_matmul_wide, up2_matmul_state, up2_addf]
  rfl

/-- What the kernel stores of it. -/
theorem dNew_stored (S : Matrix (Fin 128) (Fin 128) ℝ) (D KT : Matrix (Fin 64) (Fin 128) ℝ) (At : Matrix (Fin 64) (Fin 64) ℝ) :
    k0_pay60 (F := Ideal) (up2 .f32 S) (up2 .f32 D) (up3 .f32 (fun _ : Fin 1 => KT)) (up3 .f32 (fun _ : Fin 1 => At)) =
      up3 .f32 (fun _ : Fin 1 => dNew S D KT At) := by
  simp only [k0_pay60, dNew_up]
  funext j
  idx_vars j
  pointwise [up3_apply, up2_apply]

/-- The kernel's step of the state's cotangent. -/
theorem dState_up (S : Matrix (Fin 128) (Fin 128) ℝ) (D QD W N : Matrix (Fin 64) (Fin 128) ℝ) (e : ℝ) :
    k0_pay3 (F := Ideal) (up2 .f32 S) (up2 .f32 D) (up2 .f32 W) (up2 .f32 N) (up3 .f32 (fun _ : Fin 1 => .of fun _ _ => e))
      (up3 .f32 (fun _ : Fin 1 => QD)) = up2 .f32 (dState S D QD W N e) := by
  have he : mulf (up2 .f32 S) (broadcastTo S128x128 (shapeCast S1x1 (up3 .f32 (fun _ : Fin 1 => .of fun (_ : Fin 1) (_ : Fin 1) => e)) shapeCasts_S1x1x1_S1x1) broadcasts_S1x1_S128x128)
      = up2 .f32 (.of fun a b => S a b * e) := by
    funext j
    idx_vars j
    pointwise [up3_apply, up2_apply]
    rw [← EReal.coe_mul]
    rfl
  simp only [k0_pay3, he, one_64x128, up2_truncf, up2_matmul_outer, up2_addf, up2_subf]
  rfl

/-- The second loop starts from the zero cotangent. -/
theorem dState_start : k0_pay2 (F := Ideal) = up2 .f32 0 := by
  funext j
  idx_vars j
  pointwise [k0_pay2, up2_apply]
  simp

/-- The third loop's cotangent of the weighted values. -/
theorem dVb_up (T : Fin 8 → Matrix (Fin 64) (Fin 64) ℝ) (N : Fin 8 → Matrix (Fin 64) (Fin 128) ℝ)
    (M P : Fin 8 → Matrix (Fin 64) (Fin 64) ℝ) (h : M + M * P = T) :
    k0_pay112 (F := Ideal) (k0_pay107 (up3 .f32 M) (up3 .bf16 M) (up3 .bf16 P) (up3 .bf16 0) (up3 .f32 0)) (k0_pay108 (up3 .f32 N))
      (k0_pay109 (up3 .f32 M) (up3 .bf16 M) (up3 .bf16 P) (up3 .bf16 0) (up3 .f32 0)) (k0_pay110 (up3 .f32 N))
      (k0_pay111 (up3 .f32 M) (up3 .bf16 M) (up3 .bf16 P) (up3 .bf16 0) (up3 .f32 0) (up3 .f32 N)) =
      up3 .f32 (fun n => (T n).transpose * N n) := by
  have h98 : k0_pay98 (F := Ideal) (up3 .f32 M) (up3 .bf16 M) (up3 .bf16 P) (up3 .bf16 0) (up3 .f32 0) = up3 .f32 T :=
    (sum_pay40 P M).trans (congrArg _ h)
  simp only [k0_pay112, k0_pay111, k0_pay110, k0_pay109, k0_pay108, k0_pay107, h98, up3_truncf, up3_extf, up3_subf, sub_self, up3_matmul_tr, up3_addf]
  refine congrArg (up3 .f32) ?_
  funext n
  simp only [Pi.add_apply, Pi.zero_apply, Matrix.mul_zero, Matrix.zero_mul, add_zero, Matrix.transpose_zero]

/-- The stored gradient of the values: row `64 n + i` of the group. -/
theorem dV_up (N : Fin 8 → Matrix (Fin 64) (Fin 128) ℝ) (n : Fin 8) (i : Fin 64) (d : Fin 128) :
    k0_pay8 (F := Ideal) (up3 .f32 (cols β)) (up3 .f32 N) (ix2 ⟨n.val * 64 + i.val, by omega⟩ d) =
      ((N n i d * β n i : ℝ) : EReal) := by
  pointwise [k0_pay8, up3_apply]
  rw [cols, ← EReal.coe_mul]
  rfl

end Cert.DN
-- ==== Proof.Loads.lean ====
module

public import proofs.«01_k».proof.Proof.Pays
public import Idealize.ShloMosaic.Lib.Pipeline.ValueKit

@[expose] public section

set_option maxRecDepth 16384

noncomputable section

/-! The kernel's loads from arrays of reals: a group of eight chunks out of a head's 32. -/

namespace Cert.DN

open Idealize.ShloMosaic Cert.KernelIdeal Cert.KernelIdeal.Gen

/-- A head's array `[2048, 128]`, chunk `n` being the rows `64 n` to `64 n + 63`. -/
def flat (A : Fin 32 → Matrix (Fin 64) (Fin 128) ℝ) : Vec Ideal S2048x128 .f32 :=
  fun j => ((A ⟨(j 0).val / 64, by have h : (j 0).val < 2048 := (j 0).isLt; omega⟩ ⟨(j 0).val % 64, by omega⟩ (j 1) : ℝ) : EReal)

/-- A head's array `[1, 32, 64, 1]`: one number per chunk and row. -/
def flatCol (g : Fin 32 → Fin 64 → ℝ) : Vec Ideal S1x32x64x1 .f32 := fun j => ((g (j 1) (j 2) : ℝ) : EReal)

/-- A head's array `[1, 32, 1, 64]`: one number per chunk and column. -/
def flatRow (g : Fin 32 → Fin 64 → ℝ) : Vec Ideal S1x32x1x64 .f32 := fun j => ((g (j 1) (j 3) : ℝ) : EReal)

/-- Chunk `n` of group `k`. -/
def grp (k : ℕ) (hk : k < 4) (n : Fin 8) : Fin 32 := ⟨8 * k + n.val, by omega⟩

/-- Rows `o` to `o + 511` of a head's array. -/
theorem rows_at (m : Memref sig .tc .vmem S2048x128 .f32) (hm : m.IsWhole) (x : Vec Ideal S2048x128 .f32) (off : Fin S2048x128.rank → ℕ)
    (inb : ∀ a, off a + S512x128.size a ≤ S2048x128.size a) (o : ℕ) (ho : o + 512 ≤ 2048) (hoff : off = ![o, 0])
    (i : Fin 512) (d : Fin 128) :
    View.readAt (Elt Ideal) m.view (Rect.unit (s := S2048x128) off S512x128.size inb).toLoadRect (hm.unread x) (ix2 i d) = x (ix2 ⟨o + i.val, by have := i.isLt; omega⟩ d) := by
  rw [View.readAt_eq_ld, Memref.IsWhole.read_unread]
  refine View.ld_unit_apply_of _ _ _ _ _ _ ?_
  subst hoff
  exact Fin.forall_fin_two.mpr ⟨rfl, (Nat.zero_add _).symm⟩

/-- Entry `(i, d)` of chunk `n` in a head's array. -/
theorem flat_apply (A : Fin 32 → Matrix (Fin 64) (Fin 128) ℝ) (r : Fin 2048) (n : Fin 32) (i : Fin 64) (d : Fin 128)
    (h : r.val = 64 * n.val + i.val) : flat A (ix2 r d) = ((A n i d : ℝ) : EReal) := by
  have e1 : (⟨r.val / 64, by omega⟩ : Fin 32) = n := Fin.ext (by show r.val / 64 = n.val; omega)
  have e2 : (⟨r.val % 64, by omega⟩ : Fin 64) = i := Fin.ext (by show r.val % 64 = i.val; omega)
  show ((A ⟨r.val / 64, _⟩ ⟨r.val % 64, _⟩ d : ℝ) : EReal) = _
  rw [e1, e2]

/-- Eight chunks of 64 rows, out of 512 rows. -/
theorem chunk_rows (y : Vec Ideal S512x128 .f32) (n : Fin 8) (i : Fin 64) (d : Fin 128) :
    k0_pay10 (F := Ideal) y (ix3 n i d) = y (ix2 ⟨n.val * 64 + i.val, by omega⟩ d) := by
  pointwise [k0_pay10]

/-- The rows of a group, as eight chunks. -/
theorem load_rows (A : Fin 32 → Matrix (Fin 64) (Fin 128) ℝ) (m : Memref sig .tc .vmem S2048x128 .f32) (hm : m.IsWhole) (off : Fin S2048x128.rank → ℕ)
    (inb : ∀ a, off a + S512x128.size a ≤ S2048x128.size a) (k : ℕ) (hk : k < 4) (hoff : off = ![512 * k, 0]) :
    k0_pay10 (F := Ideal) (View.readAt (Elt Ideal) m.view (Rect.unit (s := S2048x128) off S512x128.size inb).toLoadRect
      (hm.unread (flat A))) = up3 .f32 (fun n => A (grp k hk n)) := by
  funext j
  idx_vars j
  refine (chunk_rows _ j0 j1 j2).trans ((rows_at m hm (flat A) off inb (512 * k) (by omega) hoff ⟨j0.val * 64 + j1.val, by omega⟩ j2).trans ?_)
  exact flat_apply A _ (grp k hk j0) j1 j2 (by show 512 * k + (j0.val * 64 + j1.val) = 64 * (8 * k + j0.val) + j1.val; omega)

/-- One chunk's rows. -/
theorem load_chunk (A : Fin 32 → Matrix (Fin 64) (Fin 128) ℝ) (m : Memref sig .tc .vmem S2048x128 .f32) (hm : m.IsWhole) (off : Fin S2048x128.rank → ℕ)
    (inb : ∀ a, off a + S64x128.size a ≤ S2048x128.size a) (n : Fin 32) (hoff : off = ![64 * n.val, 0]) :
    View.readAt (Elt Ideal) m.view (Rect.unit (s := S2048x128) off S64x128.size inb).toLoadRect (hm.unread (flat A)) = up2 .f32 (A n) := by
  rw [View.readAt_eq_ld, Memref.IsWhole.read_unread]
  funext j
  refine (View.ld_unit_apply_of _ _ _ _ _ (ix2 (⟨64 * n.val + (j 0).val, by have : (j 0).val < 64 := (j 0).isLt; omega⟩ : Fin 2048) (j 1)) ?_).trans
    (flat_apply A _ n (j 0) (j 1) rfl)
  subst hoff
  exact Fin.forall_fin_two.mpr ⟨rfl, (Nat.zero_add _).symm⟩

/-- A group's numbers, as columns. -/
theorem load_cols (g : Fin 32 → Fin 64 → ℝ) (m : Memref sig .tc .vmem S1x32x64x1 .f32) (hm : m.IsWhole) (off : Fin S1x32x64x1.rank → ℕ)
    (inb : ∀ a, off a + S1x8x64x1.size a ≤ S1x32x64x1.size a) (k : ℕ) (hk : k < 4) (hoff : off = ![0, 8 * k, 0, 0]) :
    k0_pay12 (F := Ideal) (View.readAt (Elt Ideal) m.view (Rect.unit (s := S1x32x64x1) off S1x8x64x1.size inb).toLoadRect
      (hm.unread (flatCol g))) = up3 .f32 (cols (fun n => g (grp k hk n))) := by
  have e : ∀ y : Vec Ideal S1x8x64x1 .f32, ∀ (n : Fin 8) (i : Fin 64) (d : Fin 1), k0_pay12 (F := Ideal) y (ix3 n i d) = y (ix4 0 n i d) := by
    intro y n i d
    rw [Subsingleton.elim d 0]
    pointwise [k0_pay12]
  rw [View.readAt_eq_ld, Memref.IsWhole.read_unread]
  funext j
  idx_vars j
  refine (e _ j0 j1 j2).trans ((View.ld_unit_apply_of _ _ _ _ _ (ix4 0 (grp k hk j0) j1 j2) ?_).trans rfl)
  subst hoff
  intro a
  fin_cases a
  · rfl
  · rfl
  · exact (Nat.zero_add _).symm
  · exact (Nat.zero_add _).symm

/-- A group's numbers, as rows. -/
theorem load_row (g : Fin 32 → Fin 64 → ℝ) (m : Memref sig .tc .vmem S1x32x1x64 .f32) (hm : m.IsWhole) (off : Fin S1x32x1x64.rank → ℕ)
    (inb : ∀ a, off a + S1x8x1x64.size a ≤ S1x32x1x64.size a) (k : ℕ) (hk : k < 4) (hoff : off = ![0, 8 * k, 0, 0]) :
    k0_pay13 (F := Ideal) (View.readAt (Elt Ideal) m.view (Rect.unit (s := S1x32x1x64) off S1x8x1x64.size inb).toLoadRect
      (hm.unread (flatRow g))) = up3 .f32 (rows (fun n => g (grp k hk n))) := by
  have e : ∀ y : Vec Ideal S1x8x1x64 .f32, ∀ (n : Fin 8) (i : Fin 1) (d : Fin 64), k0_pay13 (F := Ideal) y (ix3 n i d) = y (ix4 0 n i d) := by
    intro y n i d
    rw [Subsingleton.elim i 0]
    pointwise [k0_pay13]
  rw [View.readAt_eq_ld, Memref.IsWhole.read_unread]
  funext j
  idx_vars j
  refine (e _ j0 j1 j2).trans ((View.ld_unit_apply_of _ _ _ _ _ (ix4 0 (grp k hk j0) j1 j2) ?_).trans rfl)
  subst hoff
  intro a
  fin_cases a
  · rfl
  · rfl
  · exact (Nat.zero_add _).symm
  · exact (Nat.zero_add _).symm

/-- `G` consecutive matrices of a stack of 32. -/
theorem load_stack {G b c : ℕ} (A : Fin 32 → Matrix (Fin b) (Fin c) ℝ) (m : Memref sig .tc .vmem ⟨3, ![32, b, c]⟩ .f32) (hm : m.IsWhole)
    (off : Fin 3 → ℕ) (inb : ∀ a : Fin 3, off a + (![G, b, c] : Fin 3 → ℕ) a ≤ (![32, b, c] : Fin 3 → ℕ) a) (o : ℕ) (ho : o + G ≤ 32) (hoff : off = ![o, 0, 0]) :
    View.readAt (Elt Ideal) m.view (Rect.unit (s := (⟨3, ![32, b, c]⟩ : Shape)) off ![G, b, c] inb).toLoadRect (hm.unread (up3 .f32 A)) =
      up3 .f32 (fun n : Fin G => A ⟨o + n.val, by omega⟩) := by
  rw [View.readAt_eq_ld, Memref.IsWhole.read_unread]
  funext j
  refine (View.ld_unit_apply_of _ _ _ _ _ (ix3 (⟨o + (j 0).val, by have : (j 0).val < G := (j 0).isLt; omega⟩ : Fin 32) (j 1) (j 2)) ?_).trans rfl
  subst hoff
  intro a
  fin_cases a
  · rfl
  · exact (Nat.zero_add _).symm
  · exact (Nat.zero_add _).symm

end Cert.DN
-- ==== Proof.Trip1.lean ====
module

public import proofs.«01_k».proof.Proof.Loads
public import proofs.«01_k».proof.Proof.Tri
public import proofs.«01_k».proof.Proof.Gen.KernelIdeal.Loops

@[expose] public section

set_option maxRecDepth 16384

noncomputable section

/-! The values that one trip of the first loop computes from arrays of reals: the inverse of the
triangular matrices of its eight chunks, and what it stores. -/

namespace Cert.DN.Loop1

open Idealize.ShloMosaic Cert.KernelIdeal Cert.KernelIdeal.Gen

/-- The loop makes four trips. -/
theorem trips : k0_t1_loop.trips = 4 := by decide

/-- A trip's number is below four. -/
theorem lt4 (k : Fin k0_t1_loop.trips) : k.val < 4 := trips ▸ k.isLt

/-- Where a trip's rows start. -/
theorem off_rows : ∀ k : Fin k0_t1_loop.trips, k0_off1 k = ![512 * k.val, 0] := by decide

/-- Where a trip's columns start. -/
theorem off_cols : ∀ k : Fin k0_t1_loop.trips, k0_off2 k = ![0, 8 * k.val, 0, 0] := by decide

/-- Where a trip's rows of numbers start. -/
theorem off_row : ∀ k : Fin k0_t1_loop.trips, k0_off3 k = ![0, 8 * k.val, 0, 0] := by decide

variable (Q K : Fin 32 → Matrix (Fin 64) (Fin 128) ℝ) (g β : Fin 32 → Fin 64 → ℝ)
variable (m1 : Memref sig .tc .vmem S2048x128 .f32) (h1 : m1.IsWhole)
variable (m2 : Memref sig .tc .vmem S2048x128 .f32) (h2 : m2.IsWhole)
variable (m4 : Memref sig .tc .vmem S1x32x64x1 .f32) (h4 : m4.IsWhole)
variable (m5 : Memref sig .tc .vmem S1x32x1x64 .f32) (h5 : m5.IsWhole)
variable (m6 : Memref sig .tc .vmem S1x32x64x1 .f32) (h6 : m6.IsWhole)
variable (k : Fin k0_t1_loop.trips)

/-- The triangular matrices of a trip. -/
abbrev tri : Fin 8 → Matrix (Fin 64) (Fin 64) ℝ := fun n => lowA (K (grp k.val (lt4 k) n)) (g (grp k.val (lt4 k) n)) (β (grp k.val (lt4 k) n))

/-- The square of their negations. -/
abbrev pow2 : Fin 8 → Matrix (Fin 64) (Fin 64) ℝ := (fun n => - tri K g β k n) * fun n => - tri K g β k n

/-- The sum of the first four powers. -/
abbrev sum4 : Fin 8 → Matrix (Fin 64) (Fin 64) ℝ := 1 + (fun n => - tri K g β k n) + (1 + fun n => - tri K g β k n) * pow2 K g β k

/-- The sum of the first eight powers. -/
abbrev sum8 : Fin 8 → Matrix (Fin 64) (Fin 64) ℝ := sum4 K g β k + sum4 K g β k * (pow2 K g β k * pow2 K g β k)

/-- The eighth power. -/
abbrev pow8 : Fin 8 → Matrix (Fin 64) (Fin 64) ℝ := pow2 K g β k * pow2 K g β k * (pow2 K g β k * pow2 K g β k)

/-- The sum of the first thirty-two powers. -/
abbrev sum32 : Fin 8 → Matrix (Fin 64) (Fin 64) ℝ := sum8 K g β k + sum8 K g β k * pow8 K g β k + (sum8 K g β k + sum8 K g β k * pow8 K g β k) * (pow8 K g β k * pow8 K g β k)

/-- The thirty-second power. -/
abbrev pow32 : Fin 8 → Matrix (Fin 64) (Fin 64) ℝ := pow8 K g β k * pow8 K g β k * (pow8 K g β k * pow8 K g β k)

/-- The last doubling gives the inverse. -/
theorem inverse : sum32 K g β k + sum32 K g β k * pow32 K g β k = fun n => inv (tri K g β k n) := inv_up (tri K g β k)

/-- The keys. -/
theorem keys : trip_k0_t1.sl.r_1 (F := Ideal) m2 (h2.unread (flat K)) k = up3 .f32 (fun n => K (grp k.val (lt4 k) n)) := load_rows K m2 h2 _ _ k.val (lt4 k) (off_rows k)

/-- The scaled queries. -/
theorem queries : trip_k0_t1.sl.r (F := Ideal) m1 (h1.unread (flat Q)) k = up3 .f32 (fun n => .of fun i d => Q (grp k.val (lt4 k) n) i d * scale) := scaleQ_up (fun n => Q (grp k.val (lt4 k) n)) _ (load_rows Q m1 h1 _ _ k.val (lt4 k) (off_rows k))

/-- The gates as columns. -/
theorem gates : trip_k0_t1.sl.r_3 (F := Ideal) m4 (h4.unread (flatCol g)) k = up3 .f32 (cols fun n => g (grp k.val (lt4 k) n)) := load_cols g m4 h4 _ _ k.val (lt4 k) (off_cols k)

/-- The gates as rows. -/
theorem gates_row : trip_k0_t1.sl.r_4 (F := Ideal) m5 (h5.unread (flatRow g)) k = up3 .f32 (rows fun n => g (grp k.val (lt4 k) n)) := load_row g m5 h5 _ _ k.val (lt4 k) (off_row k)

/-- The decays. -/
theorem decays : trip_k0_t1.sl.r_6 (F := Ideal) m4 m5 (h4.unread (flatCol g)) (h5.unread (flatRow g)) k = up3 .f32 (fun n => .of fun i j => decay (g (grp k.val (lt4 k) n)) i j) := decay_up (fun n => g (grp k.val (lt4 k) n)) _ _
  (load_cols g m4 h4 _ _ k.val (lt4 k) (off_cols k)) (load_row g m5 h5 _ _ k.val (lt4 k) (off_row k))

/-- The write strengths. -/
theorem strengths : trip_k0_t1.sl.r_7 (F := Ideal) m6 (h6.unread (flatCol β)) k = up3 .f32 (fun n => .of fun i _ => β (grp k.val (lt4 k) n) i) := strength_up (fun n => β (grp k.val (lt4 k) n)) _ (load_cols β m6 h6 _ _ k.val (lt4 k) (off_cols k))

/-- The keys times the write strengths. -/
theorem strong_keys : trip_k0_t1.sl.r_8 (F := Ideal) m2 m6 (h2.unread (flat K)) (h6.unread (flatCol β)) k = k0_pay18 (up3 .f32 (fun n => K (grp k.val (lt4 k) n))) (up3 .f32 (fun n => .of fun i _ => β (grp k.val (lt4 k) n) i)) := congrArg₂ k0_pay18 (keys K m2 h2 k) (strengths β m6 h6 k)

/-- The negated triangular matrices. -/
theorem negated : k0_pay20 (F := Ideal) (trip_k0_t1.sl.r_1 (F := Ideal) m2 (h2.unread (flat K)) k) k0_pay15 (trip_k0_t1.sl.r_6 (F := Ideal) m4 m5 (h4.unread (flatCol g)) (h5.unread (flatRow g)) k) (trip_k0_t1.sl.r_7 (F := Ideal) m6 (h6.unread (flatCol β)) k) = up3 .f32 (fun n => - tri K g β k n) := by
  rw [keys K m2 h2 k, decays g m4 h4 m5 h5 k, strengths β m6 h6 k]
  exact lowA_up (fun n => K (grp k.val (lt4 k) n)) (fun n => g (grp k.val (lt4 k) n)) (fun n => β (grp k.val (lt4 k) n))

/-- Their squares. -/
theorem second : trip_k0_t1.sl.r_10 (F := Ideal) m2 m4 m5 m6 (h2.unread (flat K)) (h4.unread (flatCol g)) (h5.unread (flatRow g)) (h6.unread (flatCol β)) k = up3 .f32 (pow2 K g β k) := sq_first _ _ _ _ _ (negated K g β m2 h2 m4 h4 m5 h5 m6 h6 k)

/-- Their squares. -/
theorem second_bf : trip_k0_t1.sl.r_12 (F := Ideal) m2 m4 m5 m6 (h2.unread (flat K)) (h4.unread (flatCol g)) (h5.unread (flatRow g)) (h6.unread (flatCol β)) k = up3 .bf16 (pow2 K g β k) := congrArg (fun x => truncf .bf16 x bitsLt_bf16_f32) (second K g β m2 h2 m4 h4 m5 h5 m6 h6 k)

/-- Their squares. -/
theorem second_bf2 : trip_k0_t1.sl.r_13 (F := Ideal) m2 m4 m5 m6 (h2.unread (flat K)) (h4.unread (flatCol g)) (h5.unread (flatRow g)) (h6.unread (flatCol β)) k = up3 .bf16 (pow2 K g β k) := congrArg (fun x => truncf .bf16 x bitsLt_bf16_f32) (second K g β m2 h2 m4 h4 m5 h5 m6 h6 k)

/-- The first sums. -/
theorem first_sum : trip_k0_t1.sl.r_11 (F := Ideal) m2 m4 m5 m6 (h2.unread (flat K)) (h4.unread (flatCol g)) (h5.unread (flatRow g)) (h6.unread (flatCol β)) k = up3 .f32 (sum4 K g β k) := sum_first _ _ _ _ _ (negated K g β m2 h2 m4 h4 m5 h5 m6 h6 k)

/-- The second sums. -/
theorem second_sum : trip_k0_t1.sl.r_14 (F := Ideal) m2 m4 m5 m6 (h2.unread (flat K)) (h4.unread (flatCol g)) (h5.unread (flatRow g)) (h6.unread (flatCol β)) k = up3 .f32 (sum8 K g β k) := by
  unfold trip_k0_t1.sl.r_14
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  exact sum_pay26 (pow2 K g β k) (sum4 K g β k)

/-- The eighth powers. -/
theorem eighth : trip_k0_t1.sl.r_15 (F := Ideal) m2 m4 m5 m6 (h2.unread (flat K)) (h4.unread (flatCol g)) (h5.unread (flatRow g)) (h6.unread (flatCol β)) k = up3 .f32 (pow8 K g β k) := by
  unfold trip_k0_t1.sl.r_15
  rw [second K g β m2 h2 m4 h4 m5 h5 m6 h6 k, second_bf K g β m2 h2 m4 h4 m5 h5 m6 h6 k, second_bf2 K g β m2 h2 m4 h4 m5 h5 m6 h6 k]
  exact sq_pay27 (pow2 K g β k)

/-- The eighth powers. -/
theorem eighth_bf : trip_k0_t1.sl.r_16 (F := Ideal) m2 m4 m5 m6 (h2.unread (flat K)) (h4.unread (flatCol g)) (h5.unread (flatRow g)) (h6.unread (flatCol β)) k = up3 .bf16 (pow8 K g β k) := by
  unfold trip_k0_t1.sl.r_16
  rw [second K g β m2 h2 m4 h4 m5 h5 m6 h6 k, second_bf K g β m2 h2 m4 h4 m5 h5 m6 h6 k, second_bf2 K g β m2 h2 m4 h4 m5 h5 m6 h6 k]
  exact congrArg (fun x => truncf .bf16 x bitsLt_bf16_f32) (sq_pay27 (pow2 K g β k))

/-- What rounding leaves of the second sums. -/
theorem second_rest : trip_k0_t1.sl.r_17 (F := Ideal) m2 m4 m5 m6 (h2.unread (flat K)) (h4.unread (flatCol g)) (h5.unread (flatRow g)) (h6.unread (flatCol β)) k = up3 .bf16 0 := by
  unfold trip_k0_t1.sl.r_17
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  simp only [k0_pay30, k0_pay28, sum_pay26, up3_truncf, up3_extf, up3_subf, sub_self]

/-- The second sums times the eighth powers. -/
theorem second_product : trip_k0_t1.sl.r_18 (F := Ideal) m2 m4 m5 m6 (h2.unread (flat K)) (h4.unread (flatCol g)) (h5.unread (flatRow g)) (h6.unread (flatCol β)) k = up3 .f32 (sum8 K g β k * pow8 K g β k) := by
  unfold trip_k0_t1.sl.r_18
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  simp only [k0_pay31, k0_pay28, k0_pay29, sum_pay26, sq_pay27, up3_truncf, up3_extf, up3_subf, sub_self, up3_matmul_sq]

/-- What rounding leaves of that product. -/
theorem second_product_rest : trip_k0_t1.sl.r_19 (F := Ideal) m2 m4 m5 m6 (h2.unread (flat K)) (h4.unread (flatCol g)) (h5.unread (flatRow g)) (h6.unread (flatCol β)) k = up3 .f32 0 := by
  unfold trip_k0_t1.sl.r_19
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  simp only [k0_pay32, k0_pay28, k0_pay29, sum_pay26, sq_pay27, up3_truncf, up3_extf, up3_subf, sub_self, up3_matmul_sq, mul_zero]

/-- The third sums. -/
theorem third_sum : trip_k0_t1.sl.r_20 (F := Ideal) m2 m4 m5 m6 (h2.unread (flat K)) (h4.unread (flatCol g)) (h5.unread (flatRow g)) (h6.unread (flatCol β)) k = up3 .f32 (sum32 K g β k) := by
  unfold trip_k0_t1.sl.r_20
  rw [second_sum K g β m2 h2 m4 h4 m5 h5 m6 h6 k, eighth K g β m2 h2 m4 h4 m5 h5 m6 h6 k, eighth_bf K g β m2 h2 m4 h4 m5 h5 m6 h6 k, second_rest K g β m2 h2 m4 h4 m5 h5 m6 h6 k, second_product K g β m2 h2 m4 h4 m5 h5 m6 h6 k, second_product_rest K g β m2 h2 m4 h4 m5 h5 m6 h6 k]
  exact sum_pay34 (pow8 K g β k) (sum8 K g β k)

/-- The third sums. -/
theorem third_sum_bf : trip_k0_t1.sl.r_21 (F := Ideal) m2 m4 m5 m6 (h2.unread (flat K)) (h4.unread (flatCol g)) (h5.unread (flatRow g)) (h6.unread (flatCol β)) k = up3 .bf16 (sum32 K g β k) := by
  unfold trip_k0_t1.sl.r_21
  rw [second_sum K g β m2 h2 m4 h4 m5 h5 m6 h6 k, eighth K g β m2 h2 m4 h4 m5 h5 m6 h6 k, eighth_bf K g β m2 h2 m4 h4 m5 h5 m6 h6 k, second_rest K g β m2 h2 m4 h4 m5 h5 m6 h6 k, second_product K g β m2 h2 m4 h4 m5 h5 m6 h6 k, second_product_rest K g β m2 h2 m4 h4 m5 h5 m6 h6 k]
  exact congrArg (fun x => truncf .bf16 x bitsLt_bf16_f32) (sum_pay34 (pow8 K g β k) (sum8 K g β k))

/-- The thirty-second powers. -/
theorem last_power : trip_k0_t1.sl.r_22 (F := Ideal) m2 m4 m5 m6 (h2.unread (flat K)) (h4.unread (flatCol g)) (h5.unread (flatRow g)) (h6.unread (flatCol β)) k = up3 .bf16 (pow32 K g β k) := by
  unfold trip_k0_t1.sl.r_22
  rw [eighth K g β m2 h2 m4 h4 m5 h5 m6 h6 k]
  exact congrArg (fun x => truncf .bf16 x bitsLt_bf16_f32) (sq_pay35 (pow8 K g β k))

/-- What rounding leaves of the third sums. -/
theorem third_rest : trip_k0_t1.sl.r_23 (F := Ideal) m2 m4 m5 m6 (h2.unread (flat K)) (h4.unread (flatCol g)) (h5.unread (flatRow g)) (h6.unread (flatCol β)) k = up3 .bf16 0 := by
  unfold trip_k0_t1.sl.r_23
  rw [second_sum K g β m2 h2 m4 h4 m5 h5 m6 h6 k, eighth K g β m2 h2 m4 h4 m5 h5 m6 h6 k, eighth_bf K g β m2 h2 m4 h4 m5 h5 m6 h6 k, second_rest K g β m2 h2 m4 h4 m5 h5 m6 h6 k, second_product K g β m2 h2 m4 h4 m5 h5 m6 h6 k, second_product_rest K g β m2 h2 m4 h4 m5 h5 m6 h6 k]
  have e := sum_pay34 (pow8 K g β k) (sum8 K g β k)
  unfold k0_pay38 k0_pay36 trip_k0_t1.sl.cst_44
  rw [e]
  simp only [up3_truncf, up3_extf, up3_subf, sub_self]

/-- What rounding leaves of the thirty-second powers. -/
theorem last_rest : trip_k0_t1.sl.r_24 (F := Ideal) m2 m4 m5 m6 (h2.unread (flat K)) (h4.unread (flatCol g)) (h5.unread (flatRow g)) (h6.unread (flatCol β)) k = up3 .f32 0 := by
  unfold trip_k0_t1.sl.r_24
  rw [eighth K g β m2 h2 m4 h4 m5 h5 m6 h6 k]
  have e := sq_pay35 (pow8 K g β k)
  unfold k0_pay39 k0_pay37
  rw [e]
  simp only [up3_truncf, up3_extf, up3_subf, sub_self]

/-- The stored keys that the state meets. -/
theorem stored_w : k0_pay52 (F := Ideal) (trip_k0_t1.sl.r_26 (F := Ideal) m2 m4 m5 m6 (h2.unread (flat K)) (h4.unread (flatCol g)) (h5.unread (flatRow g)) (h6.unread (flatCol β)) k) = up3 .f32 (fun n => keyW (K (grp k.val (lt4 k) n)) (g (grp k.val (lt4 k) n)) (β (grp k.val (lt4 k) n))) := by
  unfold trip_k0_t1.sl.r_26
  rw [gates g m4 h4 k, strong_keys K β m2 h2 m6 h6 k, third_sum K g β m2 h2 m4 h4 m5 h5 m6 h6 k, third_sum_bf K g β m2 h2 m4 h4 m5 h5 m6 h6 k, last_power K g β m2 h2 m4 h4 m5 h5 m6 h6 k, third_rest K g β m2 h2 m4 h4 m5 h5 m6 h6 k, last_rest K g β m2 h2 m4 h4 m5 h5 m6 h6 k]
  exact keyW_up (fun n => K (grp k.val (lt4 k) n)) (fun n => g (grp k.val (lt4 k) n)) (fun n => β (grp k.val (lt4 k) n)) _ _ (inverse K g β k)

/-- The stored transposed attention. -/
theorem stored_att : k0_pay53 (F := Ideal) (trip_k0_t1.sl.r (F := Ideal) m1 (h1.unread (flat Q)) k) (trip_k0_t1.sl.r_1 (F := Ideal) m2 (h2.unread (flat K)) k) k0_pay48 (trip_k0_t1.sl.r_30 (F := Ideal) m5 (h5.unread (flatRow g)) k) (trip_k0_t1.sl.r_31 (F := Ideal) m4 (h4.unread (flatCol g)) k) = up3 .f32 (fun n => attT (Q (grp k.val (lt4 k) n)) (K (grp k.val (lt4 k) n)) (g (grp k.val (lt4 k) n))) := by
  unfold trip_k0_t1.sl.r_30 trip_k0_t1.sl.r_31
  rw [queries Q m1 h1 k, keys K m2 h2 k, gates g m4 h4 k, gates_row g m5 h5 k]
  exact attT_up (fun n => Q (grp k.val (lt4 k) n)) (fun n => K (grp k.val (lt4 k) n)) (fun n => g (grp k.val (lt4 k) n))

/-- The stored decayed queries. -/
theorem stored_qd : k0_pay54 (F := Ideal) (trip_k0_t1.sl.r_27 (F := Ideal) m1 m4 (h1.unread (flat Q)) (h4.unread (flatCol g)) k) = up3 .f32 (fun n => decQ (Q (grp k.val (lt4 k) n)) (g (grp k.val (lt4 k) n))) := by
  unfold trip_k0_t1.sl.r_27
  rw [queries Q m1 h1 k, gates g m4 h4 k]
  exact decQ_up (fun n => Q (grp k.val (lt4 k) n)) (fun n => g (grp k.val (lt4 k) n))

/-- The stored decayed keys. -/
theorem stored_kt : k0_pay55 (F := Ideal) (trip_k0_t1.sl.r_28 (F := Ideal) m2 m4 (h2.unread (flat K)) (h4.unread (flatCol g)) k) = up3 .f32 (fun n => tailK (K (grp k.val (lt4 k) n)) (g (grp k.val (lt4 k) n))) := by
  unfold trip_k0_t1.sl.r_28
  rw [keys K m2 h2 k, gates g m4 h4 k]
  exact tailK_up (fun n => K (grp k.val (lt4 k) n)) (fun n => g (grp k.val (lt4 k) n))

/-- The stored decays of whole chunks. -/
theorem stored_gl : k0_pay1 (F := Ideal) (trip_k0_t1.sl.r_29 (F := Ideal) m4 (h4.unread (flatCol g)) k) = up3 .f32 (fun n => (.of fun _ _ => Real.exp (g (grp k.val (lt4 k) n) 63) : Matrix (Fin 1) (Fin 1) ℝ)) := by
  unfold trip_k0_t1.sl.r_29
  rw [gates g m4 h4 k]
  exact gain_up (fun n => g (grp k.val (lt4 k) n))

end Cert.DN.Loop1
-- ==== Proof.Held1.lean ====
module

public import proofs.«01_k».proof.Proof.Trip1
public import proofs.«01_k».proof.Proof.Stages

@[expose] public section

set_option maxRecDepth 16384

noncomputable section

/-! What the first loop leaves in the buffers that the second loop reads, over the reals: for every
chunk its own arrays. -/

namespace Cert.DN.Loop1

open Idealize.ShloMosaic Cert.KernelIdeal Cert.KernelIdeal.Gen Cert.KernelIdeal.Body

/-- A block of `G` matrices, stored at its place in a stack of 32. -/
theorem stack_piece {G b c : ℕ} (A : Fin 32 → Matrix (Fin b) (Fin c) ℝ) (off : Fin 3 → ℕ)
    (inb : ∀ a : Fin 3, off a + (![G, b, c] : Fin 3 → ℕ) a ≤ (![32, b, c] : Fin 3 → ℕ) a) (o : ℕ) (ho : o + G ≤ 32) (hoff : off = ![o, 0, 0])
    (x : (⟨3, ![G, b, c]⟩ : Shape).Idx) :
    up3 .f32 (fun n : Fin G => A ⟨o + n.val, by omega⟩) x = up3 .f32 A ((Rect.unit (s := (⟨3, ![32, b, c]⟩ : Shape)) off ![G, b, c] inb).emb x) := by
  subst hoff
  have h0 : (Rect.unit (s := (⟨3, ![32, b, c]⟩ : Shape)) ![o, 0, 0] ![G, b, c] inb).emb x 0 = (⟨o + (x 0).val, by have : (x 0).val < G := (x 0).isLt; omega⟩ : Fin 32) :=
    Fin.ext (by show o + 1 * (x 0).val = o + (x 0).val; omega)
  have h1 : (Rect.unit (s := (⟨3, ![32, b, c]⟩ : Shape)) ![o, 0, 0] ![G, b, c] inb).emb x 1 = x 1 :=
    Fin.ext (by show 0 + 1 * (x 1).val = (x 1).val; omega)
  have h2 : (Rect.unit (s := (⟨3, ![32, b, c]⟩ : Shape)) ![o, 0, 0] ![G, b, c] inb).emb x 2 = x 2 :=
    Fin.ext (by show 0 + 1 * (x 2).val = (x 2).val; omega)
  show ((A _ (x 1) (x 2) : ℝ) : EReal) = ((A _ _ _ : ℝ) : EReal)
  rw [h0, h1, h2]

/-- Where a trip stores its wide matrices. -/
theorem off_out4 : ∀ k : Fin k0_t1_loop.trips, k0_off4 k = ![8 * k.val, 0, 0] := by decide

/-- Where a trip stores its square matrices. -/
theorem off_out5 : ∀ k : Fin k0_t1_loop.trips, k0_off5 k = ![8 * k.val, 0, 0] := by decide

/-- Where a trip stores its numbers. -/
theorem off_out6 : ∀ k : Fin k0_t1_loop.trips, k0_off6 k = ![8 * k.val, 0, 0] := by decide

variable (c : Dev nD) (i : grid0.Coords)
variable (arg1 : Memref sig .tc .vmem S2048x128 .f32) (harg1 : arg1.IsWhole)
variable (arg2 : Memref sig .tc .vmem S2048x128 .f32) (harg2 : arg2.IsWhole)
variable (arg3 : Memref sig .tc .vmem S2048x128 .f32) (harg3 : arg3.IsWhole)
variable (arg4 : Memref sig .tc .vmem S1x32x64x1 .f32) (harg4 : arg4.IsWhole)
variable (arg5 : Memref sig .tc .vmem S1x32x1x64 .f32) (harg5 : arg5.IsWhole)
variable (arg6 : Memref sig .tc .vmem S1x32x64x1 .f32) (harg6 : arg6.IsWhole)
variable (arg7 : Memref sig .tc .vmem S1x32x128x128 .f32) (harg7 : arg7.IsWhole)
variable (arg8 : Memref sig .tc .vmem S2048x128 .f32) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S1x32x64x1 .f32) (harg12 : arg12.IsWhole)
variable (arg13 : Memref sig .tc .vmem S1x32x1x64 .f32) (harg13 : arg13.IsWhole)
variable (arg14 : Memref sig .tc .vmem S1x32x64x1 .f32) (harg14 : arg14.IsWhole)
variable (arg15 : Memref sig .tc .vmem S32x64x128 .f32) (harg15 : arg15.IsWhole)
variable (arg16 : Memref sig .tc .vmem S32x64x128 .f32) (harg16 : arg16.IsWhole)
variable (arg17 : Memref sig .tc .vmem S32x64x64 .f32) (harg17 : arg17.IsWhole)
variable (arg18 : Memref sig .tc .vmem S32x64x128 .f32) (harg18 : arg18.IsWhole)
variable (arg19 : Memref sig .tc .vmem S32x64x128 .f32) (harg19 : arg19.IsWhole)
variable (arg20 : Memref sig .tc .vmem S32x1x1 .f32) (harg20 : arg20.IsWhole)
variable (arg21 : Memref sig .tc .vmem S32x64x128 .f32) (harg21 : arg21.IsWhole)
variable (arg22 : Memref sig .tc .vmem S32x64x128 .f32) (harg22 : arg22.IsWhole)
variable (arg23 : Memref sig .tc .vmem S32x64x64 .f32) (harg23 : arg23.IsWhole)
variable (arg24 : Memref sig .tc .vmem S32x64x128 .f32) (harg24 : arg24.IsWhole)
variable (arg25 : Memref sig .tc .vmem S32x64x128 .f32) (harg25 : arg25.IsWhole)
variable (arg26 : Memref sig .tc .vmem S32x1x1 .f32) (harg26 : arg26.IsWhole)
variable (Q K : Fin 32 → Matrix (Fin 64) (Fin 128) ℝ) (g β : Fin 32 → Fin 64 → ℝ) (x2 : Vec Ideal S2048x128 .f32)

/-- What a trip stores of the keys that the state meets. -/
theorem piece16 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k).2.1 =
    [⟨Rect.unit (s := S32x64x128) (k0_off4 k) S8x64x128.size (k0_off4_inb k), k0_pay52 (trip_k0_t1.sl.r_26 (F := Ideal) arg2 arg4 arg5 arg6 (harg2.unread (flat K)) (harg4.unread (flatCol g)) (harg5.unread (flatRow g)) (harg6.unread (flatCol β)) k)⟩] := by
  unfold tripL_k0_t1 trip_k0_t1
  rfl

/-- After the first loop `arg16` holds the keys that the state meets of all chunks. -/
theorem held16_up : held16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) = up3 .f32 (fun n => keyW (K n) (g n) (β n)) := by
  have h : ∀ m, m ≤ k0_t1_loop.trips → ∀ p ∈ (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) m).2.1, ∀ x : p.1.shape.Idx,
      p.2 x = up3 .f32 (fun n => keyW (K n) (g n) (β n)) (p.1.emb x) := by
    intro m
    induction m with
    | zero => intro _ p hp; exact absurd hp List.not_mem_nil
    | succ m ih =>
      intro hm p hp
      let k : Fin k0_t1_loop.trips := ⟨m, hm⟩
      have e : (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) (m + 1)).2.1 = _ :=
        congrArg (fun t => t.2.1) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k)
      rw [e] at hp
      rcases List.mem_append.mp hp with hp | hp
      · rw [piece16] at hp
        obtain rfl := List.mem_singleton.mp hp
        intro x
        exact (congrFun (stored_w K g β arg2 harg2 arg4 harg4 arg5 harg5 arg6 harg6 k) x).trans
          (stack_piece (fun n => keyW (K n) (g n) (β n)) (k0_off4 k) (k0_off4_inb k) (8 * k.val) (by have := lt4 k; omega) (off_out4 k) x)
      · exact ih (Nat.le_of_succ_le hm) p hp
  funext y
  exact View.canon_apply_of_pieces _ _ (h _ (Nat.le_refl _)) y (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) y)

/-- What a trip stores of the transposed attention. -/
theorem piece17 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k).2.2.1 =
    [⟨Rect.unit (s := S32x64x64) (k0_off5 k) S8x64x64.size (k0_off5_inb k), k0_pay53 (trip_k0_t1.sl.r (F := Ideal) arg1 (harg1.unread (flat Q)) k) (trip_k0_t1.sl.r_1 (F := Ideal) arg2 (harg2.unread (flat K)) k) k0_pay48 (trip_k0_t1.sl.r_30 (F := Ideal) arg5 (harg5.unread (flatRow g)) k) (trip_k0_t1.sl.r_31 (F := Ideal) arg4 (harg4.unread (flatCol g)) k)⟩] := by
  unfold tripL_k0_t1 trip_k0_t1
  rfl

/-- After the first loop `arg17` holds the transposed attention of all chunks. -/
theorem held17_up : held17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) = up3 .f32 (fun n => attT (Q n) (K n) (g n)) := by
  have h : ∀ m, m ≤ k0_t1_loop.trips → ∀ p ∈ (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) m).2.2.1, ∀ x : p.1.shape.Idx,
      p.2 x = up3 .f32 (fun n => attT (Q n) (K n) (g n)) (p.1.emb x) := by
    intro m
    induction m with
    | zero => intro _ p hp; exact absurd hp List.not_mem_nil
    | succ m ih =>
      intro hm p hp
      let k : Fin k0_t1_loop.trips := ⟨m, hm⟩
      have e : (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) (m + 1)).2.2.1 = _ :=
        congrArg (fun t => t.2.2.1) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k)
      rw [e] at hp
      rcases List.mem_append.mp hp with hp | hp
      · rw [piece17] at hp
        obtain rfl := List.mem_singleton.mp hp
        intro x
        exact (congrFun (stored_att Q K g arg1 harg1 arg2 harg2 arg4 harg4 arg5 harg5 k) x).trans
          (stack_piece (fun n => attT (Q n) (K n) (g n)) (k0_off5 k) (k0_off5_inb k) (8 * k.val) (by have := lt4 k; omega) (off_out5 k) x)
      · exact ih (Nat.le_of_succ_le hm) p hp
  funext y
  exact View.canon_apply_of_pieces _ _ (h _ (Nat.le_refl _)) y (cover17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) y)

/-- What a trip stores of the decayed queries. -/
theorem piece18 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k).2.2.2.1 =
    [⟨Rect.unit (s := S32x64x128) (k0_off4 k) S8x64x128.size (k0_off4_inb k), k0_pay54 (trip_k0_t1.sl.r_27 (F := Ideal) arg1 arg4 (harg1.unread (flat Q)) (harg4.unread (flatCol g)) k)⟩] := by
  unfold tripL_k0_t1 trip_k0_t1
  rfl

/-- After the first loop `arg18` holds the decayed queries of all chunks. -/
theorem held18_up : held18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) = up3 .f32 (fun n => decQ (Q n) (g n)) := by
  have h : ∀ m, m ≤ k0_t1_loop.trips → ∀ p ∈ (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) m).2.2.2.1, ∀ x : p.1.shape.Idx,
      p.2 x = up3 .f32 (fun n => decQ (Q n) (g n)) (p.1.emb x) := by
    intro m
    induction m with
    | zero => intro _ p hp; exact absurd hp List.not_mem_nil
    | succ m ih =>
      intro hm p hp
      let k : Fin k0_t1_loop.trips := ⟨m, hm⟩
      have e : (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) (m + 1)).2.2.2.1 = _ :=
        congrArg (fun t => t.2.2.2.1) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k)
      rw [e] at hp
      rcases List.mem_append.mp hp with hp | hp
      · rw [piece18] at hp
        obtain rfl := List.mem_singleton.mp hp
        intro x
        exact (congrFun (stored_qd Q g arg1 harg1 arg4 harg4 k) x).trans
          (stack_piece (fun n => decQ (Q n) (g n)) (k0_off4 k) (k0_off4_inb k) (8 * k.val) (by have := lt4 k; omega) (off_out4 k) x)
      · exact ih (Nat.le_of_succ_le hm) p hp
  funext y
  exact View.canon_apply_of_pieces _ _ (h _ (Nat.le_refl _)) y (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) y)

/-- What a trip stores of the decayed keys. -/
theorem piece19 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k).2.2.2.2.1 =
    [⟨Rect.unit (s := S32x64x128) (k0_off4 k) S8x64x128.size (k0_off4_inb k), k0_pay55 (trip_k0_t1.sl.r_28 (F := Ideal) arg2 arg4 (harg2.unread (flat K)) (harg4.unread (flatCol g)) k)⟩] := by
  unfold tripL_k0_t1 trip_k0_t1
  rfl

/-- After the first loop `arg19` holds the decayed keys of all chunks. -/
theorem held19_up : held19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) = up3 .f32 (fun n => tailK (K n) (g n)) := by
  have h : ∀ m, m ≤ k0_t1_loop.trips → ∀ p ∈ (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) m).2.2.2.2.1, ∀ x : p.1.shape.Idx,
      p.2 x = up3 .f32 (fun n => tailK (K n) (g n)) (p.1.emb x) := by
    intro m
    induction m with
    | zero => intro _ p hp; exact absurd hp List.not_mem_nil
    | succ m ih =>
      intro hm p hp
      let k : Fin k0_t1_loop.trips := ⟨m, hm⟩
      have e : (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) (m + 1)).2.2.2.2.1 = _ :=
        congrArg (fun t => t.2.2.2.2.1) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k)
      rw [e] at hp
      rcases List.mem_append.mp hp with hp | hp
      · rw [piece19] at hp
        obtain rfl := List.mem_singleton.mp hp
        intro x
        exact (congrFun (stored_kt K g arg2 harg2 arg4 harg4 k) x).trans
          (stack_piece (fun n => tailK (K n) (g n)) (k0_off4 k) (k0_off4_inb k) (8 * k.val) (by have := lt4 k; omega) (off_out4 k) x)
      · exact ih (Nat.le_of_succ_le hm) p hp
  funext y
  exact View.canon_apply_of_pieces _ _ (h _ (Nat.le_refl _)) y (cover19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) y)

/-- What a trip stores of the chunks' decays. -/
theorem piece20 (k : Fin k0_t1_loop.trips) : (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k).2.2.2.2.2 =
    [⟨Rect.unit (s := S32x1x1) (k0_off6 k) S8x1x1.size (k0_off6_inb k), k0_pay1 (trip_k0_t1.sl.r_29 (F := Ideal) arg4 (harg4.unread (flatCol g)) k)⟩] := by
  unfold tripL_k0_t1 trip_k0_t1
  rfl

/-- After the first loop `arg20` holds the chunks' decays of all chunks. -/
theorem held20_up : held20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) = up3 .f32 (fun n => (.of fun _ _ => Real.exp (g n 63) : Matrix (Fin 1) (Fin 1) ℝ)) := by
  have h : ∀ m, m ≤ k0_t1_loop.trips → ∀ p ∈ (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) m).2.2.2.2.2, ∀ x : p.1.shape.Idx,
      p.2 x = up3 .f32 (fun n => (.of fun _ _ => Real.exp (g n 63) : Matrix (Fin 1) (Fin 1) ℝ)) (p.1.emb x) := by
    intro m
    induction m with
    | zero => intro _ p hp; exact absurd hp List.not_mem_nil
    | succ m ih =>
      intro hm p hp
      let k : Fin k0_t1_loop.trips := ⟨m, hm⟩
      have e : (lists1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) (m + 1)).2.2.2.2.2 = _ :=
        congrArg (fun t => t.2.2.2.2.2) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread x2) (harg4.unread (flatCol g)) (harg5.unread (flatRow g)) (harg6.unread (flatCol β)) k)
      rw [e] at hp
      rcases List.mem_append.mp hp with hp | hp
      · rw [piece20] at hp
        obtain rfl := List.mem_singleton.mp hp
        intro x
        exact (congrFun (stored_gl g arg4 harg4 k) x).trans
          (stack_piece (fun n => (.of fun _ _ => Real.exp (g n 63) : Matrix (Fin 1) (Fin 1) ℝ)) (k0_off6 k) (k0_off6_inb k) (8 * k.val) (by have := lt4 k; omega) (off_out6 k) x)
      · exact ih (Nat.le_of_succ_le hm) p hp
  funext y
  exact View.canon_apply_of_pieces _ _ (h _ (Nat.le_refl _)) y (cover20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) y)

end Cert.DN.Loop1
-- ==== Proof.Held2.lean ====
module

public import proofs.«01_k».proof.Proof.Held1

@[expose] public section

set_option maxRecDepth 16384

noncomputable section

/-! The second loop over the reals: the cotangent of the state, carried from the last chunk to the
first, and the cotangents of the new values that it leaves for the third loop. -/

namespace Cert.DN

open Idealize.ShloMosaic Cert.KernelIdeal Cert.KernelIdeal.Gen Cert.KernelIdeal.Body

section
variable (D W QD KT : Fin 32 → Matrix (Fin 64) (Fin 128) ℝ) (At : Fin 32 → Matrix (Fin 64) (Fin 64) ℝ) (e : Fin 32 → ℝ)

/-- The chunk that the pass from the last chunk to the first meets at its step `m`. -/
def back (m : ℕ) : Fin 32 := ⟨31 - m, by omega⟩

/-- The cotangent of the state after `m` steps of that pass. -/
def stateAt : ℕ → Matrix (Fin 128) (Fin 128) ℝ
  | 0 => 0
  | m + 1 => dState (stateAt m) (D (back m)) (QD (back m)) (W (back m)) (dNew (stateAt m) (D (back m)) (KT (back m)) (At (back m))) (e (back m))

/-- The cotangent of chunk `n`'s new values. -/
def newAt (n : Fin 32) : Matrix (Fin 64) (Fin 128) ℝ := dNew (stateAt D W QD KT At e (31 - n.val)) (D n) (KT n) (At n)

end

namespace Loop2

/-- The loop makes 32 trips. -/
theorem trips : k0_t2_loop.trips = 32 := by decide

/-- A trip's number is below 32. -/
theorem lt32 (k : Fin k0_t2_loop.trips) : k.val < 32 := Nat.lt_of_lt_of_eq k.isLt trips

/-- Where a trip reads or writes its chunk. -/
theorem off8 : ∀ k : Fin k0_t2_loop.trips, k0_off8 k = ![64 * (31 - k.val), 0] := by decide

/-- Where a trip reads or writes its chunk. -/
theorem off9 : ∀ k : Fin k0_t2_loop.trips, k0_off9 k = ![31 - k.val, 0, 0] := by decide

/-- Where a trip reads or writes its chunk. -/
theorem off10 : ∀ k : Fin k0_t2_loop.trips, k0_off10 k = ![31 - k.val, 0, 0] := by decide

/-- Where a trip reads or writes its chunk. -/
theorem off11 : ∀ k : Fin k0_t2_loop.trips, k0_off11 k = ![31 - k.val, 0, 0] := by decide

/-- A stack of one matrix out of a stack. -/
theorem one {b c : ℕ} (A : Fin 32 → Matrix (Fin b) (Fin c) ℝ) (m : ℕ) (h : 31 - m + 1 ≤ 32) :
    (fun n : Fin 1 => A ⟨31 - m + n.val, by omega⟩) = fun _ => A (back m) := by
  funext n
  exact congrArg A (Fin.ext (by show 31 - m + n.val = 31 - m; omega))

variable (c : Dev nD) (i : grid0.Coords)
variable (arg1 : Memref sig .tc .vmem S2048x128 .f32) (harg1 : arg1.IsWhole)
variable (arg2 : Memref sig .tc .vmem S2048x128 .f32) (harg2 : arg2.IsWhole)
variable (arg3 : Memref sig .tc .vmem S2048x128 .f32) (harg3 : arg3.IsWhole)
variable (arg4 : Memref sig .tc .vmem S1x32x64x1 .f32) (harg4 : arg4.IsWhole)
variable (arg5 : Memref sig .tc .vmem S1x32x1x64 .f32) (harg5 : arg5.IsWhole)
variable (arg6 : Memref sig .tc .vmem S1x32x64x1 .f32) (harg6 : arg6.IsWhole)
variable (arg7 : Memref sig .tc .vmem S1x32x128x128 .f32) (harg7 : arg7.IsWhole)
variable (arg8 : Memref sig .tc .vmem S2048x128 .f32) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S1x32x64x1 .f32) (harg12 : arg12.IsWhole)
variable (arg13 : Memref sig .tc .vmem S1x32x1x64 .f32) (harg13 : arg13.IsWhole)
variable (arg14 : Memref sig .tc .vmem S1x32x64x1 .f32) (harg14 : arg14.IsWhole)
variable (arg15 : Memref sig .tc .vmem S32x64x128 .f32) (harg15 : arg15.IsWhole)
variable (arg16 : Memref sig .tc .vmem S32x64x128 .f32) (harg16 : arg16.IsWhole)
variable (arg17 : Memref sig .tc .vmem S32x64x64 .f32) (harg17 : arg17.IsWhole)
variable (arg18 : Memref sig .tc .vmem S32x64x128 .f32) (harg18 : arg18.IsWhole)
variable (arg19 : Memref sig .tc .vmem S32x64x128 .f32) (harg19 : arg19.IsWhole)
variable (arg20 : Memref sig .tc .vmem S32x1x1 .f32) (harg20 : arg20.IsWhole)
variable (arg21 : Memref sig .tc .vmem S32x64x128 .f32) (harg21 : arg21.IsWhole)
variable (arg22 : Memref sig .tc .vmem S32x64x128 .f32) (harg22 : arg22.IsWhole)
variable (arg23 : Memref sig .tc .vmem S32x64x64 .f32) (harg23 : arg23.IsWhole)
variable (arg24 : Memref sig .tc .vmem S32x64x128 .f32) (harg24 : arg24.IsWhole)
variable (arg25 : Memref sig .tc .vmem S32x64x128 .f32) (harg25 : arg25.IsWhole)
variable (arg26 : Memref sig .tc .vmem S32x1x1 .f32) (harg26 : arg26.IsWhole)
variable (D W QD KT : Fin 32 → Matrix (Fin 64) (Fin 128) ℝ) (At : Fin 32 → Matrix (Fin 64) (Fin 64) ℝ) (e : Fin 32 → ℝ)
variable (x6 : Vec Ideal S1x32x128x128 .f32) (y : Vec Ideal S32x64x128 .f32) (k : Fin k0_t2_loop.trips)

/-- The keys that the state meets of a trip's chunk. -/
theorem ld16 : View.readAt (Elt Ideal) arg16.view (Rect.unit (s := S32x64x128) (k0_off9 k) S1x64x128.size (k0_off9_inb k)).toLoadRect (harg16.unread (up3 .f32 W)) = up3 .f32 (fun _ : Fin 1 => (W) (back k.val)) :=
  (load_stack (W) arg16 harg16 _ _ (31 - k.val) (by omega) (off9 k)).trans (congrArg (up3 .f32) (one (W) k.val (by omega)))

/-- The transposed attention of a trip's chunk. -/
theorem ld17 : View.readAt (Elt Ideal) arg17.view (Rect.unit (s := S32x64x64) (k0_off10 k) S1x64x64.size (k0_off10_inb k)).toLoadRect (harg17.unread (up3 .f32 At)) = up3 .f32 (fun _ : Fin 1 => (At) (back k.val)) :=
  (load_stack (At) arg17 harg17 _ _ (31 - k.val) (by omega) (off10 k)).trans (congrArg (up3 .f32) (one (At) k.val (by omega)))

/-- The decayed queries of a trip's chunk. -/
theorem ld18 : View.readAt (Elt Ideal) arg18.view (Rect.unit (s := S32x64x128) (k0_off9 k) S1x64x128.size (k0_off9_inb k)).toLoadRect (harg18.unread (up3 .f32 QD)) = up3 .f32 (fun _ : Fin 1 => (QD) (back k.val)) :=
  (load_stack (QD) arg18 harg18 _ _ (31 - k.val) (by omega) (off9 k)).trans (congrArg (up3 .f32) (one (QD) k.val (by omega)))

/-- The decayed keys of a trip's chunk. -/
theorem ld19 : View.readAt (Elt Ideal) arg19.view (Rect.unit (s := S32x64x128) (k0_off9 k) S1x64x128.size (k0_off9_inb k)).toLoadRect (harg19.unread (up3 .f32 KT)) = up3 .f32 (fun _ : Fin 1 => (KT) (back k.val)) :=
  (load_stack (KT) arg19 harg19 _ _ (31 - k.val) (by omega) (off9 k)).trans (congrArg (up3 .f32) (one (KT) k.val (by omega)))

/-- The decay of a trip's chunk. -/
theorem ld20 : View.readAt (Elt Ideal) arg20.view (Rect.unit (s := S32x1x1) (k0_off11 k) S1x1x1.size (k0_off11_inb k)).toLoadRect (harg20.unread (up3 .f32 (fun n => (.of fun _ _ => e n : Matrix (Fin 1) (Fin 1) ℝ)))) = up3 .f32 (fun _ : Fin 1 => ((fun n => (.of fun _ _ => e n : Matrix (Fin 1) (Fin 1) ℝ))) (back k.val)) :=
  (load_stack ((fun n => (.of fun _ _ => e n : Matrix (Fin 1) (Fin 1) ℝ))) arg20 harg20 _ _ (31 - k.val) (by omega) (off11 k)).trans (congrArg (up3 .f32) (one ((fun n => (.of fun _ _ => e n : Matrix (Fin 1) (Fin 1) ℝ))) k.val (by omega)))

/-- The output's cotangent at a trip's chunk. -/
theorem ld8 : View.readAt (Elt Ideal) arg8.view (Rect.unit (s := S2048x128) (k0_off8 k) S64x128.size (k0_off8_inb k)).toLoadRect (harg8.unread (flat D)) = up2 .f32 (D (back k.val)) := load_chunk D arg8 harg8 _ _ (back k.val) (off8 k)

/-- What a trip makes of the carried cotangent. -/
theorem step (S : Matrix (Fin 128) (Fin 128) ℝ) : (tripR_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) k (up2 .f32 S)) =
    up2 .f32 (dState S (D (back k.val)) (QD (back k.val)) (W (back k.val)) (dNew S (D (back k.val)) (KT (back k.val)) (At (back k.val))) (e (back k.val))) := by
  unfold tripR_k0_t2 trip_k0_t2
  show k0_pay3 (up2 .f32 S) (trip_k0_t2.sl.r_1 arg8 _ k) (trip_k0_t2.sl.r_2 arg16 _ k) (trip_k0_t2.sl.r_4 arg8 arg17 arg19 _ _ _ k (up2 .f32 S)) (View.readAt (Elt Ideal) arg20.view (Rect.unit (s := S32x1x1) (k0_off11 k) S1x1x1.size (k0_off11_inb k)).toLoadRect (harg20.unread (up3 .f32 (fun n => (.of fun _ _ => e n : Matrix (Fin 1) (Fin 1) ℝ))))) (View.readAt (Elt Ideal) arg18.view (Rect.unit (s := S32x64x128) (k0_off9 k) S1x64x128.size (k0_off9_inb k)).toLoadRect (harg18.unread (up3 .f32 QD))) = _
  unfold trip_k0_t2.sl.r_1 trip_k0_t2.sl.r_2 trip_k0_t2.sl.r_4
  rw [ld8 arg8 harg8 D k, ld16 arg16 harg16 W k, ld17 arg17 harg17 At k, ld18 arg18 harg18 QD k, ld19 arg19 harg19 KT k, ld20 arg20 harg20 e k]
  have h57 : k0_pay57 (F := Ideal) (up3 .f32 (fun _ : Fin 1 => W (back k.val))) = up2 .f32 (W (back k.val)) := one_64x128 _
  rw [h57, dNew_up]
  exact dState_up _ _ _ _ _ _

/-- What a trip stores of the new values' cotangent. -/
theorem piece (S : Matrix (Fin 128) (Fin 128) ℝ) : (tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) k (up2 .f32 S)).1 =
    [⟨Rect.unit (s := S32x64x128) (k0_off9 k) S1x64x128.size (k0_off9_inb k), up3 .f32 (fun _ : Fin 1 => dNew S (D (back k.val)) (KT (back k.val)) (At (back k.val)))⟩] := by
  have h : (tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) k (up2 .f32 S)).1 = [⟨Rect.unit (s := S32x64x128) (k0_off9 k) S1x64x128.size (k0_off9_inb k),
      k0_pay60 (up2 .f32 S) (View.readAt (Elt Ideal) arg8.view (Rect.unit (s := S2048x128) (k0_off8 k) S64x128.size (k0_off8_inb k)).toLoadRect (harg8.unread (flat D))) (View.readAt (Elt Ideal) arg19.view (Rect.unit (s := S32x64x128) (k0_off9 k) S1x64x128.size (k0_off9_inb k)).toLoadRect (harg19.unread (up3 .f32 KT))) (View.readAt (Elt Ideal) arg17.view (Rect.unit (s := S32x64x64) (k0_off10 k) S1x64x64.size (k0_off10_inb k)).toLoadRect (harg17.unread (up3 .f32 At)))⟩] := by
    unfold tripL_k0_t2 trip_k0_t2
    rfl
  rw [h, ld8 arg8 harg8 D k, ld17 arg17 harg17 At k, ld19 arg19 harg19 KT k, dNew_stored]

/-- The carried cotangent before trip `m`, and what the trips before it have stored. -/
theorem state : ∀ m, m ≤ k0_t2_loop.trips → (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) (up2 .f32 0) m).1 = up2 .f32 (stateAt D W QD KT At e m) ∧
    ∀ p ∈ (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) (up2 .f32 0) m).2.1, ∀ x : p.1.shape.Idx, p.2 x = up3 .f32 (newAt D W QD KT At e) (p.1.emb x) := by
  intro m
  induction m with
  | zero => exact fun _ => ⟨rfl, fun p hp => absurd hp List.not_mem_nil⟩
  | succ m ih =>
    intro hm
    obtain ⟨h1, h2⟩ := ih (Nat.le_of_succ_le hm)
    let k : Fin k0_t2_loop.trips := ⟨m, hm⟩
    have hs := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) (up2 .f32 0) k
    constructor
    · refine (congrArg (fun t => t.1) hs).trans ?_
      show (tripR_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) k (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) (up2 .f32 0) m).1) = _
      rw [h1]
      exact step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 D W QD KT At e x6 y k _
    · intro p hp
      have e' : (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) (up2 .f32 0) (m + 1)).2.1 = _ := congrArg (fun t => t.2.1) hs
      rw [e'] at hp
      rcases List.mem_append.mp hp with hp | hp
      · have hp : p ∈ (tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) k (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg7.unread x6) (harg8.unread (flat D)) (harg15.unread y) (harg16.unread (up3 .f32 W)) (harg17.unread (up3 .f32 At)) (harg18.unread (up3 .f32 QD)) (harg19.unread (up3 .f32 KT)) (harg20.unread (up3 .f32 (fun n => (.of fun _ _ => e n : Matrix (Fin 1) (Fin 1) ℝ)))) (up2 .f32 0) m).1).1 := hp
        rw [h1, piece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 D W QD KT At e x6 y k] at hp
        obtain rfl := List.mem_singleton.mp hp
        intro x
        have hk : k.val < 32 := lt32 k
        have hn : newAt D W QD KT At e (back k.val) = dNew (stateAt D W QD KT At e m) (D (back k.val)) (KT (back k.val)) (At (back k.val)) := by
          unfold newAt
          rw [show 31 - (back k.val).val = m by show 31 - (31 - m) = m; have : m < 32 := hk; omega]
        rw [← hn]
        refine (congrFun (congrArg (up3 .f32) (one (newAt D W QD KT At e) k.val (by omega)).symm) x).trans ?_
        exact Loop1.stack_piece (newAt D W QD KT At e) (k0_off9 k) (k0_off9_inb k) (31 - k.val) (by omega) (off9 k) x
      · exact h2 p hp

variable (Q K : Fin 32 → Matrix (Fin 64) (Fin 128) ℝ) (g β : Fin 32 → Fin 64 → ℝ) (x2 : Vec Ideal S2048x128 .f32)

/-- After the second loop `arg21` holds the new values' cotangents of all chunks. -/
theorem held21_up : held21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) x6 (flat D) = up3 .f32 (newAt D (fun n => keyW (K n) (g n) (β n)) (fun n => decQ (Q n) (g n)) (fun n => tailK (K n) (g n)) (fun n => attT (Q n) (K n) (g n)) (fun n => Real.exp (g n 63))) := by
  funext z
  refine View.canon_apply_of_pieces _ _ ?_ z (cover21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) x6 (flat D) z)
  unfold lists2
  rw [Loop1.held16_up, Loop1.held17_up, Loop1.held18_up, Loop1.held19_up, Loop1.held20_up, dState_start]
  exact (state c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 D (fun n => keyW (K n) (g n) (β n)) (fun n => decQ (Q n) (g n)) (fun n => tailK (K n) (g n)) (fun n => attT (Q n) (K n) (g n)) (fun n => Real.exp (g n 63)) x6 _ _ (Nat.le_refl _)).2

end Loop2

end Cert.DN
-- ==== Proof.Trip3.lean ====
module

public import proofs.«01_k».proof.Proof.Loads
public import proofs.«01_k».proof.Proof.Tri
public import proofs.«01_k».proof.Proof.Gen.KernelIdeal.Loops

@[expose] public section

set_option maxRecDepth 16384

noncomputable section

/-! The values that one trip of the third loop computes from arrays of reals: the inverse of the
triangular matrices of its eight chunks, and the cotangent of the values it stores. -/

namespace Cert.DN.Loop3

open Idealize.ShloMosaic Cert.KernelIdeal Cert.KernelIdeal.Gen

/-- The loop makes four trips. -/
theorem trips : k0_t3_loop.trips = 4 := by decide

/-- A trip's number is below four. -/
theorem lt4 (k : Fin k0_t3_loop.trips) : k.val < 4 := trips ▸ k.isLt

/-- Where a trip's rows start. -/
theorem off_rows : ∀ k : Fin k0_t3_loop.trips, k0_off12 k = ![512 * k.val, 0] := by decide

/-- Where a trip's columns start. -/
theorem off_cols : ∀ k : Fin k0_t3_loop.trips, k0_off13 k = ![0, 8 * k.val, 0, 0] := by decide

/-- Where a trip's rows of numbers start. -/
theorem off_row : ∀ k : Fin k0_t3_loop.trips, k0_off14 k = ![0, 8 * k.val, 0, 0] := by decide

/-- Where a trip's chunks start in a stack. -/
theorem off_stack : ∀ k : Fin k0_t3_loop.trips, k0_off15 k = ![8 * k.val, 0, 0] := by decide

variable (Q K : Fin 32 → Matrix (Fin 64) (Fin 128) ℝ) (g β : Fin 32 → Fin 64 → ℝ) (N : Fin 32 → Matrix (Fin 64) (Fin 128) ℝ)
variable (m1 : Memref sig .tc .vmem S2048x128 .f32) (h1 : m1.IsWhole)
variable (m2 : Memref sig .tc .vmem S2048x128 .f32) (h2 : m2.IsWhole)
variable (m4 : Memref sig .tc .vmem S1x32x64x1 .f32) (h4 : m4.IsWhole)
variable (m5 : Memref sig .tc .vmem S1x32x1x64 .f32) (h5 : m5.IsWhole)
variable (m6 : Memref sig .tc .vmem S1x32x64x1 .f32) (h6 : m6.IsWhole)
variable (m21 : Memref sig .tc .vmem S32x64x128 .f32) (h21 : m21.IsWhole)
variable (k : Fin k0_t3_loop.trips)

/-- The triangular matrices of a trip. -/
abbrev tri : Fin 8 → Matrix (Fin 64) (Fin 64) ℝ := fun n => lowA (K (grp k.val (lt4 k) n)) (g (grp k.val (lt4 k) n)) (β (grp k.val (lt4 k) n))

/-- The square of their negations. -/
abbrev pow2 : Fin 8 → Matrix (Fin 64) (Fin 64) ℝ := (fun n => - tri K g β k n) * fun n => - tri K g β k n

/-- The sum of the first four powers. -/
abbrev sum4 : Fin 8 → Matrix (Fin 64) (Fin 64) ℝ := 1 + (fun n => - tri K g β k n) + (1 + fun n => - tri K g β k n) * pow2 K g β k

/-- The sum of the first eight powers. -/
abbrev sum8 : Fin 8 → Matrix (Fin 64) (Fin 64) ℝ := sum4 K g β k + sum4 K g β k * (pow2 K g β k * pow2 K g β k)

/-- The eighth power. -/
abbrev pow8 : Fin 8 → Matrix (Fin 64) (Fin 64) ℝ := pow2 K g β k * pow2 K g β k * (pow2 K g β k * pow2 K g β k)

/-- The sum of the first thirty-two powers. -/
abbrev sum32 : Fin 8 → Matrix (Fin 64) (Fin 64) ℝ := sum8 K g β k + sum8 K g β k * pow8 K g β k + (sum8 K g β k + sum8 K g β k * pow8 K g β k) * (pow8 K g β k * pow8 K g β k)

/-- The thirty-second power. -/
abbrev pow32 : Fin 8 → Matrix (Fin 64) (Fin 64) ℝ := pow8 K g β k * pow8 K g β k * (pow8 K g β k * pow8 K g β k)

/-- The last doubling gives the inverse. -/
theorem inverse : sum32 K g β k + sum32 K g β k * pow32 K g β k = fun n => inv (tri K g β k n) := inv_up (tri K g β k)

/-- The keys. -/
theorem keys : trip_k0_t3.sl.r_1 (F := Ideal) m2 (h2.unread (flat K)) k = up3 .f32 (fun n => K (grp k.val (lt4 k) n)) := load_rows K m2 h2 _ _ k.val (lt4 k) (off_rows k)

/-- The third loop's decays are the first loop's. -/
theorem same73 (a : Vec Ideal S1x8x64x1 .f32) (b : Vec Ideal S1x8x1x64 .f32) : k0_pay73 (F := Ideal) a b = k0_pay16 a b := rfl

/-- The decays. -/
theorem decays : trip_k0_t3.sl.r_5 (F := Ideal) m4 m5 (h4.unread (flatCol g)) (h5.unread (flatRow g)) k = up3 .f32 (fun n => .of fun i j => decay (g (grp k.val (lt4 k) n)) i j) := by
  unfold trip_k0_t3.sl.r_5
  exact (same73 _ _).trans <| decay_up (fun n => g (grp k.val (lt4 k) n)) _ _
    (load_cols g m4 h4 _ _ k.val (lt4 k) (off_cols k)) (load_row g m5 h5 _ _ k.val (lt4 k) (off_row k))

/-- The write strengths. -/
theorem strengths : trip_k0_t3.sl.r_6 (F := Ideal) m6 (h6.unread (flatCol β)) k = up3 .f32 (fun n => .of fun i _ => β (grp k.val (lt4 k) n) i) := strength_up (fun n => β (grp k.val (lt4 k) n)) _ (load_cols β m6 h6 _ _ k.val (lt4 k) (off_cols k))

/-- The negated triangular matrices. -/
theorem negated : k0_pay78 (F := Ideal) (trip_k0_t3.sl.r_1 (F := Ideal) m2 (h2.unread (flat K)) k) k0_pay72 (trip_k0_t3.sl.r_5 (F := Ideal) m4 m5 (h4.unread (flatCol g)) (h5.unread (flatRow g)) k) (trip_k0_t3.sl.r_6 (F := Ideal) m6 (h6.unread (flatCol β)) k) = up3 .f32 (fun n => - tri K g β k n) := by
  rw [keys K m2 h2 k, decays g m4 h4 m5 h5 k, strengths β m6 h6 k]
  exact lowA_up (fun n => K (grp k.val (lt4 k) n)) (fun n => g (grp k.val (lt4 k) n)) (fun n => β (grp k.val (lt4 k) n))

/-- Their squares. -/
theorem second : trip_k0_t3.sl.r_10 (F := Ideal) m2 m4 m5 m6 (h2.unread (flat K)) (h4.unread (flatCol g)) (h5.unread (flatRow g)) (h6.unread (flatCol β)) k = up3 .f32 (pow2 K g β k) := sq_first _ _ _ _ _ (negated K g β m2 h2 m4 h4 m5 h5 m6 h6 k)

/-- Their squares. -/
theorem second_bf : trip_k0_t3.sl.r_12 (F := Ideal) m2 m4 m5 m6 (h2.unread (flat K)) (h4.unread (flatCol g)) (h5.unread (flatRow g)) (h6.unread (flatCol β)) k = up3 .bf16 (pow2 K g β k) := congrArg (fun x => truncf .bf16 x bitsLt_bf16_f32) (second K g β m2 h2 m4 h4 m5 h5 m6 h6 k)

/-- Their squares. -/
theorem second_bf2 : trip_k0_t3.sl.r_13 (F := Ideal) m2 m4 m5 m6 (h2.unread (flat K)) (h4.unread (flatCol g)) (h5.unread (flatRow g)) (h6.unread (flatCol β)) k = up3 .bf16 (pow2 K g β k) := congrArg (fun x => truncf .bf16 x bitsLt_bf16_f32) (second K g β m2 h2 m4 h4 m5 h5 m6 h6 k)

/-- The first sums. -/
theorem first_sum : trip_k0_t3.sl.r_11 (F := Ideal) m2 m4 m5 m6 (h2.unread (flat K)) (h4.unread (flatCol g)) (h5.unread (flatRow g)) (h6.unread (flatCol β)) k = up3 .f32 (sum4 K g β k) := sum_first _ _ _ _ _ (negated K g β m2 h2 m4 h4 m5 h5 m6 h6 k)

/-- The second sums. -/
theorem second_sum : trip_k0_t3.sl.r_14 (F := Ideal) m2 m4 m5 m6 (h2.unread (flat K)) (h4.unread (flatCol g)) (h5.unread (flatRow g)) (h6.unread (flatCol β)) k = up3 .f32 (sum8 K g β k) := by
  unfold trip_k0_t3.sl.r_14
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  exact sum_pay26 (pow2 K g β k) (sum4 K g β k)

/-- The eighth powers. -/
theorem eighth : trip_k0_t3.sl.r_15 (F := Ideal) m2 m4 m5 m6 (h2.unread (flat K)) (h4.unread (flatCol g)) (h5.unread (flatRow g)) (h6.unread (flatCol β)) k = up3 .f32 (pow8 K g β k) := by
  unfold trip_k0_t3.sl.r_15
  rw [second K g β m2 h2 m4 h4 m5 h5 m6 h6 k, second_bf K g β m2 h2 m4 h4 m5 h5 m6 h6 k, second_bf2 K g β m2 h2 m4 h4 m5 h5 m6 h6 k]
  exact sq_pay27 (pow2 K g β k)

/-- The eighth powers. -/
theorem eighth_bf : trip_k0_t3.sl.r_16 (F := Ideal) m2 m4 m5 m6 (h2.unread (flat K)) (h4.unread (flatCol g)) (h5.unread (flatRow g)) (h6.unread (flatCol β)) k = up3 .bf16 (pow8 K g β k) := by
  unfold trip_k0_t3.sl.r_16
  rw [second K g β m2 h2 m4 h4 m5 h5 m6 h6 k, second_bf K g β m2 h2 m4 h4 m5 h5 m6 h6 k, second_bf2 K g β m2 h2 m4 h4 m5 h5 m6 h6 k]
  exact congrArg (fun x => truncf .bf16 x bitsLt_bf16_f32) (sq_pay27 (pow2 K g β k))

/-- The third loop's sum of powers is the first loop's. -/
theorem sum84 (P M : Fin 8 → Matrix (Fin 64) (Fin 64) ℝ) : k0_pay84 (F := Ideal) (up3 .f32 P) (up3 .f32 M) (up3 .bf16 P) (up3 .bf16 P) =
    up3 .f32 (M + M * (P * P)) := sum_pay26 P M

/-- The third loop's fourth power is the first loop's. -/
theorem sq85 (P : Fin 8 → Matrix (Fin 64) (Fin 64) ℝ) : k0_pay85 (F := Ideal) (up3 .f32 P) (up3 .bf16 P) (up3 .bf16 P) =
    up3 .f32 (P * P * (P * P)) := sq_pay27 P

/-- The third loop's next sums of powers are the first loop's. -/
theorem sum92 (P M : Fin 8 → Matrix (Fin 64) (Fin 64) ℝ) : k0_pay92 (F := Ideal) (up3 .f32 M) (up3 .f32 P) (up3 .bf16 P) (up3 .bf16 0) (up3 .f32 (M * P))
    (up3 .f32 0) (constant S8x64x64 .f32 0x00000000#32) = up3 .f32 (M + M * P + (M + M * P) * (P * P)) := sum_pay34 P M

/-- The third loop's next fourth power is the first loop's. -/
theorem sq93 (P : Fin 8 → Matrix (Fin 64) (Fin 64) ℝ) : k0_pay93 (F := Ideal) (up3 .f32 P) = up3 .f32 (P * P * (P * P)) := sq_pay35 P

/-- What rounding leaves of the second sums. -/
theorem second_rest : trip_k0_t3.sl.r_17 (F := Ideal) m2 m4 m5 m6 (h2.unread (flat K)) (h4.unread (flatCol g)) (h5.unread (flatRow g)) (h6.unread (flatCol β)) k = up3 .bf16 0 := by
  unfold trip_k0_t3.sl.r_17
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  simp only [k0_pay88, k0_pay86, sum84, up3_truncf, up3_extf, up3_subf, sub_self]

/-- The second sums times the eighth powers. -/
theorem second_product : trip_k0_t3.sl.r_18 (F := Ideal) m2 m4 m5 m6 (h2.unread (flat K)) (h4.unread (flatCol g)) (h5.unread (flatRow g)) (h6.unread (flatCol β)) k = up3 .f32 (sum8 K g β k * pow8 K g β k) := by
  unfold trip_k0_t3.sl.r_18
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  simp only [k0_pay89, k0_pay86, k0_pay87, sum84, sq85, up3_truncf, up3_extf, up3_subf, sub_self, up3_matmul_sq]

/-- What rounding leaves of that product. -/
theorem second_product_rest : trip_k0_t3.sl.r_19 (F := Ideal) m2 m4 m5 m6 (h2.unread (flat K)) (h4.unread (flatCol g)) (h5.unread (flatRow g)) (h6.unread (flatCol β)) k = up3 .f32 0 := by
  unfold trip_k0_t3.sl.r_19
  rw [second K g β m2 h2 m4 h4 m5 h5 m6 h6 k, first_sum K g β m2 h2 m4 h4 m5 h5 m6 h6 k, second_bf K g β m2 h2 m4 h4 m5 h5 m6 h6 k, second_bf2 K g β m2 h2 m4 h4 m5 h5 m6 h6 k]
  simp only [k0_pay90, k0_pay86, k0_pay87, sum84, sq85, up3_truncf, up3_extf, up3_subf, sub_self, up3_matmul_sq, mul_zero]

/-- The third sums. -/
theorem third_sum : trip_k0_t3.sl.r_20 (F := Ideal) m2 m4 m5 m6 (h2.unread (flat K)) (h4.unread (flatCol g)) (h5.unread (flatRow g)) (h6.unread (flatCol β)) k = up3 .f32 (sum32 K g β k) := by
  unfold trip_k0_t3.sl.r_20
  rw [second_sum K g β m2 h2 m4 h4 m5 h5 m6 h6 k, eighth K g β m2 h2 m4 h4 m5 h5 m6 h6 k, eighth_bf K g β m2 h2 m4 h4 m5 h5 m6 h6 k, second_rest K g β m2 h2 m4 h4 m5 h5 m6 h6 k, second_product K g β m2 h2 m4 h4 m5 h5 m6 h6 k, second_product_rest K g β m2 h2 m4 h4 m5 h5 m6 h6 k]
  exact sum92 (pow8 K g β k) (sum8 K g β k)

/-- The third sums. -/
theorem third_sum_bf : trip_k0_t3.sl.r_21 (F := Ideal) m2 m4 m5 m6 (h2.unread (flat K)) (h4.unread (flatCol g)) (h5.unread (flatRow g)) (h6.unread (flatCol β)) k = up3 .bf16 (sum32 K g β k) := by
  unfold trip_k0_t3.sl.r_21
  rw [second_sum K g β m2 h2 m4 h4 m5 h5 m6 h6 k, eighth K g β m2 h2 m4 h4 m5 h5 m6 h6 k, eighth_bf K g β m2 h2 m4 h4 m5 h5 m6 h6 k, second_rest K g β m2 h2 m4 h4 m5 h5 m6 h6 k, second_product K g β m2 h2 m4 h4 m5 h5 m6 h6 k, second_product_rest K g β m2 h2 m4 h4 m5 h5 m6 h6 k]
  exact congrArg (fun x => truncf .bf16 x bitsLt_bf16_f32) (sum92 (pow8 K g β k) (sum8 K g β k))

/-- The thirty-second powers. -/
theorem last_power : trip_k0_t3.sl.r_22 (F := Ideal) m2 m4 m5 m6 (h2.unread (flat K)) (h4.unread (flatCol g)) (h5.unread (flatRow g)) (h6.unread (flatCol β)) k = up3 .bf16 (pow32 K g β k) := by
  unfold trip_k0_t3.sl.r_22
  rw [eighth K g β m2 h2 m4 h4 m5 h5 m6 h6 k]
  exact congrArg (fun x => truncf .bf16 x bitsLt_bf16_f32) (sq93 (pow8 K g β k))

/-- What rounding leaves of the third sums. -/
theorem third_rest : trip_k0_t3.sl.r_23 (F := Ideal) m2 m4 m5 m6 (h2.unread (flat K)) (h4.unread (flatCol g)) (h5.unread (flatRow g)) (h6.unread (flatCol β)) k = up3 .bf16 0 := by
  unfold trip_k0_t3.sl.r_23
  rw [second_sum K g β m2 h2 m4 h4 m5 h5 m6 h6 k, eighth K g β m2 h2 m4 h4 m5 h5 m6 h6 k, eighth_bf K g β m2 h2 m4 h4 m5 h5 m6 h6 k, second_rest K g β m2 h2 m4 h4 m5 h5 m6 h6 k, second_product K g β m2 h2 m4 h4 m5 h5 m6 h6 k, second_product_rest K g β m2 h2 m4 h4 m5 h5 m6 h6 k]
  have e := sum92 (pow8 K g β k) (sum8 K g β k)
  unfold k0_pay96 k0_pay94 trip_k0_t3.sl.cst_44
  rw [e]
  simp only [up3_truncf, up3_extf, up3_subf, sub_self]

/-- What rounding leaves of the thirty-second powers. -/
theorem last_rest : trip_k0_t3.sl.r_24 (F := Ideal) m2 m4 m5 m6 (h2.unread (flat K)) (h4.unread (flatCol g)) (h5.unread (flatRow g)) (h6.unread (flatCol β)) k = up3 .f32 0 := by
  unfold trip_k0_t3.sl.r_24
  rw [eighth K g β m2 h2 m4 h4 m5 h5 m6 h6 k]
  have e := sq93 (pow8 K g β k)
  unfold k0_pay97 k0_pay95
  rw [e]
  simp only [up3_truncf, up3_extf, up3_subf, sub_self]

/-- The write strengths as columns. -/
theorem gates_col : trip_k0_t3.sl.r_4 (F := Ideal) m6 (h6.unread (flatCol β)) k = up3 .f32 (cols fun n => β (grp k.val (lt4 k) n)) := load_cols β m6 h6 _ _ k.val (lt4 k) (off_cols k)

/-- The cotangents of the new values. -/
theorem load_N : View.readAt (Elt Ideal) m21.view (Rect.unit (s := S32x64x128) (k0_off15 k) S8x64x128.size (k0_off15_inb k)).toLoadRect (h21.unread (up3 .f32 N)) = up3 .f32 (fun n : Fin 8 => N (grp k.val (lt4 k) n)) := load_stack N m21 h21 _ _ (8 * k.val) (by have := lt4 k; omega) (off_stack k)

/-- The cotangents of the weighted values. -/
theorem weighted : trip_k0_t3.sl.r_44 (F := Ideal) m2 m4 m5 m6 m21 (h2.unread (flat K)) (h4.unread (flatCol g)) (h5.unread (flatRow g)) (h6.unread (flatCol β)) (h21.unread (up3 .f32 N)) k = up3 .f32 (fun n => (inv (tri K g β k n)).transpose * N (grp k.val (lt4 k) n)) := by
  unfold trip_k0_t3.sl.r_44 trip_k0_t3.sl.r_39 trip_k0_t3.sl.r_40 trip_k0_t3.sl.r_41 trip_k0_t3.sl.r_42 trip_k0_t3.sl.r_43
  rw [load_N N m21 h21 k, third_sum K g β m2 h2 m4 h4 m5 h5 m6 h6 k, third_sum_bf K g β m2 h2 m4 h4 m5 h5 m6 h6 k, last_power K g β m2 h2 m4 h4 m5 h5 m6 h6 k, third_rest K g β m2 h2 m4 h4 m5 h5 m6 h6 k, last_rest K g β m2 h2 m4 h4 m5 h5 m6 h6 k]
  exact dVb_up (fun n => inv (tri K g β k n)) (fun n => N (grp k.val (lt4 k) n)) _ _ (inverse K g β k)

end Cert.DN.Loop3
-- ==== Proof.Held3.lean ====
module

public import proofs.«01_k».proof.Proof.Held2
public import proofs.«01_k».proof.Proof.Trip3

@[expose] public section

set_option maxRecDepth 16384

noncomputable section

/-! The gradient of the values that the third loop leaves, over the reals. -/

namespace Cert.DN

open Idealize.ShloMosaic Cert.KernelIdeal Cert.KernelIdeal.Gen Cert.KernelIdeal.Body

/-- One chunk's gradient of the values, from the cotangent of its new values. -/
def valGrad (K : Matrix (Fin 64) (Fin 128) ℝ) (g β : Fin 64 → ℝ) (N : Matrix (Fin 64) (Fin 128) ℝ) : Matrix (Fin 64) (Fin 128) ℝ :=
  .of fun i d => ((inv (lowA K g β)).transpose * N) i d * β i

/-- The gradient of the values of all chunks of one head. -/
def headGrad (Q K D : Fin 32 → Matrix (Fin 64) (Fin 128) ℝ) (g β : Fin 32 → Fin 64 → ℝ) (n : Fin 32) : Matrix (Fin 64) (Fin 128) ℝ :=
  valGrad (K n) (g n) (β n) (newAt D (fun n => keyW (K n) (g n) (β n)) (fun n => decQ (Q n) (g n)) (fun n => tailK (K n) (g n)) (fun n => attT (Q n) (K n) (g n)) (fun n => Real.exp (g n 63)) n)

namespace Loop3

variable (c : Dev nD) (i : grid0.Coords)
variable (arg1 : Memref sig .tc .vmem S2048x128 .f32) (harg1 : arg1.IsWhole)
variable (arg2 : Memref sig .tc .vmem S2048x128 .f32) (harg2 : arg2.IsWhole)
variable (arg3 : Memref sig .tc .vmem S2048x128 .f32) (harg3 : arg3.IsWhole)
variable (arg4 : Memref sig .tc .vmem S1x32x64x1 .f32) (harg4 : arg4.IsWhole)
variable (arg5 : Memref sig .tc .vmem S1x32x1x64 .f32) (harg5 : arg5.IsWhole)
variable (arg6 : Memref sig .tc .vmem S1x32x64x1 .f32) (harg6 : arg6.IsWhole)
variable (arg7 : Memref sig .tc .vmem S1x32x128x128 .f32) (harg7 : arg7.IsWhole)
variable (arg8 : Memref sig .tc .vmem S2048x128 .f32) (harg8 : arg8.IsWhole)
variable (arg9 : Memref sig .tc .vmem S2048x128 .f32) (harg9 : arg9.IsWhole)
variable (arg10 : Memref sig .tc .vmem S2048x128 .f32) (harg10 : arg10.IsWhole)
variable (arg11 : Memref sig .tc .vmem S2048x128 .f32) (harg11 : arg11.IsWhole)
variable (arg12 : Memref sig .tc .vmem S1x32x64x1 .f32) (harg12 : arg12.IsWhole)
variable (arg13 : Memref sig .tc .vmem S1x32x1x64 .f32) (harg13 : arg13.IsWhole)
variable (arg14 : Memref sig .tc .vmem S1x32x64x1 .f32) (harg14 : arg14.IsWhole)
variable (arg15 : Memref sig .tc .vmem S32x64x128 .f32) (harg15 : arg15.IsWhole)
variable (arg16 : Memref sig .tc .vmem S32x64x128 .f32) (harg16 : arg16.IsWhole)
variable (arg17 : Memref sig .tc .vmem S32x64x64 .f32) (harg17 : arg17.IsWhole)
variable (arg18 : Memref sig .tc .vmem S32x64x128 .f32) (harg18 : arg18.IsWhole)
variable (arg19 : Memref sig .tc .vmem S32x64x128 .f32) (harg19 : arg19.IsWhole)
variable (arg20 : Memref sig .tc .vmem S32x1x1 .f32) (harg20 : arg20.IsWhole)
variable (arg21 : Memref sig .tc .vmem S32x64x128 .f32) (harg21 : arg21.IsWhole)
variable (arg22 : Memref sig .tc .vmem S32x64x128 .f32) (harg22 : arg22.IsWhole)
variable (arg23 : Memref sig .tc .vmem S32x64x64 .f32) (harg23 : arg23.IsWhole)
variable (arg24 : Memref sig .tc .vmem S32x64x128 .f32) (harg24 : arg24.IsWhole)
variable (arg25 : Memref sig .tc .vmem S32x64x128 .f32) (harg25 : arg25.IsWhole)
variable (arg26 : Memref sig .tc .vmem S32x1x1 .f32) (harg26 : arg26.IsWhole)
variable (Q K N D : Fin 32 → Matrix (Fin 64) (Fin 128) ℝ) (g β : Fin 32 → Fin 64 → ℝ) (x2 : Vec Ideal S2048x128 .f32) (x6 : Vec Ideal S1x32x128x128 .f32)
variable (y22 : Vec Ideal S32x64x128 .f32)
variable (y23 : Vec Ideal S32x64x64 .f32)
variable (y24 : Vec Ideal S32x64x128 .f32)
variable (y25 : Vec Ideal S32x64x128 .f32)
variable (y26 : Vec Ideal S32x1x1 .f32)

/-- What a trip stores of the values' gradient, entry by entry. -/
theorem entry (k : Fin k0_t3_loop.trips) (x : S512x128.Idx) : k0_pay8 (trip_k0_t3.sl.r_4 (F := Ideal) arg6 (harg6.unread (flatCol β)) k) (trip_k0_t3.sl.r_44 (F := Ideal) arg2 arg4 arg5 arg6 arg21 (harg2.unread (flat K)) (harg4.unread (flatCol g)) (harg5.unread (flatRow g)) (harg6.unread (flatCol β)) (harg21.unread (up3 .f32 N)) k) x =
    flat (fun n => valGrad (K n) (g n) (β n) (N n)) ((Rect.unit (s := S2048x128) (k0_off12 k) S512x128.size (k0_off12_inb k)).emb x) := by
  rw [gates_col β arg6 harg6 k, weighted K g β N arg2 harg2 arg4 harg4 arg5 harg5 arg6 harg6 arg21 harg21 k]
  have hx0 : (x 0).val < 512 := (x 0).isLt
  have hk := lt4 k
  let n : Fin 8 := ⟨(x 0).val / 64, by omega⟩
  let r : Fin 64 := ⟨(x 0).val % 64, by omega⟩
  have hx : x = ix2 ⟨n.val * 64 + r.val, by omega⟩ (x 1) := by
    funext a
    refine Fin.cases ?_ (fun a => ?_) a
    · exact Fin.ext (by show (x 0).val = (x 0).val / 64 * 64 + (x 0).val % 64; omega)
    · exact Fin.cases rfl (fun b => b.elim0) a
  have h0 : ((Rect.unit (s := S2048x128) (k0_off12 k) S512x128.size (k0_off12_inb k)).emb x 0).val = 64 * (grp k.val (lt4 k) n).val + r.val := by
    show k0_off12 k 0 + 1 * (x 0).val = 64 * (8 * k.val + (x 0).val / 64) + (x 0).val % 64
    rw [show k0_off12 k 0 = 512 * k.val from congrFun (off_rows k) 0]
    omega
  have h1 : (Rect.unit (s := S2048x128) (k0_off12 k) S512x128.size (k0_off12_inb k)).emb x 1 = x 1 := Fin.ext (by
    show k0_off12 k 1 + 1 * (x 1).val = (x 1).val
    rw [show k0_off12 k 1 = 0 from congrFun (off_rows k) 1]
    omega)
  have hf := flat_apply (fun n => valGrad (K n) (g n) (β n) (N n)) ((Rect.unit (s := S2048x128) (k0_off12 k) S512x128.size (k0_off12_inb k)).emb x 0) (grp k.val (lt4 k) n) r (x 1) h0
  refine (congrArg _ hx).trans ((dV_up (fun n => β (grp k.val (lt4 k) n)) _ n r (x 1)).trans (hf.symm.trans ?_))
  rw [← h1]
  rfl

/-- What a trip stores of the values' gradient. -/
theorem piece (k : Fin k0_t3_loop.trips) : (tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread (x2)) (harg4.unread (flatCol g)) (harg5.unread (flatRow g)) (harg6.unread (flatCol β)) (harg21.unread (up3 .f32 N)) (harg22.unread (y22)) (harg23.unread (y23)) (harg24.unread (y24)) (harg25.unread (y25)) (harg26.unread (y26)) k).2.2.1 =
    [⟨Rect.unit (s := S2048x128) (k0_off12 k) S512x128.size (k0_off12_inb k), k0_pay8 (trip_k0_t3.sl.r_4 (F := Ideal) arg6 (harg6.unread (flatCol β)) k) (trip_k0_t3.sl.r_44 (F := Ideal) arg2 arg4 arg5 arg6 arg21 (harg2.unread (flat K)) (harg4.unread (flatCol g)) (harg5.unread (flatRow g)) (harg6.unread (flatCol β)) (harg21.unread (up3 .f32 N)) k)⟩] := by
  unfold tripL_k0_t3 trip_k0_t3
  rfl

/-- What the trips before trip `m` have stored of it. -/
theorem stored : ∀ m, m ≤ k0_t3_loop.trips → ∀ p ∈ (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread (x2)) (harg4.unread (flatCol g)) (harg5.unread (flatRow g)) (harg6.unread (flatCol β)) (harg21.unread (up3 .f32 N)) (harg22.unread (y22)) (harg23.unread (y23)) (harg24.unread (y24)) (harg25.unread (y25)) (harg26.unread (y26)) m).2.2.1, ∀ x : p.1.shape.Idx, p.2 x = flat (fun n => valGrad (K n) (g n) (β n) (N n)) (p.1.emb x) := by
  intro m
  induction m with
  | zero => intro _ p hp; exact absurd hp List.not_mem_nil
  | succ m ih =>
    intro hm p hp
    let k : Fin k0_t3_loop.trips := ⟨m, hm⟩
    have e : (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread (x2)) (harg4.unread (flatCol g)) (harg5.unread (flatRow g)) (harg6.unread (flatCol β)) (harg21.unread (up3 .f32 N)) (harg22.unread (y22)) (harg23.unread (y23)) (harg24.unread (y24)) (harg25.unread (y25)) (harg26.unread (y26)) (m + 1)).2.2.1 = _ :=
      congrArg (fun t => t.2.2.1) (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (harg1.unread (flat Q)) (harg2.unread (flat K)) (harg3.unread (x2)) (harg4.unread (flatCol g)) (harg5.unread (flatRow g)) (harg6.unread (flatCol β)) (harg21.unread (up3 .f32 N)) (harg22.unread (y22)) (harg23.unread (y23)) (harg24.unread (y24)) (harg25.unread (y25)) (harg26.unread (y26)) k)
    rw [e] at hp
    rcases List.mem_append.mp hp with hp | hp
    · rw [piece c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 Q K N g β x2 y22 y23 y24 y25 y26 k] at hp
      obtain rfl := List.mem_singleton.mp hp
      exact entry arg2 harg2 arg4 harg4 arg5 harg5 arg6 harg6 arg21 harg21 K N g β k
    · exact ih (Nat.le_of_succ_le hm) p hp

/-- After the third loop `arg11` holds the gradient of the values of one head. -/
theorem held11_up : held11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) x6 (flat D) = flat (headGrad Q K D g β) := by
  funext z
  refine View.canon_apply_of_pieces _ _ ?_ z (cover11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (flat Q) (flat K) x2 (flatCol g) (flatRow g) (flatCol β) x6 (flat D) z)
  unfold lists3
  rw [Loop2.held21_up]
  exact stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 Q K _ g β x2 _ _ _ _ _ _ (Nat.le_refl _)

end Loop3

end Cert.DN
-- ==== Proof.Wide.lean ====
module

public import proofs.«01_k».proof.Proof.Held3

@[expose] public section

noncomputable section

/-! Real arrays of the whole problem: all heads, all chunks. -/

namespace Cert.DN

open Idealize.ShloMosaic

/-- Eight heads of 32 chunks side by side: head `h` is the columns from `128 h`, chunk `n` the rows from `64 n`. -/
def wide (X : Fin 8 → Fin 32 → Matrix (Fin 64) (Fin 128) ℝ) : FVec Ideal ⟨2, ![2048, 1024]⟩ .f32 :=
  fun j => ((X ⟨(j 1).val / 128, by have h : (j 1).val < 1024 := (j 1).isLt; omega⟩
    ⟨(j 0).val / 64, by have h : (j 0).val < 2048 := (j 0).isLt; omega⟩
    ⟨(j 0).val % 64, Nat.mod_lt _ (by decide)⟩ ⟨(j 1).val % 128, Nat.mod_lt _ (by decide)⟩ : ℝ) : EReal)

/-- An entry of it. -/
theorem wide_apply (X : Fin 8 → Fin 32 → Matrix (Fin 64) (Fin 128) ℝ) (r : Fin 2048) (c : Fin 1024) (h : Fin 8) (n : Fin 32)
    (i : Fin 64) (d : Fin 128) (hr : r.val = 64 * n.val + i.val) (hc : c.val = 128 * h.val + d.val) :
    wide X (ix2 r c) = ((X h n i d : ℝ) : EReal) := by
  unfold wide
  have e1 : (⟨c.val / 128, by omega⟩ : Fin 8) = h := Fin.ext (by show c.val / 128 = h.val; omega)
  have e2 : (⟨r.val / 64, by omega⟩ : Fin 32) = n := Fin.ext (by show r.val / 64 = n.val; omega)
  have e3 : (⟨r.val % 64, Nat.mod_lt _ (by decide)⟩ : Fin 64) = i := Fin.ext (by show r.val % 64 = i.val; omega)
  have e4 : (⟨c.val % 128, Nat.mod_lt _ (by decide)⟩ : Fin 128) = d := Fin.ext (by show c.val % 128 = d.val; omega)
  show ((X ⟨c.val / 128, _⟩ ⟨r.val / 64, _⟩ ⟨r.val % 64, _⟩ ⟨c.val % 128, _⟩ : ℝ) : EReal) = _
  rw [e1, e2, e3, e4]

/-- One number per head, chunk and position. -/
def gates (g : Fin 8 → Fin 32 → Fin 64 → ℝ) : FVec Ideal ⟨3, ![8, 32, 64]⟩ .f32 := fun j => ((g (j 0) (j 1) (j 2) : ℝ) : EReal)

/-- An entry of it. -/
theorem gates_apply (g : Fin 8 → Fin 32 → Fin 64 → ℝ) (h : Fin 8) (n : Fin 32) (i : Fin 64) :
    gates g (ix3 h n i) = ((g h n i : ℝ) : EReal) := rfl

end Cert.DN
-- ==== Proof.Finite.lean ====
module

public import proofs.«01_k».proof.Defs
public import proofs.«01_k».proof.Proof.Wide

@[expose] public section

noncomputable section

/-! Arrays of finite numbers are arrays of reals. -/

namespace Cert.DN

open Idealize.ShloMosaic Idealize.ShloMosaic.TcCoe Idealize.SL.Sem

/-- A number whose absolute value is below `+∞` is a real. -/
theorem real_of_finite (x : EReal) (h : Ideal.cmp .olt (max x (-x)) (Ideal.ofBits .f32 0x7F800000#32) = 1#1) :
    ((x.toReal : ℝ) : EReal) = x := by
  have top : Ideal.ofBits .f32 0x7F800000#32 = ⊤ := by simp [Ideal.ofBits, Ideal.ieee]
  rw [top] at h
  refine EReal.coe_toReal ?_ ?_
  · rintro rfl
    simp [Ideal.cmp] at h
  · rintro rfl
    simp [Ideal.cmp] at h

/-- The chunks of an array over all heads, as reals. -/
def chunks (x : FVec Ideal ⟨2, ![2048, 1024]⟩ .f32) : Fin 8 → Fin 32 → Matrix (Fin 64) (Fin 128) ℝ := fun h n =>
  .of fun i d => EReal.toReal (x (ix2 ⟨64 * n.val + i.val, by omega⟩ ⟨128 * h.val + d.val, by omega⟩))

/-- The numbers of an array of gates, as reals. -/
def numbers (x : FVec Ideal ⟨3, ![8, 32, 64]⟩ .f32) : Fin 8 → Fin 32 → Fin 64 → ℝ := fun h n i => EReal.toReal (x (ix3 h n i))

/-- A finite array is the array of its chunks. -/
theorem eq_wide (x : FVec Ideal ⟨2, ![2048, 1024]⟩ .f32)
    (h : ∀ j, Ideal.cmp .olt (max (x j) (-(x j))) (Ideal.ofBits .f32 0x7F800000#32) = 1#1) : x = wide (chunks x) := by
  funext j
  idx_vars j
  rw [wide_apply (chunks x) j0 j1 ⟨j1.val / 128, by omega⟩ ⟨j0.val / 64, by omega⟩ ⟨j0.val % 64, by omega⟩ ⟨j1.val % 128, by omega⟩
    (by show j0.val = 64 * (j0.val / 64) + j0.val % 64; omega) (by show j1.val = 128 * (j1.val / 128) + j1.val % 128; omega)]
  have e0 : (⟨64 * (j0.val / 64) + j0.val % 64, by omega⟩ : Fin 2048) = j0 := Fin.ext (Nat.div_add_mod j0.val 64)
  have e1 : (⟨128 * (j1.val / 128) + j1.val % 128, by omega⟩ : Fin 1024) = j1 := Fin.ext (Nat.div_add_mod j1.val 128)
  show x (ix2 j0 j1) = ((EReal.toReal (x (ix2 ⟨64 * (j0.val / 64) + j0.val % 64, _⟩ ⟨128 * (j1.val / 128) + j1.val % 128, _⟩)) : ℝ) : EReal)
  rw [e0, e1]
  exact (real_of_finite _ (h (ix2 j0 j1))).symm

/-- A finite array of gates is the array of its numbers. -/
theorem eq_gates (x : FVec Ideal ⟨3, ![8, 32, 64]⟩ .f32)
    (h : ∀ j, Ideal.cmp .olt (max (x j) (-(x j))) (Ideal.ofBits .f32 0x7F800000#32) = 1#1) : x = gates (numbers x) := by
  funext j
  idx_vars j
  exact (real_of_finite _ (h (ix3 j0 j1 j2))).symm

/-- Under the precondition the queries, keys, gates, write strengths and cotangent are arrays of reals. -/
theorem real_inputs [Cert.Pre_finite.Facts]
    (m : (ℓ : Loc Cert.KernelIdeal.nD Cert.KernelIdeal.τ Cert.KernelIdeal.sig) → Buf (Elt Ideal) ℓ) (h : Cert.Pre_KernelIdeal_finite m)
    (c : Dev Cert.KernelIdeal.nD) :
    m ((c.tc : Thread Cert.KernelIdeal.nD Cert.KernelIdeal.τ).loc Cert.KernelIdeal.main_arg0) = wide (chunks (m ((c.tc : Thread Cert.KernelIdeal.nD Cert.KernelIdeal.τ).loc Cert.KernelIdeal.main_arg0)))
    ∧ m ((c.tc : Thread Cert.KernelIdeal.nD Cert.KernelIdeal.τ).loc Cert.KernelIdeal.main_arg1) = wide (chunks (m ((c.tc : Thread Cert.KernelIdeal.nD Cert.KernelIdeal.τ).loc Cert.KernelIdeal.main_arg1)))
    ∧ m ((c.tc : Thread Cert.KernelIdeal.nD Cert.KernelIdeal.τ).loc Cert.KernelIdeal.main_arg3) = gates (numbers (m ((c.tc : Thread Cert.KernelIdeal.nD Cert.KernelIdeal.τ).loc Cert.KernelIdeal.main_arg3)))
    ∧ m ((c.tc : Thread Cert.KernelIdeal.nD Cert.KernelIdeal.τ).loc Cert.KernelIdeal.main_arg4) = gates (numbers (m ((c.tc : Thread Cert.KernelIdeal.nD Cert.KernelIdeal.τ).loc Cert.KernelIdeal.main_arg4)))
    ∧ m ((c.tc : Thread Cert.KernelIdeal.nD Cert.KernelIdeal.τ).loc Cert.KernelIdeal.main_arg6) = wide (chunks (m ((c.tc : Thread Cert.KernelIdeal.nD Cert.KernelIdeal.τ).loc Cert.KernelIdeal.main_arg6))) :=
  ⟨eq_wide _ fun j => congrFun (h c).1 j, eq_wide _ fun j => congrFun (h c).2.1 j, eq_gates _ fun j => congrFun (h c).2.2.1 j,
    eq_gates _ fun j => congrFun (h c).2.2.2.1 j, eq_wide _ fun j => congrFun (h c).2.2.2.2 j⟩

end Cert.DN
-- ==== Proof.ValueRun.lean ====
module

public import proofs.«01_k».proof.Proof.Wide
public import proofs.«01_k».proof.Proof.FrameRun
public import Idealize.ShloMosaic.Lib.Pipeline.ValueKit.Geometry
public import Idealize.ShloMosaic.Lib.Claim

@[expose] public section

set_option maxRecDepth 16384

noncomputable section

/-! What the kernel leaves in the array of the values' gradient, when its inputs are real. -/

namespace Cert.DN

open Idealize.ShloMosaic Idealize.ShloMosaic.TcCoe Idealize.SL.Sem Cert.KernelIdeal Cert.KernelIdeal.Gen Cert.KernelIdeal.Body

/-- Where each window's block is at each grid point: the point's own columns, or its own head. -/
theorem places : ∀ t : Fin cfg0.N, win0_0.index t = ![0, t.val] ∧ win0_1.index t = ![0, t.val] ∧ win0_7.index t = ![0, t.val]
    ∧ win0_10.index t = ![0, t.val] ∧ win0_3.index t = ![t.val, 0, 0, 0] ∧ win0_4.index t = ![t.val, 0, 0, 0]
    ∧ win0_5.index t = ![t.val, 0, 0, 0] :=
  (by decide +kernel : ∀ t : Fin grid0.N, _)

/-- The head of a grid point. -/
def headOf (t : Fin cfg0.N) : Fin 8 := ⟨t.val, t.isLt⟩

variable (m : (ℓ : Loc nD τ sig) → Buf (Elt Ideal) ℓ) (ρ : Dev nD → PrngReg) (c : Dev nD)
variable (Q K D : Fin 8 → Fin 32 → Matrix (Fin 64) (Fin 128) ℝ) (g β : Fin 8 → Fin 32 → Fin 64 → ℝ)

/-- The chunk of a row. -/
def rowChunk (r : Fin 2048) : Fin 32 := ⟨r.val / 64, by omega⟩
/-- The position of a row in its chunk. -/
def rowPos (r : Fin 2048) : Fin 64 := ⟨r.val % 64, by omega⟩

/-- The block of head `t` of a wide array. -/
theorem wide_flat (X : Fin 8 → Fin 32 → Matrix (Fin 64) (Fin 128) ℝ) (t : Fin 8) (r : Fin 2048) (d : Fin 128) (col : Fin 1024)
    (h : col.val = 128 * t.val + d.val) : wide X (ix2 r col) = flat (X t) (ix2 r d) := by
  have hr : r.val = 64 * (rowChunk r).val + (rowPos r).val := (Nat.div_add_mod r.val 64).symm
  rw [wide_apply X r col t (rowChunk r) (rowPos r) d hr h, flat_apply (X t) r (rowChunk r) (rowPos r) d hr]

/-- The block of the queries. -/
theorem block_q (h : m ((c.tc : Thread nD τ).loc main_arg0) = wide Q) (t : Fin cfg0.N) : iblk m c 0 t = flat (Q (headOf t)) := by
  have ht : t.val < 8 := t.isLt
  have e := (places t).1
  funext y
  idx_vars y
  blk_simp [iblk]
  rw [V_main_arg0, h]
  refine Eq.trans (congrArg (wide Q) ?_) (wide_flat Q (headOf t) y0 y1 ⟨128 * t.val + y1.val, by omega⟩ rfl)
  blk_ext [e]

/-- The block of the keys. -/
theorem block_k (h : m ((c.tc : Thread nD τ).loc main_arg1) = wide K) (t : Fin cfg0.N) : iblk m c 1 t = flat (K (headOf t)) := by
  have ht : t.val < 8 := t.isLt
  have e := (places t).2.1
  funext y
  idx_vars y
  blk_simp [iblk]
  rw [V_main_arg1, h]
  refine Eq.trans (congrArg (wide K) ?_) (wide_flat K (headOf t) y0 y1 ⟨128 * t.val + y1.val, by omega⟩ rfl)
  blk_ext [e]

/-- The block of the output's cotangent. -/
theorem block_d (h : m ((c.tc : Thread nD τ).loc main_arg6) = wide D) (t : Fin cfg0.N) : iblk m c 7 t = flat (D (headOf t)) := by
  have ht : t.val < 8 := t.isLt
  have e := (places t).2.2.1
  funext y
  idx_vars y
  blk_simp [iblk]
  rw [V_main_arg6, h]
  refine Eq.trans (congrArg (wide D) ?_) (wide_flat D (headOf t) y0 y1 ⟨128 * t.val + y1.val, by omega⟩ rfl)
  blk_ext [e]

/-- The block of the gates, as columns. -/
theorem block_gc (h : m ((c.tc : Thread nD τ).loc main_arg3) = gates g) (t : Fin cfg0.N) : iblk m c 3 t = flatCol (g (headOf t)) := by
  have ht : t.val < 8 := t.isLt
  have e := (places t).2.2.2.2.1
  funext y
  idx_vars y
  have p : (win0_3.blk t).view.emb (ix4 y0 y1 y2 y3) = ix4 (headOf t) y1 y2 y3 := by blk_ext [e, headOf]
  blk_simp [iblk]
  rw [p]
  entry_read
  rw [h]
  pointwise [gates_apply]
  rfl

/-- The block of the gates, as rows. -/
theorem block_gr (h : m ((c.tc : Thread nD τ).loc main_arg3) = gates g) (t : Fin cfg0.N) : iblk m c 4 t = flatRow (g (headOf t)) := by
  have ht : t.val < 8 := t.isLt
  have e := (places t).2.2.2.2.2.1
  funext y
  idx_vars y
  have p : (win0_4.blk t).view.emb (ix4 y0 y1 y2 y3) = ix4 (headOf t) y1 y2 y3 := by blk_ext [e, headOf]
  blk_simp [iblk]
  rw [p]
  entry_read
  rw [h]
  pointwise [gates_apply]
  rfl

/-- The block of the write strengths. -/
theorem block_b (h : m ((c.tc : Thread nD τ).loc main_arg4) = gates β) (t : Fin cfg0.N) : iblk m c 5 t = flatCol (β (headOf t)) := by
  have ht : t.val < 8 := t.isLt
  have e := (places t).2.2.2.2.2.2
  funext y
  idx_vars y
  have p : (win0_5.blk t).view.emb (ix4 y0 y1 y2 y3) = ix4 (headOf t) y1 y2 y3 := by blk_ext [e, headOf]
  blk_simp [iblk]
  rw [p]
  entry_read
  rw [h]
  pointwise [gates_apply]
  rfl

/-- The gradient of the values, of every head. -/
def allGrad : Fin 8 → Fin 32 → Matrix (Fin 64) (Fin 128) ℝ := fun h => headGrad (Q h) (K h) (D h) (g h) (β h)

/-- The array of the values' gradient at the end. -/
theorem grad_array (hq : m ((c.tc : Thread nD τ).loc main_arg0) = wide Q) (hk : m ((c.tc : Thread nD τ).loc main_arg1) = wide K)
    (hg : m ((c.tc : Thread nD τ).loc main_arg3) = gates g) (hb : m ((c.tc : Thread nD τ).loc main_arg4) = gates β)
    (hd : m ((c.tc : Thread nD τ).loc main_arg6) = wide D) : (dats m 0 c).arrAt 10 cfg0.N = wide (allGrad Q K D g β) := by
  refine (dats m 0 c).arrAt_eq_of_covers 10 _ (by decide +kernel) fun t _ y => ?_
  have ht : t.val < 8 := t.isLt
  have e := (places t).2.2.2.1
  idx_vars y
  blk_simp
  rw [after0_10]
  unfold outsAt0
  dsimp only
  rw [block_q m c Q hq, block_k m c K hk, block_gc m c g hg, block_gr m c g hg, block_b m c β hb, block_d m c D hd, Loop3.held11_up]
  have p : (win0_10.blk t).view.emb (ix2 y0 y1) = ix2 y0 ⟨128 * t.val + y1.val, by omega⟩ := by blk_ext [e]
  exact (Eq.trans (congrArg (wide (allGrad Q K D g β)) p)
    (wide_flat (allGrad Q K D g β) (headOf t) y0 y1 ⟨128 * t.val + y1.val, by omega⟩ rfl)).symm

/-- The kernel's run from real inputs: the values' gradient, and the arguments unchanged. -/
theorem kernel_run (v : (c : Dev nD) → Buf (Elt Ideal) ((c.tc : Thread nD τ).loc main_v3_2))
    (h : ∀ c, (dats m 0 c).arrAt 10 cfg0.N = v c) :
    θ_run (defs (F := Ideal)) (onTc (τ := τ) (main (F := Ideal))) ⟨m, fun _ => 0, ρ⟩ (fun r => ∀ c : Dev nD,
      r.2.mem ((c.tc : Thread nD τ).loc main_v3_2) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ e c => ⟨((e.2 c).1 10).trans (h c), e.1 c⟩)
    (θ_run_and (unchanged m ρ) (run_main m ρ))

end Cert.DN
-- ==== Proof.RefTrips.lean ====
module

public import proofs.«01_k».proof.Proof.Gen.ReferenceIdeal.Run
public import proofs.«01_k».proof.Proof.Gen.ReferenceIdeal.Step

@[expose] public section

set_option maxRecDepth 8192

noncomputable section

/-! The reference's run, told by the states of its loop. -/

namespace Cert.DN

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The states before each trip, from the state `s`. -/
def trips (s : State F) : ℕ → State F
  | 0 => s
  | j + 1 => step j (trips s j)

section
variable (V0 : Valuation τ sig (Elt F))

/-- The state that the loop's buffers hold. -/
def stateOf : State F where
  main_v201_9 := V0 (Proc.devRef .tc main_v201_9)
  main_v201_10 := V0 (Proc.devRef .tc main_v201_10)
  main_v201_0 := V0 (Proc.devRef .tc main_v201_0)
  main_v201_1 := V0 (Proc.devRef .tc main_v201_1)
  main_v201_2 := V0 (Proc.devRef .tc main_v201_2)
  main_v201_3 := V0 (Proc.devRef .tc main_v201_3)
  main_v201_4 := V0 (Proc.devRef .tc main_v201_4)
  main_v201_5 := V0 (Proc.devRef .tc main_v201_5)
  main_v201_6 := V0 (Proc.devRef .tc main_v201_6)
  main_v201_7 := V0 (Proc.devRef .tc main_v201_7)

variable {V0} {j : ℕ} (hn : V0 (Proc.devRef .tc main_v201_8) = constantI S_ 32 (BitVec.ofNat 32 j))
include hn

/-- The chunk's index. -/
theorem index_of : res_main_while0b_v207 V0 = b3 j (stateOf V0) := by
  unfold res_main_while0b_v207
  rw [hn]
  rfl

/-- The chunk of the output's cotangent. -/
theorem chunk_of : res_main_while0b_v208 V0 = b8 j (stateOf V0) := by
  unfold res_main_while0b_v208
  rw [index_of hn]
  rfl

/-- The cotangent of the new values. -/
theorem new_of : res_main_while0b_v222 V0 = b50 j (stateOf V0) := by
  unfold res_main_while0b_v222
  rw [index_of hn, chunk_of hn]
  rfl

/-- The next cotangent of the state. -/
theorem carry_of : Value.step_main_v201_9 V0 = b57 j (stateOf V0) := by
  unfold Value.step_main_v201_9
  rw [index_of hn, chunk_of hn, new_of hn]
  rfl

/-- The next gradient. -/
theorem grad_of : Value.step_main_v201_10 V0 = b66 j (stateOf V0) := by
  unfold Value.step_main_v201_10
  rw [index_of hn, new_of hn]
  rfl

/-- The next trip's number. -/
theorem count_of : step_main_v201_8 V0 = constantI S_ 32 (BitVec.ofNat 32 (j + 1)) := by
  unfold step_main_v201_8
  rw [hn]
  funext i
  show BitVec.ofNat 32 j + 1#32 = BitVec.ofNat 32 (j + 1)
  simp only [BitVec.ofNat_add]

end

/-- The loop's buffers hold the state `s` before trip `j`. -/
structure Before (V0 : Valuation τ sig (Elt F)) (s : State F) (j : ℕ) : Prop where
  at9 : V0 (Proc.devRef .tc main_v201_9) = s.main_v201_9
  at10 : V0 (Proc.devRef .tc main_v201_10) = s.main_v201_10
  at0 : V0 (Proc.devRef .tc main_v201_0) = s.main_v201_0
  at1 : V0 (Proc.devRef .tc main_v201_1) = s.main_v201_1
  at2 : V0 (Proc.devRef .tc main_v201_2) = s.main_v201_2
  at3 : V0 (Proc.devRef .tc main_v201_3) = s.main_v201_3
  at4 : V0 (Proc.devRef .tc main_v201_4) = s.main_v201_4
  at5 : V0 (Proc.devRef .tc main_v201_5) = s.main_v201_5
  at6 : V0 (Proc.devRef .tc main_v201_6) = s.main_v201_6
  at7 : V0 (Proc.devRef .tc main_v201_7) = s.main_v201_7
  count : V0 (Proc.devRef .tc main_v201_8) = constantI S_ 32 (BitVec.ofNat 32 j)

/-- The state they hold is `s`. -/
theorem Before.eq {V0 : Valuation τ sig (Elt F)} {s : State F} {j : ℕ} (h : Before V0 s j) : stateOf V0 = s := by
  unfold stateOf
  rw [h.at9, h.at10, h.at0, h.at1, h.at2, h.at3, h.at4, h.at5, h.at6, h.at7]

/-- After the trip they hold the next state. -/
theorem Before.next {V0 : Valuation τ sig (Elt F)} {s : State F} {j : ℕ} (h : Before V0 s j) : Before (STEP V0) (step j s) (j + 1) where
  at9 := (STEP_main_v201_9 V0).trans ((carry_of h.count).trans (congrArg (b57 j) h.eq))
  at10 := (STEP_main_v201_10 V0).trans ((grad_of h.count).trans (congrArg (b66 j) h.eq))
  at0 := (STEP_main_v201_0 V0).trans h.at0
  at1 := (STEP_main_v201_1 V0).trans h.at1
  at2 := (STEP_main_v201_2 V0).trans h.at2
  at3 := (STEP_main_v201_3 V0).trans h.at3
  at4 := (STEP_main_v201_4 V0).trans h.at4
  at5 := (STEP_main_v201_5 V0).trans h.at5
  at6 := (STEP_main_v201_6 V0).trans h.at6
  at7 := (STEP_main_v201_7 V0).trans h.at7
  count := (STEP_main_v201_8 V0).trans (count_of h.count)

variable (m : (ℓ : Loc nD τ sig) → Buf (Elt F) ℓ) (ρ : Dev nD → PrngReg)

/-- The state the loop starts from, of the memory the run starts from. -/
abbrev start (c : Dev nD) : State F :=
  init (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg6))

set_option maxRecDepth 65536 in
set_option maxHeartbeats 2900000 in
/-- What the operations before the loop leave. -/
theorem before_zero (c : Dev nD) : Before (entryContents preI m c) (start m c) 0 := by
  constructor <;> (simp only [entryContents, afterL_cons, afterL_nil]; after_reads_simp) <;> rfl

/-- Before trip `k` the loop's buffers hold the `k`-th state. -/
theorem before_trip (c : Dev nD) (k : ℕ) : Before (STEP^[k] (entryContents preI m c)) (trips (start m c) k) k := by
  induction k with
  | zero => exact before_zero m c
  | succ k ih =>
    rw [Function.iterate_succ_apply']
    exact ih.next

/-- The result, of the loop's last state. -/
theorem result_of {V0 : Valuation τ sig (Elt F)} {s : State F} {j : ℕ} (h : Before V0 s j) : out_main_v205 V0 = R_main_v205 s := by
  unfold out_main_v205
  rw [h.at10]
  rfl

/-- The reference runs; its result is made from the loop's last state, its arguments stay, and no semaphore counts. -/
theorem ref_run : θ_run (defs (F := F)) (onTc (τ := τ) (main (F := F))) ⟨m, fun _ => 0, ρ⟩ fun r => (∀ c : Dev nD,
      r.2.mem ((c.tc : Thread nD τ).loc main_v205) = R_main_v205 (trips (start m c) 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => ⟨(h c).1.trans (result_of (before_trip m c 32)), (h c).2⟩,
    sem_eq_zero_of_no_sems (by decide) r.2⟩) (Value.run m ρ)

end Cert.DN
-- ==== Proof.RefStage.lean ====
module

public import proofs.«01_k».proof.Proof.Wide
public import proofs.«01_k».proof.Proof.Gen.ReferenceIdeal.Step

@[expose] public section

set_option maxRecDepth 16384

noncomputable section

/-! What the reference computes before its loop, when every input is real. -/

namespace Cert.DN

open Idealize.ShloMosaic Cert.ReferenceIdeal Cert.ReferenceIdeal.Gen Cert.ReferenceIdeal.Step

/-- A doubly indexed stack of real matrices as an array of extended reals. -/
def up4 {a b c d : ℕ} (A : Fin a → Fin b → Matrix (Fin c) (Fin d) ℝ) : FVec Ideal ⟨4, ![a, b, c, d]⟩ .f32 :=
  fun j => ((A (j 0) (j 1) (j 2) (j 3) : ℝ) : EReal)

/-- An entry of it. -/
theorem up4_apply {a b c d : ℕ} (A : Fin a → Fin b → Matrix (Fin c) (Fin d) ℝ) (h : Fin a) (n : Fin b) (i : Fin c) (j : Fin d) :
    up4 A (ix4 h n i j) = ((A h n i j : ℝ) : EReal) := rfl

/-- The reference's chunked view of a wide array. -/
theorem chunks_ref (X : Fin 8 → Fin 32 → Matrix (Fin 64) (Fin 128) ℝ) :
    shapeCast S8x32x64x128 (transpose S8x2048x128 [1, 0, 2] (shapeCast S2048x8x128 (wide X) shapeCasts_S2048x1024_S2048x8x128)
      transposes_S2048x8x128_S8x2048x128_1_0_2) shapeCasts_S8x2048x128_S8x32x64x128 = up4 X := by
  funext j
  idx_vars j
  pointwise [up4_apply]
  exact wide_apply X _ _ j0 j1 j2 j3 (by dsimp only; omega) (by dsimp only; omega)

/-- The product of two such arrays, entry by entry. -/
theorem up4_mulf {a b c d : ℕ} (A B : Fin a → Fin b → Matrix (Fin c) (Fin d) ℝ) :
    mulf (up4 A) (up4 B) = up4 fun h n => .of fun i j => A h n i j * B h n i j := by
  funext j
  exact (EReal.coe_mul _ _).symm

/-- Their difference. -/
theorem up4_subf {a b c d : ℕ} (A B : Fin a → Fin b → Matrix (Fin c) (Fin d) ℝ) :
    subf (up4 A) (up4 B) = up4 fun h n => A h n - B h n := by
  funext j
  exact (EReal.coe_sub _ _).symm

/-- Products with transposed matrices. -/
theorem up4_dot_nt (A B : Fin 8 → Fin 32 → Matrix (Fin 64) (Fin 128) ℝ) :
    Host.dotGeneral dot_S8x32x64x128_S8x32x64x128_S8x32x64x64_3_3_2_2_01_01 none (up4 A) (up4 B) =
      up4 fun h n => A h n * (B h n).transpose := by
  funext j
  idx_vars j
  pointwise [up4_apply]
  simp only [Matrix.mul_apply, coe_sum, EReal.coe_mul, Matrix.transpose_apply]

/-- Products of square matrices. -/
theorem up4_dot_sq (A B : Fin 8 → Fin 32 → Matrix (Fin 64) (Fin 64) ℝ) :
    Host.dotGeneral dot_S8x32x64x64_S8x32x64x64_S8x32x64x64_3_2_2_3_01_01 none (up4 A) (up4 B) =
      up4 fun h n => A h n * B h n := by
  funext j
  idx_vars j
  pointwise [up4_apply]
  simp only [Matrix.mul_apply, coe_sum, EReal.coe_mul]

/-- Products of square matrices with wide ones. -/
theorem up4_dot_wide (A : Fin 8 → Fin 32 → Matrix (Fin 64) (Fin 64) ℝ) (B : Fin 8 → Fin 32 → Matrix (Fin 64) (Fin 128) ℝ) :
    Host.dotGeneral dot_S8x32x64x64_S8x32x64x128_S8x32x64x128_3_2_2_3_01_01 none (up4 A) (up4 B) =
      up4 fun h n => A h n * B h n := by
  funext j
  idx_vars j
  pointwise [up4_apply]
  simp only [Matrix.mul_apply, coe_sum, EReal.coe_mul]

variable (Q K D : Fin 8 → Fin 32 → Matrix (Fin 64) (Fin 128) ℝ) (g β : Fin 8 → Fin 32 → Fin 64 → ℝ)

/-- The keys. -/
theorem v7_ref : A_main_v7 (F := Ideal) (wide Q) (wide K) (gates g) (gates β) (wide D) = up4 K := chunks_ref K

/-- The scaled queries. -/
theorem v4_ref : A_main_v4 (F := Ideal) (wide Q) (wide K) (gates g) (gates β) (wide D) = up4 fun h n => .of fun i d => Q h n i d * scale := by
  have h2 : A_main_v2 (F := Ideal) (wide Q) (wide K) (gates g) (gates β) (wide D) = up4 Q := chunks_ref Q
  unfold A_main_v4 K_main_v3 K_main_cst
  rw [h2]
  funext j
  idx_vars j
  pointwise [up4_apply]
  rw [scale_lit, ← EReal.coe_mul, Matrix.of_apply]

/-- The decays. -/
theorem v25_ref : A_main_v25 (F := Ideal) (wide Q) (wide K) (gates g) (gates β) (wide D) = up4 fun h n => .of fun i j => decay (g h n) i j := by
  funext j
  idx_vars j
  pointwise [A_main_v25, A_main_v24, A_main_v23, A_main_v22, A_main_v21, A_main_v20, A_main_v19, K_main_call0_v1, K_main_call0_v2,
    K_main_call0_v0, K_main_cst_0, K_main_v13, K_main_v12, K_main_v11, K_main_v10, K_main_v9, K_main_v8, up4_apply, gates_apply, id]
  simp only [WordCmp.cmpi_sge_ofNat (w := 32) (a := j2.val) (b := j3.val) (by omega) (by omega), WordCmp.select_ofBool, decide_eq_true_eq,
    Matrix.of_apply, decay, Fin.le_def]
  split_ifs with hij
  · rw [← EReal.coe_sub]
    rfl
  · have h : (Ideal.ofBits .f32 4286578688#32 : EReal) = ⊥ := by simp [Ideal.ofBits, Ideal.ieee]
    rw [h, Ideal.exp_bot, EReal.coe_zero]

/-- The weighted keys. -/
theorem v28_ref : A_main_v28 (F := Ideal) (wide Q) (wide K) (gates g) (gates β) (wide D) = up4 fun h n => .of fun i d => K h n i d * β h n i := by
  unfold A_main_v28
  rw [v7_ref]
  funext j
  idx_vars j
  pointwise [A_main_v27, A_main_v26, up4_apply, gates_apply]
  rw [← EReal.coe_mul, Matrix.of_apply]

/-- The strictly lower triangular matrices. -/
theorem v31_ref : A_main_v31 (F := Ideal) (wide Q) (wide K) (gates g) (gates β) (wide D) = up4 fun h n => lowA (K h n) (g h n) (β h n) := by
  unfold A_main_v31 A_main_v30 A_main_v29
  rw [v28_ref, v7_ref, v25_ref, up4_dot_nt, up4_mulf]
  funext j
  idx_vars j
  pointwise [K_main_call1_v1, K_main_call1_v2, K_main_call1_v0, K_main_cst_1, K_main_v18, K_main_v17, K_main_v16, K_main_v15, K_main_v14,
    K_main_v8, up4_apply, id]
  simp only [WordCmp.cmpi_sgt_ofNat (w := 32) (a := j2.val) (b := j3.val) (by omega) (by omega), WordCmp.select_ofBool, decide_eq_true_eq,
    lowA, Matrix.of_apply, Fin.lt_def, Matrix.mul_apply, Matrix.transpose_apply]
  split_ifs with hij
  · rfl
  · simp

/-- The identity matrices. -/
theorem v38_ref : K_main_v38 (F := Ideal) = up4 fun _ _ => (1 : Matrix (Fin 64) (Fin 64) ℝ) := by
  funext j
  idx_vars j
  pointwise [K_main_v38, K_main_v37, K_main_v36, K_main_v35, K_main_v34, K_main_v33, K_main_v32, K_main_c, up4_apply]
  have h : ∀ a b : Fin 64, (IntOp.cmpi .eq (IntOp.addi (BitVec.ofNat 32 a.val) 0#32) (BitVec.ofNat 32 b.val)).toNat = if a = b then 1 else 0 := by
    decide +kernel
  show (((IntOp.cmpi .eq (IntOp.addi (BitVec.ofNat 32 j2.val) 0#32) (BitVec.ofNat 32 j3.val)).toNat : ℝ) : EReal) = _
  rw [h j2 j3, Matrix.one_apply]
  split_ifs <;> simp

/-- Horner's rule for the inverse of `1 + A`, `k` steps of it. -/
def horner (A : Matrix (Fin 64) (Fin 64) ℝ) : ℕ → Matrix (Fin 64) (Fin 64) ℝ
  | 0 => 1
  | k + 1 => 1 - A * horner A k

/-- What it inverts `1 + A` up to. -/
theorem horner_mul (A : Matrix (Fin 64) (Fin 64) ℝ) (k : ℕ) : (1 + A) * horner A k = 1 - (-A) ^ (k + 1) := by
  induction k with
  | zero =>
    show (1 + A) * 1 = _
    rw [zero_add, pow_one, mul_one, sub_neg_eq_add]
  | succ k ih =>
    show (1 + A) * (1 - A * horner A k) = _
    have h : (1 + A) * (A * horner A k) = A * ((1 + A) * horner A k) := by noncomm_ring
    rw [mul_sub, h, ih, pow_succ' (-A) (k + 1)]
    noncomm_ring

/-- For a strictly lower triangular matrix of extent 64 it is the inverse after 63 steps. -/
theorem horner_inv (A : Matrix (Fin 64) (Fin 64) ℝ) (h : ∀ i j, i ≤ j → A i j = 0) : horner A 63 = inv A := by
  refine eq_inv A _ h ?_
  rw [horner_mul, strict_pow_64 (-A) (fun i j hij => by rw [Matrix.neg_apply, h i j hij, neg_zero]), sub_zero]

/-- The steps as the reference writes them. -/
def hornerRef (M : FVec Ideal S8x32x64x64 .f32) : ℕ → FVec Ideal S8x32x64x64 .f32
  | 0 => K_main_v38 (F := Ideal)
  | k + 1 => subf (K_main_v38 (F := Ideal)) (Host.dotGeneral dot_S8x32x64x64_S8x32x64x64_S8x32x64x64_3_2_2_3_01_01 none M (hornerRef M k))

/-- They are those steps on every matrix. -/
theorem hornerRef_up (A : Fin 8 → Fin 32 → Matrix (Fin 64) (Fin 64) ℝ) (k : ℕ) :
    hornerRef (up4 A) k = up4 fun h n => horner (A h n) k := by
  induction k with
  | zero => exact v38_ref
  | succ k ih =>
    show subf (K_main_v38 (F := Ideal)) (Host.dotGeneral _ none (up4 A) (hornerRef (up4 A) k)) = _
    rw [ih, up4_dot_sq, v38_ref, up4_subf]
    rfl

/-- The inverses. -/
theorem v164_ref : A_main_v164 (F := Ideal) (wide Q) (wide K) (gates g) (gates β) (wide D) = up4 fun h n => inv (lowA (K h n) (g h n) (β h n)) := by
  have h : A_main_v164 (F := Ideal) (wide Q) (wide K) (gates g) (gates β) (wide D) =
      hornerRef (A_main_v31 (F := Ideal) (wide Q) (wide K) (gates g) (gates β) (wide D)) 63 := rfl
  rw [h, v31_ref, hornerRef_up]
  refine congrArg up4 ?_
  funext h n
  exact horner_inv _ (lowA_strict _ _ _)

/-- The keys to write with. -/
theorem v169_ref : A_main_v169 (F := Ideal) (wide Q) (wide K) (gates g) (gates β) (wide D) = up4 fun h n => keyW (K h n) (g h n) (β h n) := by
  have h : A_main_v168 (F := Ideal) (wide Q) (wide K) (gates g) (gates β) (wide D) = up4 fun h n => .of fun i d => K h n i d * β h n i * Real.exp (g h n i) := by
    unfold A_main_v168
    rw [v28_ref]
    funext j
    idx_vars j
    pointwise [A_main_v167, A_main_v166, A_main_v165, up4_apply, gates_apply]
    rw [Ideal.exp_coe, ← EReal.coe_mul]
    rfl
  unfold A_main_v169
  rw [v164_ref, h, up4_dot_wide]
  rfl

/-- The attention. -/
theorem v171_ref : A_main_v171 (F := Ideal) (wide Q) (wide K) (gates g) (gates β) (wide D) = up4 fun h n => (attT (Q h n) (K h n) (g h n)).transpose := by
  unfold A_main_v171 A_main_v170
  rw [v4_ref, v7_ref, v25_ref, up4_dot_nt, up4_mulf]
  refine congrArg up4 ?_
  funext h n
  ext i j
  simp only [Matrix.of_apply, Matrix.transpose_apply, Matrix.mul_apply, attT]
  refine congrArg (· * _) (Finset.sum_congr rfl fun d _ => mul_comm _ _)

/-- The decayed queries. -/
theorem v175_ref : A_main_v175 (F := Ideal) (wide Q) (wide K) (gates g) (gates β) (wide D) = up4 fun h n => decQ (Q h n) (g h n) := by
  unfold A_main_v175
  rw [v4_ref]
  funext j
  idx_vars j
  pointwise [A_main_v174, A_main_v173, A_main_v172, up4_apply, gates_apply]
  rw [Ideal.exp_coe, ← EReal.coe_mul]
  rfl

/-- The keys decayed to the chunk's end. -/
theorem v182_ref : A_main_v182 (F := Ideal) (wide Q) (wide K) (gates g) (gates β) (wide D) = up4 fun h n => tailK (K h n) (g h n) := by
  unfold A_main_v182
  rw [v7_ref]
  funext j
  idx_vars j
  pointwise [A_main_v181, A_main_v180, A_main_v179, A_main_v178, A_main_v177, A_main_v176, up4_apply, gates_apply]
  rw [← EReal.coe_sub, Ideal.exp_coe, ← EReal.coe_mul]
  rfl

/-- The chunks' whole decays. -/
theorem v185_ref : A_main_v185 (F := Ideal) (wide Q) (wide K) (gates g) (gates β) (wide D) =
    up4 fun h n => (.of fun _ _ => Real.exp (g h n 63) : Matrix (Fin 1) (Fin 1) ℝ) := by
  funext j
  idx_vars j
  pointwise [A_main_v185, A_main_v184, A_main_v183, up4_apply, gates_apply]
  rw [Ideal.exp_coe]
  rfl

/-- The write strengths. -/
theorem v186_ref : A_main_v186 (F := Ideal) (wide Q) (wide K) (gates g) (gates β) (wide D) =
    up4 fun h n => (.of fun i _ => β h n i : Matrix (Fin 64) (Fin 1) ℝ) := by
  funext j
  idx_vars j
  pointwise [A_main_v186, up4_apply, gates_apply]
  rfl

end Cert.DN
-- ==== Proof.RefLoop.lean ====
module

public import proofs.«01_k».proof.Proof.RefStage
public import Idealize.ShloMosaic.Lib.DynamicIndex

@[expose] public section

set_option maxRecDepth 16384

noncomputable section

/-! One trip of the reference's loop, when the state is real. -/

namespace Cert.DN

open Idealize.ShloMosaic Cert.ReferenceIdeal Cert.ReferenceIdeal.Gen Cert.ReferenceIdeal.Step

/-- The chunk that trip `j` takes, as a word: the trips run from the last chunk down. -/
theorem chunk_word (j : ℕ) (hj : j < 32) (s : State Ideal) (i : S_.Idx) : (b3 j s i).toInt = ((31 - j : ℕ) : Int) := by
  have h : ∀ j < 32, ((32#32 - BitVec.ofNat 32 j) - 1#32).toInt = ((31 - j : ℕ) : Int) := by decide
  exact h j hj

/-- The starts of trip `j`'s slices. -/
theorem chunk_start (j : ℕ) (hj : j < 32) (s : State Ideal) (x y z : (⟨S_, .i32⟩ : BufTy).Contents (Elt Ideal))
    (hx : x = constantI S_ 32 0#32) (hy : y = constantI S_ 32 0#32) (hz : z = constantI S_ 32 0#32) (a : Fin 4) :
    ((((![b3 j s, x, y, z] : Fin 4 → (⟨S_, .i32⟩ : BufTy).Contents (Elt Ideal))) a (Shape.Idx.first h_S_)).toInt) =
      ((![(back j).val, 0, 0, 0] : Fin 4 → ℕ) a : Int) := by
  subst hx hy hz
  fin_cases a
  · exact chunk_word j hj s _
  · rfl
  · rfl
  · rfl

/-- Chunk `n` of an array of 64 by 128 matrices, sliced out. -/
theorem pick_64_128 (A : Fin 32 → Fin 8 → Matrix (Fin 64) (Fin 128) ℝ) (start : Fin 4 → Int) (n : Fin 32)
    (hs : ∀ a, start a = ((![n.val, 0, 0, 0] : Fin 4 → ℕ) a : Int)) :
    shapeCast S8x64x128 (Host.dynamicSlice S1x8x64x128 (up4 A) start sliceFits_S32x8x64x128_S1x8x64x128) shapeCasts_S1x8x64x128_S8x64x128 = up3 .f32 (A n) := by
  have hn := n.isLt
  have hoff : S32x8x64x128.Slices (![n.val, 0, 0, 0] : Fin 4 → ℕ) S1x8x64x128 :=
    ⟨rfl, fun a => by fin_cases a <;> simp [Shape.size] <;> omega⟩
  rw [Host.dynamicSlice_eq_extractStridedSlice S1x8x64x128 (up4 A) start (![n.val, 0, 0, 0] : Fin 4 → ℕ) _ hoff hs]
  funext j
  idx_vars j
  pointwise [up3_apply, up4_apply]

/-- Chunk `n` of an array of 64 by 64 matrices, sliced out. -/
theorem pick_64_64 (A : Fin 32 → Fin 8 → Matrix (Fin 64) (Fin 64) ℝ) (start : Fin 4 → Int) (n : Fin 32)
    (hs : ∀ a, start a = ((![n.val, 0, 0, 0] : Fin 4 → ℕ) a : Int)) :
    shapeCast S8x64x64 (Host.dynamicSlice S1x8x64x64 (up4 A) start sliceFits_S32x8x64x64_S1x8x64x64) shapeCasts_S1x8x64x64_S8x64x64 = up3 .f32 (A n) := by
  have hn := n.isLt
  have hoff : S32x8x64x64.Slices (![n.val, 0, 0, 0] : Fin 4 → ℕ) S1x8x64x64 :=
    ⟨rfl, fun a => by fin_cases a <;> simp [Shape.size] <;> omega⟩
  rw [Host.dynamicSlice_eq_extractStridedSlice S1x8x64x64 (up4 A) start (![n.val, 0, 0, 0] : Fin 4 → ℕ) _ hoff hs]
  funext j
  idx_vars j
  pointwise [up3_apply, up4_apply]

/-- Chunk `n` of an array of 64 by 1 matrices, sliced out. -/
theorem pick_64_1 (A : Fin 32 → Fin 8 → Matrix (Fin 64) (Fin 1) ℝ) (start : Fin 4 → Int) (n : Fin 32)
    (hs : ∀ a, start a = ((![n.val, 0, 0, 0] : Fin 4 → ℕ) a : Int)) :
    shapeCast S8x64x1 (Host.dynamicSlice S1x8x64x1 (up4 A) start sliceFits_S32x8x64x1_S1x8x64x1) shapeCasts_S1x8x64x1_S8x64x1 = up3 .f32 (A n) := by
  have hn := n.isLt
  have hoff : S32x8x64x1.Slices (![n.val, 0, 0, 0] : Fin 4 → ℕ) S1x8x64x1 :=
    ⟨rfl, fun a => by fin_cases a <;> simp [Shape.size] <;> omega⟩
  rw [Host.dynamicSlice_eq_extractStridedSlice S1x8x64x1 (up4 A) start (![n.val, 0, 0, 0] : Fin 4 → ℕ) _ hoff hs]
  funext j
  idx_vars j
  pointwise [up3_apply, up4_apply]
  rw [Subsingleton.elim j2 0]

/-- Chunk `n` of an array of 1 by 1 matrices, sliced out. -/
theorem pick_1_1 (A : Fin 32 → Fin 8 → Matrix (Fin 1) (Fin 1) ℝ) (start : Fin 4 → Int) (n : Fin 32)
    (hs : ∀ a, start a = ((![n.val, 0, 0, 0] : Fin 4 → ℕ) a : Int)) :
    shapeCast S8x1x1 (Host.dynamicSlice S1x8x1x1 (up4 A) start sliceFits_S32x8x1x1_S1x8x1x1) shapeCasts_S1x8x1x1_S8x1x1 = up3 .f32 (A n) := by
  have hn := n.isLt
  have hoff : S32x8x1x1.Slices (![n.val, 0, 0, 0] : Fin 4 → ℕ) S1x8x1x1 :=
    ⟨rfl, fun a => by fin_cases a <;> simp [Shape.size] <;> omega⟩
  rw [Host.dynamicSlice_eq_extractStridedSlice S1x8x1x1 (up4 A) start (![n.val, 0, 0, 0] : Fin 4 → ℕ) _ hoff hs]
  funext j
  idx_vars j
  pointwise [up3_apply, up4_apply]
  rw [Subsingleton.elim j1 0, Subsingleton.elim j2 0]

/-- A transposed product of the state's cotangent with rows. -/
theorem dot_state (S : Fin 8 → Matrix (Fin 128) (Fin 128) ℝ) (A : Fin 8 → Matrix (Fin 64) (Fin 128) ℝ) :
    transpose S8x64x128 [0, 2, 1] (Host.dotGeneral dot_S8x128x128_S8x64x128_S8x128x64_1_2_2_1_0_0 none (up3 .f32 S) (up3 .f32 A))
      transposes_S8x128x64_S8x64x128_0_2_1 = up3 .f32 fun h => A h * S h := by
  funext j
  idx_vars j
  pointwise [up3_apply]
  simp only [Matrix.mul_apply, coe_sum, EReal.coe_mul]
  exact Finset.sum_congr rfl fun _ _ => mul_comm _ _

/-- A transposed product of rows with a square matrix. -/
theorem dot_square (D : Fin 8 → Matrix (Fin 64) (Fin 128) ℝ) (A : Fin 8 → Matrix (Fin 64) (Fin 64) ℝ) :
    transpose S8x64x128 [0, 2, 1] (Host.dotGeneral dot_S8x64x128_S8x64x64_S8x128x64_1_1_2_2_0_0 none (up3 .f32 D) (up3 .f32 A))
      transposes_S8x128x64_S8x64x128_0_2_1 = up3 .f32 fun h => (A h).transpose * D h := by
  funext j
  idx_vars j
  pointwise [up3_apply]
  simp only [Matrix.mul_apply, Matrix.transpose_apply, coe_sum, EReal.coe_mul]
  exact Finset.sum_congr rfl fun _ _ => mul_comm _ _

/-- A transposed product of rows with rows. -/
theorem dot_outer (D A : Fin 8 → Matrix (Fin 64) (Fin 128) ℝ) :
    transpose S8x128x128 [0, 2, 1] (Host.dotGeneral dot_S8x64x128_S8x64x128_S8x128x128_1_1_2_2_0_0 none (up3 .f32 D) (up3 .f32 A))
      transposes_S8x128x128_S8x128x128_0_2_1 = up3 .f32 fun h => (A h).transpose * D h := by
  funext j
  idx_vars j
  pointwise [up3_apply]
  simp only [Matrix.mul_apply, Matrix.transpose_apply, coe_sum, EReal.coe_mul]
  exact Finset.sum_congr rfl fun _ _ => mul_comm _ _

/-- The chunk of a wide array put in by trip `j`. -/
theorem put_chunk (x : FVec Ideal S32x8x64x128 .f32) (u : FVec Ideal S1x8x64x128 .f32) (start : Fin 4 → Int) (n : Fin 32)
    (hs : ∀ a, start a = ((![n.val, 0, 0, 0] : Fin 4 → ℕ) a : Int)) (m : Fin 32) (h : Fin 8) (i : Fin 64) (d : Fin 128) :
    Host.dynamicUpdateSlice x u start updateFits_S32x8x64x128_S1x8x64x128 (ix4 m h i d) =
      if m = n then u (ix4 0 h i d) else x (ix4 m h i d) := by
  have hn := n.isLt
  have hoff : S32x8x64x128.Slices (![n.val, 0, 0, 0] : Fin 4 → ℕ) S1x8x64x128 :=
    ⟨rfl, fun a => by fin_cases a <;> simp [Shape.size] <;> omega⟩
  rw [WordCmp.dynamicUpdateSlice_eq_update x u start _ (![n.val, 0, 0, 0] : Fin 4 → ℕ) hoff hs]
  pointwise
  by_cases hmn : m = n
  · subst hmn
    rw [dif_pos ⟨le_refl _, Nat.lt_succ_self _⟩, if_pos rfl]
    refine congrArg (fun z => u (ix4 z h i d)) (Fin.ext ?_)
    exact Nat.sub_self _
  · have hv : m.val ≠ n.val := fun e => hmn (Fin.ext e)
    rw [dif_neg (by omega), if_neg hmn]

variable (D KT W QD : Fin 32 → Fin 8 → Matrix (Fin 64) (Fin 128) ℝ) (T At : Fin 32 → Fin 8 → Matrix (Fin 64) (Fin 64) ℝ)
  (e : Fin 32 → Fin 8 → ℝ) (β : Fin 32 → Fin 8 → Fin 64 → ℝ)

/-- A state of the loop whose constants are these real arrays. -/
structure Fed (s : State Ideal) : Prop where
  f0 : s.main_v201_0 = up4 D
  f1 : s.main_v201_1 = up4 fun n h => (.of fun _ _ => e n h : Matrix (Fin 1) (Fin 1) ℝ)
  f2 : s.main_v201_2 = up4 KT
  f3 : s.main_v201_3 = up4 T
  f4 : s.main_v201_4 = up4 fun n h => (.of fun i _ => β n h i : Matrix (Fin 64) (Fin 1) ℝ)
  f5 : s.main_v201_5 = up4 W
  f6 : s.main_v201_6 = up4 QD
  f7 : s.main_v201_7 = up4 fun n h => (At n h).transpose

variable {D KT W QD T At e β} {s : State Ideal} (f : Fed D KT W QD T At e β s) (j : ℕ) (hj : j < 32)
include f

/-- A trip changes none of the constants. -/
theorem Fed.step : Fed D KT W QD T At e β (Cert.ReferenceIdeal.Step.step j s) :=
  ⟨f.f0, f.f1, f.f2, f.f3, f.f4, f.f5, f.f6, f.f7⟩

include hj

/-- The output's cotangent of the chunk. -/
theorem b8_ref : b8 j s = up3 .f32 (D (back j)) := by
  unfold b8 b7
  rw [f.f0]
  exact pick_64_128 _ _ (back j) (chunk_start j hj s _ _ _ rfl rfl rfl)

/-- The chunk's whole decay. -/
theorem b13_ref : b13 j s = up3 .f32 fun h => (.of fun _ _ => e (back j) h : Matrix (Fin 1) (Fin 1) ℝ) := by
  unfold b13 b12
  rw [f.f1]
  exact pick_1_1 _ _ (back j) (chunk_start j hj s _ _ _ rfl rfl rfl)

/-- The chunk's decayed keys. -/
theorem b18_ref : b18 j s = up3 .f32 (KT (back j)) := by
  unfold b18 b17
  rw [f.f2]
  exact pick_64_128 _ _ (back j) (chunk_start j hj s _ _ _ rfl rfl rfl)

/-- The chunk's inverse. -/
theorem b23_ref : b23 j s = up3 .f32 (T (back j)) := by
  unfold b23 b22
  rw [f.f3]
  exact pick_64_64 _ _ (back j) (chunk_start j hj s _ _ _ rfl rfl rfl)

/-- The chunk's write strengths. -/
theorem b28_ref : b28 j s = up3 .f32 fun h => (.of fun i _ => β (back j) h i : Matrix (Fin 64) (Fin 1) ℝ) := by
  unfold b28 b27
  rw [f.f4]
  exact pick_64_1 _ _ (back j) (chunk_start j hj s _ _ _ rfl rfl rfl)

/-- The chunk's weighted keys. -/
theorem b33_ref : b33 j s = up3 .f32 (W (back j)) := by
  unfold b33 b32
  rw [f.f5]
  exact pick_64_128 _ _ (back j) (chunk_start j hj s _ _ _ rfl rfl rfl)

/-- The chunk's decayed queries. -/
theorem b38_ref : b38 j s = up3 .f32 (QD (back j)) := by
  unfold b38 b37
  rw [f.f6]
  exact pick_64_128 _ _ (back j) (chunk_start j hj s _ _ _ rfl rfl rfl)

/-- The chunk's attention. -/
theorem b43_ref : b43 j s = up3 .f32 fun h => (At (back j) h).transpose := by
  unfold b43 b42
  rw [f.f7]
  exact pick_64_64 _ _ (back j) (chunk_start j hj s _ _ _ rfl rfl rfl)

variable {S : Fin 8 → Matrix (Fin 128) (Fin 128) ℝ} (h9 : s.main_v201_9 = up3 .f32 S)
include h9

/-- The cotangent of the chunk's new values. -/
theorem b50_ref : b50 j s = up3 .f32 fun h => dNew (S h) (D (back j) h) (KT (back j) h) (At (back j) h) := by
  unfold b50 b49 b48 b45 b44
  rw [h9, b18_ref f j hj, b8_ref f j hj, b43_ref f j hj, dot_state, dot_square, up3_addf]
  refine congrArg (up3 .f32) ?_
  funext h
  rw [Pi.add_apply, Matrix.transpose_transpose, add_comm]
  rfl

/-- The trip's new cotangent of the state. -/
theorem b57_ref : b57 j s = up3 .f32 fun h => dState (S h) (D (back j) h) (QD (back j) h) (W (back j) h)
    (dNew (S h) (D (back j) h) (KT (back j) h) (At (back j) h)) (e (back j) h) := by
  have hneg : b54 j s = up3 .f32 fun h => - dNew (S h) (D (back j) h) (KT (back j) h) (At (back j) h) := by
    unfold b54
    rw [b50_ref f j hj h9]
    funext i
    exact (EReal.coe_neg _).symm
  have h47 : b47 j s = up3 .f32 fun h => .of fun a b => S h a b * e (back j) h := by
    unfold b47 b46
    rw [h9, b13_ref f j hj]
    funext i
    idx_vars i
    pointwise [up3_apply]
    rw [← EReal.coe_mul]
    rfl
  unfold b57 b56 b55 b53 b52 b51
  rw [h47, hneg, b8_ref f j hj, b38_ref f j hj, b33_ref f j hj, dot_outer, dot_outer, up3_addf, up3_addf]
  refine congrArg (up3 .f32) ?_
  funext h
  simp only [Pi.add_apply, Matrix.mul_neg]
  exact (sub_eq_add_neg _ _).symm

/-- The gradient of the chunk's values. -/
theorem b61_ref : b61 j s = up3 .f32 fun h => .of fun i d =>
    ((T (back j) h).transpose * dNew (S h) (D (back j) h) (KT (back j) h) (At (back j) h)) i d * β (back j) h i := by
  unfold b61 b60 b59 b58
  rw [b50_ref f j hj h9, b23_ref f j hj, b28_ref f j hj, dot_square]
  funext i
  idx_vars i
  pointwise [up3_apply]
  rw [← EReal.coe_mul]
  rfl

/-- Where the trip puts it. -/
theorem b66_ref (n : Fin 32) (h : Fin 8) (i : Fin 64) (d : Fin 128) : b66 j s (ix4 n h i d) =
    if n = back j then ((((T n h).transpose * dNew (S h) (D n h) (KT n h) (At n h)) i d * β n h i : ℝ) : EReal)
    else s.main_v201_10 (ix4 n h i d) := by
  unfold b66
  refine (put_chunk _ _ _ (back j) (chunk_start j hj s _ _ _ rfl rfl rfl) n h i d).trans ?_
  by_cases hn : n = back j
  · rw [if_pos hn, if_pos hn, hn]
    unfold b62
    rw [b61_ref f j hj h9]
    pointwise [up3_apply]
    rfl
  · rw [if_neg hn, if_neg hn]

end Cert.DN
-- ==== Proof.RefRun.lean ====
module

public import proofs.«01_k».proof.Proof.RefLoop
public import proofs.«01_k».proof.Proof.RefTrips

@[expose] public section

set_option maxRecDepth 16384

noncomputable section

/-! The reference's loop, run, and the gradient it leaves. -/

namespace Cert.DN

open Idealize.ShloMosaic Cert.ReferenceIdeal Cert.ReferenceIdeal.Gen Cert.ReferenceIdeal.Step

/-- Heads and chunks exchanged, 64 by 128. -/
theorem swap_64_128 (A : Fin 8 → Fin 32 → Matrix (Fin 64) (Fin 128) ℝ) :
    transpose S32x8x64x128 [1, 0, 2, 3] (up4 A) transposes_S8x32x64x128_S32x8x64x128_1_0_2_3 = up4 fun n h => A h n := by
  funext j
  idx_vars j
  pointwise [up4_apply]

/-- Heads and chunks exchanged, 64 by 64. -/
theorem swap_64_64 (A : Fin 8 → Fin 32 → Matrix (Fin 64) (Fin 64) ℝ) :
    transpose S32x8x64x64 [1, 0, 2, 3] (up4 A) transposes_S8x32x64x64_S32x8x64x64_1_0_2_3 = up4 fun n h => A h n := by
  funext j
  idx_vars j
  pointwise [up4_apply]

/-- Heads and chunks exchanged, 64 by 1. -/
theorem swap_64_1 (A : Fin 8 → Fin 32 → Matrix (Fin 64) (Fin 1) ℝ) :
    transpose S32x8x64x1 [1, 0, 2, 3] (up4 A) transposes_S8x32x64x1_S32x8x64x1_1_0_2_3 = up4 fun n h => A h n := by
  funext j
  idx_vars j
  pointwise [up4_apply]
  rw [Subsingleton.elim j3 0]

/-- Heads and chunks exchanged, 1 by 1. -/
theorem swap_1_1 (A : Fin 8 → Fin 32 → Matrix (Fin 1) (Fin 1) ℝ) :
    transpose S32x8x1x1 [1, 0, 2, 3] (up4 A) transposes_S8x32x1x1_S32x8x1x1_1_0_2_3 = up4 fun n h => A h n := by
  funext j
  idx_vars j
  pointwise [up4_apply]
  rw [Subsingleton.elim j2 0, Subsingleton.elim j3 0]

section
variable {D KT W QD : Fin 32 → Fin 8 → Matrix (Fin 64) (Fin 128) ℝ} {T At : Fin 32 → Fin 8 → Matrix (Fin 64) (Fin 64) ℝ}
  {e : Fin 32 → Fin 8 → ℝ} {β : Fin 32 → Fin 8 → Fin 64 → ℝ}

variable {s : State Ideal} (f : Fed D KT W QD T At e β s)
include f

/-- Every one of them has the same constants. -/
theorem trips_fed (j : ℕ) : Fed D KT W QD T At e β (trips s j) := by
  induction j with
  | zero => exact f
  | succ j ih => exact ih.step j

variable (h9 : s.main_v201_9 = up3 .f32 fun _ => (0 : Matrix (Fin 128) (Fin 128) ℝ))
include h9

/-- The state's cotangent before trip `j`. -/
theorem trips_state (j : ℕ) (hj : j ≤ 32) : (trips s j).main_v201_9 = up3 .f32 fun h =>
    stateAt (fun n => D n h) (fun n => W n h) (fun n => QD n h) (fun n => KT n h) (fun n => At n h) (fun n => e n h) j := by
  induction j with
  | zero => exact h9
  | succ j ih => exact (step_main_v201_9 j _).trans (b57_ref (trips_fed f j) j (by omega) (ih (by omega)))

/-- The gradient's entries before trip `j`: the chunks from `32 - j` on are there. -/
theorem trips_out (j : ℕ) (hj : j ≤ 32) (n : Fin 32) (hn : 32 - j ≤ n.val) (h : Fin 8) (i : Fin 64) (d : Fin 128) :
    (trips s j).main_v201_10 (ix4 n h i d) = ((((T n h).transpose * newAt (fun n => D n h) (fun n => W n h) (fun n => QD n h)
      (fun n => KT n h) (fun n => At n h) (fun n => e n h) n) i d * β n h i : ℝ) : EReal) := by
  induction j with
  | zero => exact absurd n.isLt (by omega)
  | succ j ih =>
    rw [show (trips s (j + 1)).main_v201_10 = b66 j (trips s j) from step_main_v201_10 j _,
      b66_ref (trips_fed f j) j (by omega) (trips_state f h9 j (by omega))]
    by_cases hb : n = back j
    · rw [if_pos hb]
      have e : 31 - n.val = j := by
        rw [hb]
        show 31 - (31 - j) = j
        omega
      rw [newAt, e]
    · rw [if_neg hb]
      refine ih (by omega) ?_
      have : n.val ≠ 31 - j := fun e => hb (Fin.ext e)
      omega

end

variable (Q K D : Fin 8 → Fin 32 → Matrix (Fin 64) (Fin 128) ℝ) (g β : Fin 8 → Fin 32 → Fin 64 → ℝ)

/-- The state the loop starts from. -/
theorem init_fed : Fed (fun n h => D h n) (fun n h => tailK (K h n) (g h n)) (fun n h => keyW (K h n) (g h n) (β h n))
    (fun n h => decQ (Q h n) (g h n)) (fun n h => inv (lowA (K h n) (g h n) (β h n))) (fun n h => attT (Q h n) (K h n) (g h n))
    (fun n h => Real.exp (g h n 63)) (fun n h => β h n) (init (F := Ideal) (wide Q) (wide K) (gates g) (gates β) (wide D)) where
  f0 := by
    have h : A_main_v197 (F := Ideal) (wide Q) (wide K) (gates g) (gates β) (wide D) = up4 D := chunks_ref D
    show A_main_v198 (F := Ideal) (wide Q) (wide K) (gates g) (gates β) (wide D) = _
    unfold A_main_v198
    rw [h]
    exact swap_64_128 _
  f1 := by
    show A_main_v193 (F := Ideal) (wide Q) (wide K) (gates g) (gates β) (wide D) = _
    unfold A_main_v193
    rw [v185_ref]
    exact swap_1_1 _
  f2 := by
    show A_main_v190 (F := Ideal) (wide Q) (wide K) (gates g) (gates β) (wide D) = _
    unfold A_main_v190
    rw [v182_ref]
    exact swap_64_128 _
  f3 := by
    show A_main_v188 (F := Ideal) (wide Q) (wide K) (gates g) (gates β) (wide D) = _
    unfold A_main_v188
    rw [v164_ref]
    exact swap_64_64 _
  f4 := by
    show A_main_v187 (F := Ideal) (wide Q) (wide K) (gates g) (gates β) (wide D) = _
    unfold A_main_v187
    rw [v186_ref]
    exact swap_64_1 _
  f5 := by
    show A_main_v191 (F := Ideal) (wide Q) (wide K) (gates g) (gates β) (wide D) = _
    unfold A_main_v191
    rw [v169_ref]
    exact swap_64_128 _
  f6 := by
    show A_main_v189 (F := Ideal) (wide Q) (wide K) (gates g) (gates β) (wide D) = _
    unfold A_main_v189
    rw [v175_ref]
    exact swap_64_128 _
  f7 := by
    show A_main_v192 (F := Ideal) (wide Q) (wide K) (gates g) (gates β) (wide D) = _
    unfold A_main_v192
    rw [v171_ref]
    exact swap_64_64 _

/-- The state's cotangent starts at zero. -/
theorem init_state : (init (F := Ideal) (wide Q) (wide K) (gates g) (gates β) (wide D)).main_v201_9 = up3 .f32 fun _ => (0 : Matrix (Fin 128) (Fin 128) ℝ) := by
  show K_main_v199 (F := Ideal) = _
  funext j
  idx_vars j
  pointwise [K_main_v199, K_main_cst_3, up3_apply]
  simp

/-- What the reference computes from real arrays: the gradients of all heads. -/
theorem ref_value : R_main_v205 (F := Ideal) (trips (init (F := Ideal) (wide Q) (wide K) (gates g) (gates β) (wide D)) 32) =
    wide fun h => headGrad (Q h) (K h) (D h) (g h) (β h) := by
  funext j
  idx_vars j
  pointwise [R_main_v205]
  exact trips_out (init_fed Q K D g β) (init_state Q K D g β) 32 (le_refl _) _ (by omega) _ _ _

end Cert.DN
-- ==== Proof.FfnOut.lean ====
module

public import proofs.«01_k».proof.Proof.Gen.Kernel2Ideal.Frame
public import Idealize.ShloMosaic.Lib.Pipeline.ValueKit

@[expose] public section

set_option maxRecDepth 16384

noncomputable section

/-! What each of the feed-forward's calls leaves in its output array, as a function of the whole
arrays that the call reads. -/

namespace Cert.Ffn

open Idealize.ShloMosaic Idealize.ShloMosaic.TcCoe Cert.Kernel2Ideal Cert.Kernel2Ideal.Gen

/-- The product of two matrices. -/
def nn {a b c : ℕ} {φ χ ψ : FTy} (A : FVec Ideal ⟨2, ![a, b]⟩ φ) (B : FVec Ideal ⟨2, ![b, c]⟩ χ) : FVec Ideal ⟨2, ![a, c]⟩ ψ :=
  fun j => ∑ k : Fin b, (A (ix2 (j 0) k) * B (ix2 k (j 1)) : EReal)

/-- The product of a matrix with the transpose of another. -/
def nt {a b c : ℕ} {φ χ ψ : FTy} (A : FVec Ideal ⟨2, ![a, b]⟩ φ) (B : FVec Ideal ⟨2, ![c, b]⟩ χ) : FVec Ideal ⟨2, ![a, c]⟩ ψ :=
  fun j => ∑ k : Fin b, (A (ix2 (j 0) k) * B (ix2 (j 1) k) : EReal)

/-- The product of the transpose of a matrix with another. -/
def tn {a b c : ℕ} {φ χ ψ : FTy} (A : FVec Ideal ⟨2, ![b, a]⟩ φ) (B : FVec Ideal ⟨2, ![b, c]⟩ χ) : FVec Ideal ⟨2, ![a, c]⟩ ψ :=
  fun j => ∑ k : Fin b, (A (ix2 k (j 0)) * B (ix2 k (j 1)) : EReal)

/-- The logistic function, spelled as the calls spell it. -/
def sig1 (x : EReal) : EReal := Ideal.div 1 (1 + Ideal.exp (0 - x))

/-- The column of the gate half that column `p` of the activations reads. -/
def gateCol {b c : ℕ} (h : c = b + b) (p : Fin b) : Fin c := ⟨p.val, by omega⟩

/-- The column of the value half that column `p` of the activations reads. -/
def valueCol {b c : ℕ} (h : c = b + b) (p : Fin b) : Fin c := ⟨b + p.val, by omega⟩

/-- The hidden activations: the gate half through SiLU, times the value half. -/
def act {a b c : ℕ} (h : c = b + b) {φ : FTy} (u : FVec Ideal ⟨2, ![a, c]⟩ .f32) : FVec Ideal ⟨2, ![a, b]⟩ φ :=
  fun j => (u (ix2 (j 0) (gateCol h (j 1))) * sig1 (u (ix2 (j 0) (gateCol h (j 1)))) * u (ix2 (j 0) (valueCol h (j 1))) : EReal)

/-- The gradient of the gate half at one entry: `x` the gate, `v` the value, `d` the activation's gradient. -/
def dgate (x v d : EReal) : EReal := d * v * (sig1 x * (1 + x * (1 - sig1 x)))

/-- The gradient of the value half at one entry. -/
def dvalue (x d : EReal) : EReal := d * (x * sig1 x)

/-- The column within the value half of a column past the gate half. -/
def pastGate {b c : ℕ} (h : c = b + b) (p : Fin c) (hp : ¬ p.val < b) : Fin b := ⟨p.val - b, by omega⟩

/-- The gradient of both halves, side by side, at row `i` and column `p`. -/
def dactAt {a b c : ℕ} (h : c = b + b) (u : FVec Ideal ⟨2, ![a, c]⟩ .f32) (d : FVec Ideal ⟨2, ![a, b]⟩ .f32) (i : Fin a) (p : Fin c) : EReal :=
  if hp : p.val < b then dgate (u (ix2 i p)) (u (ix2 i (valueCol h ⟨p.val, hp⟩))) (d (ix2 i ⟨p.val, hp⟩))
  else dvalue (u (ix2 i (gateCol h (pastGate h p hp)))) (d (ix2 i (pastGate h p hp)))

/-- The gradient of both halves, side by side. -/
def dact {a b c : ℕ} (h : c = b + b) {φ : FTy} (u : FVec Ideal ⟨2, ![a, c]⟩ .f32) (d : FVec Ideal ⟨2, ![a, b]⟩ .f32) : FVec Ideal ⟨2, ![a, c]⟩ φ :=
  fun j => dactAt h u d (j 0) (j 1)

/-- The first weight is twice as wide as the second is tall. -/
theorem halves : 5632 = 2816 + 2816 := rfl

variable (V : (c : Dev nD) → (b : Ref sig .tc) → Buf (Elt Ideal) ((c : Thread nD τ).loc b)) (c : Dev nD)

/-- A load or store of a whole block starts at zero. -/
theorem zeros : (![0, 0] : Fin 2 → ℕ) = fun _ => 0 := funext fun a => by fin_cases a <;> rfl

/-- Where the blocks of the first call are. -/
theorem places0 : ∀ t : Fin cfg0.N, win0_0.index t = ![t.val / 2, 0] ∧ win0_1.index t = ![0, t.val % 2] ∧ win0_2.index t = ![t.val / 2, t.val % 2] :=
  (by decide +kernel : ∀ t : Fin grid0.N, _)

/-- The first call leaves the product of the input with the first weight. -/
theorem out_u : (dat0 V c).arrAt 2 cfg0.N = nn (φ := .bf16) (χ := .bf16) (ψ := .f32) (V c main_arg0) (V c main_arg1) := by
  refine (dat0 V c).arrAt_eq_of_covers 2 _ (by decide +kernel) fun t hf y => ?_
  blk_simp
  rw [after0_2]
  unfold out0_2
  rw [View.canon_unit_zero zeros, View.ld_unit_zero zeros, View.ld_unit_zero zeros]
  unfold k0_pay1
  idx_vars y
  pointwise [nn]
  blk_point [iblk0, places0 t]

/-- Where the blocks of the second call are. -/
theorem places1 : ∀ t : Fin cfg1.N, win1_0.index t = ![t.val, 0] ∧ win1_1.index t = ![t.val, 0] :=
  (by decide +kernel : ∀ t : Fin grid1.N, _)

/-- The second call leaves the hidden activations. -/
theorem out_a : (dat1 V c).arrAt 1 cfg1.N = act halves (φ := .bf16) (V c main_v0) := by
  refine (dat1 V c).arrAt_eq_of_covers 1 _ (by decide +kernel) fun t hf y => ?_
  blk_simp
  rw [after1_1]
  unfold out1_1
  rw [View.canon_unit_zero zeros, View.ld_unit_zero zeros]
  unfold k1_pay1
  idx_vars y
  pointwise [act, sig1, gateCol, valueCol]
  blk_point [iblk1, places1 t]

/-- Where the blocks of the third call are. -/
theorem places2 : ∀ t : Fin cfg2.N, win2_0.index t = ![t.val, 0] ∧ win2_1.index t = ![0, 0] ∧ win2_2.index t = ![t.val, 0] :=
  (by decide +kernel : ∀ t : Fin grid2.N, _)

/-- The third call leaves the product of the hidden activations with the second weight. -/
theorem out_y : (dat2 V c).arrAt 2 cfg2.N = nn (φ := .bf16) (χ := .bf16) (ψ := .f32) (V c main_v1) (V c main_arg2) := by
  refine (dat2 V c).arrAt_eq_of_covers 2 _ (by decide +kernel) fun t hf y => ?_
  blk_simp
  rw [after2_2]
  unfold out2_2
  rw [View.canon_unit_zero zeros, View.ld_unit_zero zeros, View.ld_unit_zero zeros]
  unfold k2_pay1
  idx_vars y
  pointwise [nn]
  blk_point [iblk2, places2 t]

/-- Where the blocks of the fourth call are. -/
theorem places3 : ∀ t : Fin cfg3.N, win3_0.index t = ![t.val, 0] ∧ win3_1.index t = ![0, 0] ∧ win3_2.index t = ![t.val, 0] :=
  (by decide +kernel : ∀ t : Fin grid3.N, _)

/-- The fourth call leaves the product of the output's gradient with the second weight's transpose. -/
theorem out_da : (dat3 V c).arrAt 2 cfg3.N = nt (φ := .bf16) (χ := .bf16) (ψ := .f32) (V c main_arg3) (V c main_arg2) := by
  refine (dat3 V c).arrAt_eq_of_covers 2 _ (by decide +kernel) fun t hf y => ?_
  blk_simp
  rw [after3_2]
  unfold out3_2
  rw [View.canon_unit_zero zeros, View.ld_unit_zero zeros, View.ld_unit_zero zeros]
  unfold k3_pay1
  idx_vars y
  pointwise [nt]
  blk_point [iblk3, places3 t]

/-- Where the blocks of the fifth call are. -/
theorem places4 : ∀ t : Fin cfg4.N, win4_0.index t = ![0, 0] ∧ win4_1.index t = ![0, t.val] ∧ win4_2.index t = ![0, t.val] :=
  (by decide +kernel : ∀ t : Fin grid4.N, _)

/-- The fifth call leaves the product of the hidden activations' transpose with the output's gradient. -/
theorem out_gout : (dat4 V c).arrAt 2 cfg4.N = tn (φ := .bf16) (χ := .bf16) (ψ := .bf16) (V c main_v1) (V c main_arg3) := by
  refine (dat4 V c).arrAt_eq_of_covers 2 _ (by decide +kernel) fun t hf y => ?_
  blk_simp
  rw [after4_2]
  unfold out4_2
  rw [View.canon_unit_zero zeros, View.ld_unit_zero zeros, View.ld_unit_zero zeros]
  unfold k4_pay1
  idx_vars y
  pointwise [tn]
  blk_point [iblk4, places4 t]

/-- Where the blocks of the sixth call are. -/
theorem places5 : ∀ t : Fin cfg5.N, win5_0.index t = ![t.val, 0] ∧ win5_1.index t = ![t.val, 0] ∧ win5_2.index t = ![t.val, 0] :=
  (by decide +kernel : ∀ t : Fin grid5.N, _)

/-- The row of the whole arrays that row `y` of the sixth call's block is. -/
def row5 (t : Fin cfg5.N) (y : Fin 256) : Fin 2048 := ⟨t.val * 256 + y.val, by have : t.val < 8 := t.isLt; omega⟩

/-- The sixth call's block of gates and values. -/
theorem read5_u (t : Fin cfg5.N) (y : Fin 256) (p : Fin 5632) : iblk5 V c 0 t (ix2 y p) = V c main_v0 (ix2 (row5 t y) p) := by
  blk_ext [iblk5, places5 t, row5]

/-- The sixth call's block of the activations' gradient. -/
theorem read5_d (t : Fin cfg5.N) (y : Fin 256) (p : Fin 2816) : iblk5 V c 1 t (ix2 y p) = V c main_v3 (ix2 (row5 t y) p) := by
  blk_ext [iblk5, places5 t, row5]

/-- Where an entry of the sixth call's output block is. -/
theorem emb5 (t : Fin cfg5.N) (y0 : Fin 256) (y1 : Fin 5632) : ((cfg5.win 2).blk t).view.emb (ix2 y0 y1) = ix2 (row5 t y0) y1 := by
  blk_ext [places5 t, row5]

/-- The sixth call's block, entry by entry. -/
theorem pay5 (u : Vec Ideal S256x5632 .f32) (d : Vec Ideal S256x2816 .f32) (i : Fin 256) (p : Fin 5632) :
    k5_pay1 u d (ix2 i p) = dactAt halves u d i p := by
  unfold k5_pay1 dactAt dgate dvalue sig1 valueCol gateCol pastGate
  pointwise

/-- The sixth call leaves the gradient of the gates and values. -/
theorem out_du : (dat5 V c).arrAt 2 cfg5.N = dact halves (φ := .bf16) (V c main_v0) (V c main_v3) := by
  refine (dat5 V c).arrAt_eq_of_covers 2 _ (by decide +kernel) fun t hf y => ?_
  idx_vars y
  rw [emb5]
  show (dat5 V c).flushed 2 t (ix2 y0 y1) = dactAt halves (V c main_v0) (V c main_v3) (row5 t y0) y1
  blk_simp
  rw [after5_2]
  unfold out5_2
  rw [View.canon_unit_zero zeros, View.ld_unit_zero zeros, View.ld_unit_zero zeros, pay5]
  unfold dactAt
  simp only [read5_u, read5_d]

/-- Where the blocks of the seventh call are. -/
theorem places6 : ∀ t : Fin cfg6.N, win6_0.index t = ![t.val, 0] ∧ win6_1.index t = ![0, 0] ∧ win6_2.index t = ![t.val, 0] :=
  (by decide +kernel : ∀ t : Fin grid6.N, _)

/-- The seventh call leaves the product of the gates' and values' gradient with the first weight's transpose. -/
theorem out_dh : (dat6 V c).arrAt 2 cfg6.N = nt (φ := .bf16) (χ := .bf16) (ψ := .f32) (V c main_v5) (V c main_arg1) := by
  refine (dat6 V c).arrAt_eq_of_covers 2 _ (by decide +kernel) fun t hf y => ?_
  blk_simp
  rw [after6_2]
  unfold out6_2
  rw [View.canon_unit_zero zeros, View.ld_unit_zero zeros, View.ld_unit_zero zeros]
  unfold k6_pay1
  idx_vars y
  pointwise [nt]
  blk_point [iblk6, places6 t]

/-- Where the blocks of the eighth call are. -/
theorem places7 : ∀ t : Fin cfg7.N, win7_0.index t = ![0, t.val / 2] ∧ win7_1.index t = ![0, t.val % 2] ∧ win7_2.index t = ![t.val / 2, t.val % 2] :=
  (by decide +kernel : ∀ t : Fin grid7.N, _)

/-- The eighth call leaves the product of the input's transpose with the gates' and values' gradient. -/
theorem out_gin : (dat7 V c).arrAt 2 cfg7.N = tn (φ := .bf16) (χ := .bf16) (ψ := .bf16) (V c main_arg0) (V c main_v5) := by
  refine (dat7 V c).arrAt_eq_of_covers 2 _ (by decide +kernel) fun t hf y => ?_
  blk_simp
  rw [after7_2]
  unfold out7_2
  rw [View.canon_unit_zero zeros, View.ld_unit_zero zeros, View.ld_unit_zero zeros]
  unfold k7_pay1
  idx_vars y
  pointwise [tn]
  blk_point [iblk7, places7 t]

end Cert.Ffn

end
-- ==== Proof.FfnRun.lean ====
module

public import proofs.«01_k».proof.Proof.FfnOut

@[expose] public section

set_option maxRecDepth 16384

noncomputable section

/-! A run of the whole feed-forward program, forward and backward: its arguments end unchanged, every
counter ends at zero, and its four results end as functions of the arguments. -/

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run terminates without a fault, each buffer that outlives the calls ending as the last call leaves it and
every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h hz => ⟨h, funext fun g => hz g (.inr (no_unscoped g.2))⟩)

/-- The program's frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W8_main_arg0 m ρ c), (h.1 c _ (mem_uc main_arg1 (by decide))).trans (W8_main_arg1 m ρ c),
        (h.1 c _ (mem_uc main_arg2 (by decide))).trans (W8_main_arg2 m ρ c), (h.1 c _ (mem_uc main_arg3 (by decide))).trans (W8_main_arg3 m ρ c)⟩, h.2⟩)
    (ends m ρ)

end Run

variable (m : (ℓ : Loc nD τ sig) → Buf (Elt Ideal) ℓ) (ρ : Dev nD → PrngReg) (c : Dev nD)

/-- The input. -/
abbrev inX : FVec Ideal S2048x1024 .bf16 := m ((c : Thread nD τ).loc main_arg0)
/-- The first weight. -/
abbrev inW : FVec Ideal S1024x5632 .bf16 := m ((c : Thread nD τ).loc main_arg1)
/-- The second weight. -/
abbrev inZ : FVec Ideal S2816x1024 .bf16 := m ((c : Thread nD τ).loc main_arg2)
/-- The output's gradient. -/
abbrev inG : FVec Ideal S2048x1024 .bf16 := m ((c : Thread nD τ).loc main_arg3)

/-- Gates and values. -/
def uOf : FVec Ideal S2048x5632 .f32 := nn (inX m c) (inW m c)
/-- The hidden activations. -/
def aOf : FVec Ideal S2048x2816 .bf16 := act halves (uOf m c)
/-- The gradient of the hidden activations. -/
def daOf : FVec Ideal S2048x2816 .f32 := nt (inG m c) (inZ m c)
/-- The gradient of gates and values. -/
def duOf : FVec Ideal S2048x5632 .bf16 := dact halves (uOf m c) (daOf m c)
/-- The output. -/
def yOf : FVec Ideal S2048x1024 .f32 := nn (aOf m c) (inZ m c)
/-- The gradient of the input. -/
def dxOf : FVec Ideal S2048x1024 .f32 := nt (duOf m c) (inW m c)
/-- The gradient of the first weight. -/
def gwOf : FVec Ideal S1024x5632 .bf16 := tn (inX m c) (duOf m c)
/-- The gradient of the second weight. -/
def gzOf : FVec Ideal S2816x1024 .bf16 := tn (aOf m c) (inG m c)

/-- After the first call. -/
theorem at1_u : W1 m ρ c (Proc.devRef .tc main_v0) = uOf m c := (W1_arr m ρ c 2).trans (out_u (V0 m ρ) c)

/-- After the second call, which reads the first's output. -/
theorem at2_u : W2 m ρ c (Proc.devRef .tc main_v0) = uOf m c := (W2_of m ρ c main_v0 (by decide +kernel)).trans (at1_u m ρ c)

/-- The second call's output. -/
theorem at2_a : W2 m ρ c (Proc.devRef .tc main_v1) = aOf m c :=
  (W2_arr m ρ c 1).trans ((out_a (V1 m ρ) c).trans (congrArg (act halves) (at1_u m ρ c)))

/-- The third call's output. -/
theorem at3_y : W3 m ρ c (Proc.devRef .tc main_v2) = yOf m c :=
  (W3_arr m ρ c 2).trans ((out_y (V2 m ρ) c).trans (congrArg₂ nn (at2_a m ρ c) (W2_args m ρ c main_arg2 (by decide))))

/-- The fourth call's output. -/
theorem at4_da : W4 m ρ c (Proc.devRef .tc main_v3) = daOf m c :=
  (W4_arr m ρ c 2).trans ((out_da (V3 m ρ) c).trans (congrArg₂ nt (W3_args m ρ c main_arg3 (by decide)) (W3_args m ρ c main_arg2 (by decide))))

/-- The activations when the fifth call starts. -/
theorem at4_a : W4 m ρ c (Proc.devRef .tc main_v1) = aOf m c :=
  (W4_of m ρ c main_v1 (by decide +kernel)).trans ((W3_of m ρ c main_v1 (by decide +kernel)).trans (at2_a m ρ c))

/-- The fifth call's output. -/
theorem at5_gz : W5 m ρ c (Proc.devRef .tc main_v4) = gzOf m c :=
  (W5_arr m ρ c 2).trans ((out_gout (V4 m ρ) c).trans (congrArg₂ tn (at4_a m ρ c) (W4_args m ρ c main_arg3 (by decide))))

/-- Gates and values when the sixth call starts. -/
theorem at5_u : W5 m ρ c (Proc.devRef .tc main_v0) = uOf m c :=
  (W5_of m ρ c main_v0 (by decide +kernel)).trans ((W4_of m ρ c main_v0 (by decide +kernel)).trans
    ((W3_of m ρ c main_v0 (by decide +kernel)).trans (at2_u m ρ c)))

/-- The activations' gradient when the sixth call starts. -/
theorem at5_da : W5 m ρ c (Proc.devRef .tc main_v3) = daOf m c := (W5_of m ρ c main_v3 (by decide +kernel)).trans (at4_da m ρ c)

/-- The sixth call's output. -/
theorem at6_du : W6 m ρ c (Proc.devRef .tc main_v5) = duOf m c :=
  (W6_arr m ρ c 2).trans ((out_du (V5 m ρ) c).trans (congrArg₂ (dact halves) (at5_u m ρ c) (at5_da m ρ c)))

/-- The seventh call's output. -/
theorem at7_dx : W7 m ρ c (Proc.devRef .tc main_v6) = dxOf m c :=
  (W7_arr m ρ c 2).trans ((out_dh (V6 m ρ) c).trans (congrArg₂ nt (at6_du m ρ c) (W6_args m ρ c main_arg1 (by decide))))

/-- The gradient of gates and values when the eighth call starts. -/
theorem at7_du : W7 m ρ c (Proc.devRef .tc main_v5) = duOf m c := (W7_of m ρ c main_v5 (by decide +kernel)).trans (at6_du m ρ c)

/-- The eighth call's output. -/
theorem at8_gw : W8 m ρ c (Proc.devRef .tc main_v7) = gwOf m c :=
  (W8_arr m ρ c 2).trans ((out_gin (V7 m ρ) c).trans (congrArg₂ tn (W7_args m ρ c main_arg0 (by decide)) (at7_du m ρ c)))

/-- The input's gradient at the end. -/
theorem at8_dx : W8 m ρ c (Proc.devRef .tc main_v6) = dxOf m c := (W8_of m ρ c main_v6 (by decide +kernel)).trans (at7_dx m ρ c)

/-- The second weight's gradient at the end. -/
theorem at8_gz : W8 m ρ c (Proc.devRef .tc main_v4) = gzOf m c :=
  (W8_of m ρ c main_v4 (by decide +kernel)).trans ((W7_of m ρ c main_v4 (by decide +kernel)).trans
    ((W6_of m ρ c main_v4 (by decide +kernel)).trans (at5_gz m ρ c)))

/-- The output at the end. -/
theorem at8_y : W8 m ρ c (Proc.devRef .tc main_v2) = yOf m c :=
  (W8_of m ρ c main_v2 (by decide +kernel)).trans ((W7_of m ρ c main_v2 (by decide +kernel)).trans
    ((W6_of m ρ c main_v2 (by decide +kernel)).trans ((W5_of m ρ c main_v2 (by decide +kernel)).trans
      ((W4_of m ρ c main_v2 (by decide +kernel)).trans (at3_y m ρ c)))))

/-- A run over the extended reals ends with the four results as functions of the arguments. -/
theorem value_run : θ_run (defs (F := Ideal)) (onTc (τ := τ) (main (F := Ideal))) ⟨m, fun _ => 0, ρ⟩ (fun r => ∀ c : Dev nD,
      r.2.mem ((c.tc : Thread nD τ).loc main_v2) = yOf m c
      ∧ r.2.mem ((c.tc : Thread nD τ).loc main_v6) = dxOf m c
      ∧ r.2.mem ((c.tc : Thread nD τ).loc main_v7) = gwOf m c
      ∧ r.2.mem ((c.tc : Thread nD τ).loc main_v4) = gzOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h.1 c _ (mem_uc main_v2 (by decide))).trans (at8_y m ρ c), (h.1 c _ (mem_uc main_v6 (by decide))).trans (at8_dx m ρ c),
        (h.1 c _ (mem_uc main_v7 (by decide))).trans (at8_gw m ρ c), (h.1 c _ (mem_uc main_v4 (by decide))).trans (at8_gz m ρ c),
        (h.1 c _ (mem_uc main_arg0 (by decide))).trans (W8_main_arg0 m ρ c), (h.1 c _ (mem_uc main_arg1 (by decide))).trans (W8_main_arg1 m ρ c),
        (h.1 c _ (mem_uc main_arg2 (by decide))).trans (W8_main_arg2 m ρ c), (h.1 c _ (mem_uc main_arg3 (by decide))).trans (W8_main_arg3 m ρ c)⟩)
    (ends m ρ)

end Cert.Ffn

end
-- ==== Proof.FfnRef.lean ====
module

public import proofs.«01_k».proof.Proof.FfnOut
public import proofs.«01_k».proof.Proof.Lift
public import proofs.«01_k».proof.Proof.Gen.Reference2Ideal.Run

@[expose] public section

set_option maxRecDepth 16384

noncomputable section

/-! The reference's feed-forward: its operations on whole arrays are the products, activations and
gradients that the calls leave. -/

namespace Cert.Ffn

open Idealize.ShloMosaic Idealize.ShloMosaic.TcCoe Idealize.SL.Sem Cert.Reference2Ideal Cert.Reference2Ideal.Gen

/-- An array of reals. -/
def IsReal {s : Shape} {φ : FTy} (A : FVec Ideal s φ) : Prop := ∃ r : s.Idx → ℝ, ∀ j, A j = ((r j : ℝ) : EReal)

/-- A product of real matrices is real. -/
theorem real_nn {a b c : ℕ} {φ χ ψ : FTy} {A : FVec Ideal ⟨2, ![a, b]⟩ φ} {B : FVec Ideal ⟨2, ![b, c]⟩ χ} (hA : IsReal A) (hB : IsReal B) :
    IsReal (nn (ψ := ψ) A B) := by
  obtain ⟨r, hr⟩ := hA
  obtain ⟨s, hs⟩ := hB
  refine ⟨fun j => ∑ k : Fin b, r (ix2 (j 0) k) * s (ix2 k (j 1)), fun j => ?_⟩
  rw [Cert.DN.coe_sum]
  exact Finset.sum_congr rfl fun k _ => by rw [hr, hs, EReal.coe_mul]

/-- So is a product with a transpose. -/
theorem real_nt {a b c : ℕ} {φ χ ψ : FTy} {A : FVec Ideal ⟨2, ![a, b]⟩ φ} {B : FVec Ideal ⟨2, ![c, b]⟩ χ} (hA : IsReal A) (hB : IsReal B) :
    IsReal (nt (ψ := ψ) A B) := by
  obtain ⟨r, hr⟩ := hA
  obtain ⟨s, hs⟩ := hB
  refine ⟨fun j => ∑ k : Fin b, r (ix2 (j 0) k) * s (ix2 (j 1) k), fun j => ?_⟩
  rw [Cert.DN.coe_sum]
  exact Finset.sum_congr rfl fun k _ => by rw [hr, hs, EReal.coe_mul]

/-- The logistic function of a real. -/
theorem sig1_real (x : ℝ) : sig1 ((x : ℝ) : EReal) = ((1 / (1 + Real.exp (-x)) : ℝ) : EReal) := by
  have pos : (1 + Real.exp (-x) : ℝ) ≠ 0 := by positivity
  have e : (1 : EReal) + Ideal.exp (0 - ((x : ℝ) : EReal)) = ((1 + Real.exp (-x) : ℝ) : EReal) := by
    rw [zero_sub, ← EReal.coe_neg, Ideal.exp_coe]
    norm_cast
  unfold sig1
  rw [e, Ideal.div_coe pos, one_mul]

/-- The gate's gradient as the chain rule writes it, from reals. -/
theorem gate_rule (x v d : ℝ) :
    ((d : EReal) * v) * sig1 x + ((x : EReal) * ((d : EReal) * v)) * (sig1 x * (1 - sig1 x)) = dgate x v d := by
  unfold dgate
  rw [sig1_real]
  norm_cast
  ring_nf

/-- Gates and values. -/
def rU (X : FVec Ideal S2048x1024 .bf16) (W : FVec Ideal S1024x5632 .bf16) : FVec Ideal S2048x5632 .f32 :=
  Host.dotGeneral dot_S2048x1024_S1024x5632_S2048x5632_1_0_0_1_n_n none (extf .f32 X bitsLt_bf16_f32) (extf .f32 W bitsLt_bf16_f32)

/-- The reference's logistic function of an array. -/
def rSig (x : FVec Ideal S2048x2816 .f32) : FVec Ideal S2048x2816 .f32 :=
  Host.divf (broadcastInDim S2048x2816 ![] bcast_S_S2048x2816 (constant S_ .f32 0x3F800000#32))
    (addf (broadcastInDim S2048x2816 ![] bcast_S_S2048x2816 (constant S_ .f32 0x3F800000#32)) (Host.exp (Host.negf x)))

/-- The gate half. -/
def rGate (u : FVec Ideal S2048x5632 .f32) : FVec Ideal S2048x2816 .f32 := extractStridedSlice S2048x2816 ![0, 0] u slices_S2048x5632_S2048x2816_0_0

/-- The value half. -/
def rVal (u : FVec Ideal S2048x5632 .f32) : FVec Ideal S2048x2816 .f32 := extractStridedSlice S2048x2816 ![0, 2816] u slices_S2048x5632_S2048x2816_0_2816

/-- The hidden activations. -/
def rA (u : FVec Ideal S2048x5632 .f32) : FVec Ideal S2048x2816 .f32 := mulf (mulf (rGate u) (rSig (rGate u))) (rVal u)

/-- The gradient of gates and values. -/
def rDU (u : FVec Ideal S2048x5632 .f32) (d : FVec Ideal S2048x2816 .f32) : FVec Ideal S2048x5632 .f32 :=
  concatenate S2048x5632 1 [⟨S2048x2816, addf (mulf (mulf d (rVal u)) (rSig (rGate u)))
      (mulf (mulf (rGate u) (mulf d (rVal u))) (mulf (rSig (rGate u)) (subf (broadcastInDim S2048x2816 ![] bcast_S_S2048x2816 (constant S_ .f32 0x3F800000#32)) (rSig (rGate u)))))⟩,
    ⟨S2048x2816, mulf (mulf (rGate u) (rSig (rGate u))) d⟩] concatenates_S2048x2816_S2048x2816_S2048x5632_d1

/-- The first product. -/
theorem rU_eq (X : FVec Ideal S2048x1024 .bf16) (W : FVec Ideal S1024x5632 .bf16) : rU X W = nn X W := by
  funext j
  idx_vars j
  unfold rU
  pointwise [nn]

/-- An entry of the logistic function of an array. -/
theorem rSig_apply (x : FVec Ideal S2048x2816 .f32) (j : S2048x2816.Idx) : rSig x j = sig1 (x j) := by
  idx_vars j
  unfold rSig sig1
  rw [zero_sub]
  pointwise

/-- The activations. -/
theorem rA_eq (u : FVec Ideal S2048x5632 .f32) : rA u = act halves u := by
  funext j
  idx_vars j
  unfold rA rGate rVal
  pointwise [rSig_apply]
  rfl

/-- An entry of the gradient of gates and values. -/
theorem rDU_apply (u : FVec Ideal S2048x5632 .f32) (d : FVec Ideal S2048x2816 .f32) (hu : IsReal u) (hd : IsReal d) (i : Fin 2048) (p : Fin 5632) :
    rDU u d (ix2 i p) = dactAt halves u d i p := by
  obtain ⟨r, hr⟩ := hu
  obtain ⟨s, hs⟩ := hd
  unfold rDU rGate rVal dactAt
  pointwise [rSig_apply]
  split
  · rw [hr, hr, hs, gate_rule, hr]
    rfl
  · exact mul_comm _ _

/-- The gradient of gates and values. -/
theorem rDU_eq (u : FVec Ideal S2048x5632 .f32) (d : FVec Ideal S2048x2816 .f32) (hu : IsReal u) (hd : IsReal d) : rDU u d = dact halves u d := by
  funext j
  idx_vars j
  exact rDU_apply u d hu hd j0 j1

/-- The activations' gradient. -/
def rDA (G : FVec Ideal S2048x1024 .bf16) (Z : FVec Ideal S2816x1024 .bf16) : FVec Ideal S2048x2816 .f32 :=
  Host.dotGeneral dot_S2048x1024_S2816x1024_S2048x2816_1_1_0_0_n_n none (extf .f32 G bitsLt_bf16_f32) (extf .f32 Z bitsLt_bf16_f32)

/-- It is the product with the second weight's transpose. -/
theorem rDA_eq (G : FVec Ideal S2048x1024 .bf16) (Z : FVec Ideal S2816x1024 .bf16) : rDA G Z = nt G Z := by
  funext j
  idx_vars j
  unfold rDA
  pointwise [nt]

/-- The output's product. -/
theorem rY_eq (A : FVec Ideal S2048x2816 .f32) (Z : FVec Ideal S2816x1024 .bf16) :
    Host.dotGeneral dot_S2048x2816_S2816x1024_S2048x1024_1_0_0_1_n_n none A (extf .f32 Z bitsLt_bf16_f32) = nn A Z := by
  funext j
  idx_vars j
  pointwise [nn]

/-- The input's gradient. -/
theorem rDX_eq (D : FVec Ideal S2048x5632 .f32) (W : FVec Ideal S1024x5632 .bf16) :
    Host.dotGeneral dot_S2048x5632_S1024x5632_S2048x1024_1_1_0_0_n_n none D (extf .f32 W bitsLt_bf16_f32) = nt D W := by
  funext j
  idx_vars j
  pointwise [nt]

/-- The first weight's gradient: the reference multiplies the factors in the other order and transposes. -/
theorem rGW_eq (D : FVec Ideal S2048x5632 .f32) (X : FVec Ideal S2048x1024 .bf16) :
    truncf .bf16 (transpose S1024x5632 [1, 0] (Host.dotGeneral dot_S2048x5632_S2048x1024_S5632x1024_0_0_1_1_n_n none D (extf .f32 X bitsLt_bf16_f32))
      transposes_S5632x1024_S1024x5632_1_0) bitsLt_bf16_f32 = tn X D := by
  funext j
  idx_vars j
  pointwise [tn]
  exact Finset.sum_congr rfl fun k _ => mul_comm _ _

/-- The second weight's gradient, likewise. -/
theorem rGZ_eq (G : FVec Ideal S2048x1024 .bf16) (A : FVec Ideal S2048x2816 .f32) :
    truncf .bf16 (transpose S2816x1024 [1, 0] (Host.dotGeneral dot_S2048x1024_S2048x2816_S1024x2816_0_0_1_1_n_n none (extf .f32 G bitsLt_bf16_f32) A)
      transposes_S1024x2816_S2816x1024_1_0) bitsLt_bf16_f32 = tn A G := by
  funext j
  idx_vars j
  pointwise [tn]
  exact Finset.sum_congr rfl fun k _ => mul_comm _ _

end Cert.Ffn

end
-- ==== Proof.FfnValue.lean ====
module

public import proofs.«01_k».proof.Defs
public import proofs.«01_k».proof.Proof.Finite
public import proofs.«01_k».proof.Proof.FfnRun
public import proofs.«01_k».proof.Proof.FfnRef

@[expose] public section

set_option maxRecDepth 16384

noncomputable section

/-! From finite inputs the calls and the reference end with the same four results. -/

namespace Cert.Ffn

open Idealize.ShloMosaic Idealize.ShloMosaic.TcCoe Idealize.SL.Sem

/-- An array whose entries are all finite is an array of reals. -/
theorem real_array {s : Shape} {φ : FTy} (A : FVec Ideal s φ)
    (h : ∀ j, Ideal.cmp .olt (max (A j) (-(A j))) (Ideal.ofBits .f32 0x7F800000#32) = 1#1) : IsReal A :=
  ⟨fun j => EReal.toReal (A j), fun j => (Cert.DN.real_of_finite _ (h j)).symm⟩

/-- Under the precondition the four arguments are arrays of reals. -/
theorem real_args [Cert.Pre_finite2.Facts] (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    IsReal (inX m c) ∧ IsReal (inW m c) ∧ IsReal (inZ m c) ∧ IsReal (inG m c) :=
  ⟨real_array _ fun j => congrFun (h c).1 j, real_array _ fun j => congrFun (h c).2.1 j, real_array _ fun j => congrFun (h c).2.2.1 j,
    real_array _ fun j => congrFun (h c).2.2.2 j⟩

section Reference

open Cert.Reference2Ideal Cert.Reference2Ideal.Gen

variable (X : FVec Ideal S2048x1024 .bf16) (W : FVec Ideal S1024x5632 .bf16) (Z : FVec Ideal S2816x1024 .bf16) (G : FVec Ideal S2048x1024 .bf16)

/-- The reference's output. -/
def refY : FVec Ideal S2048x1024 .f32 :=
  Host.dotGeneral dot_S2048x2816_S2816x1024_S2048x1024_1_0_0_1_n_n none (rA (rU X W)) (extf .f32 Z bitsLt_bf16_f32)

/-- The reference's gradient of the input. -/
def refDX : FVec Ideal S2048x1024 .f32 :=
  Host.dotGeneral dot_S2048x5632_S1024x5632_S2048x1024_1_1_0_0_n_n none (rDU (rU X W) (rDA G Z)) (extf .f32 W bitsLt_bf16_f32)

/-- The reference's gradient of the first weight. -/
def refGW : FVec Ideal S1024x5632 .bf16 :=
  truncf .bf16 (transpose S1024x5632 [1, 0] (Host.dotGeneral dot_S2048x5632_S2048x1024_S5632x1024_0_0_1_1_n_n none (rDU (rU X W) (rDA G Z))
    (extf .f32 X bitsLt_bf16_f32)) transposes_S5632x1024_S1024x5632_1_0) bitsLt_bf16_f32

/-- The reference's gradient of the second weight. -/
def refGZ : FVec Ideal S2816x1024 .bf16 :=
  truncf .bf16 (transpose S2816x1024 [1, 0] (Host.dotGeneral dot_S2048x1024_S2048x2816_S1024x2816_0_0_1_1_n_n none (extf .f32 G bitsLt_bf16_f32)
    (rA (rU X W))) transposes_S1024x2816_S2816x1024_1_0) bitsLt_bf16_f32

/-- The reference's output is the activations times the second weight. -/
theorem refY_eq : refY X W Z = nn (act (φ := .bf16) halves (nn (ψ := .f32) X W)) Z := by
  unfold refY
  rw [rY_eq, rA_eq, rU_eq]
  rfl

/-- The second weight's gradient is the activations' transpose times the cotangent. -/
theorem refGZ_eq : refGZ X W G = tn (act (φ := .bf16) halves (nn (ψ := .f32) X W)) G := by
  unfold refGZ
  rw [rGZ_eq, rA_eq, rU_eq]
  rfl

/-- The input's gradient, from real arrays, is that of gates and values times the first weight's transpose. -/
theorem refDX_eq (hX : IsReal X) (hW : IsReal W) (hZ : IsReal Z) (hG : IsReal G) :
    refDX X W Z G = nt (dact (φ := .bf16) halves (nn (ψ := .f32) X W) (nt (ψ := .f32) G Z)) W := by
  unfold refDX
  rw [rDX_eq, rU_eq, rDA_eq, rDU_eq _ _ (real_nn hX hW) (real_nt hG hZ)]
  rfl

/-- The first weight's gradient, from real arrays, is the input's transpose times that of gates and values. -/
theorem refGW_eq (hX : IsReal X) (hW : IsReal W) (hZ : IsReal Z) (hG : IsReal G) :
    refGW X W Z G = tn X (dact (φ := .bf16) halves (nn (ψ := .f32) X W) (nt (ψ := .f32) G Z)) := by
  unfold refGW
  rw [rGW_eq, rU_eq, rDA_eq, rDU_eq _ _ (real_nn hX hW) (real_nt hG hZ)]
  rfl

/-- Every run of the reference ends with its four results and its arguments unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v8) = refY (m ((c.tc : Thread nD τ).loc main_arg0)) (m ((c.tc : Thread nD τ).loc main_arg1)) (m ((c.tc : Thread nD τ).loc main_arg2))
      ∧ r.2.mem ((c.tc : Thread nD τ).loc main_v19) = refDX (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v20) = refGW (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21) = refGZ (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) (onTc (τ := τ) (main (F := Ideal))) ⟨m, fun _ => 0, g⟩).mono
    (fun _ h c => ⟨(h c).1, (h c).2.1, (h c).2.2.1, (h c).2.2.2.1, (h c).2.2.2.2⟩) (Value.run (F := Ideal) m g)

end Reference

/-- From finite inputs the calls and the reference end with the same output and gradients. -/
theorem same_results [Cert.Pre_finite2.Facts] : Cert.algebraic_Kernel2Ideal_Reference2Ideal_pre_finite2 := by
  intro m g m' g' pre same
  refine ⟨yOf m, dxOf m, gwOf m, gzOf m, value_run m g, ?_⟩
  refine (θ_run (Cert.Reference2Ideal.defs (F := Ideal)) (onTc (τ := Cert.Reference2Ideal.τ) (Cert.Reference2Ideal.main (F := Ideal))) ⟨m', fun _ => 0, g'⟩).mono
    (fun r h c => ?_) (ref_run m' g')
  obtain ⟨hX, hW, hZ, hG⟩ := real_args m pre c
  obtain ⟨e0, e1, e2, e3⟩ := same c
  obtain ⟨y, dx, gw, gz, rest⟩ := h c
  rw [e0, e1, e2] at y
  rw [e0, e1, e2, e3] at dx gw
  rw [e0, e1, e3] at gz
  exact ⟨y.trans (refY_eq _ _ _), dx.trans (refDX_eq _ _ _ _ hX hW hZ hG), gw.trans (refGW_eq _ _ _ _ hX hW hZ hG), gz.trans (refGZ_eq _ _ _), rest⟩

end Cert.Ffn

end
-- ==== Proof.FfnFrames.lean ====
module

public import proofs.«01_k».proof.Defs
public import proofs.«01_k».proof.Proof.Gen.Kernel2
public import proofs.«01_k».proof.Proof.Gen.Pre_finite2
public import proofs.«01_k».proof.Proof.FfnValue

@[expose] public section

noncomputable section

/-! The three frames of the feed-forward's programs. -/

namespace Cert.Ffn

open Idealize.ShloMosaic Idealize.SL.Sem

/-- The frame of the idealized calls, stated at the device's words. -/
def frameAtWords : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

/-- The calls and their idealized form have the same text, so the two statements are one. -/
theorem frameAtWords_eq : frameAtWords = Cert.quiescent_Kernel2 := by sl_kernel_rfl

/-- The calls' frame at the device's words. -/
theorem frame_words : Cert.quiescent_Kernel2 := frameAtWords_eq ▸ (fun m g _ => frame (F := Bits) m g : frameAtWords)

/-- The calls' frame over the extended reals. -/
theorem frame_ideal : Cert.quiescent_Kernel2Ideal := fun m g _ => frame (F := Ideal) m g

/-- The reference's frame: its run leaves the arguments unchanged, and its signature holds no semaphore. -/
theorem frame_ref : Cert.quiescent_Reference2Ideal := fun m g _ =>
  (θ_run (Cert.Reference2Ideal.defs (F := Ideal)) (onTc (τ := Cert.Reference2Ideal.τ) (Cert.Reference2Ideal.main (F := Ideal))) ⟨m, fun _ => 0, g⟩).mono
    (fun r h => ⟨fun c => (h c).2.2.2.2, sem_eq_zero_of_no_sems (by decide) r.2⟩) (ref_run m g)

end Cert.Ffn

end
-- ==== Proof.ProjOut.lean ====
module

public import proofs.«01_k».proof.Proof.FfnOut
public import proofs.«01_k».proof.Proof.Gen.Kernel3Ideal.Frame

@[expose] public section

set_option maxRecDepth 16384

noncomputable section

/-! What each of the projections' calls leaves in its output array, as a function of the whole arrays
that the call reads. -/

namespace Cert.Proj

open Idealize.ShloMosaic Idealize.ShloMosaic.TcCoe Cert.Kernel3Ideal Cert.Kernel3Ideal.Gen
open Cert.Ffn (nn nt tn zeros)

variable (V : (c : Dev nD) → (b : Ref sig .tc) → Buf (Elt Ideal) ((c : Thread nD τ).loc b)) (c : Dev nD)

/-- Where the blocks of call 0 are. -/
theorem places0 : ∀ t : Fin cfg0.N, win0_0.index t = ![t.val, 0] ∧ win0_1.index t = ![0, 0] ∧ win0_2.index t = ![t.val, 0] :=
  (by decide +kernel : ∀ t : Fin grid0.N, _)

/-- Call 0 leaves the DeltaNet's input projection. -/
theorem out_dn : (dat0 V c).arrAt 2 cfg0.N = nn (φ := .bf16) (χ := .bf16) (ψ := .f32) (V c main_arg0) (V c main_arg1) := by
  refine (dat0 V c).arrAt_eq_of_covers 2 _ (by decide +kernel) fun t hf y => ?_
  blk_simp
  rw [after0_2]
  unfold out0_2
  rw [View.canon_unit_zero zeros, View.ld_unit_zero zeros, View.ld_unit_zero zeros]
  unfold k0_pay1
  idx_vars y
  pointwise [nn]
  blk_point [iblk0, places0 t]

/-- Where the blocks of call 1 are. -/
theorem places1 : ∀ t : Fin cfg1.N, win1_0.index t = ![0, 0] ∧ win1_1.index t = ![0, t.val] ∧ win1_2.index t = ![0, t.val] :=
  (by decide +kernel : ∀ t : Fin grid1.N, _)

/-- Call 1 leaves the attention's input projection. -/
theorem out_sb : (dat1 V c).arrAt 2 cfg1.N = nn (φ := .bf16) (χ := .bf16) (ψ := .f32) (V c main_arg3) (V c main_arg4) := by
  refine (dat1 V c).arrAt_eq_of_covers 2 _ (by decide +kernel) fun t hf y => ?_
  blk_simp
  rw [after1_2]
  unfold out1_2
  rw [View.canon_unit_zero zeros, View.ld_unit_zero zeros, View.ld_unit_zero zeros]
  unfold k1_pay1
  idx_vars y
  pointwise [nn]
  blk_point [iblk1, places1 t]

/-- Where the blocks of call 2 are. -/
theorem places2 : ∀ t : Fin cfg2.N, win2_0.index t = ![0, 0] ∧ win2_1.index t = ![0, 0] ∧ win2_2.index t = ![0, 0] :=
  (by decide +kernel : ∀ t : Fin grid2.N, _)

/-- Call 2 leaves a mixer's output projection. -/
theorem out_mix : (dat2 V c).arrAt 2 cfg2.N = nn (φ := .bf16) (χ := .bf16) (ψ := .f32) (V c main_arg6) (V c main_arg7) := by
  refine (dat2 V c).arrAt_eq_of_covers 2 _ (by decide +kernel) fun t hf y => ?_
  blk_simp
  rw [after2_2]
  unfold out2_2
  rw [View.canon_unit_zero zeros, View.ld_unit_zero zeros, View.ld_unit_zero zeros]
  unfold k2_pay1
  idx_vars y
  pointwise [nn]
  blk_point [iblk2, places2 t]

/-- Where the blocks of call 3 are. -/
theorem places3 : ∀ t : Fin cfg3.N, win3_0.index t = ![0, 0] ∧ win3_1.index t = ![0, 0] ∧ win3_2.index t = ![0, 0] :=
  (by decide +kernel : ∀ t : Fin grid3.N, _)

/-- Call 3 leaves the gradient of the output projection's input. -/
theorem out_mix_dx : (dat3 V c).arrAt 2 cfg3.N = nt (φ := .bf16) (χ := .bf16) (ψ := .f32) (V c main_arg8) (V c main_arg7) := by
  refine (dat3 V c).arrAt_eq_of_covers 2 _ (by decide +kernel) fun t hf y => ?_
  blk_simp
  rw [after3_2]
  unfold out3_2
  rw [View.canon_unit_zero zeros, View.ld_unit_zero zeros, View.ld_unit_zero zeros]
  unfold k3_pay1
  idx_vars y
  pointwise [nt]
  blk_point [iblk3, places3 t]

/-- Where the blocks of call 4 are. -/
theorem places4 : ∀ t : Fin cfg4.N, win4_0.index t = ![0, 0] ∧ win4_1.index t = ![0, 0] ∧ win4_2.index t = ![0, 0] :=
  (by decide +kernel : ∀ t : Fin grid4.N, _)

/-- Call 4 leaves the gradient of the output projection's weight. -/
theorem out_mix_gw : (dat4 V c).arrAt 2 cfg4.N = tn (φ := .bf16) (χ := .bf16) (ψ := .bf16) (V c main_arg6) (V c main_arg8) := by
  refine (dat4 V c).arrAt_eq_of_covers 2 _ (by decide +kernel) fun t hf y => ?_
  blk_simp
  rw [after4_2]
  unfold out4_2
  rw [View.canon_unit_zero zeros, View.ld_unit_zero zeros, View.ld_unit_zero zeros]
  unfold k4_pay1
  idx_vars y
  pointwise [tn]
  blk_point [iblk4, places4 t]

/-- Where the blocks of call 5 are. -/
theorem places5 : ∀ t : Fin cfg5.N, win5_0.index t = ![t.val, 0] ∧ win5_1.index t = ![0, 0] ∧ win5_2.index t = ![t.val, 0] :=
  (by decide +kernel : ∀ t : Fin grid5.N, _)

/-- Call 5 leaves the gradient of the DeltaNet's input, through its projection. -/
theorem out_dn_dx : (dat5 V c).arrAt 2 cfg5.N = nt (φ := .bf16) (χ := .bf16) (ψ := .f32) (V c main_arg2) (V c main_arg1) := by
  refine (dat5 V c).arrAt_eq_of_covers 2 _ (by decide +kernel) fun t hf y => ?_
  blk_simp
  rw [after5_2]
  unfold out5_2
  rw [View.canon_unit_zero zeros, View.ld_unit_zero zeros, View.ld_unit_zero zeros]
  unfold k5_pay1
  idx_vars y
  pointwise [nt]
  blk_point [iblk5, places5 t]

/-- Where the blocks of call 6 are. -/
theorem places6 : ∀ t : Fin cfg6.N, win6_0.index t = ![0, t.val] ∧ win6_1.index t = ![0, 0] ∧ win6_2.index t = ![t.val, 0] :=
  (by decide +kernel : ∀ t : Fin grid6.N, _)

/-- Call 6 leaves the gradient of the DeltaNet's input weight. -/
theorem out_dn_gw : (dat6 V c).arrAt 2 cfg6.N = tn (φ := .bf16) (χ := .bf16) (ψ := .bf16) (V c main_arg0) (V c main_arg2) := by
  refine (dat6 V c).arrAt_eq_of_covers 2 _ (by decide +kernel) fun t hf y => ?_
  blk_simp
  rw [after6_2]
  unfold out6_2
  rw [View.canon_unit_zero zeros, View.ld_unit_zero zeros, View.ld_unit_zero zeros]
  unfold k6_pay1
  idx_vars y
  pointwise [tn]
  blk_point [iblk6, places6 t]

/-- Where the blocks of call 7 are. -/
theorem places7 : ∀ t : Fin cfg7.N, win7_0.index t = ![t.val, 0] ∧ win7_1.index t = ![0, 0] ∧ win7_2.index t = ![t.val, 0] :=
  (by decide +kernel : ∀ t : Fin grid7.N, _)

/-- Call 7 leaves the gradient of the attention's input, through its projection. -/
theorem out_sb_dx : (dat7 V c).arrAt 2 cfg7.N = nt (φ := .bf16) (χ := .bf16) (ψ := .f32) (V c main_arg5) (V c main_arg4) := by
  refine (dat7 V c).arrAt_eq_of_covers 2 _ (by decide +kernel) fun t hf y => ?_
  blk_simp
  rw [after7_2]
  unfold out7_2
  rw [View.canon_unit_zero zeros, View.ld_unit_zero zeros, View.ld_unit_zero zeros]
  unfold k7_pay1
  idx_vars y
  pointwise [nt]
  blk_point [iblk7, places7 t]

/-- Where the blocks of call 8 are. -/
theorem places8 : ∀ t : Fin cfg8.N, win8_0.index t = ![0, t.val] ∧ win8_1.index t = ![0, 0] ∧ win8_2.index t = ![t.val, 0] :=
  (by decide +kernel : ∀ t : Fin grid8.N, _)

/-- Call 8 leaves the gradient of the attention's input weight. -/
theorem out_sb_gw : (dat8 V c).arrAt 2 cfg8.N = tn (φ := .bf16) (χ := .bf16) (ψ := .bf16) (V c main_arg3) (V c main_arg5) := by
  refine (dat8 V c).arrAt_eq_of_covers 2 _ (by decide +kernel) fun t hf y => ?_
  blk_simp
  rw [after8_2]
  unfold out8_2
  rw [View.canon_unit_zero zeros, View.ld_unit_zero zeros, View.ld_unit_zero zeros]
  unfold k8_pay1
  idx_vars y
  pointwise [tn]
  blk_point [iblk8, places8 t]

end Cert.Proj

end
-- ==== Proof.ProjRun.lean ====
module

public import proofs.«01_k».proof.Proof.ProjOut

@[expose] public section

set_option maxRecDepth 16384

noncomputable section

/-! A run of the projections' calls, forward and backward: their arguments end unchanged, every counter
ends at zero, and their nine results end as products of the arguments. -/

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
open Cert.Ffn (nn nt tn)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run terminates without a fault, each buffer that outlives the calls ending as the last call leaves it and
every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h hz => ⟨h, funext fun g => hz g (.inr (no_unscoped g.2))⟩)

/-- The program's frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
      ⟨(h.1 c _ (mem_uc main_arg0 (by decide))).trans (W9_main_arg0 m ρ c),
        (h.1 c _ (mem_uc main_arg1 (by decide))).trans (W9_main_arg1 m ρ c),
        (h.1 c _ (mem_uc main_arg2 (by decide))).trans (W9_main_arg2 m ρ c),
        (h.1 c _ (mem_uc main_arg3 (by decide))).trans (W9_main_arg3 m ρ c),
        (h.1 c _ (mem_uc main_arg4 (by decide))).trans (W9_main_arg4 m ρ c),
        (h.1 c _ (mem_uc main_arg5 (by decide))).trans (W9_main_arg5 m ρ c),
        (h.1 c _ (mem_uc main_arg6 (by decide))).trans (W9_main_arg6 m ρ c),
        (h.1 c _ (mem_uc main_arg7 (by decide))).trans (W9_main_arg7 m ρ c),
        (h.1 c _ (mem_uc main_arg8 (by decide))).trans (W9_main_arg8 m ρ c)⟩, h.2⟩)
    (ends m ρ)

end Run

variable (m : (ℓ : Loc nD τ sig) → Buf (Elt Ideal) ℓ) (ρ : Dev nD → PrngReg) (c : Dev nD)

/-- The DeltaNet's input. -/
abbrev in0 : FVec Ideal S2048x1024 .bf16 := m ((c : Thread nD τ).loc main_arg0)
/-- The DeltaNet's input weight. -/
abbrev in1 : FVec Ideal S1024x4352 .bf16 := m ((c : Thread nD τ).loc main_arg1)
/-- The gradient of the DeltaNet's projections. -/
abbrev in2 : FVec Ideal S2048x4352 .bf16 := m ((c : Thread nD τ).loc main_arg2)
/-- The attention's input. -/
abbrev in3 : FVec Ideal S2048x1024 .bf16 := m ((c : Thread nD τ).loc main_arg3)
/-- The attention's input weight. -/
abbrev in4 : FVec Ideal S1024x3072 .bf16 := m ((c : Thread nD τ).loc main_arg4)
/-- The gradient of the attention's projections. -/
abbrev in5 : FVec Ideal S2048x3072 .bf16 := m ((c : Thread nD τ).loc main_arg5)
/-- A mixer's output before its projection. -/
abbrev in6 : FVec Ideal S2048x1024 .bf16 := m ((c : Thread nD τ).loc main_arg6)
/-- The output weight. -/
abbrev in7 : FVec Ideal S1024x1024 .bf16 := m ((c : Thread nD τ).loc main_arg7)
/-- The gradient of the projected output. -/
abbrev in8 : FVec Ideal S2048x1024 .bf16 := m ((c : Thread nD τ).loc main_arg8)

/-- Call 1 does not write the buffer. -/
abbrev Spares1 (r : Ref sig .tc) : Prop := ∀ w : Fin cfg1.W, Pipeline.arrRef spec1 w = r → (cfg1.win w).isOut = false
/-- Call 2 does not write the buffer. -/
abbrev Spares2 (r : Ref sig .tc) : Prop := ∀ w : Fin cfg2.W, Pipeline.arrRef spec2 w = r → (cfg2.win w).isOut = false
/-- Call 3 does not write the buffer. -/
abbrev Spares3 (r : Ref sig .tc) : Prop := ∀ w : Fin cfg3.W, Pipeline.arrRef spec3 w = r → (cfg3.win w).isOut = false
/-- Call 4 does not write the buffer. -/
abbrev Spares4 (r : Ref sig .tc) : Prop := ∀ w : Fin cfg4.W, Pipeline.arrRef spec4 w = r → (cfg4.win w).isOut = false
/-- Call 5 does not write the buffer. -/
abbrev Spares5 (r : Ref sig .tc) : Prop := ∀ w : Fin cfg5.W, Pipeline.arrRef spec5 w = r → (cfg5.win w).isOut = false
/-- Call 6 does not write the buffer. -/
abbrev Spares6 (r : Ref sig .tc) : Prop := ∀ w : Fin cfg6.W, Pipeline.arrRef spec6 w = r → (cfg6.win w).isOut = false
/-- Call 7 does not write the buffer. -/
abbrev Spares7 (r : Ref sig .tc) : Prop := ∀ w : Fin cfg7.W, Pipeline.arrRef spec7 w = r → (cfg7.win w).isOut = false
/-- Call 8 does not write the buffer. -/
abbrev Spares8 (r : Ref sig .tc) : Prop := ∀ w : Fin cfg8.W, Pipeline.arrRef spec8 w = r → (cfg8.win w).isOut = false

/-- A buffer that call 8 spares ends as call 7 left it. -/
theorem since8 (r : Ref sig .tc) (h : Spares8 r) : W9 m ρ c (Proc.devRef .tc r) = W8 m ρ c (Proc.devRef .tc r) := W9_of m ρ c r h

/-- A buffer that calls 7 to 8 spare ends as call 6 left it. -/
theorem since7 (r : Ref sig .tc) (h : Spares7 r ∧ Spares8 r) : W9 m ρ c (Proc.devRef .tc r) = W7 m ρ c (Proc.devRef .tc r) :=
  (since8 m ρ c r h.2).trans (W8_of m ρ c r h.1)

/-- A buffer that calls 6 to 8 spare ends as call 5 left it. -/
theorem since6 (r : Ref sig .tc) (h : Spares6 r ∧ Spares7 r ∧ Spares8 r) : W9 m ρ c (Proc.devRef .tc r) = W6 m ρ c (Proc.devRef .tc r) :=
  (since7 m ρ c r h.2).trans (W7_of m ρ c r h.1)

/-- A buffer that calls 5 to 8 spare ends as call 4 left it. -/
theorem since5 (r : Ref sig .tc) (h : Spares5 r ∧ Spares6 r ∧ Spares7 r ∧ Spares8 r) : W9 m ρ c (Proc.devRef .tc r) = W5 m ρ c (Proc.devRef .tc r) :=
  (since6 m ρ c r h.2).trans (W6_of m ρ c r h.1)

/-- A buffer that calls 4 to 8 spare ends as call 3 left it. -/
theorem since4 (r : Ref sig .tc) (h : Spares4 r ∧ Spares5 r ∧ Spares6 r ∧ Spares7 r ∧ Spares8 r) : W9 m ρ c (Proc.devRef .tc r) = W4 m ρ c (Proc.devRef .tc r) :=
  (since5 m ρ c r h.2).trans (W5_of m ρ c r h.1)

/-- A buffer that calls 3 to 8 spare ends as call 2 left it. -/
theorem since3 (r : Ref sig .tc) (h : Spares3 r ∧ Spares4 r ∧ Spares5 r ∧ Spares6 r ∧ Spares7 r ∧ Spares8 r) : W9 m ρ c (Proc.devRef .tc r) = W3 m ρ c (Proc.devRef .tc r) :=
  (since4 m ρ c r h.2).trans (W4_of m ρ c r h.1)

/-- A buffer that calls 2 to 8 spare ends as call 1 left it. -/
theorem since2 (r : Ref sig .tc) (h : Spares2 r ∧ Spares3 r ∧ Spares4 r ∧ Spares5 r ∧ Spares6 r ∧ Spares7 r ∧ Spares8 r) : W9 m ρ c (Proc.devRef .tc r) = W2 m ρ c (Proc.devRef .tc r) :=
  (since3 m ρ c r h.2).trans (W3_of m ρ c r h.1)

/-- A buffer that calls 1 to 8 spare ends as call 0 left it. -/
theorem since1 (r : Ref sig .tc) (h : Spares1 r ∧ Spares2 r ∧ Spares3 r ∧ Spares4 r ∧ Spares5 r ∧ Spares6 r ∧ Spares7 r ∧ Spares8 r) : W9 m ρ c (Proc.devRef .tc r) = W1 m ρ c (Proc.devRef .tc r) :=
  (since2 m ρ c r h.2).trans (W2_of m ρ c r h.1)

/-- At the end: the DeltaNet's input projection. -/
theorem end_dn : W9 m ρ c (Proc.devRef .tc main_v0) = nn (ψ := .f32) (in0 m c) (in1 m c) :=
  (since1 m ρ c main_v0 (by decide +kernel)).trans ((W1_arr m ρ c 2).trans ((out_dn (V0 m ρ) c).trans (congrArg₂ nn (W0_args m ρ c main_arg0 (by decide)) (W0_args m ρ c main_arg1 (by decide)))))

/-- At the end: the attention's input projection. -/
theorem end_sb : W9 m ρ c (Proc.devRef .tc main_v1) = nn (ψ := .f32) (in3 m c) (in4 m c) :=
  (since2 m ρ c main_v1 (by decide +kernel)).trans ((W2_arr m ρ c 2).trans ((out_sb (V1 m ρ) c).trans (congrArg₂ nn (W1_args m ρ c main_arg3 (by decide)) (W1_args m ρ c main_arg4 (by decide)))))

/-- At the end: a mixer's output projection. -/
theorem end_mix : W9 m ρ c (Proc.devRef .tc main_v2) = nn (ψ := .f32) (in6 m c) (in7 m c) :=
  (since3 m ρ c main_v2 (by decide +kernel)).trans ((W3_arr m ρ c 2).trans ((out_mix (V2 m ρ) c).trans (congrArg₂ nn (W2_args m ρ c main_arg6 (by decide)) (W2_args m ρ c main_arg7 (by decide)))))

/-- At the end: the gradient of the output projection's input. -/
theorem end_mix_dx : W9 m ρ c (Proc.devRef .tc main_v3) = nt (ψ := .f32) (in8 m c) (in7 m c) :=
  (since4 m ρ c main_v3 (by decide +kernel)).trans ((W4_arr m ρ c 2).trans ((out_mix_dx (V3 m ρ) c).trans (congrArg₂ nt (W3_args m ρ c main_arg8 (by decide)) (W3_args m ρ c main_arg7 (by decide)))))

/-- At the end: the gradient of the output projection's weight. -/
theorem end_mix_gw : W9 m ρ c (Proc.devRef .tc main_v4) = tn (ψ := .bf16) (in6 m c) (in8 m c) :=
  (since5 m ρ c main_v4 (by decide +kernel)).trans ((W5_arr m ρ c 2).trans ((out_mix_gw (V4 m ρ) c).trans (congrArg₂ tn (W4_args m ρ c main_arg6 (by decide)) (W4_args m ρ c main_arg8 (by decide)))))

/-- At the end: the gradient of the DeltaNet's input, through its projection. -/
theorem end_dn_dx : W9 m ρ c (Proc.devRef .tc main_v5) = nt (ψ := .f32) (in2 m c) (in1 m c) :=
  (since6 m ρ c main_v5 (by decide +kernel)).trans ((W6_arr m ρ c 2).trans ((out_dn_dx (V5 m ρ) c).trans (congrArg₂ nt (W5_args m ρ c main_arg2 (by decide)) (W5_args m ρ c main_arg1 (by decide)))))

/-- At the end: the gradient of the DeltaNet's input weight. -/
theorem end_dn_gw : W9 m ρ c (Proc.devRef .tc main_v6) = tn (ψ := .bf16) (in0 m c) (in2 m c) :=
  (since7 m ρ c main_v6 (by decide +kernel)).trans ((W7_arr m ρ c 2).trans ((out_dn_gw (V6 m ρ) c).trans (congrArg₂ tn (W6_args m ρ c main_arg0 (by decide)) (W6_args m ρ c main_arg2 (by decide)))))

/-- At the end: the gradient of the attention's input, through its projection. -/
theorem end_sb_dx : W9 m ρ c (Proc.devRef .tc main_v7) = nt (ψ := .f32) (in5 m c) (in4 m c) :=
  (since8 m ρ c main_v7 (by decide +kernel)).trans ((W8_arr m ρ c 2).trans ((out_sb_dx (V7 m ρ) c).trans (congrArg₂ nt (W7_args m ρ c main_arg5 (by decide)) (W7_args m ρ c main_arg4 (by decide)))))

/-- At the end: the gradient of the attention's input weight. -/
theorem end_sb_gw : W9 m ρ c (Proc.devRef .tc main_v8) = tn (ψ := .bf16) (in3 m c) (in5 m c) :=
  (W9_arr m ρ c 2).trans ((out_sb_gw (V8 m ρ) c).trans (congrArg₂ tn (W8_args m ρ c main_arg3 (by decide)) (W8_args m ρ c main_arg5 (by decide))))

/-- A run over the extended reals ends with the nine results as products of the arguments. -/
theorem value_run : θ_run (defs (F := Ideal)) (onTc (τ := τ) (main (F := Ideal))) ⟨m, fun _ => 0, ρ⟩ (fun r => ∀ c : Dev nD,
      r.2.mem ((c.tc : Thread nD τ).loc main_v0) = nn (ψ := .f32) (in0 m c) (in1 m c)
      ∧ r.2.mem ((c.tc : Thread nD τ).loc main_v1) = nn (ψ := .f32) (in3 m c) (in4 m c)
      ∧ r.2.mem ((c.tc : Thread nD τ).loc main_v2) = nn (ψ := .f32) (in6 m c) (in7 m c)
      ∧ r.2.mem ((c.tc : Thread nD τ).loc main_v3) = nt (ψ := .f32) (in8 m c) (in7 m c)
      ∧ r.2.mem ((c.tc : Thread nD τ).loc main_v4) = tn (ψ := .bf16) (in6 m c) (in8 m c)
      ∧ r.2.mem ((c.tc : Thread nD τ).loc main_v5) = nt (ψ := .f32) (in2 m c) (in1 m c)
      ∧ r.2.mem ((c.tc : Thread nD τ).loc main_v6) = tn (ψ := .bf16) (in0 m c) (in2 m c)
      ∧ r.2.mem ((c.tc : Thread nD τ).loc main_v7) = nt (ψ := .f32) (in5 m c) (in4 m c)
      ∧ r.2.mem ((c.tc : Thread nD τ).loc main_v8) = tn (ψ := .bf16) (in3 m c) (in5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨(h.1 c _ (mem_uc main_v0 (by decide))).trans (end_dn m ρ c),
        (h.1 c _ (mem_uc main_v1 (by decide))).trans (end_sb m ρ c),
        (h.1 c _ (mem_uc main_v2 (by decide))).trans (end_mix m ρ c),
        (h.1 c _ (mem_uc main_v3 (by decide))).trans (end_mix_dx m ρ c),
        (h.1 c _ (mem_uc main_v4 (by decide))).trans (end_mix_gw m ρ c),
        (h.1 c _ (mem_uc main_v5 (by decide))).trans (end_dn_dx m ρ c),
        (h.1 c _ (mem_uc main_v6 (by decide))).trans (end_dn_gw m ρ c),
        (h.1 c _ (mem_uc main_v7 (by decide))).trans (end_sb_dx m ρ c),
        (h.1 c _ (mem_uc main_v8 (by decide))).trans (end_sb_gw m ρ c),
        (h.1 c _ (mem_uc main_arg0 (by decide))).trans (W9_main_arg0 m ρ c),
        (h.1 c _ (mem_uc main_arg1 (by decide))).trans (W9_main_arg1 m ρ c),
        (h.1 c _ (mem_uc main_arg2 (by decide))).trans (W9_main_arg2 m ρ c),
        (h.1 c _ (mem_uc main_arg3 (by decide))).trans (W9_main_arg3 m ρ c),
        (h.1 c _ (mem_uc main_arg4 (by decide))).trans (W9_main_arg4 m ρ c),
        (h.1 c _ (mem_uc main_arg5 (by decide))).trans (W9_main_arg5 m ρ c),
        (h.1 c _ (mem_uc main_arg6 (by decide))).trans (W9_main_arg6 m ρ c),
        (h.1 c _ (mem_uc main_arg7 (by decide))).trans (W9_main_arg7 m ρ c),
        (h.1 c _ (mem_uc main_arg8 (by decide))).trans (W9_main_arg8 m ρ c)⟩)
    (ends m ρ)

end Cert.Proj

end
-- ==== Proof.ProjValue.lean ====
module

public import proofs.«01_k».proof.Defs
public import proofs.«01_k».proof.Proof.ProjRun
public import proofs.«01_k».proof.Proof.Gen.Kernel3
public import proofs.«01_k».proof.Proof.Gen.Reference3Ideal.Run

@[expose] public section

set_option maxRecDepth 16384

noncomputable section

/-! The projections' reference, the equation, and the three frames. -/

namespace Cert.Proj

open Idealize.ShloMosaic Idealize.ShloMosaic.TcCoe Idealize.SL.Sem
open Cert.Ffn (nn nt tn)

section Reference

open Cert.Reference3Ideal Cert.Reference3Ideal.Gen

/-- The reference's way to the DeltaNet's input projection. -/
theorem ref_dn (X : FVec Ideal S2048x1024 .bf16) (W : FVec Ideal S1024x4352 .bf16) :
    Host.dotGeneral dot_S2048x1024_S1024x4352_S2048x4352_1_0_0_1_n_n none (extf .f32 X bitsLt_bf16_f32) (extf .f32 W bitsLt_bf16_f32) = nn X W := by
  funext j
  idx_vars j
  pointwise [nn]

/-- The reference's way to the attention's input projection. -/
theorem ref_sb (X : FVec Ideal S2048x1024 .bf16) (W : FVec Ideal S1024x3072 .bf16) :
    Host.dotGeneral dot_S2048x1024_S1024x3072_S2048x3072_1_0_0_1_n_n none (extf .f32 X bitsLt_bf16_f32) (extf .f32 W bitsLt_bf16_f32) = nn X W := by
  funext j
  idx_vars j
  pointwise [nn]

/-- The reference's way to a mixer's output projection. -/
theorem ref_mix (X : FVec Ideal S2048x1024 .bf16) (W : FVec Ideal S1024x1024 .bf16) :
    Host.dotGeneral dot_S2048x1024_S1024x1024_S2048x1024_1_0_0_1_n_n none (extf .f32 X bitsLt_bf16_f32) (extf .f32 W bitsLt_bf16_f32) = nn X W := by
  funext j
  idx_vars j
  pointwise [nn]

/-- The reference's way to the gradient of the output projection's input. -/
theorem ref_mix_dx (X : FVec Ideal S2048x1024 .bf16) (W : FVec Ideal S1024x1024 .bf16) :
    Host.dotGeneral dot_S2048x1024_S1024x1024_S2048x1024_1_1_0_0_n_n none (extf .f32 X bitsLt_bf16_f32) (extf .f32 W bitsLt_bf16_f32) = nt X W := by
  funext j
  idx_vars j
  pointwise [nt]

/-- The reference's way to the gradient of the output projection's weight: the factors in the other order, then transposed. -/
theorem ref_mix_gw (X : FVec Ideal S2048x1024 .bf16) (D : FVec Ideal S2048x1024 .bf16) :
    truncf .bf16 (transpose S1024x1024 [1, 0] (Host.dotGeneral dot_S2048x1024_S2048x1024_S1024x1024_0_0_1_1_n_n none (extf .f32 D bitsLt_bf16_f32) (extf .f32 X bitsLt_bf16_f32))
      transposes_S1024x1024_S1024x1024_1_0) bitsLt_bf16_f32 = tn X D := by
  funext j
  idx_vars j
  pointwise [tn]
  exact Finset.sum_congr rfl fun k _ => mul_comm _ _

/-- The reference's way to the gradient of the DeltaNet's input, through its projection. -/
theorem ref_dn_dx (X : FVec Ideal S2048x4352 .bf16) (W : FVec Ideal S1024x4352 .bf16) :
    Host.dotGeneral dot_S2048x4352_S1024x4352_S2048x1024_1_1_0_0_n_n none (extf .f32 X bitsLt_bf16_f32) (extf .f32 W bitsLt_bf16_f32) = nt X W := by
  funext j
  idx_vars j
  pointwise [nt]

/-- The reference's way to the gradient of the DeltaNet's input weight: the factors in the other order, then transposed. -/
theorem ref_dn_gw (X : FVec Ideal S2048x1024 .bf16) (D : FVec Ideal S2048x4352 .bf16) :
    truncf .bf16 (transpose S1024x4352 [1, 0] (Host.dotGeneral dot_S2048x4352_S2048x1024_S4352x1024_0_0_1_1_n_n none (extf .f32 D bitsLt_bf16_f32) (extf .f32 X bitsLt_bf16_f32))
      transposes_S4352x1024_S1024x4352_1_0) bitsLt_bf16_f32 = tn X D := by
  funext j
  idx_vars j
  pointwise [tn]
  exact Finset.sum_congr rfl fun k _ => mul_comm _ _

/-- The reference's way to the gradient of the attention's input, through its projection. -/
theorem ref_sb_dx (X : FVec Ideal S2048x3072 .bf16) (W : FVec Ideal S1024x3072 .bf16) :
    Host.dotGeneral dot_S2048x3072_S1024x3072_S2048x1024_1_1_0_0_n_n none (extf .f32 X bitsLt_bf16_f32) (extf .f32 W bitsLt_bf16_f32) = nt X W := by
  funext j
  idx_vars j
  pointwise [nt]

/-- The reference's way to the gradient of the attention's input weight: the factors in the other order, then transposed. -/
theorem ref_sb_gw (X : FVec Ideal S2048x1024 .bf16) (D : FVec Ideal S2048x3072 .bf16) :
    truncf .bf16 (transpose S1024x3072 [1, 0] (Host.dotGeneral dot_S2048x3072_S2048x1024_S3072x1024_0_0_1_1_n_n none (extf .f32 D bitsLt_bf16_f32) (extf .f32 X bitsLt_bf16_f32))
      transposes_S3072x1024_S1024x3072_1_0) bitsLt_bf16_f32 = tn X D := by
  funext j
  idx_vars j
  pointwise [tn]
  exact Finset.sum_congr rfl fun k _ => mul_comm _ _

/-- Every run of the reference ends with the nine products and its arguments unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = nn (φ := .bf16) (χ := .bf16) (ψ := .f32) (m ((c.tc : Thread nD τ).loc main_arg0)) (m ((c.tc : Thread nD τ).loc main_arg1))
      ∧ r.2.mem ((c.tc : Thread nD τ).loc main_v5) = nn (φ := .bf16) (χ := .bf16) (ψ := .f32) (m ((c.tc : Thread nD τ).loc main_arg3)) (m ((c.tc : Thread nD τ).loc main_arg4))
      ∧ r.2.mem ((c.tc : Thread nD τ).loc main_v8) = nn (φ := .bf16) (χ := .bf16) (ψ := .f32) (m ((c.tc : Thread nD τ).loc main_arg6)) (m ((c.tc : Thread nD τ).loc main_arg7))
      ∧ r.2.mem ((c.tc : Thread nD τ).loc main_v12) = nt (φ := .bf16) (χ := .bf16) (ψ := .f32) (m ((c.tc : Thread nD τ).loc main_arg8)) (m ((c.tc : Thread nD τ).loc main_arg7))
      ∧ r.2.mem ((c.tc : Thread nD τ).loc main_v21) = tn (φ := .bf16) (χ := .bf16) (ψ := .bf16) (m ((c.tc : Thread nD τ).loc main_arg6)) (m ((c.tc : Thread nD τ).loc main_arg8))
      ∧ r.2.mem ((c.tc : Thread nD τ).loc main_v16) = nt (φ := .bf16) (χ := .bf16) (ψ := .f32) (m ((c.tc : Thread nD τ).loc main_arg2)) (m ((c.tc : Thread nD τ).loc main_arg1))
      ∧ r.2.mem ((c.tc : Thread nD τ).loc main_v22) = tn (φ := .bf16) (χ := .bf16) (ψ := .bf16) (m ((c.tc : Thread nD τ).loc main_arg0)) (m ((c.tc : Thread nD τ).loc main_arg2))
      ∧ r.2.mem ((c.tc : Thread nD τ).loc main_v20) = nt (φ := .bf16) (χ := .bf16) (ψ := .f32) (m ((c.tc : Thread nD τ).loc main_arg5)) (m ((c.tc : Thread nD τ).loc main_arg4))
      ∧ r.2.mem ((c.tc : Thread nD τ).loc main_v23) = tn (φ := .bf16) (χ := .bf16) (ψ := .bf16) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) (onTc (τ := τ) (main (F := Ideal))) ⟨m, fun _ => 0, g⟩).mono
    (fun _ h c => ⟨(h c).1.trans (ref_dn _ _), (h c).2.1.trans (ref_sb _ _), (h c).2.2.1.trans (ref_mix _ _), (h c).2.2.2.1.trans (ref_mix_dx _ _), (h c).2.2.2.2.1.trans (ref_mix_gw _ _), (h c).2.2.2.2.2.1.trans (ref_dn_dx _ _), (h c).2.2.2.2.2.2.1.trans (ref_dn_gw _ _), (h c).2.2.2.2.2.2.2.1.trans (ref_sb_dx _ _), (h c).2.2.2.2.2.2.2.2.1.trans (ref_sb_gw _ _), (h c).2.2.2.2.2.2.2.2.2⟩)
    (Value.run (F := Ideal) m g)

end Reference

/-- The calls and the reference end with the same nine results. -/
theorem same_results : Cert.algebraic_Kernel3Ideal_Reference3Ideal := by
  intro m g m' g' _ same
  refine ⟨fun c => nn (in0 m c) (in1 m c), fun c => nn (in3 m c) (in4 m c), fun c => nn (in6 m c) (in7 m c), fun c => nt (in8 m c) (in7 m c), fun c => tn (in6 m c) (in8 m c), fun c => nt (in2 m c) (in1 m c), fun c => tn (in0 m c) (in2 m c), fun c => nt (in5 m c) (in4 m c), fun c => tn (in3 m c) (in5 m c), value_run m g, ?_⟩
  refine (θ_run (Cert.Reference3Ideal.defs (F := Ideal)) (onTc (τ := Cert.Reference3Ideal.τ) (Cert.Reference3Ideal.main (F := Ideal))) ⟨m', fun _ => 0, g'⟩).mono
    (fun r h c => ?_) (ref_run m' g')
  obtain ⟨e0, e1, e2, e3, e4, e5, e6, e7, e8⟩ := same c
  obtain ⟨r0, r1, r2, r3, r4, r5, r6, r7, r8, rest⟩ := h c
  exact ⟨r0.trans (congrArg₂ nn e0 e1), r1.trans (congrArg₂ nn e3 e4), r2.trans (congrArg₂ nn e6 e7), r3.trans (congrArg₂ nt e8 e7), r4.trans (congrArg₂ tn e6 e8), r5.trans (congrArg₂ nt e2 e1), r6.trans (congrArg₂ tn e0 e2), r7.trans (congrArg₂ nt e5 e4), r8.trans (congrArg₂ tn e3 e5), rest⟩

/-- The frame of the idealized calls, stated at the device's words. -/
def frameAtWords : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

/-- The calls and their idealized form have the same text, so the two statements are one. -/
theorem frameAtWords_eq : frameAtWords = Cert.quiescent_Kernel3 := by sl_kernel_rfl

/-- The calls' frame at the device's words. -/
theorem frame_words : Cert.quiescent_Kernel3 := frameAtWords_eq ▸ (fun m g _ => frame (F := Bits) m g : frameAtWords)

/-- The calls' frame over the extended reals. -/
theorem frame_ideal : Cert.quiescent_Kernel3Ideal := fun m g _ => frame (F := Ideal) m g

/-- The reference's frame: its run leaves the arguments unchanged, and its signature holds no semaphore. -/
theorem frame_ref : Cert.quiescent_Reference3Ideal := fun m g _ =>
  (θ_run (Cert.Reference3Ideal.defs (F := Ideal)) (onTc (τ := Cert.Reference3Ideal.τ) (Cert.Reference3Ideal.main (F := Ideal))) ⟨m, fun _ => 0, g⟩).mono
    (fun r h => ⟨fun c => (h c).2.2.2.2.2.2.2.2.2, sem_eq_zero_of_no_sems (by decide) r.2⟩) (ref_run m g)

end Cert.Proj

end
-- ==== Proof.NormOut.lean ====
module

public import proofs.«01_k».proof.Proof.FfnOut
public import proofs.«01_k».proof.Proof.Gen.Kernel4Ideal.Frame

@[expose] public section

set_option maxRecDepth 16384

noncomputable section

/-! What each of the calls of the norm and of the residual connection leaves in its output arrays, as a
function of the whole arrays that the call reads. -/

namespace Cert.Norm

open Idealize.ShloMosaic Idealize.ShloMosaic.TcCoe Cert.Kernel4Ideal Cert.Kernel4Ideal.Gen
open Cert.Ffn (zeros)

/-- The mean square of row `i`, a little above it. -/
def msq {a b : ℕ} (x : FVec Ideal ⟨2, ![a, b]⟩ .f32) (i : Fin a) : EReal :=
  Ideal.div (∑ k : Fin b, (x (ix2 i k) * x (ix2 i k) : EReal)) (Ideal.ofBits .f32 0x44800000#32) + Ideal.ofBits .f32 0x358637BD#32

/-- The reciprocal root mean square of row `i`. -/
def rms {a b : ℕ} (x : FVec Ideal ⟨2, ![a, b]⟩ .f32) (i : Fin a) : EReal := Ideal.rsqrt (msq x i)

/-- The normalised, scaled and shifted array. -/
def normed {a b : ℕ} {φ : FTy} (x : FVec Ideal ⟨2, ![a, b]⟩ .f32) (g sc sh : FVec Ideal ⟨2, ![1, b]⟩ .f32) : FVec Ideal ⟨2, ![a, b]⟩ φ :=
  fun j => (x j * rms x (j 0) * g (ix2 0 (j 1)) * (1 + sc (ix2 0 (j 1))) + sh (ix2 0 (j 1)) : EReal)

/-- The residual connection. -/
def resid {a b : ℕ} (x y : FVec Ideal ⟨2, ![a, b]⟩ .f32) (gt : FVec Ideal ⟨2, ![1, b]⟩ .f32) : FVec Ideal ⟨2, ![a, b]⟩ .f32 :=
  fun j => (x j + gt (ix2 0 (j 1)) * y j : EReal)

/-- An array with each column times an entry of a row. -/
def scaled {a b : ℕ} {φ : FTy} (gt : FVec Ideal ⟨2, ![1, b]⟩ .f32) (d : FVec Ideal ⟨2, ![a, b]⟩ .f32) : FVec Ideal ⟨2, ![a, b]⟩ φ :=
  fun j => (gt (ix2 0 (j 1)) * d j : EReal)

variable (V : (c : Dev nD) → (b : Ref sig .tc) → Buf (Elt Ideal) ((c : Thread nD τ).loc b)) (c : Dev nD)

/-- Where the blocks of the norm's call are. -/
theorem places0 : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The norm's call leaves the normalised, scaled and shifted array. -/
theorem out_h : (dat0 V c).arrAt 4 cfg0.N = normed (φ := .bf16) (V c main_arg0) (V c main_arg1) (V c main_arg2) (V c main_arg3) := by
  refine (dat0 V c).arrAt_eq_of_covers 4 _ (by decide +kernel) fun t hf y => ?_
  blk_simp
  rw [after0_4]
  frame_out
  unfold k0_pay1
  idx_vars y
  pointwise [normed, rms, msq]
  blk_point [iblk0, places0 t]

/-- Where the blocks of the residual connection's call are. -/
theorem places1 : ∀ t : Fin cfg1.N, win1_0.index t = ![t.val, 0] ∧ win1_1.index t = ![t.val, 0] ∧ win1_2.index t = ![0, 0]
    ∧ win1_3.index t = ![t.val, 0] :=
  (by decide +kernel : ∀ t : Fin grid1.N, _)

/-- The residual connection's call leaves the sum. -/
theorem out_r : (dat1 V c).arrAt 3 cfg1.N = resid (V c main_arg0) (V c main_arg4) (V c main_arg5) := by
  refine (dat1 V c).arrAt_eq_of_covers 3 _ (by decide +kernel) fun t hf y => ?_
  blk_simp
  rw [after1_3]
  frame_out
  unfold k1_pay1
  idx_vars y
  pointwise [resid]
  blk_point [iblk1, places1 t]

/-- Where the blocks of the residual connection's backward call are. -/
theorem places2 : ∀ t : Fin cfg2.N, win2_0.index t = ![t.val, 0] ∧ win2_1.index t = ![t.val, 0] ∧ win2_2.index t = ![0, 0]
    ∧ win2_3.index t = ![t.val, 0] ∧ win2_4.index t = ![0, 0] :=
  (by decide +kernel : ∀ t : Fin grid2.N, _)

/-- The residual connection's backward call leaves the branch's gradient. -/
theorem out_dy : (dat2 V c).arrAt 3 cfg2.N = scaled (φ := .bf16) (V c main_arg5) (V c main_arg7) := by
  refine (dat2 V c).arrAt_eq_of_covers 3 _ (by decide +kernel) fun t hf y => ?_
  blk_simp
  rw [after2_3]
  by_cases h : t.val % 2 = 0
  · rw [outsAt2_A V c t h]
    frame_out
    unfold k2_pay1
    idx_vars y
    pointwise [scaled]
    blk_point [iblk2, places2 t]
  · rw [outsAt2_B V c t h]
    frame_out
    unfold k2_pay1
    idx_vars y
    pointwise [scaled]
    blk_point [iblk2, places2 t]

end Cert.Norm

end
-- ==== Proof.NormSum.lean ====
module

public import proofs.«01_k».proof.Proof.NormOut

@[expose] public section

set_option maxRecDepth 16384

noncomputable section

/-! What the backward calls of the norm and of the residual connection leave in the rows that they add
to block by block: sums over all rows of the arrays. -/

namespace Cert.Norm

open Idealize.ShloMosaic Idealize.ShloMosaic.TcCoe Cert.Kernel4Ideal Cert.Kernel4Ideal.Gen

/-- The sums of an array's columns. -/
def colsum {a b : ℕ} (x : FVec Ideal ⟨2, ![a, b]⟩ .f32) : FVec Ideal ⟨2, ![1, b]⟩ .f32 :=
  fun j => ∑ i : Fin a, (x (ix2 i (j 1)) : EReal)

/-- The entrywise product of two arrays. -/
def times {a b : ℕ} (x y : FVec Ideal ⟨2, ![a, b]⟩ .f32) : FVec Ideal ⟨2, ![a, b]⟩ .f32 := fun j => (x j * y j : EReal)

/-- The normalised array. -/
def unitrows {a b : ℕ} (x : FVec Ideal ⟨2, ![a, b]⟩ .f32) : FVec Ideal ⟨2, ![a, b]⟩ .f32 := fun j => (x j * rms x (j 0) : EReal)

/-- What the gain's gradient sums: the gradient times the normalised array times the scale. -/
def gainPart {a b : ℕ} (x d : FVec Ideal ⟨2, ![a, b]⟩ .f32) (sc : FVec Ideal ⟨2, ![1, b]⟩ .f32) : FVec Ideal ⟨2, ![a, b]⟩ .f32 :=
  fun j => (d j * unitrows x j * (1 + sc (ix2 0 (j 1))) : EReal)

/-- What the scale's gradient sums: the gradient times the normalised array times the gain. -/
def scalePart {a b : ℕ} (x d : FVec Ideal ⟨2, ![a, b]⟩ .f32) (g : FVec Ideal ⟨2, ![1, b]⟩ .f32) : FVec Ideal ⟨2, ![a, b]⟩ .f32 :=
  fun j => (d j * unitrows x j * g (ix2 0 (j 1)) : EReal)

/-- The gradient of the normalised array. -/
def dunit {a b : ℕ} (d : FVec Ideal ⟨2, ![a, b]⟩ .f32) (g sc : FVec Ideal ⟨2, ![1, b]⟩ .f32) : FVec Ideal ⟨2, ![a, b]⟩ .f32 :=
  fun j => (d j * (g (ix2 0 (j 1)) * (1 + sc (ix2 0 (j 1)))) : EReal)

/-- The gradient of the norm's input, plus the gradient that comes past the norm. -/
def dinput {a b : ℕ} (x d e : FVec Ideal ⟨2, ![a, b]⟩ .f32) (g sc : FVec Ideal ⟨2, ![1, b]⟩ .f32) : FVec Ideal ⟨2, ![a, b]⟩ .f32 :=
  fun j => (rms x (j 0) * (dunit d g sc j - unitrows x j *
    Ideal.div (∑ k : Fin b, (dunit d g sc (ix2 (j 0) k) * unitrows x (ix2 (j 0) k) : EReal)) (Ideal.ofBits .f32 0x44800000#32)) + e j : EReal)

/-- The residual connection's backward call adds the sums of one block's columns. -/
theorem step_dgt (x y : Vec Ideal S1024x1024 .f32) (acc : Vec Ideal S1x1024 .f32) (j : S1x1024.Idx) :
    k2_pay3 x y acc j = acc j + colsum (a := 1024) (b := 1024) (times x y) j := by
  unfold k2_pay3
  idx_vars j
  pointwise [colsum, times]

/-- It starts from zero. -/
theorem start_dgt (j : S1x1024.Idx) : k2_pay2 (F := Ideal) j = 0 := by
  unfold k2_pay2
  pointwise

/-- The norm's backward call adds to the gain's gradient the sums of one block's columns. -/
theorem step_dg (x d : Vec Ideal S512x1024 .f32) (sc acc : Vec Ideal S1x1024 .f32) (j : S1x1024.Idx) :
    k3_pay4 (k3_pay11 x d sc) acc j = acc j + colsum (a := 512) (b := 1024) (gainPart x d sc) j := by
  unfold k3_pay4 k3_pay11 k3_pay10 k3_pay8 k3_pay7
  idx_vars j
  pointwise [colsum, gainPart, unitrows, rms, msq]

/-- It adds to the scale's gradient the sums of one block's columns. -/
theorem step_dsc (x d : Vec Ideal S512x1024 .f32) (g acc : Vec Ideal S1x1024 .f32) (j : S1x1024.Idx) :
    k3_pay5 (k3_pay12 x d g) acc j = acc j + colsum (a := 512) (b := 1024) (scalePart x d g) j := by
  unfold k3_pay5 k3_pay12 k3_pay10 k3_pay8 k3_pay7
  idx_vars j
  pointwise [colsum, scalePart, unitrows, rms, msq]

/-- It adds to the shift's gradient the sums of one block's columns. -/
theorem step_dsh (d : Vec Ideal S512x1024 .f32) (acc : Vec Ideal S1x1024 .f32) (j : S1x1024.Idx) :
    k3_pay6 d acc j = acc j + colsum (a := 512) (b := 1024) d j := by
  unfold k3_pay6
  idx_vars j
  pointwise [colsum]

/-- The gain's gradient starts from zero. -/
theorem start_dg (j : S1x1024.Idx) : k3_pay1 (F := Ideal) j = 0 := by
  unfold k3_pay1
  pointwise

/-- The scale's gradient starts from zero. -/
theorem start_dsc (j : S1x1024.Idx) : k3_pay2 (F := Ideal) j = 0 := by
  unfold k3_pay2
  pointwise

/-- The shift's gradient starts from zero. -/
theorem start_dsh (j : S1x1024.Idx) : k3_pay3 (F := Ideal) j = 0 := by
  unfold k3_pay3
  pointwise

variable (V : (c : Dev nD) → (b : Ref sig .tc) → Buf (Elt Ideal) ((c : Thread nD τ).loc b)) (c : Dev nD)

/-- The residual connection's backward call leaves the gate's gradient. -/
theorem out_dgt : (dat2 V c).arrAt 4 cfg2.N = colsum (times (V c main_arg7) (V c main_arg4)) := by
  refine (dat2 V c).arrAt_eq_of_after_last 4 t2_1 (by decide +kernel) _ fun y => ?_
  blk_simp
  rw [after2_4, Pipeline.eq_sum_fin_of_reset_step_apply_last (fun n h => (outsAt2 V c n h).2) 2 (fun _ => 0) _
    (fun t h j => by rw [outsAt2_A V c t h]; frame_out; rw [step_dgt, start_dgt])
    (fun t h j => by rw [outsAt2_B V c t h]; frame_out; rw [step_dgt])
    (le_of_eq N_2) t2_1 rfl, zero_add]
  unfold colsum
  refine Fin.sum_mul_add_congr fun s k hl => ?_
  idx_vars y
  unfold times
  blk_point [iblk2, places2 s]

/-- Where the blocks of the norm's backward call are. -/
theorem places3 : ∀ t : Fin cfg3.N, win3_0.index t = ![t.val, 0] ∧ win3_1.index t = ![t.val, 0] ∧ win3_2.index t = ![t.val, 0]
    ∧ win3_3.index t = ![0, 0] ∧ win3_4.index t = ![0, 0] ∧ win3_5.index t = ![t.val, 0] :=
  (by decide +kernel : ∀ t : Fin grid3.N, _)

/-- The norm's backward call leaves the gain's gradient. -/
theorem out_dg : (dat3 V c).arrAt 6 cfg3.N = colsum (gainPart (V c main_arg0) (V c main_arg6) (V c main_arg2)) := by
  refine (dat3 V c).arrAt_eq_of_after_last 6 t3_3 (by decide +kernel) _ fun y => ?_
  blk_simp
  rw [after3_6, Pipeline.eq_sum_fin_of_reset_step_apply_last (fun n h => (outsAt3 V c n h).2.1) 4 (fun _ => 0) _
    (fun t h j => by rw [outsAt3_A V c t h]; frame_out; rw [step_dg, start_dg])
    (fun t h j => by rw [outsAt3_B V c t h]; frame_out; rw [step_dg])
    (le_of_eq N_3) t3_3 rfl, zero_add]
  unfold colsum
  refine Fin.sum_mul_add_congr fun s k hl => ?_
  idx_vars y
  unfold gainPart unitrows rms msq
  blk_point [iblk3, places3 s]

/-- The norm's backward call leaves the scale's gradient. -/
theorem out_dsc : (dat3 V c).arrAt 7 cfg3.N = colsum (scalePart (V c main_arg0) (V c main_arg6) (V c main_arg1)) := by
  refine (dat3 V c).arrAt_eq_of_after_last 7 t3_3 (by decide +kernel) _ fun y => ?_
  blk_simp
  rw [after3_7, Pipeline.eq_sum_fin_of_reset_step_apply_last (fun n h => (outsAt3 V c n h).2.2.1) 4 (fun _ => 0) _
    (fun t h j => by rw [outsAt3_A V c t h]; frame_out; rw [step_dsc, start_dsc])
    (fun t h j => by rw [outsAt3_B V c t h]; frame_out; rw [step_dsc])
    (le_of_eq N_3) t3_3 rfl, zero_add]
  unfold colsum
  refine Fin.sum_mul_add_congr fun s k hl => ?_
  idx_vars y
  unfold scalePart unitrows rms msq
  blk_point [iblk3, places3 s]

/-- The norm's backward call leaves the shift's gradient. -/
theorem out_dsh : (dat3 V c).arrAt 8 cfg3.N = colsum (V c main_arg6) := by
  refine (dat3 V c).arrAt_eq_of_after_last 8 t3_3 (by decide +kernel) _ fun y => ?_
  blk_simp
  rw [after3_8, Pipeline.eq_sum_fin_of_reset_step_apply_last (fun n h => (outsAt3 V c n h).2.2.2) 4 (fun _ => 0) _
    (fun t h j => by rw [outsAt3_A V c t h]; frame_out; rw [step_dsh, start_dsh])
    (fun t h j => by rw [outsAt3_B V c t h]; frame_out; rw [step_dsh])
    (le_of_eq N_3) t3_3 rfl, zero_add]
  unfold colsum
  refine Fin.sum_mul_add_congr fun s k hl => ?_
  idx_vars y
  blk_point [iblk3, places3 s]

/-- The norm's backward call leaves its input's gradient. -/
theorem out_dx : (dat3 V c).arrAt 5 cfg3.N = dinput (V c main_arg0) (V c main_arg6) (V c main_arg7) (V c main_arg1) (V c main_arg2) := by
  refine (dat3 V c).arrAt_eq_of_covers 5 _ (by decide +kernel) fun t hf y => ?_
  blk_simp
  rw [after3_5]
  by_cases h : t.val % 4 = 0
  · rw [outsAt3_A V c t h]
    frame_out
    unfold k3_pay9 k3_pay8 k3_pay7
    idx_vars y
    pointwise [dinput, dunit, unitrows, rms, msq]
    blk_point [iblk3, places3 t]
  · rw [outsAt3_B V c t h]
    frame_out
    unfold k3_pay9 k3_pay8 k3_pay7
    idx_vars y
    pointwise [dinput, dunit, unitrows, rms, msq]
    blk_point [iblk3, places3 t]

end Cert.Norm

end
-- ==== Proof.NormRun.lean ====
module

public import proofs.«01_k».proof.Proof.NormSum

@[expose] public section

set_option maxRecDepth 16384

noncomputable section

/-! A run of the calls of the norm and of the residual connection, forward and backward: their arguments
end unchanged, every counter ends at zero, and their eight results end as functions of the arguments. -/

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run terminates without a fault, each buffer that outlives the calls ending as the last call leaves it and
every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h hz => ⟨h, funext fun g => hz g (.inr (no_unscoped g.2))⟩)

/-- The program's frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
      ⟨(h.1 c _ (mem_uc main_arg0 (by decide))).trans (W4_main_arg0 m ρ c),
        (h.1 c _ (mem_uc main_arg1 (by decide))).trans (W4_main_arg1 m ρ c),
        (h.1 c _ (mem_uc main_arg2 (by decide))).trans (W4_main_arg2 m ρ c),
        (h.1 c _ (mem_uc main_arg3 (by decide))).trans (W4_main_arg3 m ρ c),
        (h.1 c _ (mem_uc main_arg4 (by decide))).trans (W4_main_arg4 m ρ c),
        (h.1 c _ (mem_uc main_arg5 (by decide))).trans (W4_main_arg5 m ρ c),
        (h.1 c _ (mem_uc main_arg6 (by decide))).trans (W4_main_arg6 m ρ c),
        (h.1 c _ (mem_uc main_arg7 (by decide))).trans (W4_main_arg7 m ρ c)⟩, h.2⟩)
    (ends m ρ)

end Run

variable (m : (ℓ : Loc nD τ sig) → Buf (Elt Ideal) ℓ) (ρ : Dev nD → PrngReg) (c : Dev nD)

/-- The norm's input. -/
abbrev inX : FVec Ideal S2048x1024 .f32 := m ((c : Thread nD τ).loc main_arg0)
/-- The gain. -/
abbrev inG : FVec Ideal S1x1024 .f32 := m ((c : Thread nD τ).loc main_arg1)
/-- The scale. -/
abbrev inC : FVec Ideal S1x1024 .f32 := m ((c : Thread nD τ).loc main_arg2)
/-- The shift. -/
abbrev inH : FVec Ideal S1x1024 .f32 := m ((c : Thread nD τ).loc main_arg3)
/-- The residual branch. -/
abbrev inY : FVec Ideal S2048x1024 .f32 := m ((c : Thread nD τ).loc main_arg4)
/-- The gate. -/
abbrev inT : FVec Ideal S1x1024 .f32 := m ((c : Thread nD τ).loc main_arg5)
/-- The gradient of the normalised array. -/
abbrev inD : FVec Ideal S2048x1024 .f32 := m ((c : Thread nD τ).loc main_arg6)
/-- The gradient of the residual connection's output. -/
abbrev inE : FVec Ideal S2048x1024 .f32 := m ((c : Thread nD τ).loc main_arg7)

/-- Call 1 does not write the buffer. -/
abbrev Spares1 (r : Ref sig .tc) : Prop := ∀ w : Fin cfg1.W, Pipeline.arrRef spec1 w = r → (cfg1.win w).isOut = false
/-- Call 2 does not write the buffer. -/
abbrev Spares2 (r : Ref sig .tc) : Prop := ∀ w : Fin cfg2.W, Pipeline.arrRef spec2 w = r → (cfg2.win w).isOut = false
/-- Call 3 does not write the buffer. -/
abbrev Spares3 (r : Ref sig .tc) : Prop := ∀ w : Fin cfg3.W, Pipeline.arrRef spec3 w = r → (cfg3.win w).isOut = false

/-- A buffer that call 3 spares ends as call 2 left it. -/
theorem since3 (r : Ref sig .tc) (h : Spares3 r) : W4 m ρ c (Proc.devRef .tc r) = W3 m ρ c (Proc.devRef .tc r) := W4_of m ρ c r h

/-- A buffer that calls 2 and 3 spare ends as call 1 left it. -/
theorem since2 (r : Ref sig .tc) (h : Spares2 r ∧ Spares3 r) : W4 m ρ c (Proc.devRef .tc r) = W2 m ρ c (Proc.devRef .tc r) :=
  (since3 m ρ c r h.2).trans (W3_of m ρ c r h.1)

/-- A buffer that calls 1 to 3 spare ends as call 0 left it. -/
theorem since1 (r : Ref sig .tc) (h : Spares1 r ∧ Spares2 r ∧ Spares3 r) : W4 m ρ c (Proc.devRef .tc r) = W1 m ρ c (Proc.devRef .tc r) :=
  (since2 m ρ c r h.2).trans (W2_of m ρ c r h.1)

/-- At the end: the normalised, scaled and shifted array. -/
theorem end_h : W4 m ρ c (Proc.devRef .tc main_v0) = normed (φ := .bf16) (inX m c) (inG m c) (inC m c) (inH m c) := by
  refine (since1 m ρ c main_v0 (by decide +kernel)).trans ((W1_arr m ρ c 4).trans ((out_h (V0 m ρ) c).trans ?_))
  rw [show V0 m ρ c main_arg0 = inX m c from W0_args m ρ c main_arg0 (by decide), show V0 m ρ c main_arg1 = inG m c from W0_args m ρ c main_arg1 (by decide), show V0 m ρ c main_arg2 = inC m c from W0_args m ρ c main_arg2 (by decide), show V0 m ρ c main_arg3 = inH m c from W0_args m ρ c main_arg3 (by decide)]

/-- At the end: the residual connection's output. -/
theorem end_r : W4 m ρ c (Proc.devRef .tc main_v1) = resid (inX m c) (inY m c) (inT m c) := by
  refine (since2 m ρ c main_v1 (by decide +kernel)).trans ((W2_arr m ρ c 3).trans ((out_r (V1 m ρ) c).trans ?_))
  rw [show V1 m ρ c main_arg0 = inX m c from W1_args m ρ c main_arg0 (by decide), show V1 m ρ c main_arg4 = inY m c from W1_args m ρ c main_arg4 (by decide), show V1 m ρ c main_arg5 = inT m c from W1_args m ρ c main_arg5 (by decide)]

/-- At the end: the gradient of the residual branch. -/
theorem end_dy : W4 m ρ c (Proc.devRef .tc main_v2_0) = scaled (φ := .bf16) (inT m c) (inE m c) := by
  refine (since3 m ρ c main_v2_0 (by decide +kernel)).trans ((W3_arr m ρ c 3).trans ((out_dy (V2 m ρ) c).trans ?_))
  rw [show V2 m ρ c main_arg5 = inT m c from W2_args m ρ c main_arg5 (by decide), show V2 m ρ c main_arg7 = inE m c from W2_args m ρ c main_arg7 (by decide)]

/-- At the end: the gradient of the gate. -/
theorem end_dgt : W4 m ρ c (Proc.devRef .tc main_v2_1) = colsum (times (inE m c) (inY m c)) := by
  refine (since3 m ρ c main_v2_1 (by decide +kernel)).trans ((W3_arr m ρ c 4).trans ((out_dgt (V2 m ρ) c).trans ?_))
  rw [show V2 m ρ c main_arg7 = inE m c from W2_args m ρ c main_arg7 (by decide), show V2 m ρ c main_arg4 = inY m c from W2_args m ρ c main_arg4 (by decide)]

/-- At the end: the gradient of the norm's input. -/
theorem end_dx : W4 m ρ c (Proc.devRef .tc main_v3_0) = dinput (inX m c) (inD m c) (inE m c) (inG m c) (inC m c) := by
  refine (W4_arr m ρ c 5).trans ((out_dx (V3 m ρ) c).trans ?_)
  rw [show V3 m ρ c main_arg0 = inX m c from W3_args m ρ c main_arg0 (by decide), show V3 m ρ c main_arg6 = inD m c from W3_args m ρ c main_arg6 (by decide), show V3 m ρ c main_arg7 = inE m c from W3_args m ρ c main_arg7 (by decide), show V3 m ρ c main_arg1 = inG m c from W3_args m ρ c main_arg1 (by decide), show V3 m ρ c main_arg2 = inC m c from W3_args m ρ c main_arg2 (by decide)]

/-- At the end: the gradient of the gain. -/
theorem end_dg : W4 m ρ c (Proc.devRef .tc main_v3_1) = colsum (gainPart (inX m c) (inD m c) (inC m c)) := by
  refine (W4_arr m ρ c 6).trans ((out_dg (V3 m ρ) c).trans ?_)
  rw [show V3 m ρ c main_arg0 = inX m c from W3_args m ρ c main_arg0 (by decide), show V3 m ρ c main_arg6 = inD m c from W3_args m ρ c main_arg6 (by decide), show V3 m ρ c main_arg2 = inC m c from W3_args m ρ c main_arg2 (by decide)]

/-- At the end: the gradient of the scale. -/
theorem end_dsc : W4 m ρ c (Proc.devRef .tc main_v3_2) = colsum (scalePart (inX m c) (inD m c) (inG m c)) := by
  refine (W4_arr m ρ c 7).trans ((out_dsc (V3 m ρ) c).trans ?_)
  rw [show V3 m ρ c main_arg0 = inX m c from W3_args m ρ c main_arg0 (by decide), show V3 m ρ c main_arg6 = inD m c from W3_args m ρ c main_arg6 (by decide), show V3 m ρ c main_arg1 = inG m c from W3_args m ρ c main_arg1 (by decide)]

/-- At the end: the gradient of the shift. -/
theorem end_dsh : W4 m ρ c (Proc.devRef .tc main_v3_3) = colsum (inD m c) := by
  refine (W4_arr m ρ c 8).trans ((out_dsh (V3 m ρ) c).trans ?_)
  rw [show V3 m ρ c main_arg6 = inD m c from W3_args m ρ c main_arg6 (by decide)]

/-- A run over the extended reals ends with the eight results as these functions of the arguments. -/
theorem value_run : θ_run (defs (F := Ideal)) (onTc (τ := τ) (main (F := Ideal))) ⟨m, fun _ => 0, ρ⟩ (fun r => ∀ c : Dev nD,
      r.2.mem ((c.tc : Thread nD τ).loc main_v0) = normed (φ := .bf16) (inX m c) (inG m c) (inC m c) (inH m c)
      ∧ r.2.mem ((c.tc : Thread nD τ).loc main_v1) = resid (inX m c) (inY m c) (inT m c)
      ∧ r.2.mem ((c.tc : Thread nD τ).loc main_v2_0) = scaled (φ := .bf16) (inT m c) (inE m c)
      ∧ r.2.mem ((c.tc : Thread nD τ).loc main_v2_1) = colsum (times (inE m c) (inY m c))
      ∧ r.2.mem ((c.tc : Thread nD τ).loc main_v3_0) = dinput (inX m c) (inD m c) (inE m c) (inG m c) (inC m c)
      ∧ r.2.mem ((c.tc : Thread nD τ).loc main_v3_1) = colsum (gainPart (inX m c) (inD m c) (inC m c))
      ∧ r.2.mem ((c.tc : Thread nD τ).loc main_v3_2) = colsum (scalePart (inX m c) (inD m c) (inG m c))
      ∧ r.2.mem ((c.tc : Thread nD τ).loc main_v3_3) = colsum (inD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨(h.1 c _ (mem_uc main_v0 (by decide))).trans (end_h m ρ c),
        (h.1 c _ (mem_uc main_v1 (by decide))).trans (end_r m ρ c),
        (h.1 c _ (mem_uc main_v2_0 (by decide))).trans (end_dy m ρ c),
        (h.1 c _ (mem_uc main_v2_1 (by decide))).trans (end_dgt m ρ c),
        (h.1 c _ (mem_uc main_v3_0 (by decide))).trans (end_dx m ρ c),
        (h.1 c _ (mem_uc main_v3_1 (by decide))).trans (end_dg m ρ c),
        (h.1 c _ (mem_uc main_v3_2 (by decide))).trans (end_dsc m ρ c),
        (h.1 c _ (mem_uc main_v3_3 (by decide))).trans (end_dsh m ρ c),
        (h.1 c _ (mem_uc main_arg0 (by decide))).trans (W4_main_arg0 m ρ c),
        (h.1 c _ (mem_uc main_arg1 (by decide))).trans (W4_main_arg1 m ρ c),
        (h.1 c _ (mem_uc main_arg2 (by decide))).trans (W4_main_arg2 m ρ c),
        (h.1 c _ (mem_uc main_arg3 (by decide))).trans (W4_main_arg3 m ρ c),
        (h.1 c _ (mem_uc main_arg4 (by decide))).trans (W4_main_arg4 m ρ c),
        (h.1 c _ (mem_uc main_arg5 (by decide))).trans (W4_main_arg5 m ρ c),
        (h.1 c _ (mem_uc main_arg6 (by decide))).trans (W4_main_arg6 m ρ c),
        (h.1 c _ (mem_uc main_arg7 (by decide))).trans (W4_main_arg7 m ρ c)⟩)
    (ends m ρ)

end Cert.Norm

end
-- ==== Proof.NormRef.lean ====
module

public import proofs.«01_k».proof.Proof.NormSum
public import proofs.«01_k».proof.Proof.Gen.Reference4Ideal.Run
public import proofs.«01_k».proof.Proof.Gen.Kernel4

@[expose] public section

set_option maxRecDepth 16384

noncomputable section

/-! The reference's norm and residual connection: its operations on whole arrays are the functions that
the calls leave. -/

namespace Cert.Norm

open Idealize.ShloMosaic Idealize.ShloMosaic.TcCoe Idealize.SL.Sem Cert.Reference4Ideal Cert.Reference4Ideal.Gen

/-- The square of a number is not negative. -/
theorem sq_nonneg' (x : EReal) : 0 ≤ x * x := by
  induction x with
  | bot => simp
  | top => simp
  | coe r => exact_mod_cast mul_self_nonneg r

/-- The number the sums of squares are divided by. -/
theorem width : Ideal.ofBits .f32 0x44800000#32 = ((1024 : ℝ) : EReal) := by
  simp [Ideal.ofBits, Ideal.ieee]
  rw [← EReal.coe_mul]
  norm_num

/-- What is added to the mean squares is positive. -/
theorem eps_pos : (0 : EReal) < Ideal.ofBits .f32 0x358637BD#32 := by
  simp [Ideal.ofBits, Ideal.ieee]
  rw [← EReal.coe_mul]
  exact EReal.coe_pos.mpr (by norm_num)

/-- Minus one half. -/
theorem half : Ideal.ofBits .f32 0xBF000000#32 = ((-(1 / 2) : ℝ) : EReal) := by
  simp [Ideal.ofBits, Ideal.ieee]
  rw [← EReal.coe_mul]
  norm_num

/-- A mean square, raised a little, is positive. -/
theorem msq_pos {a b : ℕ} (x : FVec Ideal ⟨2, ![a, b]⟩ .f32) (i : Fin a) : 0 < msq x i := by
  unfold msq
  rw [width, Ideal.div_coe (by norm_num)]
  exact lt_of_lt_of_le eps_pos (le_add_of_nonneg_left (mul_nonneg (Finset.sum_nonneg fun k _ => sq_nonneg' _) (EReal.coe_nonneg.mpr (by norm_num))))

/-- The reciprocal root of a positive number is zero, or a positive real whose square is the reciprocal. -/
theorem rsqrt_pos (v : EReal) (h : 0 < v) :
    (v = ⊤ ∧ Ideal.rsqrt v = 0) ∨ ∃ w r : ℝ, v = (w : EReal) ∧ Ideal.rsqrt v = (r : EReal) ∧ 0 < r ∧ 0 < w ∧ r * r * w = 1 := by
  induction v with
  | bot => simp at h
  | top => exact .inl ⟨rfl, rfl⟩
  | coe w =>
    have hw : 0 < w := EReal.coe_pos.mp h
    refine .inr ⟨w, (Real.sqrt w)⁻¹, rfl, ?_, inv_pos.mpr (Real.sqrt_pos.mpr hw), hw, ?_⟩
    · rw [Ideal.rsqrt_coe, if_neg (not_lt.mpr hw.le), if_neg hw.ne']
    · rw [← mul_inv, Real.mul_self_sqrt hw.le, inv_mul_cancel₀ hw.ne']

/-- A factor that is a real and not negative comes out of a sum. -/
theorem sum_out {n : ℕ} (f : Fin n → EReal) (r : ℝ) (h : 0 ≤ r) : ∑ k, f k * ((r : ℝ) : EReal) = (∑ k, f k) * ((r : ℝ) : EReal) := by
  induction n with
  | zero => simp
  | succ n ih =>
    rw [Fin.sum_univ_succ, Fin.sum_univ_succ, ih, EReal.right_distrib_of_nonneg_of_ne_top (EReal.coe_nonneg.mpr h) (EReal.coe_ne_top r)]

/-- The reciprocal root's derivative, as the chain rule writes it: a row's share of its input's gradient. -/
theorem share (v T : EReal) (h : 0 < v) (D X : EReal) :
    D * Ideal.rsqrt v + X * Ideal.div (T * (Ideal.ofBits .f32 0xBF000000#32 * Ideal.div (Ideal.rsqrt v) v)) (Ideal.ofBits .f32 0x44800000#32)
        + Ideal.div (T * (Ideal.ofBits .f32 0xBF000000#32 * Ideal.div (Ideal.rsqrt v) v)) (Ideal.ofBits .f32 0x44800000#32) * X
      = Ideal.rsqrt v * (D - X * Ideal.rsqrt v * Ideal.div (T * Ideal.rsqrt v) (Ideal.ofBits .f32 0x44800000#32)) := by
  rw [width, half, Ideal.div_coe (by norm_num), Ideal.div_coe (by norm_num)]
  rcases rsqrt_pos v h with ⟨rfl, hr⟩ | ⟨w, r, rfl, hr, pr, pw, e⟩
  · have z : Ideal.div 0 ⊤ = 0 := by simp [Ideal.div]
    rw [hr, z]
    simp
  · rw [hr, Ideal.div_coe pw.ne']
    have q : 1 / w = r * r := by field_simp; linarith
    rw [q, sub_eq_add_neg, EReal.left_distrib_of_nonneg_of_ne_top (EReal.coe_nonneg.mpr pr.le) (EReal.coe_ne_top r), add_assoc]
    have l : X * (T * (((-(1 / 2) : ℝ) : EReal) * ((r : EReal) * ((r * r : ℝ) : EReal))) * ((1 / 1024 : ℝ) : EReal)) = X * T * ((-(r * r * r / 2048) : ℝ) : EReal) := by
      have c : ((-(r * r * r / 2048) : ℝ) : EReal) = ((-(1 / 2) : ℝ) : EReal) * ((r : EReal) * ((r * r : ℝ) : EReal)) * ((1 / 1024 : ℝ) : EReal) := by
        norm_cast
        ring
      rw [c]
      simp only [mul_assoc]
    rw [mul_comm _ X, l]
    have two : X * T * ((-(r * r * r / 2048) : ℝ) : EReal) + X * T * ((-(r * r * r / 2048) : ℝ) : EReal) = X * T * ((-(r * r * r / 1024) : ℝ) : EReal) := by
      have u : ∀ z : EReal, z + z = z * ((2 : ℝ) : EReal) := fun z => by
        have := EReal.left_distrib_of_nonneg (a := 1) (b := 1) (c := z) zero_le_one zero_le_one
        rw [mul_one] at this
        rw [← this]
        congr 1
        norm_cast
      rw [u, mul_assoc]
      congr 1
      norm_cast
      ring
    rw [two, mul_comm D]
    congr 1
    have c : ((-(r * r * r / 1024) : ℝ) : EReal) = -((r : EReal) * ((r : EReal) * ((r : EReal) * ((1 / 1024 : ℝ) : EReal)))) := by
      norm_cast
      ring
    rw [c, mul_neg, mul_neg]
    congr 1
    ac_rfl

variable (x y d e : FVec Ideal S2048x1024 .f32) (g sc sh gt : FVec Ideal S1x1024 .f32)

/-- The reference's raised mean squares. -/
def rMsq : FVec Ideal S2048x1 .f32 :=
  addf (Host.divf (broadcastInDim S2048x1 ![0] bcast_S2048_S2048x1_0 (Host.reduceAdd (mulf x x) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))

/-- An entry of them. -/
theorem rMsq_apply (j : S2048x1.Idx) : rMsq x j = msq x (j 0) := by
  idx_vars j
  unfold rMsq
  pointwise [msq]

/-- The reference's normalised array. -/
def rUnit : FVec Ideal S2048x1024 .f32 := mulf x (broadcastInDim S2048x1024 ![0, 1] bcast_S2048x1_S2048x1024_0_1 (Host.rsqrt (rMsq x)))

/-- It is the normalised array. -/
theorem rUnit_eq : rUnit x = unitrows x := by
  funext j
  idx_vars j
  unfold rUnit
  pointwise [unitrows, rms, rMsq_apply]

/-- A row, one more than it. -/
def rMore : FVec Ideal S1x1024 .f32 := addf (broadcastInDim S1x1024 ![] bcast_S_S1x1024 (constant S_ .f32 0x3F800000#32)) sc

/-- The reference's norm. -/
def rNormed : FVec Ideal S2048x1024 .bf16 :=
  truncf .bf16 (addf (mulf (mulf (rUnit x) (broadcastInDim S2048x1024 ![0, 1] bcast_S1x1024_S2048x1024_0_1 g))
    (broadcastInDim S2048x1024 ![0, 1] bcast_S1x1024_S2048x1024_0_1 (rMore sc))) (broadcastInDim S2048x1024 ![0, 1] bcast_S1x1024_S2048x1024_0_1 sh)) bitsLt_bf16_f32

/-- It is what the norm's call leaves. -/
theorem rNormed_eq : rNormed x g sc sh = normed x g sc sh := by
  unfold rNormed
  rw [rUnit_eq]
  funext j
  idx_vars j
  unfold rMore
  pointwise [normed, unitrows]

/-- The reference's residual connection. -/
def rResid : FVec Ideal S2048x1024 .f32 := addf x (mulf (broadcastInDim S2048x1024 ![0, 1] bcast_S1x1024_S2048x1024_0_1 gt) y)

/-- It is what the residual connection's call leaves. -/
theorem rResid_eq : rResid x y gt = resid x y gt := by
  funext j
  idx_vars j
  unfold rResid
  pointwise [resid]

/-- The reference's gradient of the residual branch. -/
def rDY : FVec Ideal S2048x1024 .bf16 :=
  truncf .bf16 (mulf (broadcastInDim S2048x1024 ![0, 1] bcast_S1x1024_S2048x1024_0_1 gt) (shapeCast _ e shapeCasts_S2048x1024_S2048x1024)) bitsLt_bf16_f32

/-- It is what the residual connection's backward call leaves. -/
theorem rDY_eq : rDY e gt = scaled gt e := by
  funext j
  idx_vars j
  unfold rDY
  pointwise [scaled]

/-- The reference's sums of an array's columns. -/
def rCol : FVec Ideal S1x1024 .f32 := shapeCast _ (Host.reduceAdd x (constant S_ .f32 0x00000000#32) reducesTo_S2048x1024_S1024_d0 h_S_) shapeCasts_S1024_S1x1024

/-- They are the sums of its columns. -/
theorem rCol_eq : rCol x = colsum x := by
  funext j
  idx_vars j
  unfold rCol
  pointwise [colsum]

/-- The reference's gradient of the gate. -/
def rDT : FVec Ideal S1x1024 .f32 := rCol (mulf (shapeCast _ e shapeCasts_S2048x1024_S2048x1024) y)

/-- It is what the residual connection's backward call leaves. -/
theorem rDT_eq : rDT y e = colsum (times e y) := by
  unfold rDT
  rw [rCol_eq]
  congr 1
  funext j
  idx_vars j
  pointwise [times]

/-- The reference's gradient of the scaled array. -/
def rDM : FVec Ideal S2048x1024 .f32 :=
  mulf (shapeCast _ d shapeCasts_S2048x1024_S2048x1024) (broadcastInDim S2048x1024 ![0, 1] bcast_S1x1024_S2048x1024_0_1 (rMore sc))

/-- The reference's gradient of the gain. -/
def rDG : FVec Ideal S1x1024 .f32 := rCol (mulf (rUnit x) (rDM d sc))

/-- It is what the norm's backward call leaves. -/
theorem rDG_eq : rDG x d sc = colsum (gainPart x d sc) := by
  unfold rDG
  rw [rCol_eq, rUnit_eq]
  congr 1
  funext j
  idx_vars j
  unfold rDM rMore
  pointwise [gainPart]
  rw [mul_left_comm, ← mul_assoc]

/-- The reference's gradient of the scale. -/
def rDC : FVec Ideal S1x1024 .f32 :=
  rCol (mulf (mulf (rUnit x) (broadcastInDim S2048x1024 ![0, 1] bcast_S1x1024_S2048x1024_0_1 g)) (shapeCast _ d shapeCasts_S2048x1024_S2048x1024))

/-- It is what the norm's backward call leaves. -/
theorem rDC_eq : rDC x d g = colsum (scalePart x d g) := by
  unfold rDC
  rw [rCol_eq, rUnit_eq]
  congr 1
  funext j
  idx_vars j
  pointwise [scalePart]
  rw [mul_comm, mul_assoc]

/-- The reference's gradient of the normalised array. -/
def rDN : FVec Ideal S2048x1024 .f32 := mulf (rDM d sc) (broadcastInDim S2048x1024 ![0, 1] bcast_S1x1024_S2048x1024_0_1 g)

/-- It is the gradient of the normalised array. -/
theorem rDN_eq : rDN d g sc = dunit d g sc := by
  funext j
  idx_vars j
  unfold rDN rDM rMore
  pointwise [dunit]
  rw [mul_assoc, mul_comm (g _)]

/-- The reference's gradient of the squares' mean, over the width. -/
def rShare : FVec Ideal S2048x1024 .f32 :=
  broadcastInDim S2048x1024 ![0] bcast_S2048_S2048x1024_0 (Host.reduceAdd (Host.divf (mulf (shapeCast _ (Host.reduceAdd (mulf x (rDN d g sc)) (constant S_ .f32 0x00000000#32)
    reducesTo_S2048x1024_S2048_d1 h_S_) shapeCasts_S2048_S2048x1) (mulf (broadcastInDim S2048x1 ![] bcast_S_S2048x1 (constant S_ .f32 0xBF000000#32)) (Host.divf (Host.rsqrt (rMsq x)) (rMsq x))))
    (broadcastInDim S2048x1 ![] bcast_S_S2048x1 (constant S_ .f32 0x44800000#32))) (constant S_ .f32 0x00000000#32) reducesTo_S2048x1_S2048_d1 h_S_)

/-- The reference's gradient of the norm's input. -/
def rDX : FVec Ideal S2048x1024 .f32 :=
  addf (addf (addf (mulf (rDN d g sc) (broadcastInDim S2048x1024 ![0, 1] bcast_S2048x1_S2048x1024_0_1 (Host.rsqrt (rMsq x)))) (mulf x (rShare x d g sc))) (mulf (rShare x d g sc) x)) e

/-- A row's sum of products with the normalised array. -/
theorem row_sum {a b : ℕ} (x d : FVec Ideal ⟨2, ![a, b]⟩ .f32) (i : Fin a) :
    ∑ k : Fin b, (d (ix2 i k) * unitrows x (ix2 i k) : EReal) = (∑ k : Fin b, (x (ix2 i k) * d (ix2 i k) : EReal)) * rms x i := by
  obtain ⟨r, pr, hr⟩ : ∃ r : ℝ, 0 ≤ r ∧ rms x i = ((r : ℝ) : EReal) := by
    rcases rsqrt_pos (msq x i) (msq_pos x i) with ⟨-, h⟩ | ⟨w, r, -, h, p, -⟩
    · exact ⟨0, le_refl _, h⟩
    · exact ⟨r, p.le, h⟩
  rw [hr, ← sum_out _ r pr]
  refine Finset.sum_congr rfl fun k _ => ?_
  show (d (ix2 i k) * (x (ix2 i k) * rms x i) : EReal) = _
  rw [hr, ← mul_assoc, mul_comm (d (ix2 i k))]

/-- A sum over one place is its term. -/
theorem one_sum (a : EReal) : ∑ _k : Fin 1, a = a := Fin.sum_univ_one _

/-- It is what the norm's backward call leaves. -/
theorem rDX_eq : rDX x d e g sc = dinput x d e g sc := by
  funext j
  idx_vars j
  unfold rDX rShare
  rw [rDN_eq]
  pointwise [rMsq_apply, dinput]
  rw [row_sum]
  simp only [one_sum]
  exact congrArg (· + e (ix2 j0 j1)) (share (msq x j0) _ (msq_pos x j0) _ _)

end Cert.Norm

end
-- ==== Proof.NormValue.lean ====
module

public import proofs.«01_k».proof.Defs
public import proofs.«01_k».proof.Proof.NormRun
public import proofs.«01_k».proof.Proof.NormRef
public import proofs.«01_k».proof.Proof.Gen.Kernel4

@[expose] public section

set_option maxRecDepth 16384

noncomputable section

/-! The norm's and the residual connection's equation, and the three frames. -/

namespace Cert.Norm

open Idealize.ShloMosaic Idealize.ShloMosaic.TcCoe Idealize.SL.Sem

section Reference

open Cert.Reference4Ideal Cert.Reference4Ideal.Gen

/-- Every run of the reference ends with the eight results as functions of its arguments, which are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57) = normed (φ := .bf16) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = resid (m ((c.tc : Thread nD τ).loc main_arg0)) (m ((c.tc : Thread nD τ).loc main_arg4)) (m ((c.tc : Thread nD τ).loc main_arg5))
      ∧ r.2.mem ((c.tc : Thread nD τ).loc main_v58) = scaled (φ := .bf16) (m ((c.tc : Thread nD τ).loc main_arg5)) (m ((c.tc : Thread nD τ).loc main_arg7))
      ∧ r.2.mem ((c.tc : Thread nD τ).loc main_v29) = colsum (times (m ((c.tc : Thread nD τ).loc main_arg7)) (m ((c.tc : Thread nD τ).loc main_arg4)))
      ∧ r.2.mem ((c.tc : Thread nD τ).loc main_v59) = dinput (m ((c.tc : Thread nD τ).loc main_arg0)) (m ((c.tc : Thread nD τ).loc main_arg6)) (m ((c.tc : Thread nD τ).loc main_arg7)) (m ((c.tc : Thread nD τ).loc main_arg1)) (m ((c.tc : Thread nD τ).loc main_arg2))
      ∧ r.2.mem ((c.tc : Thread nD τ).loc main_v40) = colsum (gainPart (m ((c.tc : Thread nD τ).loc main_arg0)) (m ((c.tc : Thread nD τ).loc main_arg6)) (m ((c.tc : Thread nD τ).loc main_arg2)))
      ∧ r.2.mem ((c.tc : Thread nD τ).loc main_v35) = colsum (scalePart (m ((c.tc : Thread nD τ).loc main_arg0)) (m ((c.tc : Thread nD τ).loc main_arg6)) (m ((c.tc : Thread nD τ).loc main_arg1)))
      ∧ r.2.mem ((c.tc : Thread nD τ).loc main_v32) = colsum (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) (onTc (τ := τ) (main (F := Ideal))) ⟨m, fun _ => 0, ρ⟩).mono
    (fun _ h c => by
      obtain ⟨r0, r1, r2, r3, r4, r5, r6, r7, rest⟩ := h c
      exact ⟨r0.trans (rNormed_eq _ _ _ _), r1.trans (rResid_eq _ _ _), r2.trans (rDY_eq _ _), r3.trans (rDT_eq _ _), r4.trans (rDX_eq _ _ _ _ _), r5.trans (rDG_eq _ _ _), r6.trans (rDC_eq _ _ _), r7.trans (rCol_eq _), rest⟩)
    (Value.run (F := Ideal) m ρ)

end Reference

/-- A function of three arguments has equal values at equal arguments. -/
theorem alike3 {α β γ ω : Type} (f : α → β → γ → ω) {a a' : α} {b b' : β} {c c' : γ} (ha : a = a') (hb : b = b') (hc : c = c') :
    f a b c = f a' b' c' := by
  subst ha hb hc
  rfl

/-- A function of four arguments has equal values at equal arguments. -/
theorem alike4 {α β γ δ ω : Type} (f : α → β → γ → δ → ω) {a a' : α} {b b' : β} {c c' : γ} {d d' : δ} (ha : a = a') (hb : b = b') (hc : c = c') (hd : d = d') :
    f a b c d = f a' b' c' d' := by
  subst ha hb hc hd
  rfl

/-- A function of five arguments has equal values at equal arguments. -/
theorem alike5 {α β γ δ ε ω : Type} (f : α → β → γ → δ → ε → ω) {a a' : α} {b b' : β} {c c' : γ} {d d' : δ} {e e' : ε} (ha : a = a') (hb : b = b') (hc : c = c') (hd : d = d') (he : e = e') :
    f a b c d e = f a' b' c' d' e' := by
  subst ha hb hc hd he
  rfl

/-- The calls and the reference end with the same eight results. -/
theorem same_results : Cert.algebraic_Kernel4Ideal_Reference4Ideal := by
  intro m ρ m' ρ' _ same
  refine ⟨fun c => normed (φ := .bf16) (inX m c) (inG m c) (inC m c) (inH m c), fun c => resid (inX m c) (inY m c) (inT m c), fun c => scaled (φ := .bf16) (inT m c) (inE m c), fun c => colsum (times (inE m c) (inY m c)), fun c => dinput (inX m c) (inD m c) (inE m c) (inG m c) (inC m c), fun c => colsum (gainPart (inX m c) (inD m c) (inC m c)), fun c => colsum (scalePart (inX m c) (inD m c) (inG m c)), fun c => colsum (inD m c), value_run m ρ, ?_⟩
  refine (θ_run (Cert.Reference4Ideal.defs (F := Ideal)) (onTc (τ := Cert.Reference4Ideal.τ) (Cert.Reference4Ideal.main (F := Ideal))) ⟨m', fun _ => 0, ρ'⟩).mono
    (fun r h c => ?_) (ref_run m' ρ')
  obtain ⟨e0, e1, e2, e3, e4, e5, e6, e7⟩ := same c
  obtain ⟨r0, r1, r2, r3, r4, r5, r6, r7, rest⟩ := h c
  exact ⟨r0.trans (alike4 normed e0 e1 e2 e3), r1.trans (alike3 resid e0 e4 e5), r2.trans (congrArg₂ scaled e5 e7),
    r3.trans (congrArg₂ (fun d y => colsum (times d y)) e7 e4), r4.trans (alike5 dinput e0 e6 e7 e1 e2),
    r5.trans (alike3 (fun x d s => colsum (gainPart x d s)) e0 e6 e2), r6.trans (alike3 (fun x d s => colsum (scalePart x d s)) e0 e6 e1),
    r7.trans (congrArg colsum e6), rest⟩

/-- The frame of the idealized calls, stated at the device's words. -/
def frameAtWords : Prop :=
  ∀ (m : (ℓ : Loc Cert.Kernel4Ideal.nD Cert.Kernel4Ideal.τ Cert.Kernel4Ideal.sig) → Buf (Elt Bits) ℓ) (ρ : Dev Cert.Kernel4Ideal.nD → PrngReg), True →
    θ_run (Cert.Kernel4Ideal.defs (F := Bits)) (onTc (τ := Cert.Kernel4Ideal.τ) (Cert.Kernel4Ideal.main (F := Bits))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

/-- The calls and their idealized form have the same text, so the two statements are one. -/
theorem frameAtWords_eq : frameAtWords = Cert.quiescent_Kernel4 := by sl_kernel_rfl

/-- The calls' frame at the device's words. -/
theorem frame_words : Cert.quiescent_Kernel4 := frameAtWords_eq ▸ (fun m ρ _ => frame (F := Bits) m ρ : frameAtWords)

/-- The calls' frame over the extended reals. -/
theorem frame_ideal : Cert.quiescent_Kernel4Ideal := fun m ρ _ => frame (F := Ideal) m ρ

/-- The reference's frame: its run leaves the arguments unchanged, and its signature holds no semaphore. -/
theorem frame_ref : Cert.quiescent_Reference4Ideal := fun m ρ _ =>
  (θ_run (Cert.Reference4Ideal.defs (F := Ideal)) (onTc (τ := Cert.Reference4Ideal.τ) (Cert.Reference4Ideal.main (F := Ideal))) ⟨m, fun _ => 0, ρ⟩).mono
    (fun r h => ⟨fun c => (h c).2.2.2.2.2.2.2.2, sem_eq_zero_of_no_sems (by decide) r.2⟩) (ref_run m ρ)

end Cert.Norm

end
-- ==== Proof.Step.lean ====
module

public import proofs.«01_k».proof.Proof.FfnOut

@[expose] public section

set_option maxRecDepth 16384

noncomputable section

/-! One step of AdamW, entry by entry. -/

namespace Cert.Step

open Idealize.ShloMosaic

/-- The new first moment. -/
def newM {s : Shape} (g m : FVec Ideal s .f32) : FVec Ideal s .f32 :=
  fun j => (Ideal.ofBits .f32 0x3F666666#32 * m j + Ideal.ofBits .f32 0x3DCCCCCD#32 * g j : EReal)

/-- The new second moment. -/
def newV {s : Shape} (g v : FVec Ideal s .f32) : FVec Ideal s .f32 :=
  fun j => (Ideal.ofBits .f32 0x3F7FBE77#32 * v j + Ideal.ofBits .f32 0x3A83126F#32 * (g j * g j) : EReal)

/-- The step of the weight. -/
def delta {s : Shape} (w g m v : FVec Ideal s .f32) : FVec Ideal s .f32 :=
  fun j => (Ideal.ofBits .f32 0xBA83126F#32 * (Ideal.div (Ideal.div (newM g m j) (Ideal.ofBits .f32 0x3F26BD02#32))
    (Ideal.sqrt (Ideal.div (newV g v j) (Ideal.ofBits .f32 0x3C231ACC#32)) + Ideal.ofBits .f32 0x322BCC77#32) + Ideal.ofBits .f32 0x3C23D70A#32 * w j) : EReal)

end Cert.Step

end
-- ==== Proof.Step5Out.lean ====
module

public import proofs.«01_k».proof.Proof.Step
public import proofs.«01_k».proof.Proof.Gen.Kernel5Ideal.Frame

@[expose] public section

set_option maxRecDepth 16384

noncomputable section

/-! What each of AdamW's calls on the matrices leaves in its three output arrays, as a function of the whole
arrays that the call reads. -/

namespace Cert.Step5

open Idealize.ShloMosaic Idealize.ShloMosaic.TcCoe Cert.Kernel5Ideal Cert.Kernel5Ideal.Gen
open Cert.Ffn (zeros)
open Cert.Step

variable (V : (c : Dev nD) → (b : Ref sig .tc) → Buf (Elt Ideal) ((c : Thread nD τ).loc b)) (c : Dev nD)

/-- Where the blocks of the call on `ada_w` are. -/
theorem places0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The call on `ada_w` leaves the step of the weight. -/
theorem out0d : (dat0 V c).arrAt 4 cfg0.N = delta (V c main_arg0) (V c main_arg1) (V c main_arg2) (V c main_arg3) := by
  refine (dat0 V c).arrAt_eq_of_covers 4 _ (by decide +kernel) fun t hf y => ?_
  blk_simp
  rw [after0_4]
  frame_out
  unfold k0_pay3 k0_pay1 k0_pay2
  idx_vars y
  pointwise [delta, newM, newV]
  blk_point [iblk0, places0 t]

/-- The call on `ada_w` leaves the new first moment. -/
theorem out0m : (dat0 V c).arrAt 5 cfg0.N = newM (V c main_arg1) (V c main_arg2) := by
  refine (dat0 V c).arrAt_eq_of_covers 5 _ (by decide +kernel) fun t hf y => ?_
  blk_simp
  rw [after0_5]
  frame_out
  unfold k0_pay1
  idx_vars y
  pointwise [delta, newM, newV]
  blk_point [iblk0, places0 t]

/-- The call on `ada_w` leaves the new second moment. -/
theorem out0v : (dat0 V c).arrAt 6 cfg0.N = newV (V c main_arg1) (V c main_arg3) := by
  refine (dat0 V c).arrAt_eq_of_covers 6 _ (by decide +kernel) fun t hf y => ?_
  blk_simp
  rw [after0_6]
  frame_out
  unfold k0_pay2
  idx_vars y
  pointwise [delta, newM, newV]
  blk_point [iblk0, places0 t]

/-- Where the blocks of the call on `dn_w_in` are. -/
theorem places1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] :=
  (by decide +kernel : ∀ t : Fin grid1.N, _)

/-- The call on `dn_w_in` leaves the step of the weight. -/
theorem out1d : (dat1 V c).arrAt 4 cfg1.N = delta (V c main_arg4) (V c main_arg5) (V c main_arg6) (V c main_arg7) := by
  refine (dat1 V c).arrAt_eq_of_covers 4 _ (by decide +kernel) fun t hf y => ?_
  blk_simp
  rw [after1_4]
  frame_out
  unfold k1_pay3 k1_pay1 k1_pay2
  idx_vars y
  pointwise [delta, newM, newV]
  blk_point [iblk1, places1 t]

/-- The call on `dn_w_in` leaves the new first moment. -/
theorem out1m : (dat1 V c).arrAt 5 cfg1.N = newM (V c main_arg5) (V c main_arg6) := by
  refine (dat1 V c).arrAt_eq_of_covers 5 _ (by decide +kernel) fun t hf y => ?_
  blk_simp
  rw [after1_5]
  frame_out
  unfold k1_pay1
  idx_vars y
  pointwise [delta, newM, newV]
  blk_point [iblk1, places1 t]

/-- The call on `dn_w_in` leaves the new second moment. -/
theorem out1v : (dat1 V c).arrAt 6 cfg1.N = newV (V c main_arg5) (V c main_arg7) := by
  refine (dat1 V c).arrAt_eq_of_covers 6 _ (by decide +kernel) fun t hf y => ?_
  blk_simp
  rw [after1_6]
  frame_out
  unfold k1_pay2
  idx_vars y
  pointwise [delta, newM, newV]
  blk_point [iblk1, places1 t]

/-- Where the blocks of the call on `w_out` are. -/
theorem places2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] :=
  (by decide +kernel : ∀ t : Fin grid2.N, _)

/-- The call on `w_out` leaves the step of the weight. -/
theorem out2d : (dat2 V c).arrAt 4 cfg2.N = delta (V c main_arg8) (V c main_arg9) (V c main_arg10) (V c main_arg11) := by
  refine (dat2 V c).arrAt_eq_of_covers 4 _ (by decide +kernel) fun t hf y => ?_
  blk_simp
  rw [after2_4]
  frame_out
  unfold k2_pay3 k2_pay1 k2_pay2
  idx_vars y
  pointwise [delta, newM, newV]
  blk_point [iblk2, places2 t]

/-- The call on `w_out` leaves the new first moment. -/
theorem out2m : (dat2 V c).arrAt 5 cfg2.N = newM (V c main_arg9) (V c main_arg10) := by
  refine (dat2 V c).arrAt_eq_of_covers 5 _ (by decide +kernel) fun t hf y => ?_
  blk_simp
  rw [after2_5]
  frame_out
  unfold k2_pay1
  idx_vars y
  pointwise [delta, newM, newV]
  blk_point [iblk2, places2 t]

/-- The call on `w_out` leaves the new second moment. -/
theorem out2v : (dat2 V c).arrAt 6 cfg2.N = newV (V c main_arg9) (V c main_arg11) := by
  refine (dat2 V c).arrAt_eq_of_covers 6 _ (by decide +kernel) fun t hf y => ?_
  blk_simp
  rw [after2_6]
  frame_out
  unfold k2_pay2
  idx_vars y
  pointwise [delta, newM, newV]
  blk_point [iblk2, places2 t]

/-- Where the blocks of the call on `sb_w_qkv` are. -/
theorem places3 : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] :=
  (by decide +kernel : ∀ t : Fin grid3.N, _)

/-- The call on `sb_w_qkv` leaves the step of the weight. -/
theorem out3d : (dat3 V c).arrAt 4 cfg3.N = delta (V c main_arg12) (V c main_arg13) (V c main_arg14) (V c main_arg15) := by
  refine (dat3 V c).arrAt_eq_of_covers 4 _ (by decide +kernel) fun t hf y => ?_
  blk_simp
  rw [after3_4]
  frame_out
  unfold k3_pay3 k3_pay1 k3_pay2
  idx_vars y
  pointwise [delta, newM, newV]
  blk_point [iblk3, places3 t]

/-- The call on `sb_w_qkv` leaves the new first moment. -/
theorem out3m : (dat3 V c).arrAt 5 cfg3.N = newM (V c main_arg13) (V c main_arg14) := by
  refine (dat3 V c).arrAt_eq_of_covers 5 _ (by decide +kernel) fun t hf y => ?_
  blk_simp
  rw [after3_5]
  frame_out
  unfold k3_pay1
  idx_vars y
  pointwise [delta, newM, newV]
  blk_point [iblk3, places3 t]

/-- The call on `sb_w_qkv` leaves the new second moment. -/
theorem out3v : (dat3 V c).arrAt 6 cfg3.N = newV (V c main_arg13) (V c main_arg15) := by
  refine (dat3 V c).arrAt_eq_of_covers 6 _ (by decide +kernel) fun t hf y => ?_
  blk_simp
  rw [after3_6]
  frame_out
  unfold k3_pay2
  idx_vars y
  pointwise [delta, newM, newV]
  blk_point [iblk3, places3 t]

/-- Where the blocks of the call on `ffn_w_in` are. -/
theorem places4 : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] :=
  (by decide +kernel : ∀ t : Fin grid4.N, _)

/-- The call on `ffn_w_in` leaves the step of the weight. -/
theorem out4d : (dat4 V c).arrAt 4 cfg4.N = delta (V c main_arg16) (V c main_arg17) (V c main_arg18) (V c main_arg19) := by
  refine (dat4 V c).arrAt_eq_of_covers 4 _ (by decide +kernel) fun t hf y => ?_
  blk_simp
  rw [after4_4]
  frame_out
  unfold k4_pay3 k4_pay1 k4_pay2
  idx_vars y
  pointwise [delta, newM, newV]
  blk_point [iblk4, places4 t]

/-- The call on `ffn_w_in` leaves the new first moment. -/
theorem out4m : (dat4 V c).arrAt 5 cfg4.N = newM (V c main_arg17) (V c main_arg18) := by
  refine (dat4 V c).arrAt_eq_of_covers 5 _ (by decide +kernel) fun t hf y => ?_
  blk_simp
  rw [after4_5]
  frame_out
  unfold k4_pay1
  idx_vars y
  pointwise [delta, newM, newV]
  blk_point [iblk4, places4 t]

/-- The call on `ffn_w_in` leaves the new second moment. -/
theorem out4v : (dat4 V c).arrAt 6 cfg4.N = newV (V c main_arg17) (V c main_arg19) := by
  refine (dat4 V c).arrAt_eq_of_covers 6 _ (by decide +kernel) fun t hf y => ?_
  blk_simp
  rw [after4_6]
  frame_out
  unfold k4_pay2
  idx_vars y
  pointwise [delta, newM, newV]
  blk_point [iblk4, places4 t]

/-- Where the blocks of the call on `ffn_w_out` are. -/
theorem places5 : ∀ t : Fin cfg5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] :=
  (by decide +kernel : ∀ t : Fin grid5.N, _)

/-- The call on `ffn_w_out` leaves the step of the weight. -/
theorem out5d : (dat5 V c).arrAt 4 cfg5.N = delta (V c main_arg20) (V c main_arg21) (V c main_arg22) (V c main_arg23) := by
  refine (dat5 V c).arrAt_eq_of_covers 4 _ (by decide +kernel) fun t hf y => ?_
  blk_simp
  rw [after5_4]
  frame_out
  unfold k5_pay3 k5_pay1 k5_pay2
  idx_vars y
  pointwise [delta, newM, newV]
  blk_point [iblk5, places5 t]

/-- The call on `ffn_w_out` leaves the new first moment. -/
theorem out5m : (dat5 V c).arrAt 5 cfg5.N = newM (V c main_arg21) (V c main_arg22) := by
  refine (dat5 V c).arrAt_eq_of_covers 5 _ (by decide +kernel) fun t hf y => ?_
  blk_simp
  rw [after5_5]
  frame_out
  unfold k5_pay1
  idx_vars y
  pointwise [delta, newM, newV]
  blk_point [iblk5, places5 t]

/-- The call on `ffn_w_out` leaves the new second moment. -/
theorem out5v : (dat5 V c).arrAt 6 cfg5.N = newV (V c main_arg21) (V c main_arg23) := by
  refine (dat5 V c).arrAt_eq_of_covers 6 _ (by decide +kernel) fun t hf y => ?_
  blk_simp
  rw [after5_6]
  frame_out
  unfold k5_pay2
  idx_vars y
  pointwise [delta, newM, newV]
  blk_point [iblk5, places5 t]

end Cert.Step5

end
-- ==== Proof.Step5Run.lean ====
module

public import proofs.«01_k».proof.Proof.Step5Out

@[expose] public section

set_option maxRecDepth 16384

noncomputable section

/-! A run of AdamW's calls on the matrices: their arguments end unchanged, every counter ends at zero, and their
results end as functions of the arguments. -/

namespace Cert.Step5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Step

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run terminates without a fault, each buffer that outlives the calls ending as the last call leaves it and
every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h hz => ⟨h, funext fun g => hz g (.inr (no_unscoped g.2))⟩)

/-- The program's frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun _ h => ⟨fun c =>
      ⟨(h.1 c _ (mem_uc main_arg0 (by decide))).trans (W6_main_arg0 m ρ c),
        (h.1 c _ (mem_uc main_arg1 (by decide))).trans (W6_main_arg1 m ρ c),
        (h.1 c _ (mem_uc main_arg2 (by decide))).trans (W6_main_arg2 m ρ c),
        (h.1 c _ (mem_uc main_arg3 (by decide))).trans (W6_main_arg3 m ρ c),
        (h.1 c _ (mem_uc main_arg4 (by decide))).trans (W6_main_arg4 m ρ c),
        (h.1 c _ (mem_uc main_arg5 (by decide))).trans (W6_main_arg5 m ρ c),
        (h.1 c _ (mem_uc main_arg6 (by decide))).trans (W6_main_arg6 m ρ c),
        (h.1 c _ (mem_uc main_arg7 (by decide))).trans (W6_main_arg7 m ρ c),
        (h.1 c _ (mem_uc main_arg8 (by decide))).trans (W6_main_arg8 m ρ c),
        (h.1 c _ (mem_uc main_arg9 (by decide))).trans (W6_main_arg9 m ρ c),
        (h.1 c _ (mem_uc main_arg10 (by decide))).trans (W6_main_arg10 m ρ c),
        (h.1 c _ (mem_uc main_arg11 (by decide))).trans (W6_main_arg11 m ρ c),
        (h.1 c _ (mem_uc main_arg12 (by decide))).trans (W6_main_arg12 m ρ c),
        (h.1 c _ (mem_uc main_arg13 (by decide))).trans (W6_main_arg13 m ρ c),
        (h.1 c _ (mem_uc main_arg14 (by decide))).trans (W6_main_arg14 m ρ c),
        (h.1 c _ (mem_uc main_arg15 (by decide))).trans (W6_main_arg15 m ρ c),
        (h.1 c _ (mem_uc main_arg16 (by decide))).trans (W6_main_arg16 m ρ c),
        (h.1 c _ (mem_uc main_arg17 (by decide))).trans (W6_main_arg17 m ρ c),
        (h.1 c _ (mem_uc main_arg18 (by decide))).trans (W6_main_arg18 m ρ c),
        (h.1 c _ (mem_uc main_arg19 (by decide))).trans (W6_main_arg19 m ρ c),
        (h.1 c _ (mem_uc main_arg20 (by decide))).trans (W6_main_arg20 m ρ c),
        (h.1 c _ (mem_uc main_arg21 (by decide))).trans (W6_main_arg21 m ρ c),
        (h.1 c _ (mem_uc main_arg22 (by decide))).trans (W6_main_arg22 m ρ c),
        (h.1 c _ (mem_uc main_arg23 (by decide))).trans (W6_main_arg23 m ρ c)⟩, h.2⟩)
    (ends m ρ)

end Run

variable (m : (ℓ : Loc nD τ sig) → Buf (Elt Ideal) ℓ) (ρ : Dev nD → PrngReg) (c : Dev nD)

/-- The weight of `ada_w`. -/
abbrev in0 : FVec Ideal S4096x1536 .f32 := m ((c : Thread nD τ).loc main_arg0)
/-- The gradient of `ada_w`. -/
abbrev in1 : FVec Ideal S4096x1536 .f32 := m ((c : Thread nD τ).loc main_arg1)
/-- The first moment of `ada_w`. -/
abbrev in2 : FVec Ideal S4096x1536 .f32 := m ((c : Thread nD τ).loc main_arg2)
/-- The second moment of `ada_w`. -/
abbrev in3 : FVec Ideal S4096x1536 .f32 := m ((c : Thread nD τ).loc main_arg3)
/-- The weight of `dn_w_in`. -/
abbrev in4 : FVec Ideal S2048x1028 .f32 := m ((c : Thread nD τ).loc main_arg4)
/-- The gradient of `dn_w_in`. -/
abbrev in5 : FVec Ideal S2048x1028 .f32 := m ((c : Thread nD τ).loc main_arg5)
/-- The first moment of `dn_w_in`. -/
abbrev in6 : FVec Ideal S2048x1028 .f32 := m ((c : Thread nD τ).loc main_arg6)
/-- The second moment of `dn_w_in`. -/
abbrev in7 : FVec Ideal S2048x1028 .f32 := m ((c : Thread nD τ).loc main_arg7)
/-- The weight of `w_out`. -/
abbrev in8 : FVec Ideal S512x1024 .f32 := m ((c : Thread nD τ).loc main_arg8)
/-- The gradient of `w_out`. -/
abbrev in9 : FVec Ideal S512x1024 .f32 := m ((c : Thread nD τ).loc main_arg9)
/-- The first moment of `w_out`. -/
abbrev in10 : FVec Ideal S512x1024 .f32 := m ((c : Thread nD τ).loc main_arg10)
/-- The second moment of `w_out`. -/
abbrev in11 : FVec Ideal S512x1024 .f32 := m ((c : Thread nD τ).loc main_arg11)
/-- The weight of `sb_w_qkv`. -/
abbrev in12 : FVec Ideal S2048x768 .f32 := m ((c : Thread nD τ).loc main_arg12)
/-- The gradient of `sb_w_qkv`. -/
abbrev in13 : FVec Ideal S2048x768 .f32 := m ((c : Thread nD τ).loc main_arg13)
/-- The first moment of `sb_w_qkv`. -/
abbrev in14 : FVec Ideal S2048x768 .f32 := m ((c : Thread nD τ).loc main_arg14)
/-- The second moment of `sb_w_qkv`. -/
abbrev in15 : FVec Ideal S2048x768 .f32 := m ((c : Thread nD τ).loc main_arg15)
/-- The weight of `ffn_w_in`. -/
abbrev in16 : FVec Ideal S4096x1408 .f32 := m ((c : Thread nD τ).loc main_arg16)
/-- The gradient of `ffn_w_in`. -/
abbrev in17 : FVec Ideal S4096x1408 .f32 := m ((c : Thread nD τ).loc main_arg17)
/-- The first moment of `ffn_w_in`. -/
abbrev in18 : FVec Ideal S4096x1408 .f32 := m ((c : Thread nD τ).loc main_arg18)
/-- The second moment of `ffn_w_in`. -/
abbrev in19 : FVec Ideal S4096x1408 .f32 := m ((c : Thread nD τ).loc main_arg19)
/-- The weight of `ffn_w_out`. -/
abbrev in20 : FVec Ideal S2816x1024 .f32 := m ((c : Thread nD τ).loc main_arg20)
/-- The gradient of `ffn_w_out`. -/
abbrev in21 : FVec Ideal S2816x1024 .f32 := m ((c : Thread nD τ).loc main_arg21)
/-- The first moment of `ffn_w_out`. -/
abbrev in22 : FVec Ideal S2816x1024 .f32 := m ((c : Thread nD τ).loc main_arg22)
/-- The second moment of `ffn_w_out`. -/
abbrev in23 : FVec Ideal S2816x1024 .f32 := m ((c : Thread nD τ).loc main_arg23)

/-- At the end: the step of `ada_w`. -/
theorem end0d : W6 m ρ c (Proc.devRef .tc main_v0_0) = delta (in0 m c) (in1 m c) (in2 m c) (in3 m c) := by
  refine (W6_of m ρ c main_v0_0 (by decide +kernel)).trans ((W5_of m ρ c main_v0_0 (by decide +kernel)).trans ((W4_of m ρ c main_v0_0 (by decide +kernel)).trans ((W3_of m ρ c main_v0_0 (by decide +kernel)).trans ((W2_of m ρ c main_v0_0 (by decide +kernel)).trans ((W1_arr m ρ c 4).trans ((out0d (V0 m ρ) c).trans ?_))))))
  rw [show V0 m ρ c main_arg0 = in0 m c from W0_args m ρ c main_arg0 (by decide), show V0 m ρ c main_arg1 = in1 m c from W0_args m ρ c main_arg1 (by decide), show V0 m ρ c main_arg2 = in2 m c from W0_args m ρ c main_arg2 (by decide), show V0 m ρ c main_arg3 = in3 m c from W0_args m ρ c main_arg3 (by decide)]

/-- At the end: the new first moment of `ada_w`. -/
theorem end0m : W6 m ρ c (Proc.devRef .tc main_v0_1) = newM (in1 m c) (in2 m c) := by
  refine (W6_of m ρ c main_v0_1 (by decide +kernel)).trans ((W5_of m ρ c main_v0_1 (by decide +kernel)).trans ((W4_of m ρ c main_v0_1 (by decide +kernel)).trans ((W3_of m ρ c main_v0_1 (by decide +kernel)).trans ((W2_of m ρ c main_v0_1 (by decide +kernel)).trans ((W1_arr m ρ c 5).trans ((out0m (V0 m ρ) c).trans ?_))))))
  rw [show V0 m ρ c main_arg1 = in1 m c from W0_args m ρ c main_arg1 (by decide), show V0 m ρ c main_arg2 = in2 m c from W0_args m ρ c main_arg2 (by decide)]

/-- At the end: the new second moment of `ada_w`. -/
theorem end0v : W6 m ρ c (Proc.devRef .tc main_v0_2) = newV (in1 m c) (in3 m c) := by
  refine (W6_of m ρ c main_v0_2 (by decide +kernel)).trans ((W5_of m ρ c main_v0_2 (by decide +kernel)).trans ((W4_of m ρ c main_v0_2 (by decide +kernel)).trans ((W3_of m ρ c main_v0_2 (by decide +kernel)).trans ((W2_of m ρ c main_v0_2 (by decide +kernel)).trans ((W1_arr m ρ c 6).trans ((out0v (V0 m ρ) c).trans ?_))))))
  rw [show V0 m ρ c main_arg1 = in1 m c from W0_args m ρ c main_arg1 (by decide), show V0 m ρ c main_arg3 = in3 m c from W0_args m ρ c main_arg3 (by decide)]

/-- At the end: the step of `dn_w_in`. -/
theorem end1d : W6 m ρ c (Proc.devRef .tc main_v1_0) = delta (in4 m c) (in5 m c) (in6 m c) (in7 m c) := by
  refine (W6_of m ρ c main_v1_0 (by decide +kernel)).trans ((W5_of m ρ c main_v1_0 (by decide +kernel)).trans ((W4_of m ρ c main_v1_0 (by decide +kernel)).trans ((W3_of m ρ c main_v1_0 (by decide +kernel)).trans ((W2_arr m ρ c 4).trans ((out1d (V1 m ρ) c).trans ?_)))))
  rw [show V1 m ρ c main_arg4 = in4 m c from W1_args m ρ c main_arg4 (by decide), show V1 m ρ c main_arg5 = in5 m c from W1_args m ρ c main_arg5 (by decide), show V1 m ρ c main_arg6 = in6 m c from W1_args m ρ c main_arg6 (by decide), show V1 m ρ c main_arg7 = in7 m c from W1_args m ρ c main_arg7 (by decide)]

/-- At the end: the new first moment of `dn_w_in`. -/
theorem end1m : W6 m ρ c (Proc.devRef .tc main_v1_1) = newM (in5 m c) (in6 m c) := by
  refine (W6_of m ρ c main_v1_1 (by decide +kernel)).trans ((W5_of m ρ c main_v1_1 (by decide +kernel)).trans ((W4_of m ρ c main_v1_1 (by decide +kernel)).trans ((W3_of m ρ c main_v1_1 (by decide +kernel)).trans ((W2_arr m ρ c 5).trans ((out1m (V1 m ρ) c).trans ?_)))))
  rw [show V1 m ρ c main_arg5 = in5 m c from W1_args m ρ c main_arg5 (by decide), show V1 m ρ c main_arg6 = in6 m c from W1_args m ρ c main_arg6 (by decide)]

/-- At the end: the new second moment of `dn_w_in`. -/
theorem end1v : W6 m ρ c (Proc.devRef .tc main_v1_2) = newV (in5 m c) (in7 m c) := by
  refine (W6_of m ρ c main_v1_2 (by decide +kernel)).trans ((W5_of m ρ c main_v1_2 (by decide +kernel)).trans ((W4_of m ρ c main_v1_2 (by decide +kernel)).trans ((W3_of m ρ c main_v1_2 (by decide +kernel)).trans ((W2_arr m ρ c 6).trans ((out1v (V1 m ρ) c).trans ?_)))))
  rw [show V1 m ρ c main_arg5 = in5 m c from W1_args m ρ c main_arg5 (by decide), show V1 m ρ c main_arg7 = in7 m c from W1_args m ρ c main_arg7 (by decide)]

/-- At the end: the step of `w_out`. -/
theorem end2d : W6 m ρ c (Proc.devRef .tc main_v2_0) = delta (in8 m c) (in9 m c) (in10 m c) (in11 m c) := by
  refine (W6_of m ρ c main_v2_0 (by decide +kernel)).trans ((W5_of m ρ c main_v2_0 (by decide +kernel)).trans ((W4_of m ρ c main_v2_0 (by decide +kernel)).trans ((W3_arr m ρ c 4).trans ((out2d (V2 m ρ) c).trans ?_))))
  rw [show V2 m ρ c main_arg8 = in8 m c from W2_args m ρ c main_arg8 (by decide), show V2 m ρ c main_arg9 = in9 m c from W2_args m ρ c main_arg9 (by decide), show V2 m ρ c main_arg10 = in10 m c from W2_args m ρ c main_arg10 (by decide), show V2 m ρ c main_arg11 = in11 m c from W2_args m ρ c main_arg11 (by decide)]

/-- At the end: the new first moment of `w_out`. -/
theorem end2m : W6 m ρ c (Proc.devRef .tc main_v2_1) = newM (in9 m c) (in10 m c) := by
  refine (W6_of m ρ c main_v2_1 (by decide +kernel)).trans ((W5_of m ρ c main_v2_1 (by decide +kernel)).trans ((W4_of m ρ c main_v2_1 (by decide +kernel)).trans ((W3_arr m ρ c 5).trans ((out2m (V2 m ρ) c).trans ?_))))
  rw [show V2 m ρ c main_arg9 = in9 m c from W2_args m ρ c main_arg9 (by decide), show V2 m ρ c main_arg10 = in10 m c from W2_args m ρ c main_arg10 (by decide)]

/-- At the end: the new second moment of `w_out`. -/
theorem end2v : W6 m ρ c (Proc.devRef .tc main_v2_2) = newV (in9 m c) (in11 m c) := by
  refine (W6_of m ρ c main_v2_2 (by decide +kernel)).trans ((W5_of m ρ c main_v2_2 (by decide +kernel)).trans ((W4_of m ρ c main_v2_2 (by decide +kernel)).trans ((W3_arr m ρ c 6).trans ((out2v (V2 m ρ) c).trans ?_))))
  rw [show V2 m ρ c main_arg9 = in9 m c from W2_args m ρ c main_arg9 (by decide), show V2 m ρ c main_arg11 = in11 m c from W2_args m ρ c main_arg11 (by decide)]

/-- At the end: the step of `sb_w_qkv`. -/
theorem end3d : W6 m ρ c (Proc.devRef .tc main_v3_0) = delta (in12 m c) (in13 m c) (in14 m c) (in15 m c) := by
  refine (W6_of m ρ c main_v3_0 (by decide +kernel)).trans ((W5_of m ρ c main_v3_0 (by decide +kernel)).trans ((W4_arr m ρ c 4).trans ((out3d (V3 m ρ) c).trans ?_)))
  rw [show V3 m ρ c main_arg12 = in12 m c from W3_args m ρ c main_arg12 (by decide), show V3 m ρ c main_arg13 = in13 m c from W3_args m ρ c main_arg13 (by decide), show V3 m ρ c main_arg14 = in14 m c from W3_args m ρ c main_arg14 (by decide), show V3 m ρ c main_arg15 = in15 m c from W3_args m ρ c main_arg15 (by decide)]

/-- At the end: the new first moment of `sb_w_qkv`. -/
theorem end3m : W6 m ρ c (Proc.devRef .tc main_v3_1) = newM (in13 m c) (in14 m c) := by
  refine (W6_of m ρ c main_v3_1 (by decide +kernel)).trans ((W5_of m ρ c main_v3_1 (by decide +kernel)).trans ((W4_arr m ρ c 5).trans ((out3m (V3 m ρ) c).trans ?_)))
  rw [show V3 m ρ c main_arg13 = in13 m c from W3_args m ρ c main_arg13 (by decide), show V3 m ρ c main_arg14 = in14 m c from W3_args m ρ c main_arg14 (by decide)]

/-- At the end: the new second moment of `sb_w_qkv`. -/
theorem end3v : W6 m ρ c (Proc.devRef .tc main_v3_2) = newV (in13 m c) (in15 m c) := by
  refine (W6_of m ρ c main_v3_2 (by decide +kernel)).trans ((W5_of m ρ c main_v3_2 (by decide +kernel)).trans ((W4_arr m ρ c 6).trans ((out3v (V3 m ρ) c).trans ?_)))
  rw [show V3 m ρ c main_arg13 = in13 m c from W3_args m ρ c main_arg13 (by decide), show V3 m ρ c main_arg15 = in15 m c from W3_args m ρ c main_arg15 (by decide)]

/-- At the end: the step of `ffn_w_in`. -/
theorem end4d : W6 m ρ c (Proc.devRef .tc main_v4_0) = delta (in16 m c) (in17 m c) (in18 m c) (in19 m c) := by
  refine (W6_of m ρ c main_v4_0 (by decide +kernel)).trans ((W5_arr m ρ c 4).trans ((out4d (V4 m ρ) c).trans ?_))
  rw [show V4 m ρ c main_arg16 = in16 m c from W4_args m ρ c main_arg16 (by decide), show V4 m ρ c main_arg17 = in17 m c from W4_args m ρ c main_arg17 (by decide), show V4 m ρ c main_arg18 = in18 m c from W4_args m ρ c main_arg18 (by decide), show V4 m ρ c main_arg19 = in19 m c from W4_args m ρ c main_arg19 (by decide)]

/-- At the end: the new first moment of `ffn_w_in`. -/
theorem end4m : W6 m ρ c (Proc.devRef .tc main_v4_1) = newM (in17 m c) (in18 m c) := by
  refine (W6_of m ρ c main_v4_1 (by decide +kernel)).trans ((W5_arr m ρ c 5).trans ((out4m (V4 m ρ) c).trans ?_))
  rw [show V4 m ρ c main_arg17 = in17 m c from W4_args m ρ c main_arg17 (by decide), show V4 m ρ c main_arg18 = in18 m c from W4_args m ρ c main_arg18 (by decide)]

/-- At the end: the new second moment of `ffn_w_in`. -/
theorem end4v : W6 m ρ c (Proc.devRef .tc main_v4_2) = newV (in17 m c) (in19 m c) := by
  refine (W6_of m ρ c main_v4_2 (by decide +kernel)).trans ((W5_arr m ρ c 6).trans ((out4v (V4 m ρ) c).trans ?_))
  rw [show V4 m ρ c main_arg17 = in17 m c from W4_args m ρ c main_arg17 (by decide), show V4 m ρ c main_arg19 = in19 m c from W4_args m ρ c main_arg19 (by decide)]

/-- At the end: the step of `ffn_w_out`. -/
theorem end5d : W6 m ρ c (Proc.devRef .tc main_v5_0) = delta (in20 m c) (in21 m c) (in22 m c) (in23 m c) := by
  refine (W6_arr m ρ c 4).trans ((out5d (V5 m ρ) c).trans ?_)
  rw [show V5 m ρ c main_arg20 = in20 m c from W5_args m ρ c main_arg20 (by decide), show V5 m ρ c main_arg21 = in21 m c from W5_args m ρ c main_arg21 (by decide), show V5 m ρ c main_arg22 = in22 m c from W5_args m ρ c main_arg22 (by decide), show V5 m ρ c main_arg23 = in23 m c from W5_args m ρ c main_arg23 (by decide)]

/-- At the end: the new first moment of `ffn_w_out`. -/
theorem end5m : W6 m ρ c (Proc.devRef .tc main_v5_1) = newM (in21 m c) (in22 m c) := by
  refine (W6_arr m ρ c 5).trans ((out5m (V5 m ρ) c).trans ?_)
  rw [show V5 m ρ c main_arg21 = in21 m c from W5_args m ρ c main_arg21 (by decide), show V5 m ρ c main_arg22 = in22 m c from W5_args m ρ c main_arg22 (by decide)]

/-- At the end: the new second moment of `ffn_w_out`. -/
theorem end5v : W6 m ρ c (Proc.devRef .tc main_v5_2) = newV (in21 m c) (in23 m c) := by
  refine (W6_arr m ρ c 6).trans ((out5v (V5 m ρ) c).trans ?_)
  rw [show V5 m ρ c main_arg21 = in21 m c from W5_args m ρ c main_arg21 (by decide), show V5 m ρ c main_arg23 = in23 m c from W5_args m ρ c main_arg23 (by decide)]

/-- A run over the extended reals ends with the results as these functions of the arguments. -/
theorem value_run : θ_run (defs (F := Ideal)) (onTc (τ := τ) (main (F := Ideal))) ⟨m, fun _ => 0, ρ⟩ (fun r => ∀ c : Dev nD,
      r.2.mem ((c.tc : Thread nD τ).loc main_v0_0) = delta (in0 m c) (in1 m c) (in2 m c) (in3 m c)
      ∧ r.2.mem ((c.tc : Thread nD τ).loc main_v0_1) = newM (in1 m c) (in2 m c)
      ∧ r.2.mem ((c.tc : Thread nD τ).loc main_v0_2) = newV (in1 m c) (in3 m c)
      ∧ r.2.mem ((c.tc : Thread nD τ).loc main_v1_0) = delta (in4 m c) (in5 m c) (in6 m c) (in7 m c)
      ∧ r.2.mem ((c.tc : Thread nD τ).loc main_v1_1) = newM (in5 m c) (in6 m c)
      ∧ r.2.mem ((c.tc : Thread nD τ).loc main_v1_2) = newV (in5 m c) (in7 m c)
      ∧ r.2.mem ((c.tc : Thread nD τ).loc main_v2_0) = delta (in8 m c) (in9 m c) (in10 m c) (in11 m c)
      ∧ r.2.mem ((c.tc : Thread nD τ).loc main_v2_1) = newM (in9 m c) (in10 m c)
      ∧ r.2.mem ((c.tc : Thread nD τ).loc main_v2_2) = newV (in9 m c) (in11 m c)
      ∧ r.2.mem ((c.tc : Thread nD τ).loc main_v3_0) = delta (in12 m c) (in13 m c) (in14 m c) (in15 m c)
      ∧ r.2.mem ((c.tc : Thread nD τ).loc main_v3_1) = newM (in13 m c) (in14 m c)
      ∧ r.2.mem ((c.tc : Thread nD τ).loc main_v3_2) = newV (in13 m c) (in15 m c)
      ∧ r.2.mem ((c.tc : Thread nD τ).loc main_v4_0) = delta (in16 m c) (in17 m c) (in18 m c) (in19 m c)
      ∧ r.2.mem ((c.tc : Thread nD τ).loc main_v4_1) = newM (in17 m c) (in18 m c)
      ∧ r.2.mem ((c.tc : Thread nD τ).loc main_v4_2) = newV (in17 m c) (in19 m c)
      ∧ r.2.mem ((c.tc : Thread nD τ).loc main_v5_0) = delta (in20 m c) (in21 m c) (in22 m c) (in23 m c)
      ∧ r.2.mem ((c.tc : Thread nD τ).loc main_v5_1) = newM (in21 m c) (in22 m c)
      ∧ r.2.mem ((c.tc : Thread nD τ).loc main_v5_2) = newV (in21 m c) (in23 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c =>
      ⟨(h.1 c _ (mem_uc main_v0_0 (by decide))).trans (end0d m ρ c),
        (h.1 c _ (mem_uc main_v0_1 (by decide))).trans (end0m m ρ c),
        (h.1 c _ (mem_uc main_v0_2 (by decide))).trans (end0v m ρ c),
        (h.1 c _ (mem_uc main_v1_0 (by decide))).trans (end1d m ρ c),
        (h.1 c _ (mem_uc main_v1_1 (by decide))).trans (end1m m ρ c),
        (h.1 c _ (mem_uc main_v1_2 (by decide))).trans (end1v m ρ c),
        (h.1 c _ (mem_uc main_v2_0 (by decide))).trans (end2d m ρ c),
        (h.1 c _ (mem_uc main_v2_1 (by decide))).trans (end2m m ρ c),
        (h.1 c _ (mem_uc main_v2_2 (by decide))).trans (end2v m ρ c),
        (h.1 c _ (mem_uc main_v3_0 (by decide))).trans (end3d m ρ c),
        (h.1 c _ (mem_uc main_v3_1 (by decide))).trans (end3m m ρ c),
        (h.1 c _ (mem_uc main_v3_2 (by decide))).trans (end3v m ρ c),
        (h.1 c _ (mem_uc main_v4_0 (by decide))).trans (end4d m ρ c),
        (h.1 c _ (mem_uc main_v4_1 (by decide))).trans (end4m m ρ c),
        (h.1 c _ (mem_uc main_v4_2 (by decide))).trans (end4v m ρ c),
        (h.1 c _ (mem_uc main_v5_0 (by decide))).trans (end5d m ρ c),
        (h.1 c _ (mem_uc main_v5_1 (by decide))).trans (end5m m ρ c),
        (h.1 c _ (mem_uc main_v5_2 (by decide))).trans (end5v m ρ c),
        (h.1 c _ (mem_uc main_arg0 (by decide))).trans (W6_main_arg0 m ρ c),
        (h.1 c _ (mem_uc main_arg1 (by decide))).trans (W6_main_arg1 m ρ c),
        (h.1 c _ (mem_uc main_arg2 (by decide))).trans (W6_main_arg2 m ρ c),
        (h.1 c _ (mem_uc main_arg3 (by decide))).trans (W6_main_arg3 m ρ c),
        (h.1 c _ (mem_uc main_arg4 (by decide))).trans (W6_main_arg4 m ρ c),
        (h.1 c _ (mem_uc main_arg5 (by decide))).trans (W6_main_arg5 m ρ c),
        (h.1 c _ (mem_uc main_arg6 (by decide))).trans (W6_main_arg6 m ρ c),
        (h.1 c _ (mem_uc main_arg7 (by decide))).trans (W6_main_arg7 m ρ c),
        (h.1 c _ (mem_uc main_arg8 (by decide))).trans (W6_main_arg8 m ρ c),
        (h.1 c _ (mem_uc main_arg9 (by decide))).trans (W6_main_arg9 m ρ c),
        (h.1 c _ (mem_uc main_arg10 (by decide))).trans (W6_main_arg10 m ρ c),
        (h.1 c _ (mem_uc main_arg11 (by decide))).trans (W6_main_arg11 m ρ c),
        (h.1 c _ (mem_uc main_arg12 (by decide))).trans (W6_main_arg12 m ρ c),
        (h.1 c _ (mem_uc main_arg13 (by decide))).trans (W6_main_arg13 m ρ c),
        (h.1 c _ (mem_uc main_arg14 (by decide))).trans (W6_main_arg14 m ρ c),
        (h.1 c _ (mem_uc main_arg15 (by decide))).trans (W6_main_arg15 m ρ c),
        (h.1 c _ (mem_uc main_arg16 (by decide))).trans (W6_main_arg16 m ρ c),
        (h.1 c _ (mem_uc main_arg17 (by decide))).trans (W6_main_arg17 m ρ c),
        (h.1 c _ (mem_uc main_arg18 (by decide))).trans (W6_main_arg18 m ρ c),
        (h.1 c _ (mem_uc main_arg19 (by decide))).trans (W6_main_arg19 m ρ c),
        (h.1 c _ (mem_uc main_arg20 (by decide))).trans (W6_main_arg20 m ρ c),
        (h.1 c _ (mem_uc main_arg21 (by decide))).trans (W6_main_arg21 m ρ c),
        (h.1 c _ (mem_uc main_arg22 (by decide))).trans (W6_main_arg22 m ρ c),
        (h.1 c _ (mem_uc main_arg23 (by decide))).trans (W6_main_arg23 m ρ c)⟩)
    (ends m ρ)

end Cert.Step5

end
-- ==== Proof.StepRef.lean ====
module

public import proofs.«01_k».proof.Proof.Step
public import proofs.«01_k».proof.Proof.NormValue

@[expose] public section

set_option maxRecDepth 16384

noncomputable section

/-! One step of AdamW as the reference writes it, on whole arrays. -/

namespace Cert.Step

open Idealize.ShloMosaic

/-- The shape of a single number. -/
abbrev One : Shape := ⟨0, ![]⟩

variable {s : Shape} (h : One.BroadcastsInDim s (![] : Fin 0 → Fin s.rank)) (w g m v : FVec Ideal s .f32)

/-- The reference's new first moment. -/
def hostM : FVec Ideal s .f32 :=
  addf (mulf (broadcastInDim s ![] h (constant One .f32 0x3F666666#32)) m) (mulf (broadcastInDim s ![] h (constant One .f32 0x3DCCCCCD#32)) g)

/-- It is the new first moment. -/
theorem hostM_eq : hostM h g m = newM g m := rfl

/-- The reference's new second moment. -/
def hostV : FVec Ideal s .f32 :=
  addf (mulf (broadcastInDim s ![] h (constant One .f32 0x3F7FBE77#32)) v) (mulf (broadcastInDim s ![] h (constant One .f32 0x3A83126F#32)) (mulf g g))

/-- It is the new second moment. -/
theorem hostV_eq : hostV h g v = newV g v := rfl

/-- The reference's step of the weight. -/
def hostD : FVec Ideal s .f32 :=
  mulf (broadcastInDim s ![] h (constant One .f32 0xBA83126F#32))
    (addf (Host.divf (Host.divf (hostM h g m) (broadcastInDim s ![] h (constant One .f32 0x3F26BD02#32)))
        (addf (Host.sqrt (Host.divf (hostV h g v) (broadcastInDim s ![] h (constant One .f32 0x3C231ACC#32)))) (broadcastInDim s ![] h (constant One .f32 0x322BCC77#32))))
      (mulf (broadcastInDim s ![] h (constant One .f32 0x3C23D70A#32)) w))

/-- It is the step of the weight. -/
theorem hostD_eq : hostD h w g m v = delta w g m v := rfl

end Cert.Step

end
-- ==== Proof.Step5Value.lean ====
module

public import proofs.«01_k».proof.Defs
public import proofs.«01_k».proof.Proof.Step5Run
public import proofs.«01_k».proof.Proof.StepRef
public import proofs.«01_k».proof.Proof.Gen.Kernel5
public import proofs.«01_k».proof.Proof.Gen.Reference5Ideal.Run

@[expose] public section

set_option maxRecDepth 16384

noncomputable section

/-! The equation of AdamW's calls on the matrices with the reference, and the three frames. -/

namespace Cert.Step5

open Idealize.ShloMosaic Idealize.ShloMosaic.TcCoe Idealize.SL.Sem
open Cert.Step

section Reference

open Cert.Reference5Ideal Cert.Reference5Ideal.Gen

/-- Every run of the reference ends with the results as functions of its arguments, which are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = delta (s := S4096x1536) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = newM (s := S4096x1536) (m ((c.tc : Thread nD τ).loc main_arg1)) (m ((c.tc : Thread nD τ).loc main_arg2))
      ∧ r.2.mem ((c.tc : Thread nD τ).loc main_v10) = newV (s := S4096x1536) (m ((c.tc : Thread nD τ).loc main_arg1)) (m ((c.tc : Thread nD τ).loc main_arg3))
      ∧ r.2.mem ((c.tc : Thread nD τ).loc main_v47) = delta (s := S2048x1028) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = newM (s := S2048x1028) (m ((c.tc : Thread nD τ).loc main_arg5)) (m ((c.tc : Thread nD τ).loc main_arg6))
      ∧ r.2.mem ((c.tc : Thread nD τ).loc main_v34) = newV (s := S2048x1028) (m ((c.tc : Thread nD τ).loc main_arg5)) (m ((c.tc : Thread nD τ).loc main_arg7))
      ∧ r.2.mem ((c.tc : Thread nD τ).loc main_v71) = delta (s := S512x1024) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v52) = newM (s := S512x1024) (m ((c.tc : Thread nD τ).loc main_arg9)) (m ((c.tc : Thread nD τ).loc main_arg10))
      ∧ r.2.mem ((c.tc : Thread nD τ).loc main_v58) = newV (s := S512x1024) (m ((c.tc : Thread nD τ).loc main_arg9)) (m ((c.tc : Thread nD τ).loc main_arg11))
      ∧ r.2.mem ((c.tc : Thread nD τ).loc main_v95) = delta (s := S2048x768) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v76) = newM (s := S2048x768) (m ((c.tc : Thread nD τ).loc main_arg13)) (m ((c.tc : Thread nD τ).loc main_arg14))
      ∧ r.2.mem ((c.tc : Thread nD τ).loc main_v82) = newV (s := S2048x768) (m ((c.tc : Thread nD τ).loc main_arg13)) (m ((c.tc : Thread nD τ).loc main_arg15))
      ∧ r.2.mem ((c.tc : Thread nD τ).loc main_v119) = delta (s := S4096x1408) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v100) = newM (s := S4096x1408) (m ((c.tc : Thread nD τ).loc main_arg17)) (m ((c.tc : Thread nD τ).loc main_arg18))
      ∧ r.2.mem ((c.tc : Thread nD τ).loc main_v106) = newV (s := S4096x1408) (m ((c.tc : Thread nD τ).loc main_arg17)) (m ((c.tc : Thread nD τ).loc main_arg19))
      ∧ r.2.mem ((c.tc : Thread nD τ).loc main_v143) = delta (s := S2816x1024) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v124) = newM (s := S2816x1024) (m ((c.tc : Thread nD τ).loc main_arg21)) (m ((c.tc : Thread nD τ).loc main_arg22))
      ∧ r.2.mem ((c.tc : Thread nD τ).loc main_v130) = newV (s := S2816x1024) (m ((c.tc : Thread nD τ).loc main_arg21)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run (defs (F := Ideal)) (onTc (τ := τ) (main (F := Ideal))) ⟨m, fun _ => 0, ρ⟩).mono
    (fun _ h c => by
      obtain ⟨r0, r1, r2, r3, r4, r5, r6, r7, r8, r9, r10, r11, r12, r13, r14, r15, r16, r17, rest⟩ := h c
      exact ⟨r0.trans (hostD_eq bcast_S_S4096x1536 _ _ _ _),
        r1.trans (hostM_eq bcast_S_S4096x1536 _ _),
        r2.trans (hostV_eq bcast_S_S4096x1536 _ _),
        r3.trans (hostD_eq bcast_S_S2048x1028 _ _ _ _),
        r4.trans (hostM_eq bcast_S_S2048x1028 _ _),
        r5.trans (hostV_eq bcast_S_S2048x1028 _ _),
        r6.trans (hostD_eq bcast_S_S512x1024 _ _ _ _),
        r7.trans (hostM_eq bcast_S_S512x1024 _ _),
        r8.trans (hostV_eq bcast_S_S512x1024 _ _),
        r9.trans (hostD_eq bcast_S_S2048x768 _ _ _ _),
        r10.trans (hostM_eq bcast_S_S2048x768 _ _),
        r11.trans (hostV_eq bcast_S_S2048x768 _ _),
        r12.trans (hostD_eq bcast_S_S4096x1408 _ _ _ _),
        r13.trans (hostM_eq bcast_S_S4096x1408 _ _),
        r14.trans (hostV_eq bcast_S_S4096x1408 _ _),
        r15.trans (hostD_eq bcast_S_S2816x1024 _ _ _ _),
        r16.trans (hostM_eq bcast_S_S2816x1024 _ _),
        r17.trans (hostV_eq bcast_S_S2816x1024 _ _), rest⟩)
    (Value.run (F := Ideal) m ρ)

end Reference

/-- The calls and the reference end with the same results. -/
theorem same_results : Cert.algebraic_Kernel5Ideal_Reference5Ideal := by
  intro m ρ m' ρ' _ same
  refine ⟨fun c => delta (in0 m c) (in1 m c) (in2 m c) (in3 m c),
    fun c => newM (in1 m c) (in2 m c),
    fun c => newV (in1 m c) (in3 m c),
    fun c => delta (in4 m c) (in5 m c) (in6 m c) (in7 m c),
    fun c => newM (in5 m c) (in6 m c),
    fun c => newV (in5 m c) (in7 m c),
    fun c => delta (in8 m c) (in9 m c) (in10 m c) (in11 m c),
    fun c => newM (in9 m c) (in10 m c),
    fun c => newV (in9 m c) (in11 m c),
    fun c => delta (in12 m c) (in13 m c) (in14 m c) (in15 m c),
    fun c => newM (in13 m c) (in14 m c),
    fun c => newV (in13 m c) (in15 m c),
    fun c => delta (in16 m c) (in17 m c) (in18 m c) (in19 m c),
    fun c => newM (in17 m c) (in18 m c),
    fun c => newV (in17 m c) (in19 m c),
    fun c => delta (in20 m c) (in21 m c) (in22 m c) (in23 m c),
    fun c => newM (in21 m c) (in22 m c),
    fun c => newV (in21 m c) (in23 m c), value_run m ρ, ?_⟩
  refine (θ_run (Cert.Reference5Ideal.defs (F := Ideal)) (onTc (τ := Cert.Reference5Ideal.τ) (Cert.Reference5Ideal.main (F := Ideal))) ⟨m', fun _ => 0, ρ'⟩).mono
    (fun r h c => ?_) (ref_run m' ρ')
  obtain ⟨e0, e1, e2, e3, e4, e5, e6, e7, e8, e9, e10, e11, e12, e13, e14, e15, e16, e17, e18, e19, e20, e21, e22, e23⟩ := same c
  obtain ⟨r0, r1, r2, r3, r4, r5, r6, r7, r8, r9, r10, r11, r12, r13, r14, r15, r16, r17, rest⟩ := h c
  exact ⟨r0.trans (Cert.Norm.alike4 delta e0 e1 e2 e3),
    r1.trans (congrArg₂ newM e1 e2),
    r2.trans (congrArg₂ newV e1 e3),
    r3.trans (Cert.Norm.alike4 delta e4 e5 e6 e7),
    r4.trans (congrArg₂ newM e5 e6),
    r5.trans (congrArg₂ newV e5 e7),
    r6.trans (Cert.Norm.alike4 delta e8 e9 e10 e11),
    r7.trans (congrArg₂ newM e9 e10),
    r8.trans (congrArg₂ newV e9 e11),
    r9.trans (Cert.Norm.alike4 delta e12 e13 e14 e15),
    r10.trans (congrArg₂ newM e13 e14),
    r11.trans (congrArg₂ newV e13 e15),
    r12.trans (Cert.Norm.alike4 delta e16 e17 e18 e19),
    r13.trans (congrArg₂ newM e17 e18),
    r14.trans (congrArg₂ newV e17 e19),
    r15.trans (Cert.Norm.alike4 delta e20 e21 e22 e23),
    r16.trans (congrArg₂ newM e21 e22),
    r17.trans (congrArg₂ newV e21 e23), rest⟩

/-- The frame of the idealized calls, stated at the device's words. -/
def frameAtWords : Prop :=
  ∀ (m : (ℓ : Loc Cert.Kernel5Ideal.nD Cert.Kernel5Ideal.τ Cert.Kernel5Ideal.sig) → Buf (Elt Bits) ℓ) (ρ : Dev Cert.Kernel5Ideal.nD → PrngReg), True →
    θ_run (Cert.Kernel5Ideal.defs (F := Bits)) (onTc (τ := Cert.Kernel5Ideal.τ) (Cert.Kernel5Ideal.main (F := Bits))) ⟨m, fun _ => 0, ρ⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ r.2.sem = fun _ => 0)

/-- The calls and their idealized form have the same text, so the two statements are one. -/
theorem frameAtWords_eq : frameAtWords = Cert.quiescent_Kernel5 := by sl_kernel_rfl

/-- The calls' frame at the device's words. -/
theorem frame_words : Cert.quiescent_Kernel5 := frameAtWords_eq ▸ (fun m ρ _ => frame (F := Bits) m ρ : frameAtWords)

/-- The calls' frame over the extended reals. -/
theorem frame_ideal : Cert.quiescent_Kernel5Ideal := fun m ρ _ => frame (F := Ideal) m ρ

/-- The reference's frame: its run leaves the arguments unchanged, and its signature holds no semaphore. -/
theorem frame_ref : Cert.quiescent_Reference5Ideal := fun m ρ _ =>
  (θ_run (Cert.Reference5Ideal.defs (F := Ideal)) (onTc (τ := Cert.Reference5Ideal.τ) (Cert.Reference5Ideal.main (F := Ideal))) ⟨m, fun _ => 0, ρ⟩).mono
    (fun r h => ⟨fun c => (h c).2.2.2.2.2.2.2.2.2.2.2.2.2.2.2.2.2.2, sem_eq_zero_of_no_sems (by decide) r.2⟩) (ref_run m ρ)

end Cert.Step5

end
-- ==== Proof.Step6Out.lean ====
module

public import proofs.«01_k».proof.Proof.Step
public import proofs.«01_k».proof.Proof.Gen.Kernel6Ideal.Frame

@[expose] public section

set_option maxRecDepth 16384

noncomputable section

/-! What each of AdamW's calls on the vectors leaves in its three output arrays, as a function of the whole
arrays that the call reads. -/

namespace Cert.Step6

open Idealize.ShloMosaic Idealize.ShloMosaic.TcCoe Cert.Kernel6Ideal Cert.Kernel6Ideal.Gen
open Cert.Ffn (zeros)
open Cert.Step

variable (V : (c : Dev nD) → (b : Ref sig .tc) → Buf (Elt Ideal) ((c : Thread nD τ).loc b)) (c : Dev nD)

/-- Where the blocks of the call on `ada_b` are. -/
theorem places0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The call on `ada_b` leaves the step of the weight. -/
theorem out0d : (dat0 V c).arrAt 4 cfg0.N = delta (V c main_arg0) (V c main_arg1) (V c main_arg2) (V c main_arg3) := by
  refine (dat0 V c).arrAt_eq_of_covers 4 _ (by decide +kernel) fun t hf y => ?_
  blk_simp
  rw [after0_4]
  frame_out
  unfold k0_pay3 k0_pay1 k0_pay2
  idx_vars y
  pointwise [delta, newM, newV]
  blk_point [iblk0, places0 t]

/-- The call on `ada_b` leaves the new first moment. -/
theorem out0m : (dat0 V c).arrAt 5 cfg0.N = newM (V c main_arg1) (V c main_arg2) := by
  refine (dat0 V c).arrAt_eq_of_covers 5 _ (by decide +kernel) fun t hf y => ?_
  blk_simp
  rw [after0_5]
  frame_out
  unfold k0_pay1
  idx_vars y
  pointwise [delta, newM, newV]
  blk_point [iblk0, places0 t]

/-- The call on `ada_b` leaves the new second moment. -/
theorem out0v : (dat0 V c).arrAt 6 cfg0.N = newV (V c main_arg1) (V c main_arg3) := by
  refine (dat0 V c).arrAt_eq_of_covers 6 _ (by decide +kernel) fun t hf y => ?_
  blk_simp
  rw [after0_6]
  frame_out
  unfold k0_pay2
  idx_vars y
  pointwise [delta, newM, newV]
  blk_point [iblk0, places0 t]

/-- Where the blocks of the call on `norm_g` are. -/
theorem places1 : ∀ t : Fin cfg1.N, win1_0.index t = ![0, 0] ∧ win1_1.index t = ![0, 0] ∧ win1_2.index t = ![0, 0] ∧ win1_3.index t = ![0, 0] ∧ win1_4.index t = ![0, 0] ∧ win1_5.index t = ![0, 0] ∧ win1_6.index t = ![0, 0] :=
  (by decide +kernel : ∀ t : Fin grid1.N, _)

/-- The call on `norm_g` leaves the step of the weight. -/
theorem out1d : (dat1 V c).arrAt 4 cfg1.N = delta (V c main_arg4) (V c main_arg5) (V c main_arg6) (V c main_arg7) := by
  refine (dat1 V c).arrAt_eq_of_covers 4 _ (by decide +kernel) fun t hf y => ?_
  blk_simp
  rw [after1_4]
  frame_out
  unfold k1_pay3 k1_pay1 k1_pay2
  idx_vars y
  pointwise [delta, newM, newV]
  blk_point [iblk1, places1 t]

/-- The call on `norm_g` leaves the new first moment. -/
theorem out1m : (dat1 V c).arrAt 5 cfg1.N = newM (V c main_arg5) (V c main_arg6) := by
  refine (dat1 V c).arrAt_eq_of_covers 5 _ (by decide +kernel) fun t hf y => ?_
  blk_simp
  rw [after1_5]
  frame_out
  unfold k1_pay1
  idx_vars y
  pointwise [delta, newM, newV]
  blk_point [iblk1, places1 t]

/-- The call on `norm_g` leaves the new second moment. -/
theorem out1v : (dat1 V c).arrAt 6 cfg1.N = newV (V c main_arg5) (V c main_arg7) := by
  refine (dat1 V c).arrAt_eq_of_covers 6 _ (by decide +kernel) fun t hf y => ?_
  blk_simp
  rw [after1_6]
  frame_out
  unfold k1_pay2
  idx_vars y
  pointwise [delta, newM, newV]
  blk_point [iblk1, places1 t]

/-- Where the blocks of the call on `dn_conv_w` are. -/
theorem places2 : ∀ t : Fin cfg2.N, win2_0.index t = ![0, 0] ∧ win2_1.index t = ![0, 0] ∧ win2_2.index t = ![0, 0] ∧ win2_3.index t = ![0, 0] ∧ win2_4.index t = ![0, 0] ∧ win2_5.index t = ![0, 0] ∧ win2_6.index t = ![0, 0] :=
  (by decide +kernel : ∀ t : Fin grid2.N, _)

/-- The call on `dn_conv_w` leaves the step of the weight. -/
theorem out2d : (dat2 V c).arrAt 4 cfg2.N = delta (V c main_arg8) (V c main_arg9) (V c main_arg10) (V c main_arg11) := by
  refine (dat2 V c).arrAt_eq_of_covers 4 _ (by decide +kernel) fun t hf y => ?_
  blk_simp
  rw [after2_4]
  frame_out
  unfold k2_pay3 k2_pay1 k2_pay2
  idx_vars y
  pointwise [delta, newM, newV]
  blk_point [iblk2, places2 t]

/-- The call on `dn_conv_w` leaves the new first moment. -/
theorem out2m : (dat2 V c).arrAt 5 cfg2.N = newM (V c main_arg9) (V c main_arg10) := by
  refine (dat2 V c).arrAt_eq_of_covers 5 _ (by decide +kernel) fun t hf y => ?_
  blk_simp
  rw [after2_5]
  frame_out
  unfold k2_pay1
  idx_vars y
  pointwise [delta, newM, newV]
  blk_point [iblk2, places2 t]

/-- The call on `dn_conv_w` leaves the new second moment. -/
theorem out2v : (dat2 V c).arrAt 6 cfg2.N = newV (V c main_arg9) (V c main_arg11) := by
  refine (dat2 V c).arrAt_eq_of_covers 6 _ (by decide +kernel) fun t hf y => ?_
  blk_simp
  rw [after2_6]
  frame_out
  unfold k2_pay2
  idx_vars y
  pointwise [delta, newM, newV]
  blk_point [iblk2, places2 t]

/-- Where the blocks of the call on `dn_a_log` are. -/
theorem places3 : ∀ t : Fin cfg3.N, win3_0.index t = ![0, 0] ∧ win3_1.index t = ![0, 0] ∧ win3_2.index t = ![0, 0] ∧ win3_3.index t = ![0, 0] ∧ win3_4.index t = ![0, 0] ∧ win3_5.index t = ![0, 0] ∧ win3_6.index t = ![0, 0] :=
  (by decide +kernel : ∀ t : Fin grid3.N, _)

/-- The call on `dn_a_log` leaves the step of the weight. -/
theorem out3d : (dat3 V c).arrAt 4 cfg3.N = delta (V c main_arg12) (V c main_arg13) (V c main_arg14) (V c main_arg15) := by
  refine (dat3 V c).arrAt_eq_of_covers 4 _ (by decide +kernel) fun t hf y => ?_
  blk_simp
  rw [after3_4]
  frame_out
  unfold k3_pay3 k3_pay1 k3_pay2
  idx_vars y
  pointwise [delta, newM, newV]
  blk_point [iblk3, places3 t]

/-- The call on `dn_a_log` leaves the new first moment. -/
theorem out3m : (dat3 V c).arrAt 5 cfg3.N = newM (V c main_arg13) (V c main_arg14) := by
  refine (dat3 V c).arrAt_eq_of_covers 5 _ (by decide +kernel) fun t hf y => ?_
  blk_simp
  rw [after3_5]
  frame_out
  unfold k3_pay1
  idx_vars y
  pointwise [delta, newM, newV]
  blk_point [iblk3, places3 t]

/-- The call on `dn_a_log` leaves the new second moment. -/
theorem out3v : (dat3 V c).arrAt 6 cfg3.N = newV (V c main_arg13) (V c main_arg15) := by
  refine (dat3 V c).arrAt_eq_of_covers 6 _ (by decide +kernel) fun t hf y => ?_
  blk_simp
  rw [after3_6]
  frame_out
  unfold k3_pay2
  idx_vars y
  pointwise [delta, newM, newV]
  blk_point [iblk3, places3 t]

/-- Where the blocks of the call on `dn_onorm_g` are. -/
theorem places4 : ∀ t : Fin cfg4.N, win4_0.index t = ![0, 0] ∧ win4_1.index t = ![0, 0] ∧ win4_2.index t = ![0, 0] ∧ win4_3.index t = ![0, 0] ∧ win4_4.index t = ![0, 0] ∧ win4_5.index t = ![0, 0] ∧ win4_6.index t = ![0, 0] :=
  (by decide +kernel : ∀ t : Fin grid4.N, _)

/-- The call on `dn_onorm_g` leaves the step of the weight. -/
theorem out4d : (dat4 V c).arrAt 4 cfg4.N = delta (V c main_arg16) (V c main_arg17) (V c main_arg18) (V c main_arg19) := by
  refine (dat4 V c).arrAt_eq_of_covers 4 _ (by decide +kernel) fun t hf y => ?_
  blk_simp
  rw [after4_4]
  frame_out
  unfold k4_pay3 k4_pay1 k4_pay2
  idx_vars y
  pointwise [delta, newM, newV]
  blk_point [iblk4, places4 t]

/-- The call on `dn_onorm_g` leaves the new first moment. -/
theorem out4m : (dat4 V c).arrAt 5 cfg4.N = newM (V c main_arg17) (V c main_arg18) := by
  refine (dat4 V c).arrAt_eq_of_covers 5 _ (by decide +kernel) fun t hf y => ?_
  blk_simp
  rw [after4_5]
  frame_out
  unfold k4_pay1
  idx_vars y
  pointwise [delta, newM, newV]
  blk_point [iblk4, places4 t]

/-- The call on `dn_onorm_g` leaves the new second moment. -/
theorem out4v : (dat4 V c).arrAt 6 cfg4.N = newV (V c main_arg17) (V c main_arg19) := by
  refine (dat4 V c).arrAt_eq_of_covers 6 _ (by decide +kernel) fun t hf y => ?_
  blk_simp
  rw [after4_6]
  frame_out
  unfold k4_pay2
  idx_vars y
  pointwise [delta, newM, newV]
  blk_point [iblk4, places4 t]

/-- Where the blocks of the call on `sb_norm_g` are. -/
theorem places5 : ∀ t : Fin cfg5.N, win5_0.index t = ![0, 0] ∧ win5_1.index t = ![0, 0] ∧ win5_2.index t = ![0, 0] ∧ win5_3.index t = ![0, 0] ∧ win5_4.index t = ![0, 0] ∧ win5_5.index t = ![0, 0] ∧ win5_6.index t = ![0, 0] :=
  (by decide +kernel : ∀ t : Fin grid5.N, _)

/-- The call on `sb_norm_g` leaves the step of the weight. -/
theorem out5d : (dat5 V c).arrAt 4 cfg5.N = delta (V c main_arg20) (V c main_arg21) (V c main_arg22) (V c main_arg23) := by
  refine (dat5 V c).arrAt_eq_of_covers 4 _ (by decide +kernel) fun t hf y => ?_
  blk_simp
  rw [after5_4]
  frame_out
  unfold k5_pay3 k5_pay1 k5_pay2
  idx_vars y
  pointwise [delta, newM, newV]
  blk_point [iblk5, places5 t]

/-- The call on `sb_norm_g` leaves the new first moment. -/
theorem out5m : (dat5 V c).arrAt 5 cfg5.N = newM (V c main_arg21) (V c main_arg22) := by
  refine (dat5 V c).arrAt_eq_of_covers 5 _ (by decide +kernel) fun t hf y => ?_
  blk_simp
  rw [after5_5]
  frame_out
  unfold k5_pay1
  idx_vars y
  pointwise [delta, newM, newV]
  blk_point [iblk5, places5 t]

/-- The call on `sb_norm_g` leaves the new second moment. -/
theorem out5v : (dat5 V c).arrAt 6 cfg5.N = newV (V c main_arg21) (V c main_arg23) := by
  refine (dat5 V c).arrAt_eq_of_covers 6 _ (by decide +kernel) fun t hf y => ?_
  blk_simp
  rw [after5_6]
  frame_out
  unfold k5_pay2
  idx_vars y
  pointwise [delta, newM, newV]
  blk_point [iblk5, places5 t]

end Cert.Step6

end
-- ==== Proof.Step6Run.lean ====
module

public import proofs.«01_k».proof.Proof.Step6Out

@[expose] public section

set_option maxRecDepth 16384

noncomputable section

/-! A run of AdamW's calls on the vectors: their arguments end unchanged, every counter ends at zero, and their
results end as functions of the arguments. -/

namespace Cert.Step6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
open Cert.Step

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run terminates without a fault, each buffer that outlives the calls ending as the last call leaves it and
every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h hz => ⟨h, funext fun g => hz g (.inr (no_unscoped g.2))⟩)

/-- The program's frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun _ h => ⟨fun c =>
      ⟨(h.1 c _ (mem_uc main_arg0 (by decide))).trans (W6_main_arg0 m ρ c),
        (h.1 c _ (mem_uc main_arg1 (by decide))).trans (W6_main_arg1 m ρ c),
        (h.1 c _ (mem_uc main_arg2 (by decide))).trans (W6_main_arg2 m ρ c),
        (h.1 c _ (mem_uc main_arg3 (by decide))).trans (W6_main_arg3 m ρ c),
        (h.1 c _ (mem_uc main_arg4 (by decide))).trans (W6_main_arg4 m ρ c),
        (h.1 c _ (mem_uc main_arg5 (by decide))).trans (W6_main_arg5 m ρ c),
        (h.1 c _ (mem_uc main_arg6 (by decide))).trans (W6_main_arg6 m ρ c),
        (h.1 c _ (mem_uc main_arg7 (by decide))).trans (W6_main_arg7 m ρ c),
        (h.1 c _ (mem_uc main_arg8 (by decide))).trans (W6_main_arg8 m ρ c),
        (h.1 c _ (mem_uc main_arg9 (by decide))).trans (W6_main_arg9 m ρ c),
        (h.1 c _ (mem_uc main_arg10 (by decide))).trans (W6_main_arg10 m ρ c),
        (h.1 c _ (mem_uc main_arg11 (by decide))).trans (W6_main_arg11 m ρ c),
        (h.1 c _ (mem_uc main_arg12 (by decide))).trans (W6_main_arg12 m ρ c),
        (h.1 c _ (mem_uc main_arg13 (by decide))).trans (W6_main_arg13 m ρ c),
        (h.1 c _ (mem_uc main_arg14 (by decide))).trans (W6_main_arg14 m ρ c),
        (h.1 c _ (mem_uc main_arg15 (by decide))).trans (W6_main_arg15 m ρ c),
        (h.1 c _ (mem_uc main_arg16 (by decide))).trans (W6_main_arg16 m ρ c),
        (h.1 c _ (mem_uc main_arg17 (by decide))).trans (W6_main_arg17 m ρ c),
        (h.1 c _ (mem_uc main_arg18 (by decide))).trans (W6_main_arg18 m ρ c),
        (h.1 c _ (mem_uc main_arg19 (by decide))).trans (W6_main_arg19 m ρ c),
        (h.1 c _ (mem_uc main_arg20 (by decide))).trans (W6_main_arg20 m ρ c),
        (h.1 c _ (mem_uc main_arg21 (by decide))).trans (W6_main_arg21 m ρ c),
        (h.1 c _ (mem_uc main_arg22 (by decide))).trans (W6_main_arg22 m ρ c),
        (h.1 c _ (mem_uc main_arg23 (by decide))).trans (W6_main_arg23 m ρ c)⟩, h.2⟩)
    (ends m ρ)

end Run

variable (m : (ℓ : Loc nD τ sig) → Buf (Elt Ideal) ℓ) (ρ : Dev nD → PrngReg) (c : Dev nD)

/-- The weight of `ada_b`. -/
abbrev in0 : FVec Ideal S4x6144 .f32 := m ((c : Thread nD τ).loc main_arg0)
/-- The gradient of `ada_b`. -/
abbrev in1 : FVec Ideal S4x6144 .f32 := m ((c : Thread nD τ).loc main_arg1)
/-- The first moment of `ada_b`. -/
abbrev in2 : FVec Ideal S4x6144 .f32 := m ((c : Thread nD τ).loc main_arg2)
/-- The second moment of `ada_b`. -/
abbrev in3 : FVec Ideal S4x6144 .f32 := m ((c : Thread nD τ).loc main_arg3)
/-- The weight of `norm_g`. -/
abbrev in4 : FVec Ideal S4x1024 .f32 := m ((c : Thread nD τ).loc main_arg4)
/-- The gradient of `norm_g`. -/
abbrev in5 : FVec Ideal S4x1024 .f32 := m ((c : Thread nD τ).loc main_arg5)
/-- The first moment of `norm_g`. -/
abbrev in6 : FVec Ideal S4x1024 .f32 := m ((c : Thread nD τ).loc main_arg6)
/-- The second moment of `norm_g`. -/
abbrev in7 : FVec Ideal S4x1024 .f32 := m ((c : Thread nD τ).loc main_arg7)
/-- The weight of `dn_conv_w`. -/
abbrev in8 : FVec Ideal S8x768 .f32 := m ((c : Thread nD τ).loc main_arg8)
/-- The gradient of `dn_conv_w`. -/
abbrev in9 : FVec Ideal S8x768 .f32 := m ((c : Thread nD τ).loc main_arg9)
/-- The first moment of `dn_conv_w`. -/
abbrev in10 : FVec Ideal S8x768 .f32 := m ((c : Thread nD τ).loc main_arg10)
/-- The second moment of `dn_conv_w`. -/
abbrev in11 : FVec Ideal S8x768 .f32 := m ((c : Thread nD τ).loc main_arg11)
/-- The weight of `dn_a_log`. -/
abbrev in12 : FVec Ideal S2x8 .f32 := m ((c : Thread nD τ).loc main_arg12)
/-- The gradient of `dn_a_log`. -/
abbrev in13 : FVec Ideal S2x8 .f32 := m ((c : Thread nD τ).loc main_arg13)
/-- The first moment of `dn_a_log`. -/
abbrev in14 : FVec Ideal S2x8 .f32 := m ((c : Thread nD τ).loc main_arg14)
/-- The second moment of `dn_a_log`. -/
abbrev in15 : FVec Ideal S2x8 .f32 := m ((c : Thread nD τ).loc main_arg15)
/-- The weight of `dn_onorm_g`. -/
abbrev in16 : FVec Ideal S2x128 .f32 := m ((c : Thread nD τ).loc main_arg16)
/-- The gradient of `dn_onorm_g`. -/
abbrev in17 : FVec Ideal S2x128 .f32 := m ((c : Thread nD τ).loc main_arg17)
/-- The first moment of `dn_onorm_g`. -/
abbrev in18 : FVec Ideal S2x128 .f32 := m ((c : Thread nD τ).loc main_arg18)
/-- The second moment of `dn_onorm_g`. -/
abbrev in19 : FVec Ideal S2x128 .f32 := m ((c : Thread nD τ).loc main_arg19)
/-- The weight of `sb_norm_g`. -/
abbrev in20 : FVec Ideal S2x64 .f32 := m ((c : Thread nD τ).loc main_arg20)
/-- The gradient of `sb_norm_g`. -/
abbrev in21 : FVec Ideal S2x64 .f32 := m ((c : Thread nD τ).loc main_arg21)
/-- The first moment of `sb_norm_g`. -/
abbrev in22 : FVec Ideal S2x64 .f32 := m ((c : Thread nD τ).loc main_arg22)
/-- The second moment of `sb_norm_g`. -/
abbrev in23 : FVec Ideal S2x64 .f32 := m ((c : Thread nD τ).loc main_arg23)

/-- At the end: the step of `ada_b`. -/
theorem end0d : W6 m ρ c (Proc.devRef .tc main_v0_0) = delta (in0 m c) (in1 m c) (in2 m c) (in3 m c) := by
  refine (W6_of m ρ c main_v0_0 (by decide +kernel)).trans ((W5_of m ρ c main_v0_0 (by decide +kernel)).trans ((W4_of m ρ c main_v0_0 (by decide +kernel)).trans ((W3_of m ρ c main_v0_0 (by decide +kernel)).trans ((W2_of m ρ c main_v0_0 (by decide +kernel)).trans ((W1_arr m ρ c 4).trans ((out0d (V0 m ρ) c).trans ?_))))))
  rw [show V0 m ρ c main_arg0 = in0 m c from W0_args m ρ c main_arg0 (by decide), show V0 m ρ c main_arg1 = in1 m c from W0_args m ρ c main_arg1 (by decide), show V0 m ρ c main_arg2 = in2 m c from W0_args m ρ c main_arg2 (by decide), show V0 m ρ c main_arg3 = in3 m c from W0_args m ρ c main_arg3 (by decide)]

/-- At the end: the new first moment of `ada_b`. -/
theorem end0m : W6 m ρ c (Proc.devRef .tc main_v0_1) = newM (in1 m c) (in2 m c) := by
  refine (W6_of m ρ c main_v0_1 (by decide +kernel)).trans ((W5_of m ρ c main_v0_1 (by decide +kernel)).trans ((W4_of m ρ c main_v0_1 (by decide +kernel)).trans ((W3_of m ρ c main_v0_1 (by decide +kernel)).trans ((W2_of m ρ c main_v0_1 (by decide +kernel)).trans ((W1_arr m ρ c 5).trans ((out0m (V0 m ρ) c).trans ?_))))))
  rw [show V0 m ρ c main_arg1 = in1 m c from W0_args m ρ c main_arg1 (by decide), show V0 m ρ c main_arg2 = in2 m c from W0_args m ρ c main_arg2 (by decide)]

/-- At the end: the new second moment of `ada_b`. -/
theorem end0v : W6 m ρ c (Proc.devRef .tc main_v0_2) = newV (in1 m c) (in3 m c) := by
  refine (W6_of m ρ c main_v0_2 (by decide +kernel)).trans ((W5_of m ρ c main_v0_2 (by decide +kernel)).trans ((W4_of m ρ c main_v0_2 (by decide +kernel)).trans ((W3_of m ρ c main_v0_2 (by decide +kernel)).trans ((W2_of m ρ c main_v0_2 (by decide +kernel)).trans ((W1_arr m ρ c 6).trans ((out0v (V0 m ρ) c).trans ?_))))))
  rw [show V0 m ρ c main_arg1 = in1 m c from W0_args m ρ c main_arg1 (by decide), show V0 m ρ c main_arg3 = in3 m c from W0_args m ρ c main_arg3 (by decide)]

/-- At the end: the step of `norm_g`. -/
theorem end1d : W6 m ρ c (Proc.devRef .tc main_v1_0) = delta (in4 m c) (in5 m c) (in6 m c) (in7 m c) := by
  refine (W6_of m ρ c main_v1_0 (by decide +kernel)).trans ((W5_of m ρ c main_v1_0 (by decide +kernel)).trans ((W4_of m ρ c main_v1_0 (by decide +kernel)).trans ((W3_of m ρ c main_v1_0 (by decide +kernel)).trans ((W2_arr m ρ c 4).trans ((out1d (V1 m ρ) c).trans ?_)))))
  rw [show V1 m ρ c main_arg4 = in4 m c from W1_args m ρ c main_arg4 (by decide), show V1 m ρ c main_arg5 = in5 m c from W1_args m ρ c main_arg5 (by decide), show V1 m ρ c main_arg6 = in6 m c from W1_args m ρ c main_arg6 (by decide), show V1 m ρ c main_arg7 = in7 m c from W1_args m ρ c main_arg7 (by decide)]

/-- At the end: the new first moment of `norm_g`. -/
theorem end1m : W6 m ρ c (Proc.devRef .tc main_v1_1) = newM (in5 m c) (in6 m c) := by
  refine (W6_of m ρ c main_v1_1 (by decide +kernel)).trans ((W5_of m ρ c main_v1_1 (by decide +kernel)).trans ((W4_of m ρ c main_v1_1 (by decide +kernel)).trans ((W3_of m ρ c main_v1_1 (by decide +kernel)).trans ((W2_arr m ρ c 5).trans ((out1m (V1 m ρ) c).trans ?_)))))
  rw [show V1 m ρ c main_arg5 = in5 m c from W1_args m ρ c main_arg5 (by decide), show V1 m ρ c main_arg6 = in6 m c from W1_args m ρ c main_arg6 (by decide)]

/-- At the end: the new second moment of `norm_g`. -/
theorem end1v : W6 m ρ c (Proc.devRef .tc main_v1_2) = newV (in5 m c) (in7 m c) := by
  refine (W6_of m ρ c main_v1_2 (by decide +kernel)).trans ((W5_of m ρ c main_v1_2 (by decide +kernel)).trans ((W4_of m ρ c main_v1_2 (by decide +kernel)).trans ((W3_of m ρ c main_v1_2 (by decide +kernel)).trans ((W2_arr m ρ c 6).trans ((out1v (V1 m ρ) c).trans ?_)))))
  rw [show V1 m ρ c main_arg5 = in5 m c from W1_args m ρ c main_arg5 (by decide), show V1 m ρ c main_arg7 = in7 m c from W1_args m ρ c main_arg7 (by decide)]

/-- At the end: the step of `dn_conv_w`. -/
theorem end2d : W6 m ρ c (Proc.devRef .tc main_v2_0) = delta (in8 m c) (in9 m c) (in10 m c) (in11 m c) := by
  refine (W6_of m ρ c main_v2_0 (by decide +kernel)).trans ((W5_of m ρ c main_v2_0 (by decide +kernel)).trans ((W4_of m ρ c main_v2_0 (by decide +kernel)).trans ((W3_arr m ρ c 4).trans ((out2d (V2 m ρ) c).trans ?_))))
  rw [show V2 m ρ c main_arg8 = in8 m c from W2_args m ρ c main_arg8 (by decide), show V2 m ρ c main_arg9 = in9 m c from W2_args m ρ c main_arg9 (by decide), show V2 m ρ c main_arg10 = in10 m c from W2_args m ρ c main_arg10 (by decide), show V2 m ρ c main_arg11 = in11 m c from W2_args m ρ c main_arg11 (by decide)]

/-- At the end: the new first moment of `dn_conv_w`. -/
theorem end2m : W6 m ρ c (Proc.devRef .tc main_v2_1) = newM (in9 m c) (in10 m c) := by
  refine (W6_of m ρ c main_v2_1 (by decide +kernel)).trans ((W5_of m ρ c main_v2_1 (by decide +kernel)).trans ((W4_of m ρ c main_v2_1 (by decide +kernel)).trans ((W3_arr m ρ c 5).trans ((out2m (V2 m ρ) c).trans ?_))))
  rw [show V2 m ρ c main_arg9 = in9 m c from W2_args m ρ c main_arg9 (by decide), show V2 m ρ c main_arg10 = in10 m c from W2_args m ρ c main_arg10 (by decide)]

/-- At the end: the new second moment of `dn_conv_w`. -/
theorem end2v : W6 m ρ c (Proc.devRef .tc main_v2_2) = newV (in9 m c) (in11 m c) := by
  refine (W6_of m ρ c main_v2_2 (by decide +kernel)).trans ((W5_of m ρ c main_v2_2 (by decide +kernel)).trans ((W4_of m ρ c main_v2_2 (by decide +kernel)).trans ((W3_arr m ρ c 6).trans ((out2v (V2 m ρ) c).trans ?_))))
  rw [show V2 m ρ c main_arg9 = in9 m c from W2_args m ρ c main_arg9 (by decide), show V2 m ρ c main_arg11 = in11 m c from W2_args m ρ c main_arg11 (by decide)]

/-- At the end: the step of `dn_a_log`. -/
theorem end3d : W6 m ρ c (Proc.devRef .tc main_v3_0) = delta (in12 m c) (in13 m c) (in14 m c) (in15 m c) := by
  refine (W6_of m ρ c main_v3_0 (by decide +kernel)).trans ((W5_of m ρ c main_v3_0 (by decide +kernel)).trans ((W4_arr m ρ c 4).trans ((out3d (V3 m ρ) c).trans ?_)))
  rw [show V3 m ρ c main_arg12 = in12 m c from W3_args m ρ c main_arg12 (by decide), show V3 m ρ c main_arg13 = in13 m c from W3_args m ρ c main_arg13 (by decide), show V3 m ρ c main_arg14 = in14 m c from W3_args m ρ c main_arg14 (by decide), show V3 m ρ c main_arg15 = in15 m c from W3_args m ρ c main_arg15 (by decide)]

/-- At the end: the new first moment of `dn_a_log`. -/
theorem end3m : W6 m ρ c (Proc.devRef .tc main_v3_1) = newM (in13 m c) (in14 m c) := by
  refine (W6_of m ρ c main_v3_1 (by decide +kernel)).trans ((W5_of m ρ c main_v3_1 (by decide +kernel)).trans ((W4_arr m ρ c 5).trans ((out3m (V3 m ρ) c).trans ?_)))
  rw [show V3 m ρ c main_arg13 = in13 m c from W3_args m ρ c main_arg13 (by decide), show V3 m ρ c main_arg14 = in14 m c from W3_args m ρ c main_arg14 (by decide)]

/-- At the end: the new second moment of `dn_a_log`. -/
theorem end3v : W6 m ρ c (Proc.devRef .tc main_v3_2) = newV (in13 m c) (in15 m c) := by
  refine (W6_of m ρ c main_v3_2 (by decide +kernel)).trans ((W5_of m ρ c main_v3_2 (by decide +kernel)).trans ((W4_arr m ρ c 6).trans ((out3v (V3 m ρ) c).trans ?_)))
  rw [show V3 m ρ c main_arg13 = in13 m c from W3_args m ρ c main_arg13 (by decide), show V3 m ρ c main_arg15 = in15 m c from W3_args m ρ c main_arg15 (by decide)]

/-- At the end: the step of `dn_onorm_g`. -/
theorem end4d : W6 m ρ c (Proc.devRef .tc main_v4_0) = delta (in16 m c) (in17 m c) (in18 m c) (in19 m c) := by
  refine (W6_of m ρ c main_v4_0 (by decide +kernel)).trans ((W5_arr m ρ c 4).trans ((out4d (V4 m ρ) c).trans ?_))
  rw [show V4 m ρ c main_arg16 = in16 m c from W4_args m ρ c main_arg16 (by decide), show V4 m ρ c main_arg17 = in17 m c from W4_args m ρ c main_arg17 (by decide), show V4 m ρ c main_arg18 = in18 m c from W4_args m ρ c main_arg18 (by decide), show V4 m ρ c main_arg19 = in19 m c from W4_args m ρ c main_arg19 (by decide)]

/-- At the end: the new first moment of `dn_onorm_g`. -/
theorem end4m : W6 m ρ c (Proc.devRef .tc main_v4_1) = newM (in17 m c) (in18 m c) := by
  refine (W6_of m ρ c main_v4_1 (by decide +kernel)).trans ((W5_arr m ρ c 5).trans ((out4m (V4 m ρ) c).trans ?_))
  rw [show V4 m ρ c main_arg17 = in17 m c from W4_args m ρ c main_arg17 (by decide), show V4 m ρ c main_arg18 = in18 m c from W4_args m ρ c main_arg18 (by decide)]

/-- At the end: the new second moment of `dn_onorm_g`. -/
theorem end4v : W6 m ρ c (Proc.devRef .tc main_v4_2) = newV (in17 m c) (in19 m c) := by
  refine (W6_of m ρ c main_v4_2 (by decide +kernel)).trans ((W5_arr m ρ c 6).trans ((out4v (V4 m ρ) c).trans ?_))
  rw [show V4 m ρ c main_arg17 = in17 m c from W4_args m ρ c main_arg17 (by decide), show V4 m ρ c main_arg19 = in19 m c from W4_args m ρ c main_arg19 (by decide)]

/-- At the end: the step of `sb_norm_g`. -/
theorem end5d : W6 m ρ c (Proc.devRef .tc main_v5_0) = delta (in20 m c) (in21 m c) (in22 m c) (in23 m c) := by
  refine (W6_arr m ρ c 4).trans ((out5d (V5 m ρ) c).trans ?_)
  rw [show V5 m ρ c main_arg20 = in20 m c from W5_args m ρ c main_arg20 (by decide), show V5 m ρ c main_arg21 = in21 m c from W5_args m ρ c main_arg21 (by decide), show V5 m ρ c main_arg22 = in22 m c from W5_args m ρ c main_arg22 (by decide), show V5 m ρ c main_arg23 = in23 m c from W5_args m ρ c main_arg23 (by decide)]

/-- At the end: the new first moment of `sb_norm_g`. -/
theorem end5m : W6 m ρ c (Proc.devRef .tc main_v5_1) = newM (in21 m c) (in22 m c) := by
  refine (W6_arr m ρ c 5).trans ((out5m (V5 m ρ) c).trans ?_)
  rw [show V5 m ρ c main_arg21 = in21 m c from W5_args m ρ c main_arg21 (by decide), show V5 m ρ c main_arg22 = in22 m c from W5_args m ρ c main_arg22 (by decide)]

/-- At the end: the new second moment of `sb_norm_g`. -/
theorem end5v : W6 m ρ c (Proc.devRef .tc main_v5_2) = newV (in21 m c) (in23 m c) := by
  refine (W6_arr m ρ c 6).trans ((out5v (V5 m ρ) c).trans ?_)
  rw [show V5 m ρ c main_arg21 = in21 m c from W5_args m ρ c main_arg21 (by decide), show V5 m ρ c main_arg23 = in23 m c from W5_args m ρ c main_arg23 (by decide)]

/-- A run over the extended reals ends with the results as these functions of the arguments. -/
theorem value_run : θ_run (defs (F := Ideal)) (onTc (τ := τ) (main (F := Ideal))) ⟨m, fun _ => 0, ρ⟩ (fun r => ∀ c : Dev nD,
      r.2.mem ((c.tc : Thread nD τ).loc main_v0_0) = delta (in0 m c) (in1 m c) (in2 m c) (in3 m c)
      ∧ r.2.mem ((c.tc : Thread nD τ).loc main_v0_1) = newM (in1 m c) (in2 m c)
      ∧ r.2.mem ((c.tc : Thread nD τ).loc main_v0_2) = newV (in1 m c) (in3 m c)
      ∧ r.2.mem ((c.tc : Thread nD τ).loc main_v1_0) = delta (in4 m c) (in5 m c) (in6 m c) (in7 m c)
      ∧ r.2.mem ((c.tc : Thread nD τ).loc main_v1_1) = newM (in5 m c) (in6 m c)
      ∧ r.2.mem ((c.tc : Thread nD τ).loc main_v1_2) = newV (in5 m c) (in7 m c)
      ∧ r.2.mem ((c.tc : Thread nD τ).loc main_v2_0) = delta (in8 m c) (in9 m c) (in10 m c) (in11 m c)
      ∧ r.2.mem ((c.tc : Thread nD τ).loc main_v2_1) = newM (in9 m c) (in10 m c)
      ∧ r.2.mem ((c.tc : Thread nD τ).loc main_v2_2) = newV (in9 m c) (in11 m c)
      ∧ r.2.mem ((c.tc : Thread nD τ).loc main_v3_0) = delta (in12 m c) (in13 m c) (in14 m c) (in15 m c)
      ∧ r.2.mem ((c.tc : Thread nD τ).loc main_v3_1) = newM (in13 m c) (in14 m c)
      ∧ r.2.mem ((c.tc : Thread nD τ).loc main_v3_2) = newV (in13 m c) (in15 m c)
      ∧ r.2.mem ((c.tc : Thread nD τ).loc main_v4_0) = delta (in16 m c) (in17 m c) (in18 m c) (in19 m c)
      ∧ r.2.mem ((c.tc : Thread nD τ).loc main_v4_1) = newM (in17 m c) (in18 m c)
      ∧ r.2.mem ((c.tc : Thread nD τ).loc main_v4_2) = newV (in17 m c) (in19 m c)
      ∧ r.2.mem ((c.tc : Thread nD τ).loc main_v5_0) = delta (in20 m c) (in21 m c) (in22 m c) (in23 m c)
      ∧ r.2.mem ((c.tc : Thread nD τ).loc main_v5_1) = newM (in21 m c) (in22 m c)
      ∧ r.2.mem ((c.tc : Thread nD τ).loc main_v5_2) = newV (in21 m c) (in23 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c =>
      ⟨(h.1 c _ (mem_uc main_v0_0 (by decide))).trans (end0d m ρ c),
        (h.1 c _ (mem_uc main_v0_1 (by decide))).trans (end0m m ρ c),
        (h.1 c _ (mem_uc main_v0_2 (by decide))).trans (end0v m ρ c),
        (h.1 c _ (mem_uc main_v1_0 (by decide))).trans (end1d m ρ c),
        (h.1 c _ (mem_uc main_v1_1 (by decide))).trans (end1m m ρ c),
        (h.1 c _ (mem_uc main_v1_2 (by decide))).trans (end1v m ρ c),
        (h.1 c _ (mem_uc main_v2_0 (by decide))).trans (end2d m ρ c),
        (h.1 c _ (mem_uc main_v2_1 (by decide))).trans (end2m m ρ c),
        (h.1 c _ (mem_uc main_v2_2 (by decide))).trans (end2v m ρ c),
        (h.1 c _ (mem_uc main_v3_0 (by decide))).trans (end3d m ρ c),
        (h.1 c _ (mem_uc main_v3_1 (by decide))).trans (end3m m ρ c),
        (h.1 c _ (mem_uc main_v3_2 (by decide))).trans (end3v m ρ c),
        (h.1 c _ (mem_uc main_v4_0 (by decide))).trans (end4d m ρ c),
        (h.1 c _ (mem_uc main_v4_1 (by decide))).trans (end4m m ρ c),
        (h.1 c _ (mem_uc main_v4_2 (by decide))).trans (end4v m ρ c),
        (h.1 c _ (mem_uc main_v5_0 (by decide))).trans (end5d m ρ c),
        (h.1 c _ (mem_uc main_v5_1 (by decide))).trans (end5m m ρ c),
        (h.1 c _ (mem_uc main_v5_2 (by decide))).trans (end5v m ρ c),
        (h.1 c _ (mem_uc main_arg0 (by decide))).trans (W6_main_arg0 m ρ c),
        (h.1 c _ (mem_uc main_arg1 (by decide))).trans (W6_main_arg1 m ρ c),
        (h.1 c _ (mem_uc main_arg2 (by decide))).trans (W6_main_arg2 m ρ c),
        (h.1 c _ (mem_uc main_arg3 (by decide))).trans (W6_main_arg3 m ρ c),
        (h.1 c _ (mem_uc main_arg4 (by decide))).trans (W6_main_arg4 m ρ c),
        (h.1 c _ (mem_uc main_arg5 (by decide))).trans (W6_main_arg5 m ρ c),
        (h.1 c _ (mem_uc main_arg6 (by decide))).trans (W6_main_arg6 m ρ c),
        (h.1 c _ (mem_uc main_arg7 (by decide))).trans (W6_main_arg7 m ρ c),
        (h.1 c _ (mem_uc main_arg8 (by decide))).trans (W6_main_arg8 m ρ c),
        (h.1 c _ (mem_uc main_arg9 (by decide))).trans (W6_main_arg9 m ρ c),
        (h.1 c _ (mem_uc main_arg10 (by decide))).trans (W6_main_arg10 m ρ c),
        (h.1 c _ (mem_uc main_arg11 (by decide))).trans (W6_main_arg11 m ρ c),
        (h.1 c _ (mem_uc main_arg12 (by decide))).trans (W6_main_arg12 m ρ c),
        (h.1 c _ (mem_uc main_arg13 (by decide))).trans (W6_main_arg13 m ρ c),
        (h.1 c _ (mem_uc main_arg14 (by decide))).trans (W6_main_arg14 m ρ c),
        (h.1 c _ (mem_uc main_arg15 (by decide))).trans (W6_main_arg15 m ρ c),
        (h.1 c _ (mem_uc main_arg16 (by decide))).trans (W6_main_arg16 m ρ c),
        (h.1 c _ (mem_uc main_arg17 (by decide))).trans (W6_main_arg17 m ρ c),
        (h.1 c _ (mem_uc main_arg18 (by decide))).trans (W6_main_arg18 m ρ c),
        (h.1 c _ (mem_uc main_arg19 (by decide))).trans (W6_main_arg19 m ρ c),
        (h.1 c _ (mem_uc main_arg20 (by decide))).trans (W6_main_arg20 m ρ c),
        (h.1 c _ (mem_uc main_arg21 (by decide))).trans (W6_main_arg21 m ρ c),
        (h.1 c _ (mem_uc main_arg22 (by decide))).trans (W6_main_arg22 m ρ c),
        (h.1 c _ (mem_uc main_arg23 (by decide))).trans (W6_main_arg23 m ρ c)⟩)
    (ends m ρ)

end Cert.Step6

end
-- ==== Proof.Step6Value.lean ====
module

public import proofs.«01_k».proof.Defs
public import proofs.«01_k».proof.Proof.Step6Run
public import proofs.«01_k».proof.Proof.StepRef
public import proofs.«01_k».proof.Proof.Gen.Kernel6
public import proofs.«01_k».proof.Proof.Gen.Reference6Ideal.Run

@[expose] public section

set_option maxRecDepth 16384

noncomputable section

/-! The equation of AdamW's calls on the vectors with the reference, and the three frames. -/

namespace Cert.Step6

open Idealize.ShloMosaic Idealize.ShloMosaic.TcCoe Idealize.SL.Sem
open Cert.Step

section Reference

open Cert.Reference6Ideal Cert.Reference6Ideal.Gen

/-- Every run of the reference ends with the results as functions of its arguments, which are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = delta (s := S4x6144) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = newM (s := S4x6144) (m ((c.tc : Thread nD τ).loc main_arg1)) (m ((c.tc : Thread nD τ).loc main_arg2))
      ∧ r.2.mem ((c.tc : Thread nD τ).loc main_v10) = newV (s := S4x6144) (m ((c.tc : Thread nD τ).loc main_arg1)) (m ((c.tc : Thread nD τ).loc main_arg3))
      ∧ r.2.mem ((c.tc : Thread nD τ).loc main_v47) = delta (s := S4x1024) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = newM (s := S4x1024) (m ((c.tc : Thread nD τ).loc main_arg5)) (m ((c.tc : Thread nD τ).loc main_arg6))
      ∧ r.2.mem ((c.tc : Thread nD τ).loc main_v34) = newV (s := S4x1024) (m ((c.tc : Thread nD τ).loc main_arg5)) (m ((c.tc : Thread nD τ).loc main_arg7))
      ∧ r.2.mem ((c.tc : Thread nD τ).loc main_v71) = delta (s := S8x768) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v52) = newM (s := S8x768) (m ((c.tc : Thread nD τ).loc main_arg9)) (m ((c.tc : Thread nD τ).loc main_arg10))
      ∧ r.2.mem ((c.tc : Thread nD τ).loc main_v58) = newV (s := S8x768) (m ((c.tc : Thread nD τ).loc main_arg9)) (m ((c.tc : Thread nD τ).loc main_arg11))
      ∧ r.2.mem ((c.tc : Thread nD τ).loc main_v95) = delta (s := S2x8) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v76) = newM (s := S2x8) (m ((c.tc : Thread nD τ).loc main_arg13)) (m ((c.tc : Thread nD τ).loc main_arg14))
      ∧ r.2.mem ((c.tc : Thread nD τ).loc main_v82) = newV (s := S2x8) (m ((c.tc : Thread nD τ).loc main_arg13)) (m ((c.tc : Thread nD τ).loc main_arg15))
      ∧ r.2.mem ((c.tc : Thread nD τ).loc main_v119) = delta (s := S2x128) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v100) = newM (s := S2x128) (m ((c.tc : Thread nD τ).loc main_arg17)) (m ((c.tc : Thread nD τ).loc main_arg18))
      ∧ r.2.mem ((c.tc : Thread nD τ).loc main_v106) = newV (s := S2x128) (m ((c.tc : Thread nD τ).loc main_arg17)) (m ((c.tc : Thread nD τ).loc main_arg19))
      ∧ r.2.mem ((c.tc : Thread nD τ).loc main_v143) = delta (s := S2x64) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v124) = newM (s := S2x64) (m ((c.tc : Thread nD τ).loc main_arg21)) (m ((c.tc : Thread nD τ).loc main_arg22))
      ∧ r.2.mem ((c.tc : Thread nD τ).loc main_v130) = newV (s := S2x64) (m ((c.tc : Thread nD τ).loc main_arg21)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run (defs (F := Ideal)) (onTc (τ := τ) (main (F := Ideal))) ⟨m, fun _ => 0, ρ⟩).mono
    (fun _ h c => by
      obtain ⟨r0, r1, r2, r3, r4, r5, r6, r7, r8, r9, r10, r11, r12, r13, r14, r15, r16, r17, rest⟩ := h c
      exact ⟨r0.trans (hostD_eq bcast_S_S4x6144 _ _ _ _),
        r1.trans (hostM_eq bcast_S_S4x6144 _ _),
        r2.trans (hostV_eq bcast_S_S4x6144 _ _),
        r3.trans (hostD_eq bcast_S_S4x1024 _ _ _ _),
        r4.trans (hostM_eq bcast_S_S4x1024 _ _),
        r5.trans (hostV_eq bcast_S_S4x1024 _ _),
        r6.trans (hostD_eq bcast_S_S8x768 _ _ _ _),
        r7.trans (hostM_eq bcast_S_S8x768 _ _),
        r8.trans (hostV_eq bcast_S_S8x768 _ _),
        r9.trans (hostD_eq bcast_S_S2x8 _ _ _ _),
        r10.trans (hostM_eq bcast_S_S2x8 _ _),
        r11.trans (hostV_eq bcast_S_S2x8 _ _),
        r12.trans (hostD_eq bcast_S_S2x128 _ _ _ _),
        r13.trans (hostM_eq bcast_S_S2x128 _ _),
        r14.trans (hostV_eq bcast_S_S2x128 _ _),
        r15.trans (hostD_eq bcast_S_S2x64 _ _ _ _),
        r16.trans (hostM_eq bcast_S_S2x64 _ _),
        r17.trans (hostV_eq bcast_S_S2x64 _ _), rest⟩)
    (Value.run (F := Ideal) m ρ)

end Reference

/-- The calls and the reference end with the same results. -/
theorem same_results : Cert.algebraic_Kernel6Ideal_Reference6Ideal := by
  intro m ρ m' ρ' _ same
  refine ⟨fun c => delta (in0 m c) (in1 m c) (in2 m c) (in3 m c),
    fun c => newM (in1 m c) (in2 m c),
    fun c => newV (in1 m c) (in3 m c),
    fun c => delta (in4 m c) (in5 m c) (in6 m c) (in7 m c),
    fun c => newM (in5 m c) (in6 m c),
    fun c => newV (in5 m c) (in7 m c),
    fun c => delta (in8 m c) (in9 m c) (in10 m c) (in11 m c),
    fun c => newM (in9 m c) (in10 m c),
    fun c => newV (in9 m c) (in11 m c),
    fun c => delta (in12 m c) (in13 m c) (in14 m c) (in15 m c),
    fun c => newM (in13 m c) (in14 m c),
    fun c => newV (in13 m c) (in15 m c),
    fun c => delta (in16 m c) (in17 m c) (in18 m c) (in19 m c),
    fun c => newM (in17 m c) (in18 m c),
    fun c => newV (in17 m c) (in19 m c),
    fun c => delta (in20 m c) (in21 m c) (in22 m c) (in23 m c),
    fun c => newM (in21 m c) (in22 m c),
    fun c => newV (in21 m c) (in23 m c), value_run m ρ, ?_⟩
  refine (θ_run (Cert.Reference6Ideal.defs (F := Ideal)) (onTc (τ := Cert.Reference6Ideal.τ) (Cert.Reference6Ideal.main (F := Ideal))) ⟨m', fun _ => 0, ρ'⟩).mono
    (fun r h c => ?_) (ref_run m' ρ')
  obtain ⟨e0, e1, e2, e3, e4, e5, e6, e7, e8, e9, e10, e11, e12, e13, e14, e15, e16, e17, e18, e19, e20, e21, e22, e23⟩ := same c
  obtain ⟨r0, r1, r2, r3, r4, r5, r6, r7, r8, r9, r10, r11, r12, r13, r14, r15, r16, r17, rest⟩ := h c
  exact ⟨r0.trans (Cert.Norm.alike4 delta e0 e1 e2 e3),
    r1.trans (congrArg₂ newM e1 e2),
    r2.trans (congrArg₂ newV e1 e3),
    r3.trans (Cert.Norm.alike4 delta e4 e5 e6 e7),
    r4.trans (congrArg₂ newM e5 e6),
    r5.trans (congrArg₂ newV e5 e7),
    r6.trans (Cert.Norm.alike4 delta e8 e9 e10 e11),
    r7.trans (congrArg₂ newM e9 e10),
    r8.trans (congrArg₂ newV e9 e11),
    r9.trans (Cert.Norm.alike4 delta e12 e13 e14 e15),
    r10.trans (congrArg₂ newM e13 e14),
    r11.trans (congrArg₂ newV e13 e15),
    r12.trans (Cert.Norm.alike4 delta e16 e17 e18 e19),
    r13.trans (congrArg₂ newM e17 e18),
    r14.trans (congrArg₂ newV e17 e19),
    r15.trans (Cert.Norm.alike4 delta e20 e21 e22 e23),
    r16.trans (congrArg₂ newM e21 e22),
    r17.trans (congrArg₂ newV e21 e23), rest⟩

/-- The frame of the idealized calls, stated at the device's words. -/
def frameAtWords : Prop :=
  ∀ (m : (ℓ : Loc Cert.Kernel6Ideal.nD Cert.Kernel6Ideal.τ Cert.Kernel6Ideal.sig) → Buf (Elt Bits) ℓ) (ρ : Dev Cert.Kernel6Ideal.nD → PrngReg), True →
    θ_run (Cert.Kernel6Ideal.defs (F := Bits)) (onTc (τ := Cert.Kernel6Ideal.τ) (Cert.Kernel6Ideal.main (F := Bits))) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23))
      ∧ r.2.sem = fun _ => 0)

/-- The calls and their idealized form have the same text, so the two statements are one. -/
theorem frameAtWords_eq : frameAtWords = Cert.quiescent_Kernel6 := by sl_kernel_rfl

/-- The calls' frame at the device's words. -/
theorem frame_words : Cert.quiescent_Kernel6 := frameAtWords_eq ▸ (fun m ρ _ => frame (F := Bits) m ρ : frameAtWords)

/-- The calls' frame over the extended reals. -/
theorem frame_ideal : Cert.quiescent_Kernel6Ideal := fun m ρ _ => frame (F := Ideal) m ρ

/-- The reference's frame: its run leaves the arguments unchanged, and its signature holds no semaphore. -/
theorem frame_ref : Cert.quiescent_Reference6Ideal := fun m ρ _ =>
  (θ_run (Cert.Reference6Ideal.defs (F := Ideal)) (onTc (τ := Cert.Reference6Ideal.τ) (Cert.Reference6Ideal.main (F := Ideal))) ⟨m, fun _ => 0, ρ⟩).mono
    (fun r h => ⟨fun c => (h c).2.2.2.2.2.2.2.2.2.2.2.2.2.2.2.2.2.2, sem_eq_zero_of_no_sems (by decide) r.2⟩) (ref_run m ρ)

end Cert.Step6

end
-- ==== Proof.lean ====
/- The claims about the backward pass of the chunked delta rule, about the feed-forward layer, about the mixers' projections, about the norm with the residual connection and about AdamW (`Cert.Claim`, stated in proofs.«01_k».proof.Defs). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.FrameRun
public import proofs.«01_k».proof.Proof.Finite
public import proofs.«01_k».proof.Proof.ValueRun
public import proofs.«01_k».proof.Proof.RefTrips
public import proofs.«01_k».proof.Proof.RefRun
public import proofs.«01_k».proof.Proof.FfnFrames
public import proofs.«01_k».proof.Proof.ProjValue
public import proofs.«01_k».proof.Proof.NormValue
public import proofs.«01_k».proof.Proof.Step5Value
public import proofs.«01_k».proof.Proof.Step6Value

@[expose] public section

noncomputable section

namespace Cert.Proof

open Idealize.ShloMosaic Idealize.SL.Sem

/-- The frame of the idealized program, stated at the device's words. -/
def frameAtWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The kernel and its idealized form have the same text, so the two statements are one. -/
theorem frameAtWords_eq : frameAtWords = Cert.quiescent_Kernel := by sl_kernel_rfl

/-- The kernel's frame at the device's words: the run proved for every reading of the floats. -/
theorem frame_kernel : Cert.quiescent_Kernel :=
  frameAtWords_eq ▸ (fun m g _ => Cert.KernelIdeal.Body.frame (F := Bits) m g : frameAtWords)

/-- The kernel's frame over the extended reals. -/
theorem frame_kernelIdeal : Cert.quiescent_KernelIdeal :=
  fun m g _ => Cert.KernelIdeal.Body.frame (F := Ideal) m g

/-- The reference's frame over the extended reals. -/
theorem frame_reference : Cert.quiescent_ReferenceIdeal := fun m g _ =>
  (θ_run (Cert.ReferenceIdeal.defs (F := Ideal)) (onTc (τ := Cert.ReferenceIdeal.τ) (Cert.ReferenceIdeal.main (F := Ideal))) ⟨m, fun _ => 0, g⟩).mono
    (fun _ h => ⟨fun c => (h.1 c).2, h.2⟩) (Cert.DN.ref_run m g)

/-- The values' gradient of device `c`, as real matrices, from the kernel's arguments. -/
def gradient (m : (ℓ : Loc Cert.KernelIdeal.nD Cert.KernelIdeal.τ Cert.KernelIdeal.sig) → Buf (Elt Ideal) ℓ) (c : Dev Cert.KernelIdeal.nD) :
    FVec Ideal ⟨2, ![2048, 1024]⟩ .f32 :=
  Cert.DN.wide (Cert.DN.allGrad
    (Cert.DN.chunks (m ((c.tc : Thread Cert.KernelIdeal.nD Cert.KernelIdeal.τ).loc Cert.KernelIdeal.main_arg0)))
    (Cert.DN.chunks (m ((c.tc : Thread Cert.KernelIdeal.nD Cert.KernelIdeal.τ).loc Cert.KernelIdeal.main_arg1)))
    (Cert.DN.chunks (m ((c.tc : Thread Cert.KernelIdeal.nD Cert.KernelIdeal.τ).loc Cert.KernelIdeal.main_arg6)))
    (Cert.DN.numbers (m ((c.tc : Thread Cert.KernelIdeal.nD Cert.KernelIdeal.τ).loc Cert.KernelIdeal.main_arg3)))
    (Cert.DN.numbers (m ((c.tc : Thread Cert.KernelIdeal.nD Cert.KernelIdeal.τ).loc Cert.KernelIdeal.main_arg4))))

/-- Equal inputs start the reference's loop alike. -/
theorem same_start {q k d q' k' d' : FVec Ideal ⟨2, ![2048, 1024]⟩ .f32} {g b g' b' : FVec Ideal ⟨3, ![8, 32, 64]⟩ .f32}
    (hq : q = q') (hk : k = k') (hg : g = g') (hb : b = b') (hd : d = d') :
    Cert.ReferenceIdeal.Step.init (F := Ideal) q k g b d = Cert.ReferenceIdeal.Step.init (F := Ideal) q' k' g' b' d' := by
  rw [hq, hk, hg, hb, hd]

/-- From finite inputs the kernel and the reference end with the same gradient of the values. -/
theorem same_gradient : Cert.algebraic_KernelIdeal_ReferenceIdeal_pre_finite := by
  intro m g m' g' pre same
  refine ⟨gradient m, Cert.DN.kernel_run m g (gradient m) fun c => ?_, ?_⟩
  · obtain ⟨hq, hk, hg, hb, hd⟩ := Cert.DN.real_inputs m pre c
    exact Cert.DN.grad_array m c _ _ _ _ _ hq hk hg hb hd
  · refine (θ_run (Cert.ReferenceIdeal.defs (F := Ideal)) (onTc (τ := Cert.ReferenceIdeal.τ) (Cert.ReferenceIdeal.main (F := Ideal))) ⟨m', fun _ => 0, g'⟩).mono
      (fun r h c => ⟨(h.1 c).1.trans ?_, (h.1 c).2⟩) (Cert.DN.ref_run m' g')
    obtain ⟨hq, hk, hg, hb, hd⟩ := Cert.DN.real_inputs m pre c
    obtain ⟨e0, e1, _, e3, e4, _, e6⟩ := same c
    exact (congrArg (fun s => Cert.ReferenceIdeal.Step.R_main_v205 (F := Ideal) (Cert.DN.trips s 32))
      (same_start (e0.trans hq) (e1.trans hk) (e3.trans hg) (e4.trans hb) (e6.trans hd))).trans (Cert.DN.ref_value _ _ _ _ _)

/-- The claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts, Cert.Pre_finite2.Gen.facts,
    frame_kernel, frame_kernelIdeal, fun m g _ => Cert.KernelIdeal.Body.frame (F := Ideal) m g,
    frame_reference, fun m g _ => frame_reference m g trivial,
    Cert.Ffn.frame_words, Cert.Ffn.frame_ideal, fun m g _ => Cert.Ffn.frame_ideal m g trivial,
    Cert.Ffn.frame_ref, fun m g _ => Cert.Ffn.frame_ref m g trivial,
    Cert.Proj.frame_words, Cert.Proj.frame_ideal, Cert.Proj.frame_ref,
    Cert.Norm.frame_words, Cert.Norm.frame_ideal, Cert.Norm.frame_ref,
    Cert.Step5.frame_words, Cert.Step5.frame_ideal, Cert.Step5.frame_ref,
    Cert.Step6.frame_words, Cert.Step6.frame_ideal, Cert.Step6.frame_ref,
    trivial, same_gradient, trivial, Cert.Ffn.same_results, trivial, Cert.Proj.same_results,
    trivial, Cert.Norm.same_results,
    trivial, Cert.Step5.same_results, trivial, Cert.Step6.same_results⟩

end Cert.Proof

end
